-- ==== Defs.lean ====
def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_gains_finite [hPre_gains_finite : Cert.Pre_gains_finite.Facts] (m : (ℓ : Loc Cert.PromptIdeal.nD Cert.PromptIdeal.τ Cert.PromptIdeal.sig) → Buf (Elt Ideal) ℓ) : Prop :=
  ∀ c : Dev Cert.PromptIdeal.nD,
    (Cert.Pre_gains_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14)) (m ((c.tc : Thread Cert.PromptIdeal.nD Cert.PromptIdeal.τ).loc Cert.PromptIdeal.main_arg15)) (m ((c.tc : Thread Cert.PromptIdeal.nD Cert.PromptIdeal.τ).loc Cert.PromptIdeal.main_arg16)) (m ((c.tc : Thread Cert.PromptIdeal.nD Cert.PromptIdeal.τ).loc Cert.PromptIdeal.main_arg17)) (m ((c.tc : Thread Cert.PromptIdeal.nD Cert.PromptIdeal.τ).loc Cert.PromptIdeal.main_arg18))).1 = (fun _ => 1#1)
    ∧ (Cert.Pre_gains_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12)) (m ((c.tc : Thread Cert.PromptIdeal.nD Cert.PromptIdeal.τ).loc Cert.PromptIdeal.main_arg13)) (m ((c.tc : Thread Cert.PromptIdeal.nD Cert.PromptIdeal.τ).loc Cert.PromptIdeal.main_arg14)) (m ((c.tc : Thread Cert.PromptIdeal.nD Cert.PromptIdeal.τ).loc Cert.PromptIdeal.main_arg15)) (m ((c.tc : Thread Cert.PromptIdeal.nD Cert.PromptIdeal.τ).loc Cert.PromptIdeal.main_arg16)) (m ((c.tc : Thread Cert.PromptIdeal.nD Cert.PromptIdeal.τ).loc Cert.PromptIdeal.main_arg17)) (m ((c.tc : Thread Cert.PromptIdeal.nD Cert.PromptIdeal.τ).loc Cert.PromptIdeal.main_arg18))).2 = (fun _ => 1#1)

def Pre_PromptRefIdeal (m : (ℓ : Loc Cert.PromptRefIdeal.nD Cert.PromptRefIdeal.τ Cert.PromptRefIdeal.sig) → Buf (Elt Ideal) ℓ) : Prop :=
  True

def Pre_PromptRefIdeal_gains_finite [hPre_gains_finite : Cert.Pre_gains_finite.Facts] (m : (ℓ : Loc Cert.PromptRefIdeal.nD Cert.PromptRefIdeal.τ Cert.PromptRefIdeal.sig) → Buf (Elt Ideal) ℓ) : Prop :=
  ∀ c : Dev Cert.PromptRefIdeal.nD,
    (Cert.Pre_gains_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9)) (m ((c.tc : Thread Cert.PromptRefIdeal.nD Cert.PromptRefIdeal.τ).loc Cert.PromptRefIdeal.main_arg10)) (m ((c.tc : Thread Cert.PromptRefIdeal.nD Cert.PromptRefIdeal.τ).loc Cert.PromptRefIdeal.main_arg11)) (m ((c.tc : Thread Cert.PromptRefIdeal.nD Cert.PromptRefIdeal.τ).loc Cert.PromptRefIdeal.main_arg12)) (m ((c.tc : Thread Cert.PromptRefIdeal.nD Cert.PromptRefIdeal.τ).loc Cert.PromptRefIdeal.main_arg13)) (m ((c.tc : Thread Cert.PromptRefIdeal.nD Cert.PromptRefIdeal.τ).loc Cert.PromptRefIdeal.main_arg14)) (m ((c.tc : Thread Cert.PromptRefIdeal.nD Cert.PromptRefIdeal.τ).loc Cert.PromptRefIdeal.main_arg15)) (m ((c.tc : Thread Cert.PromptRefIdeal.nD Cert.PromptRefIdeal.τ).loc Cert.PromptRefIdeal.main_arg16)) (m ((c.tc : Thread Cert.PromptRefIdeal.nD Cert.PromptRefIdeal.τ).loc Cert.PromptRefIdeal.main_arg17)) (m ((c.tc : Thread Cert.PromptRefIdeal.nD Cert.PromptRefIdeal.τ).loc Cert.PromptRefIdeal.main_arg18))).1 = (fun _ => 1#1)
    ∧ (Cert.Pre_gains_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9)) (m ((c.tc : Thread Cert.PromptRefIdeal.nD Cert.PromptRefIdeal.τ).loc Cert.PromptRefIdeal.main_arg10)) (m ((c.tc : Thread Cert.PromptRefIdeal.nD Cert.PromptRefIdeal.τ).loc Cert.PromptRefIdeal.main_arg11)) (m ((c.tc : Thread Cert.PromptRefIdeal.nD Cert.PromptRefIdeal.τ).loc Cert.PromptRefIdeal.main_arg12)) (m ((c.tc : Thread Cert.PromptRefIdeal.nD Cert.PromptRefIdeal.τ).loc Cert.PromptRefIdeal.main_arg13)) (m ((c.tc : Thread Cert.PromptRefIdeal.nD Cert.PromptRefIdeal.τ).loc Cert.PromptRefIdeal.main_arg14)) (m ((c.tc : Thread Cert.PromptRefIdeal.nD Cert.PromptRefIdeal.τ).loc Cert.PromptRefIdeal.main_arg15)) (m ((c.tc : Thread Cert.PromptRefIdeal.nD Cert.PromptRefIdeal.τ).loc Cert.PromptRefIdeal.main_arg16)) (m ((c.tc : Thread Cert.PromptRefIdeal.nD Cert.PromptRefIdeal.τ).loc Cert.PromptRefIdeal.main_arg17)) (m ((c.tc : Thread Cert.PromptRefIdeal.nD Cert.PromptRefIdeal.τ).loc Cert.PromptRefIdeal.main_arg18))).2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12)
      ∧ r.2.mem ((c.tc : Thread Cert.Prompt.nD Cert.Prompt.τ).loc Cert.Prompt.main_arg13) = m ((c.tc : Thread Cert.Prompt.nD Cert.Prompt.τ).loc Cert.Prompt.main_arg13)
      ∧ r.2.mem ((c.tc : Thread Cert.Prompt.nD Cert.Prompt.τ).loc Cert.Prompt.main_arg14) = m ((c.tc : Thread Cert.Prompt.nD Cert.Prompt.τ).loc Cert.Prompt.main_arg14)
      ∧ r.2.mem ((c.tc : Thread Cert.Prompt.nD Cert.Prompt.τ).loc Cert.Prompt.main_arg15) = m ((c.tc : Thread Cert.Prompt.nD Cert.Prompt.τ).loc Cert.Prompt.main_arg15)
      ∧ r.2.mem ((c.tc : Thread Cert.Prompt.nD Cert.Prompt.τ).loc Cert.Prompt.main_arg16) = m ((c.tc : Thread Cert.Prompt.nD Cert.Prompt.τ).loc Cert.Prompt.main_arg16)
      ∧ r.2.mem ((c.tc : Thread Cert.Prompt.nD Cert.Prompt.τ).loc Cert.Prompt.main_arg17) = m ((c.tc : Thread Cert.Prompt.nD Cert.Prompt.τ).loc Cert.Prompt.main_arg17)
      ∧ r.2.mem ((c.tc : Thread Cert.Prompt.nD Cert.Prompt.τ).loc Cert.Prompt.main_arg18) = m ((c.tc : Thread Cert.Prompt.nD Cert.Prompt.τ).loc Cert.Prompt.main_arg18))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14)
      ∧ r.2.mem ((c.tc : Thread Cert.PromptIdeal.nD Cert.PromptIdeal.τ).loc Cert.PromptIdeal.main_arg15) = m ((c.tc : Thread Cert.PromptIdeal.nD Cert.PromptIdeal.τ).loc Cert.PromptIdeal.main_arg15)
      ∧ r.2.mem ((c.tc : Thread Cert.PromptIdeal.nD Cert.PromptIdeal.τ).loc Cert.PromptIdeal.main_arg16) = m ((c.tc : Thread Cert.PromptIdeal.nD Cert.PromptIdeal.τ).loc Cert.PromptIdeal.main_arg16)
      ∧ r.2.mem ((c.tc : Thread Cert.PromptIdeal.nD Cert.PromptIdeal.τ).loc Cert.PromptIdeal.main_arg17) = m ((c.tc : Thread Cert.PromptIdeal.nD Cert.PromptIdeal.τ).loc Cert.PromptIdeal.main_arg17)
      ∧ r.2.mem ((c.tc : Thread Cert.PromptIdeal.nD Cert.PromptIdeal.τ).loc Cert.PromptIdeal.main_arg18) = m ((c.tc : Thread Cert.PromptIdeal.nD Cert.PromptIdeal.τ).loc Cert.PromptIdeal.main_arg18))
      ∧ r.2.sem = fun _ => 0)

def quiescent_PromptIdeal_pre_gains_finite [hPromptIdeal : Cert.PromptIdeal.Facts] [hPre_gains_finite : Cert.Pre_gains_finite.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_gains_finite m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
      ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
      ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14)
      ∧ r.2.mem ((c.tc : Thread Cert.PromptIdeal.nD Cert.PromptIdeal.τ).loc Cert.PromptIdeal.main_arg15) = m ((c.tc : Thread Cert.PromptIdeal.nD Cert.PromptIdeal.τ).loc Cert.PromptIdeal.main_arg15)
      ∧ r.2.mem ((c.tc : Thread Cert.PromptIdeal.nD Cert.PromptIdeal.τ).loc Cert.PromptIdeal.main_arg16) = m ((c.tc : Thread Cert.PromptIdeal.nD Cert.PromptIdeal.τ).loc Cert.PromptIdeal.main_arg16)
      ∧ r.2.mem ((c.tc : Thread Cert.PromptIdeal.nD Cert.PromptIdeal.τ).loc Cert.PromptIdeal.main_arg17) = m ((c.tc : Thread Cert.PromptIdeal.nD Cert.PromptIdeal.τ).loc Cert.PromptIdeal.main_arg17)
      ∧ r.2.mem ((c.tc : Thread Cert.PromptIdeal.nD Cert.PromptIdeal.τ).loc Cert.PromptIdeal.main_arg18) = m ((c.tc : Thread Cert.PromptIdeal.nD Cert.PromptIdeal.τ).loc Cert.PromptIdeal.main_arg18))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10)
      ∧ r.2.mem ((c.tc : Thread Cert.PromptRefIdeal.nD Cert.PromptRefIdeal.τ).loc Cert.PromptRefIdeal.main_arg11) = m ((c.tc : Thread Cert.PromptRefIdeal.nD Cert.PromptRefIdeal.τ).loc Cert.PromptRefIdeal.main_arg11)
      ∧ r.2.mem ((c.tc : Thread Cert.PromptRefIdeal.nD Cert.PromptRefIdeal.τ).loc Cert.PromptRefIdeal.main_arg12) = m ((c.tc : Thread Cert.PromptRefIdeal.nD Cert.PromptRefIdeal.τ).loc Cert.PromptRefIdeal.main_arg12)
      ∧ r.2.mem ((c.tc : Thread Cert.PromptRefIdeal.nD Cert.PromptRefIdeal.τ).loc Cert.PromptRefIdeal.main_arg13) = m ((c.tc : Thread Cert.PromptRefIdeal.nD Cert.PromptRefIdeal.τ).loc Cert.PromptRefIdeal.main_arg13)
      ∧ r.2.mem ((c.tc : Thread Cert.PromptRefIdeal.nD Cert.PromptRefIdeal.τ).loc Cert.PromptRefIdeal.main_arg14) = m ((c.tc : Thread Cert.PromptRefIdeal.nD Cert.PromptRefIdeal.τ).loc Cert.PromptRefIdeal.main_arg14)
      ∧ r.2.mem ((c.tc : Thread Cert.PromptRefIdeal.nD Cert.PromptRefIdeal.τ).loc Cert.PromptRefIdeal.main_arg15) = m ((c.tc : Thread Cert.PromptRefIdeal.nD Cert.PromptRefIdeal.τ).loc Cert.PromptRefIdeal.main_arg15)
      ∧ r.2.mem ((c.tc : Thread Cert.PromptRefIdeal.nD Cert.PromptRefIdeal.τ).loc Cert.PromptRefIdeal.main_arg16) = m ((c.tc : Thread Cert.PromptRefIdeal.nD Cert.PromptRefIdeal.τ).loc Cert.PromptRefIdeal.main_arg16)
      ∧ r.2.mem ((c.tc : Thread Cert.PromptRefIdeal.nD Cert.PromptRefIdeal.τ).loc Cert.PromptRefIdeal.main_arg17) = m ((c.tc : Thread Cert.PromptRefIdeal.nD Cert.PromptRefIdeal.τ).loc Cert.PromptRefIdeal.main_arg17)
      ∧ r.2.mem ((c.tc : Thread Cert.PromptRefIdeal.nD Cert.PromptRefIdeal.τ).loc Cert.PromptRefIdeal.main_arg18) = m ((c.tc : Thread Cert.PromptRefIdeal.nD Cert.PromptRefIdeal.τ).loc Cert.PromptRefIdeal.main_arg18))
      ∧ r.2.sem = fun _ => 0)

def quiescent_PromptRefIdeal_pre_gains_finite [hPromptRefIdeal : Cert.PromptRefIdeal.Facts] [hPre_gains_finite : Cert.Pre_gains_finite.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal_gains_finite m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10)
      ∧ r.2.mem ((c.tc : Thread Cert.PromptRefIdeal.nD Cert.PromptRefIdeal.τ).loc Cert.PromptRefIdeal.main_arg11) = m ((c.tc : Thread Cert.PromptRefIdeal.nD Cert.PromptRefIdeal.τ).loc Cert.PromptRefIdeal.main_arg11)
      ∧ r.2.mem ((c.tc : Thread Cert.PromptRefIdeal.nD Cert.PromptRefIdeal.τ).loc Cert.PromptRefIdeal.main_arg12) = m ((c.tc : Thread Cert.PromptRefIdeal.nD Cert.PromptRefIdeal.τ).loc Cert.PromptRefIdeal.main_arg12)
      ∧ r.2.mem ((c.tc : Thread Cert.PromptRefIdeal.nD Cert.PromptRefIdeal.τ).loc Cert.PromptRefIdeal.main_arg13) = m ((c.tc : Thread Cert.PromptRefIdeal.nD Cert.PromptRefIdeal.τ).loc Cert.PromptRefIdeal.main_arg13)
      ∧ r.2.mem ((c.tc : Thread Cert.PromptRefIdeal.nD Cert.PromptRefIdeal.τ).loc Cert.PromptRefIdeal.main_arg14) = m ((c.tc : Thread Cert.PromptRefIdeal.nD Cert.PromptRefIdeal.τ).loc Cert.PromptRefIdeal.main_arg14)
      ∧ r.2.mem ((c.tc : Thread Cert.PromptRefIdeal.nD Cert.PromptRefIdeal.τ).loc Cert.PromptRefIdeal.main_arg15) = m ((c.tc : Thread Cert.PromptRefIdeal.nD Cert.PromptRefIdeal.τ).loc Cert.PromptRefIdeal.main_arg15)
      ∧ r.2.mem ((c.tc : Thread Cert.PromptRefIdeal.nD Cert.PromptRefIdeal.τ).loc Cert.PromptRefIdeal.main_arg16) = m ((c.tc : Thread Cert.PromptRefIdeal.nD Cert.PromptRefIdeal.τ).loc Cert.PromptRefIdeal.main_arg16)
      ∧ r.2.mem ((c.tc : Thread Cert.PromptRefIdeal.nD Cert.PromptRefIdeal.τ).loc Cert.PromptRefIdeal.main_arg17) = m ((c.tc : Thread Cert.PromptRefIdeal.nD Cert.PromptRefIdeal.τ).loc Cert.PromptRefIdeal.main_arg17)
      ∧ r.2.mem ((c.tc : Thread Cert.PromptRefIdeal.nD Cert.PromptRefIdeal.τ).loc Cert.PromptRefIdeal.main_arg18) = m ((c.tc : Thread Cert.PromptRefIdeal.nD Cert.PromptRefIdeal.τ).loc Cert.PromptRefIdeal.main_arg18))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def preserves_Prompt_PromptIdeal : Prop :=
  True

def algebraic_PromptIdeal_PromptRefIdeal_pre_gains_finite [hPromptIdeal : Cert.PromptIdeal.Facts] [hPromptRefIdeal : Cert.PromptRefIdeal.Facts] [hPre_gains_finite : Cert.Pre_gains_finite.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal_gains_finite m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)
      ∧ m' ((c.tc : Thread Cert.PromptRefIdeal.nD Cert.PromptRefIdeal.τ).loc Cert.PromptRefIdeal.main_arg10) = m ((c.tc : Thread Cert.PromptIdeal.nD Cert.PromptIdeal.τ).loc Cert.PromptIdeal.main_arg10)
      ∧ m' ((c.tc : Thread Cert.PromptRefIdeal.nD Cert.PromptRefIdeal.τ).loc Cert.PromptRefIdeal.main_arg11) = m ((c.tc : Thread Cert.PromptIdeal.nD Cert.PromptIdeal.τ).loc Cert.PromptIdeal.main_arg11)
      ∧ m' ((c.tc : Thread Cert.PromptRefIdeal.nD Cert.PromptRefIdeal.τ).loc Cert.PromptRefIdeal.main_arg12) = m ((c.tc : Thread Cert.PromptIdeal.nD Cert.PromptIdeal.τ).loc Cert.PromptIdeal.main_arg12)
      ∧ m' ((c.tc : Thread Cert.PromptRefIdeal.nD Cert.PromptRefIdeal.τ).loc Cert.PromptRefIdeal.main_arg13) = m ((c.tc : Thread Cert.PromptIdeal.nD Cert.PromptIdeal.τ).loc Cert.PromptIdeal.main_arg13)
      ∧ m' ((c.tc : Thread Cert.PromptRefIdeal.nD Cert.PromptRefIdeal.τ).loc Cert.PromptRefIdeal.main_arg14) = m ((c.tc : Thread Cert.PromptIdeal.nD Cert.PromptIdeal.τ).loc Cert.PromptIdeal.main_arg14)
      ∧ m' ((c.tc : Thread Cert.PromptRefIdeal.nD Cert.PromptRefIdeal.τ).loc Cert.PromptRefIdeal.main_arg15) = m ((c.tc : Thread Cert.PromptIdeal.nD Cert.PromptIdeal.τ).loc Cert.PromptIdeal.main_arg15)
      ∧ m' ((c.tc : Thread Cert.PromptRefIdeal.nD Cert.PromptRefIdeal.τ).loc Cert.PromptRefIdeal.main_arg16) = m ((c.tc : Thread Cert.PromptIdeal.nD Cert.PromptIdeal.τ).loc Cert.PromptIdeal.main_arg16)
      ∧ m' ((c.tc : Thread Cert.PromptRefIdeal.nD Cert.PromptRefIdeal.τ).loc Cert.PromptRefIdeal.main_arg17) = m ((c.tc : Thread Cert.PromptIdeal.nD Cert.PromptIdeal.τ).loc Cert.PromptIdeal.main_arg17)
      ∧ m' ((c.tc : Thread Cert.PromptRefIdeal.nD Cert.PromptRefIdeal.τ).loc Cert.PromptRefIdeal.main_arg18) = m ((c.tc : Thread Cert.PromptIdeal.nD Cert.PromptIdeal.τ).loc Cert.PromptIdeal.main_arg18)) →
    ∃ (v0 : (c : Dev Cert.PromptIdeal.nD) → Buf (Elt Ideal) ((c.tc : Thread Cert.PromptIdeal.nD Cert.PromptIdeal.τ).loc Cert.PromptIdeal.main_v60)) (v1 : (c : Dev Cert.PromptIdeal.nD) → Buf (Elt Ideal) ((c.tc : Thread Cert.PromptIdeal.nD Cert.PromptIdeal.τ).loc Cert.PromptIdeal.main_v63)) (v2 : (c : Dev Cert.PromptIdeal.nD) → Buf (Elt Ideal) ((c.tc : Thread Cert.PromptIdeal.nD Cert.PromptIdeal.τ).loc Cert.PromptIdeal.main_v64)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v60) = v0 c
          ∧ r.2.mem ((c.tc : Thread Cert.PromptIdeal.nD Cert.PromptIdeal.τ).loc Cert.PromptIdeal.main_v63) = v1 c
          ∧ r.2.mem ((c.tc : Thread Cert.PromptIdeal.nD Cert.PromptIdeal.τ).loc Cert.PromptIdeal.main_v64) = v2 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12)
          ∧ r.2.mem ((c.tc : Thread Cert.PromptIdeal.nD Cert.PromptIdeal.τ).loc Cert.PromptIdeal.main_arg13) = m ((c.tc : Thread Cert.PromptIdeal.nD Cert.PromptIdeal.τ).loc Cert.PromptIdeal.main_arg13)
          ∧ r.2.mem ((c.tc : Thread Cert.PromptIdeal.nD Cert.PromptIdeal.τ).loc Cert.PromptIdeal.main_arg14) = m ((c.tc : Thread Cert.PromptIdeal.nD Cert.PromptIdeal.τ).loc Cert.PromptIdeal.main_arg14)
          ∧ r.2.mem ((c.tc : Thread Cert.PromptIdeal.nD Cert.PromptIdeal.τ).loc Cert.PromptIdeal.main_arg15) = m ((c.tc : Thread Cert.PromptIdeal.nD Cert.PromptIdeal.τ).loc Cert.PromptIdeal.main_arg15)
          ∧ r.2.mem ((c.tc : Thread Cert.PromptIdeal.nD Cert.PromptIdeal.τ).loc Cert.PromptIdeal.main_arg16) = m ((c.tc : Thread Cert.PromptIdeal.nD Cert.PromptIdeal.τ).loc Cert.PromptIdeal.main_arg16)
          ∧ r.2.mem ((c.tc : Thread Cert.PromptIdeal.nD Cert.PromptIdeal.τ).loc Cert.PromptIdeal.main_arg17) = m ((c.tc : Thread Cert.PromptIdeal.nD Cert.PromptIdeal.τ).loc Cert.PromptIdeal.main_arg17)
          ∧ r.2.mem ((c.tc : Thread Cert.PromptIdeal.nD Cert.PromptIdeal.τ).loc Cert.PromptIdeal.main_arg18) = m ((c.tc : Thread Cert.PromptIdeal.nD Cert.PromptIdeal.τ).loc Cert.PromptIdeal.main_arg18))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v224) = v0 c
          ∧ r.2.mem ((c.tc : Thread Cert.PromptRefIdeal.nD Cert.PromptRefIdeal.τ).loc Cert.PromptRefIdeal.main_v225) = v1 c
          ∧ r.2.mem ((c.tc : Thread Cert.PromptRefIdeal.nD Cert.PromptRefIdeal.τ).loc Cert.PromptRefIdeal.main_v226) = v2 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9)
          ∧ r.2.mem ((c.tc : Thread Cert.PromptRefIdeal.nD Cert.PromptRefIdeal.τ).loc Cert.PromptRefIdeal.main_arg10) = m' ((c.tc : Thread Cert.PromptRefIdeal.nD Cert.PromptRefIdeal.τ).loc Cert.PromptRefIdeal.main_arg10)
          ∧ r.2.mem ((c.tc : Thread Cert.PromptRefIdeal.nD Cert.PromptRefIdeal.τ).loc Cert.PromptRefIdeal.main_arg11) = m' ((c.tc : Thread Cert.PromptRefIdeal.nD Cert.PromptRefIdeal.τ).loc Cert.PromptRefIdeal.main_arg11)
          ∧ r.2.mem ((c.tc : Thread Cert.PromptRefIdeal.nD Cert.PromptRefIdeal.τ).loc Cert.PromptRefIdeal.main_arg12) = m' ((c.tc : Thread Cert.PromptRefIdeal.nD Cert.PromptRefIdeal.τ).loc Cert.PromptRefIdeal.main_arg12)
          ∧ r.2.mem ((c.tc : Thread Cert.PromptRefIdeal.nD Cert.PromptRefIdeal.τ).loc Cert.PromptRefIdeal.main_arg13) = m' ((c.tc : Thread Cert.PromptRefIdeal.nD Cert.PromptRefIdeal.τ).loc Cert.PromptRefIdeal.main_arg13)
          ∧ r.2.mem ((c.tc : Thread Cert.PromptRefIdeal.nD Cert.PromptRefIdeal.τ).loc Cert.PromptRefIdeal.main_arg14) = m' ((c.tc : Thread Cert.PromptRefIdeal.nD Cert.PromptRefIdeal.τ).loc Cert.PromptRefIdeal.main_arg14)
          ∧ r.2.mem ((c.tc : Thread Cert.PromptRefIdeal.nD Cert.PromptRefIdeal.τ).loc Cert.PromptRefIdeal.main_arg15) = m' ((c.tc : Thread Cert.PromptRefIdeal.nD Cert.PromptRefIdeal.τ).loc Cert.PromptRefIdeal.main_arg15)
          ∧ r.2.mem ((c.tc : Thread Cert.PromptRefIdeal.nD Cert.PromptRefIdeal.τ).loc Cert.PromptRefIdeal.main_arg16) = m' ((c.tc : Thread Cert.PromptRefIdeal.nD Cert.PromptRefIdeal.τ).loc Cert.PromptRefIdeal.main_arg16)
          ∧ r.2.mem ((c.tc : Thread Cert.PromptRefIdeal.nD Cert.PromptRefIdeal.τ).loc Cert.PromptRefIdeal.main_arg17) = m' ((c.tc : Thread Cert.PromptRefIdeal.nD Cert.PromptRefIdeal.τ).loc Cert.PromptRefIdeal.main_arg17)
          ∧ r.2.mem ((c.tc : Thread Cert.PromptRefIdeal.nD Cert.PromptRefIdeal.τ).loc Cert.PromptRefIdeal.main_arg18) = m' ((c.tc : Thread Cert.PromptRefIdeal.nD Cert.PromptRefIdeal.τ).loc Cert.PromptRefIdeal.main_arg18))

def preserves_Attn_AttnIdeal : Prop :=
  True

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v15)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v26) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v57) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v87) = v0 c
          ∧ r.2.mem ((c.tc : Thread Cert.MixRefIdeal.nD Cert.MixRefIdeal.τ).loc Cert.MixRefIdeal.main_v89) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def Claim : Prop :=
  ∃ (hPrompt : Cert.Prompt.Facts) (hPromptIdeal : Cert.PromptIdeal.Facts) (hPromptRefIdeal : Cert.PromptRefIdeal.Facts) (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hPre_gains_finite : Cert.Pre_gains_finite.Facts) (hPre_scores_finite : Cert.Pre_scores_finite.Facts),
    quiescent_Prompt (hPrompt := hPrompt)
    ∧ quiescent_PromptIdeal (hPromptIdeal := hPromptIdeal)
    ∧ quiescent_PromptIdeal_pre_gains_finite (hPromptIdeal := hPromptIdeal) (hPre_gains_finite := hPre_gains_finite)
    ∧ quiescent_PromptRefIdeal (hPromptRefIdeal := hPromptRefIdeal)
    ∧ quiescent_PromptRefIdeal_pre_gains_finite (hPromptRefIdeal := hPromptRefIdeal) (hPre_gains_finite := hPre_gains_finite)
    ∧ quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ preserves_Prompt_PromptIdeal
    ∧ algebraic_PromptIdeal_PromptRefIdeal_pre_gains_finite (hPromptIdeal := hPromptIdeal) (hPromptRefIdeal := hPromptRefIdeal) (hPre_gains_finite := hPre_gains_finite)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
-- ==== Pre_gains_finite.lean ====
abbrev S16x256x1024 : Shape := ⟨3, ![16, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x6656 : Shape := ⟨3, ![1, 1024, 6656]⟩
abbrev S1x64 : Shape := ⟨2, ![1, 64]⟩
abbrev S1x1024x1024 : Shape := ⟨3, ![1, 1024, 1024]⟩
abbrev S1x3x1024 : Shape := ⟨3, ![1, 3, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S_ : Shape := ⟨0, ![]⟩

class Facts : Prop where
  bcast_S_S1x64 : S_.BroadcastsInDim S1x64 (![] : Fin 0 → Fin S1x64.rank)

variable [Facts]

def fn {F : FTy → Type} [FloatOps F] (main_arg0 : FVec F S16x256x1024 .f32) (main_arg1 : FVec F S8x1024 .f32) (main_arg2 : FVec F S1024 .f32) (main_arg3 : FVec F S1x1024x6144 .f32) (main_arg4 : FVec F S1x6144 .f32) (main_arg5 : FVec F S1x1024 .f32) (main_arg6 : FVec F S1x1024 .f32) (main_arg7 : FVec F S1x1024 .f32) (main_arg8 : FVec F S1x1024 .f32) (main_arg9 : FVec F S1x1024x6656 .f32) (main_arg10 : FVec F S1x64 .f32) (main_arg11 : FVec F S1x64 .f32) (main_arg12 : FVec F S1x1024x1024 .f32) (main_arg13 : FVec F S1x3x1024 .f32) (main_arg14 : FVec F S1x1024x1024 .f32) (main_arg15 : FVec F S1x1024x1024 .f32) (main_arg16 : FVec F S1x1024x5632 .f32) (main_arg17 : FVec F S1x3x5632 .f32) (main_arg18 : FVec F S1x2816x1024 .f32) : IVec S1x64 1 × IVec S1x64 1 :=
  let main_v0 : FVec F S1x64 .f32 := Host.absf main_arg10
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg11
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  (main_v2, main_v5)
-- ==== Pre_scores_finite.lean ====
abbrev S16384x1024 : Shape := ⟨2, ![16384, 1024]⟩
abbrev S16384x256 : Shape := ⟨2, ![16384, 256]⟩
abbrev S8x1x512x4x64 : Shape := ⟨5, ![8, 1, 512, 4, 64]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S16384x256 : S_.BroadcastsInDim S16384x256 (![] : Fin 0 → Fin S16384x256.rank)
  bcast_S_S8x1x512x4x64 : S_.BroadcastsInDim S8x1x512x4x64 (![] : Fin 0 → Fin S8x1x512x4x64.rank)

variable [Facts]

def fn {F : FTy → Type} [FloatOps F] (main_arg0 : FVec F S16384x1024 .bf16) (main_arg1 : FVec F S16384x256 .bf16) (main_arg2 : FVec F S16384x256 .bf16) (main_arg3 : FVec F S8x1x512x4x64 .f32) (main_arg4 : FVec F S8x1x512x4x64 .f32) : IVec S16384x1024 1 × IVec S16384x256 1 × IVec S8x1x512x4x64 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x256 .f32 := (extf .f32 · bitsLt_bf16_f32) main_arg1
  let main_v5 : FVec F S16384x256 .f32 := Host.absf main_v4
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_v8 : FVec F S8x1x512x4x64 .f32 := Host.absf main_arg3
  let main_cst_1 : FVec F S_ .f32 := constant S_ .f32 0x7F800000#32
  let main_v9 : FVec F S8x1x512x4x64 .f32 := broadcastInDim S8x1x512x4x64 ![] bcast_S_S8x1x512x4x64 main_cst_1
  let main_v10 : IVec S8x1x512x4x64 1 := cmpf .olt main_v8 main_v9
  (main_v3, main_v7, main_v10)
-- ==== Prompt.lean ====
abbrev S16x256x1024 : Shape := ⟨3, ![16, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x6656 : Shape := ⟨3, ![1, 1024, 6656]⟩
abbrev S1x64 : Shape := ⟨2, ![1, 64]⟩
abbrev S1x1024x1024 : Shape := ⟨3, ![1, 1024, 1024]⟩
abbrev S1x3x1024 : Shape := ⟨3, ![1, 3, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S256x256 : Shape := ⟨2, ![256, 256]⟩
abbrev S_ : Shape := ⟨0, ![]⟩
abbrev S16x1024 : Shape := ⟨2, ![16, 1024]⟩
abbrev S1 : Shape := ⟨1, ![1]⟩
abbrev S1024x6656 : Shape := ⟨2, ![1024, 6656]⟩
abbrev S64 : Shape := ⟨1, ![64]⟩
abbrev S4x64 : Shape := ⟨2, ![4, 64]⟩
abbrev S256 : Shape := ⟨1, ![256]⟩
abbrev S1x256 : Shape := ⟨2, ![1, 256]⟩
abbrev S1024x1024 : Shape := ⟨2, ![1024, 1024]⟩
abbrev S3x1024 : Shape := ⟨2, ![3, 1024]⟩
abbrev S1024x5632 : Shape := ⟨2, ![1024, 5632]⟩
abbrev S3x5632 : Shape := ⟨2, ![3, 5632]⟩
abbrev S2816x1024 : Shape := ⟨2, ![2816, 1024]⟩
abbrev S1024x6144 : Shape := ⟨2, ![1024, 6144]⟩
abbrev S6144 : Shape := ⟨1, ![6144]⟩
abbrev S16x6144 : Shape := ⟨2, ![16, 6144]⟩
abbrev S16x6x1024 : Shape := ⟨3, ![16, 6, 1024]⟩
abbrev S16x1x6144 : Shape := ⟨3, ![16, 1, 6144]⟩
abbrev S4096x1024 : Shape := ⟨2, ![4096, 1024]⟩
abbrev S4096x256 : Shape := ⟨2, ![4096, 256]⟩
abbrev S512x1024 : Shape := ⟨2, ![512, 1024]⟩
abbrev S1x1x1024 : Shape := ⟨3, ![1, 1, 1024]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S16x256x256 : Shape := ⟨3, ![16, 256, 256]⟩
abbrev S16x256x4x64 : Shape := ⟨4, ![16, 256, 4, 64]⟩
abbrev S16x4x64x256 : Shape := ⟨4, ![16, 4, 64, 256]⟩
abbrev S16x4x256x64 : Shape := ⟨4, ![16, 4, 256, 64]⟩
abbrev S1x256x1024 : Shape := ⟨3, ![1, 256, 1024]⟩
abbrev S1x4x64x256 : Shape := ⟨4, ![1, 4, 64, 256]⟩
abbrev S1x4x256x64 : Shape := ⟨4, ![1, 4, 256, 64]⟩
abbrev S1x1x64x256 : Shape := ⟨4, ![1, 1, 64, 256]⟩
abbrev S64x256 : Shape := ⟨2, ![64, 256]⟩
abbrev S1x1x256x64 : Shape := ⟨4, ![1, 1, 256, 64]⟩
abbrev S256x64 : Shape := ⟨2, ![256, 64]⟩
abbrev S1x256x64 : Shape := ⟨3, ![1, 256, 64]⟩
abbrev S256x1 : Shape := ⟨2, ![256, 1]⟩
abbrev S1x256x256 : Shape := ⟨3, ![1, 256, 256]⟩
abbrev S256x1024 : Shape := ⟨2, ![256, 1024]⟩
abbrev S288x1024 : Shape := ⟨2, ![288, 1024]⟩
abbrev S1024x1408 : Shape := ⟨2, ![1024, 1408]⟩
abbrev S288x1408 : Shape := ⟨2, ![288, 1408]⟩
abbrev S3x1408 : Shape := ⟨2, ![3, 1408]⟩
abbrev S256x1408 : Shape := ⟨2, ![256, 1408]⟩
abbrev S1x1408 : Shape := ⟨2, ![1, 1408]⟩
abbrev S1408x1024 : Shape := ⟨2, ![1408, 1024]⟩
abbrev S16x1x256x4x64 : Shape := ⟨5, ![16, 1, 256, 4, 64]⟩

abbrev nBuf : Space → Nat
  | .hbm => 96
  | .vmem => 83
  | .smem => 0
  | _ => 0

abbrev bufTy : (tb : Table) → Fin (tcTables nBuf tb) → BufTy
  | .hbm, ⟨0, _⟩ => ⟨S16x256x1024, .f32⟩
  | .hbm, ⟨1, _⟩ => ⟨S8x1024, .f32⟩
  | .hbm, ⟨2, _⟩ => ⟨S1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x6656, .f32⟩
  | .hbm, ⟨10, _⟩ => ⟨S1x64, .f32⟩
  | .hbm, ⟨11, _⟩ => ⟨S1x64, .f32⟩
  | .hbm, ⟨12, _⟩ => ⟨S1x1024x1024, .f32⟩
  | .hbm, ⟨13, _⟩ => ⟨S1x3x1024, .f32⟩
  | .hbm, ⟨14, _⟩ => ⟨S1x1024x1024, .f32⟩
  | .hbm, ⟨15, _⟩ => ⟨S1x1024x1024, .f32⟩
  | .hbm, ⟨16, _⟩ => ⟨S1x1024x5632, .f32⟩
  | .hbm, ⟨17, _⟩ => ⟨S1x3x5632, .f32⟩
  | .hbm, ⟨18, _⟩ => ⟨S1x2816x1024, .f32⟩
  | .hbm, ⟨19, _⟩ => ⟨S256x256, .bf16⟩
  | .hbm, ⟨20, _⟩ => ⟨S_, .f32⟩
  | .hbm, ⟨21, _⟩ => ⟨S16x1024, .f32⟩
  | .hbm, ⟨22, _⟩ => ⟨S_, .i32⟩
  | .hbm, ⟨23, _⟩ => ⟨S1, .i32⟩
  | .hbm, ⟨24, _⟩ => ⟨S16x1024, .f32⟩
  | .hbm, ⟨25, _⟩ => ⟨S_, .i32⟩
  | .hbm, ⟨26, _⟩ => ⟨S1, .i32⟩
  | .hbm, ⟨27, _⟩ => ⟨S16x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024x6656, .f32⟩
  | .hbm, ⟨37, _⟩ => ⟨S1024x6656, .bf16⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S4x64, .f32⟩
  | .hbm, ⟨44, _⟩ => ⟨S256, .f32⟩
  | .hbm, ⟨45, _⟩ => ⟨S1x256, .f32⟩
  | .hbm, ⟨46, _⟩ => ⟨S64, .f32⟩
  | .hbm, ⟨47, _⟩ => ⟨S1x64, .f32⟩
  | .hbm, ⟨48, _⟩ => ⟨S4x64, .f32⟩
  | .hbm, ⟨49, _⟩ => ⟨S256, .f32⟩
  | .hbm, ⟨50, _⟩ => ⟨S1x256, .f32⟩
  | .hbm, ⟨51, _⟩ => ⟨S1024x1024, .f32⟩
  | .hbm, ⟨52, _⟩ => ⟨S1024x1024, .bf16⟩
  | .hbm, ⟨53, _⟩ => ⟨S3x1024, .f32⟩
  | .hbm, ⟨54, _⟩ => ⟨S1024x1024, .f32⟩
  | .hbm, ⟨55, _⟩ => ⟨S1024x1024, .bf16⟩
  | .hbm, ⟨56, _⟩ => ⟨S1024x1024, .f32⟩
  | .hbm, ⟨57, _⟩ => ⟨S1024x1024, .bf16⟩
  | .hbm, ⟨58, _⟩ => ⟨S1024x5632, .f32⟩
  | .hbm, ⟨59, _⟩ => ⟨S1024x5632, .bf16⟩
  | .hbm, ⟨60, _⟩ => ⟨S3x5632, .f32⟩
  | .hbm, ⟨61, _⟩ => ⟨S2816x1024, .f32⟩
  | .hbm, ⟨62, _⟩ => ⟨S2816x1024, .bf16⟩
  | .hbm, ⟨63, _⟩ => ⟨S1024x6144, .f32⟩
  | .hbm, ⟨64, _⟩ => ⟨S6144, .f32⟩
  | .hbm, ⟨65, _⟩ => ⟨S1x6144, .f32⟩
  | .hbm, ⟨66, _⟩ => ⟨S16x6144, .f32⟩
  | .hbm, ⟨67, _⟩ => ⟨S16x6x1024, .f32⟩
  | .hbm, ⟨68, _⟩ => ⟨S16x1x6144, .f32⟩
  | .hbm, ⟨69, _⟩ => ⟨S4096x1024, .f32⟩
  | .hbm, ⟨70, _⟩ => ⟨S4096x1024, .bf16⟩
  | .hbm, ⟨71, _⟩ => ⟨S4096x256, .f32⟩
  | .hbm, ⟨72, _⟩ => ⟨S4096x256, .f32⟩
  | .hbm, ⟨73, _⟩ => ⟨S4096x1024, .bf16⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S16x256x256, .f32⟩
  | .hbm, ⟨78, _⟩ => ⟨S16x256x256, .bf16⟩
  | .hbm, ⟨79, _⟩ => ⟨S16x256x256, .f32⟩
  | .hbm, ⟨80, _⟩ => ⟨S16x256x256, .bf16⟩
  | .hbm, ⟨81, _⟩ => ⟨S16x256x4x64, .bf16⟩
  | .hbm, ⟨82, _⟩ => ⟨S16x4x64x256, .bf16⟩
  | .hbm, ⟨83, _⟩ => ⟨S16x256x4x64, .bf16⟩
  | .hbm, ⟨84, _⟩ => ⟨S16x4x256x64, .bf16⟩
  | .hbm, ⟨85, _⟩ => ⟨S16x256x1024, .bf16⟩
  | .hbm, ⟨86, _⟩ => ⟨S16x256x1024, .bf16⟩
  | .hbm, ⟨87, _⟩ => ⟨S4096x1024, .bf16⟩
  | .hbm, ⟨88, _⟩ => ⟨S4096x1024, .f32⟩
  | .hbm, ⟨89, _⟩ => ⟨S4096x1024, .bf16⟩
  | .hbm, ⟨90, _⟩ => ⟨S4096x1024, .f32⟩
  | .hbm, ⟨91, _⟩ => ⟨S16x256x1024, .f32⟩
  | .hbm, ⟨92, _⟩ => ⟨S16x256x4x64, .f32⟩
  | .hbm, ⟨93, _⟩ => ⟨S16x256x4x64, .f32⟩
  | .hbm, ⟨94, _⟩ => ⟨S16x1x256x4x64, .f32⟩
  | .hbm, ⟨95, _⟩ => ⟨S16x1x256x4x64, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1024x6656, .bf16⟩
  | .local _ .vmem, ⟨13, _⟩ => ⟨S1x256, .f32⟩
  | .local _ .vmem, ⟨14, _⟩ => ⟨S1x256, .f32⟩
  | .local _ .vmem, ⟨15, _⟩ => ⟨S256x256, .bf16⟩
  | .local _ .vmem, ⟨16, _⟩ => ⟨S512x1024, .bf16⟩
  | .local _ .vmem, ⟨17, _⟩ => ⟨S512x1024, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x4x64x256, .bf16⟩
  | .local _ .vmem, ⟨33, _⟩ => ⟨S1x4x64x256, .bf16⟩
  | .local _ .vmem, ⟨34, _⟩ => ⟨S1x4x256x64, .bf16⟩
  | .local _ .vmem, ⟨35, _⟩ => ⟨S1x4x256x64, .bf16⟩
  | .local _ .vmem, ⟨36, _⟩ => ⟨S1x256x1024, .bf16⟩
  | .local _ .vmem, ⟨37, _⟩ => ⟨S1x256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S16x1024, .bf16⟩
  | .local _ .vmem, ⟨45, _⟩ => ⟨S16x1024, .bf16⟩
  | .local _ .vmem, ⟨46, _⟩ => ⟨S16x1024, .bf16⟩
  | .local _ .vmem, ⟨47, _⟩ => ⟨S16x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .f32⟩
  | .local _ .vmem, ⟨53, _⟩ => ⟨S256x1024, .f32⟩
  | .local _ .vmem, ⟨54, _⟩ => ⟨S1x1x1024, .f32⟩
  | .local _ .vmem, ⟨55, _⟩ => ⟨S1x1x1024, .f32⟩
  | .local _ .vmem, ⟨56, _⟩ => ⟨S1x1x1024, .f32⟩
  | .local _ .vmem, ⟨57, _⟩ => ⟨S1x1024, .f32⟩
  | .local _ .vmem, ⟨58, _⟩ => ⟨S1x1024, .f32⟩
  | .local _ .vmem, ⟨59, _⟩ => ⟨S3x1024, .f32⟩
  | .local _ .vmem, ⟨60, _⟩ => ⟨S1024x1024, .bf16⟩
  | .local _ .vmem, ⟨61, _⟩ => ⟨S1024x1024, .bf16⟩
  | .local _ .vmem, ⟨62, _⟩ => ⟨S1024x1024, .bf16⟩
  | .local _ .vmem, ⟨63, _⟩ => ⟨S256x1024, .f32⟩
  | .local _ .vmem, ⟨64, _⟩ => ⟨S256x1024, .f32⟩
  | .local _ .vmem, ⟨65, _⟩ => ⟨S256x1024, .bf16⟩
  | .local _ .vmem, ⟨66, _⟩ => ⟨S256x1024, .bf16⟩
  | .local _ .vmem, ⟨67, _⟩ => ⟨S256x1024, .bf16⟩
  | .local _ .vmem, ⟨68, _⟩ => ⟨S256x1024, .bf16⟩
  | .local _ .vmem, ⟨69, _⟩ => ⟨S16x1024, .bf16⟩
  | .local _ .vmem, ⟨70, _⟩ => ⟨S16x1024, .bf16⟩
  | .local _ .vmem, ⟨71, _⟩ => ⟨S16x1024, .bf16⟩
  | .local _ .vmem, ⟨72, _⟩ => ⟨S16x1024, .bf16⟩
  | .local _ .vmem, ⟨73, _⟩ => ⟨S256x1024, .f32⟩
  | .local _ .vmem, ⟨74, _⟩ => ⟨S256x1024, .f32⟩
  | .local _ .vmem, ⟨75, _⟩ => ⟨S1x1x1024, .f32⟩
  | .local _ .vmem, ⟨76, _⟩ => ⟨S1x1024, .f32⟩
  | .local _ .vmem, ⟨77, _⟩ => ⟨S3x5632, .f32⟩
  | .local _ .vmem, ⟨78, _⟩ => ⟨S1024x5632, .bf16⟩
  | .local _ .vmem, ⟨79, _⟩ => ⟨S2816x1024, .bf16⟩
  | .local _ .vmem, ⟨80, _⟩ => ⟨S256x1024, .f32⟩
  | .local _ .vmem, ⟨81, _⟩ => ⟨S256x1024, .f32⟩
  | .local _ .vmem, ⟨82, _⟩ => ⟨S288x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_v46_2 : Ref sig .tc := ⟨.hbm, 72, rfl⟩
abbrev main_v46_3 : Ref sig .tc := ⟨.hbm, 73, rfl⟩
abbrev main_v46_4 : Ref sig .tc := ⟨.hbm, 74, rfl⟩
abbrev main_v46_5 : Ref sig .tc := ⟨.hbm, 75, rfl⟩
abbrev main_v46_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58_0 : Ref sig .tc := ⟨.hbm, 88, rfl⟩
abbrev main_v58_1 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg11_0 : Ref sig .tc := ⟨.vmem, 57, rfl⟩
abbrev cc3_stg12_0 : Ref sig .tc := ⟨.vmem, 58, rfl⟩
abbrev cc3_stg13_0 : Ref sig .tc := ⟨.vmem, 59, rfl⟩
abbrev cc3_stg14_0 : Ref sig .tc := ⟨.vmem, 60, rfl⟩
abbrev cc3_stg15_0 : Ref sig .tc := ⟨.vmem, 61, rfl⟩
abbrev cc3_stg16_0 : Ref sig .tc := ⟨.vmem, 62, rfl⟩
abbrev cc3_stg17_0 : Ref sig .tc := ⟨.vmem, 63, rfl⟩
abbrev cc3_stg17_1 : Ref sig .tc := ⟨.vmem, 64, rfl⟩
abbrev cc3_stg18_0 : Ref sig .tc := ⟨.vmem, 65, rfl⟩
abbrev cc3_stg18_1 : Ref sig .tc := ⟨.vmem, 66, rfl⟩
abbrev cc4_stg0_0 : Ref sig .tc := ⟨.vmem, 67, rfl⟩
abbrev cc4_stg0_1 : Ref sig .tc := ⟨.vmem, 68, rfl⟩
abbrev cc4_stg1_0 : Ref sig .tc := ⟨.vmem, 69, rfl⟩
abbrev cc4_stg1_1 : Ref sig .tc := ⟨.vmem, 70, rfl⟩
abbrev cc4_stg2_0 : Ref sig .tc := ⟨.vmem, 71, rfl⟩
abbrev cc4_stg2_1 : Ref sig .tc := ⟨.vmem, 72, rfl⟩
abbrev cc4_stg3_0 : Ref sig .tc := ⟨.vmem, 73, rfl⟩
abbrev cc4_stg3_1 : Ref sig .tc := ⟨.vmem, 74, rfl⟩
abbrev cc4_stg4_0 : Ref sig .tc := ⟨.vmem, 75, rfl⟩
abbrev cc4_stg5_0 : Ref sig .tc := ⟨.vmem, 76, rfl⟩
abbrev cc4_stg6_0 : Ref sig .tc := ⟨.vmem, 77, rfl⟩
abbrev cc4_stg7_0 : Ref sig .tc := ⟨.vmem, 78, rfl⟩
abbrev cc4_stg8_0 : Ref sig .tc := ⟨.vmem, 79, rfl⟩
abbrev cc4_stg9_0 : Ref sig .tc := ⟨.vmem, 80, rfl⟩
abbrev cc4_stg9_1 : Ref sig .tc := ⟨.vmem, 81, rfl⟩
abbrev cc4_scratch0 : Ref sig .tc := ⟨.vmem, 82, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc3_sem5_0 : DmaSem sig := 48
abbrev cc3_sem5_1 : DmaSem sig := 49
abbrev cc3_sem6_0 : DmaSem sig := 50
abbrev cc3_sem6_1 : DmaSem sig := 51
abbrev cc3_sem7_0 : DmaSem sig := 52
abbrev cc3_sem7_1 : DmaSem sig := 53
abbrev cc3_sem8_0 : DmaSem sig := 54
abbrev cc3_sem9_0 : DmaSem sig := 55
abbrev cc3_sem10_0 : DmaSem sig := 56
abbrev cc3_sem11_0 : DmaSem sig := 57
abbrev cc3_sem12_0 : DmaSem sig := 58
abbrev cc3_sem13_0 : DmaSem sig := 59
abbrev cc3_sem14_0 : DmaSem sig := 60
abbrev cc3_sem15_0 : DmaSem sig := 61
abbrev cc3_sem16_0 : DmaSem sig := 62
abbrev cc3_sem17_0 : DmaSem sig := 63
abbrev cc3_sem17_1 : DmaSem sig := 64
abbrev cc3_sem18_0 : DmaSem sig := 65
abbrev cc3_sem18_1 : DmaSem sig := 66
abbrev cc4_sem0_0 : DmaSem sig := 67
abbrev cc4_sem0_1 : DmaSem sig := 68
abbrev cc4_sem1_0 : DmaSem sig := 69
abbrev cc4_sem1_1 : DmaSem sig := 70
abbrev cc4_sem2_0 : DmaSem sig := 71
abbrev cc4_sem2_1 : DmaSem sig := 72
abbrev cc4_sem3_0 : DmaSem sig := 73
abbrev cc4_sem3_1 : DmaSem sig := 74
abbrev cc4_sem4_0 : DmaSem sig := 75
abbrev cc4_sem5_0 : DmaSem sig := 76
abbrev cc4_sem6_0 : DmaSem sig := 77
abbrev cc4_sem7_0 : DmaSem sig := 78
abbrev cc4_sem8_0 : DmaSem sig := 79
abbrev cc4_sem9_0 : DmaSem sig := 80
abbrev cc4_sem9_1 : DmaSem sig := 81

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x6656 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨3, ![16, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x4x64x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x4x256x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_4 (i : grid3.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc3_transform_9 (i : grid3.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc3_transform_10 (i : grid3.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_18 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S16x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S16x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S3x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1024x1024 .bf16 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1024x1024 .bf16 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1024x1024 .bf16 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 2 → Memref sig .tc .vmem S256x1024 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

abbrev stage3_18 : Fin 2 → Memref sig .tc .vmem S256x1024 .bf16 := fun | 0 => Memref.whole cc3_stg18_0 | 1 => Memref.whole cc3_stg18_1 | ⟨_ + 2, h⟩ => absurd h (Nat.not_lt.2 (Nat.le_add_left _ _))
abbrev sem3_18 : Fin 2 → DmaSem sig := fun | 0 => cc3_sem18_0 | 1 => cc3_sem18_1 | ⟨_ + 2, h⟩ => absurd h (Nat.not_lt.2 (Nat.le_add_left _ _))
abbrev reads3_18 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc4_transform_2 (i : grid4.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S3x5632 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1024x5632 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S2816x1024 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S256x1024 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]
-- ==== PromptRefIdeal.lean ====
abbrev S16x256x1024 : Shape := ⟨3, ![16, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x6656 : Shape := ⟨3, ![1, 1024, 6656]⟩
abbrev S1x64 : Shape := ⟨2, ![1, 64]⟩
abbrev S1x1024x1024 : Shape := ⟨3, ![1, 1024, 1024]⟩
abbrev S1x3x1024 : Shape := ⟨3, ![1, 3, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S_ : Shape := ⟨0, ![]⟩
abbrev S1024x6144 : Shape := ⟨2, ![1024, 6144]⟩
abbrev S6144 : Shape := ⟨1, ![6144]⟩
abbrev S16x256 : Shape := ⟨2, ![16, 256]⟩
abbrev S16x256x1 : Shape := ⟨3, ![16, 256, 1]⟩
abbrev S1x1x1024 : Shape := ⟨3, ![1, 1, 1024]⟩
abbrev S1024x6656 : Shape := ⟨2, ![1024, 6656]⟩
abbrev S16x256x6656 : Shape := ⟨3, ![16, 256, 6656]⟩
abbrev S16x256x256 : Shape := ⟨3, ![16, 256, 256]⟩
abbrev S16x256x4x4x64 : Shape := ⟨5, ![16, 256, 4, 4, 64]⟩
abbrev S64 : Shape := ⟨1, ![64]⟩
abbrev S16x256x4x4 : Shape := ⟨4, ![16, 256, 4, 4]⟩
abbrev S16x256x4x4x1 : Shape := ⟨5, ![16, 256, 4, 4, 1]⟩
abbrev S1x1x1x1x64 : Shape := ⟨5, ![1, 1, 1, 1, 64]⟩
abbrev S16x256x4x64 : Shape := ⟨4, ![16, 256, 4, 64]⟩
abbrev S16x256x4 : Shape := ⟨3, ![16, 256, 4]⟩
abbrev S16x256x4x1 : Shape := ⟨4, ![16, 256, 4, 1]⟩
abbrev S1x1x1x64 : Shape := ⟨4, ![1, 1, 1, 64]⟩
abbrev S16x4x256x256x4 : Shape := ⟨5, ![16, 4, 256, 256, 4]⟩
abbrev S16x4x4x256x256 : Shape := ⟨5, ![16, 4, 4, 256, 256]⟩
abbrev S16x4x4x256 : Shape := ⟨4, ![16, 4, 4, 256]⟩
abbrev S16x4x4x256x1 : Shape := ⟨5, ![16, 4, 4, 256, 1]⟩
abbrev S16x4x64x4x256 : Shape := ⟨5, ![16, 4, 64, 4, 256]⟩
abbrev S1024x1024 : Shape := ⟨2, ![1024, 1024]⟩
abbrev S3x1024 : Shape := ⟨2, ![3, 1024]⟩
abbrev S16x258x1024 : Shape := ⟨3, ![16, 258, 1024]⟩
abbrev S1024x5632 : Shape := ⟨2, ![1024, 5632]⟩
abbrev S16x256x5632 : Shape := ⟨3, ![16, 256, 5632]⟩
abbrev S3x5632 : Shape := ⟨2, ![3, 5632]⟩
abbrev S16x258x5632 : Shape := ⟨3, ![16, 258, 5632]⟩
abbrev S1x5632 : Shape := ⟨2, ![1, 5632]⟩
abbrev S5632 : Shape := ⟨1, ![5632]⟩
abbrev S1x1x5632 : Shape := ⟨3, ![1, 1, 5632]⟩
abbrev S16x256x2816 : Shape := ⟨3, ![16, 256, 2816]⟩
abbrev S2816x1024 : Shape := ⟨2, ![2816, 1024]⟩
abbrev S16x1x256x4x64 : Shape := ⟨5, ![16, 1, 256, 4, 64]⟩

abbrev nBuf : Space → Nat
  | .hbm => 294
  | .vmem => 0
  | .smem => 0
  | _ => 0

abbrev hbmTy0_0 (i : Nat) : BufTy := match i % 128 with
  | 0 => ⟨S16x256x1024, .f32⟩
  | 1 => ⟨S8x1024, .f32⟩
  | 2 => ⟨S1024, .f32⟩
  | 3 => ⟨S1x1024x6144, .f32⟩
  | 4 => ⟨S1x6144, .f32⟩
  | 5 => ⟨S1x1024, .f32⟩
  | 6 => ⟨S1x1024, .f32⟩
  | 7 => ⟨S1x1024, .f32⟩
  | 8 => ⟨S1x1024, .f32⟩
  | 9 => ⟨S1x1024x6656, .f32⟩
  | 10 => ⟨S1x64, .f32⟩
  | 11 => ⟨S1x64, .f32⟩
  | 12 => ⟨S1x1024x1024, .f32⟩
  | 13 => ⟨S1x3x1024, .f32⟩
  | 14 => ⟨S1x1024x1024, .f32⟩
  | 15 => ⟨S1x1024x1024, .f32⟩
  | 16 => ⟨S1x1024x5632, .f32⟩
  | 17 => ⟨S1x3x5632, .f32⟩
  | 18 => ⟨S1x2816x1024, .f32⟩
  | 19 => ⟨S1024, .f32⟩
  | 20 => ⟨S1024, .f32⟩
  | 21 => ⟨S_, .f32⟩
  | 22 => ⟨S1024, .f32⟩
  | 23 => ⟨S1024, .f32⟩
  | 24 => ⟨S_, .f32⟩
  | 25 => ⟨S1024, .f32⟩
  | 26 => ⟨S1024, .f32⟩
  | 27 => ⟨S1024, .f32⟩
  | 28 => ⟨S1024x6144, .f32⟩
  | 29 => ⟨S6144, .f32⟩
  | 30 => ⟨S6144, .f32⟩
  | 31 => ⟨S6144, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1024, .f32⟩
  | 38 => ⟨S1024, .f32⟩
  | 39 => ⟨S16x256x1024, .f32⟩
  | 40 => ⟨S_, .f32⟩
  | 41 => ⟨S16x256, .f32⟩
  | 42 => ⟨S16x256x1, .f32⟩
  | 43 => ⟨S_, .f32⟩
  | 44 => ⟨S16x256x1, .f32⟩
  | 45 => ⟨S16x256x1, .f32⟩
  | 46 => ⟨S_, .f32⟩
  | 47 => ⟨S16x256x1, .f32⟩
  | 48 => ⟨S16x256x1, .f32⟩
  | 49 => ⟨S16x256x1, .f32⟩
  | 50 => ⟨S16x256x1024, .f32⟩
  | 51 => ⟨S16x256x1024, .f32⟩
  | 52 => ⟨S1x1x1024, .f32⟩
  | 53 => ⟨S16x256x1024, .f32⟩
  | 54 => ⟨S16x256x1024, .f32⟩
  | 55 => ⟨S_, .f32⟩
  | 56 => ⟨S1024, .f32⟩
  | 57 => ⟨S1024, .f32⟩
  | 58 => ⟨S1x1x1024, .f32⟩
  | 59 => ⟨S16x256x1024, .f32⟩
  | 60 => ⟨S16x256x1024, .f32⟩
  | 61 => ⟨S1x1x1024, .f32⟩
  | 62 => ⟨S16x256x1024, .f32⟩
  | 63 => ⟨S16x256x1024, .f32⟩
  | 64 => ⟨S1024x6656, .f32⟩
  | 65 => ⟨S16x256x6656, .f32⟩
  | 66 => ⟨S16x256x1024, .f32⟩
  | 67 => ⟨S16x256x256, .f32⟩
  | 68 => ⟨S16x256x256, .f32⟩
  | 69 => ⟨S16x256x1024, .f32⟩
  | 70 => ⟨S16x256x1024, .f32⟩
  | 71 => ⟨S16x256x1024, .f32⟩
  | 72 => ⟨S16x256x1024, .f32⟩
  | 73 => ⟨S16x256x1024, .f32⟩
  | 74 => ⟨S16x256x4x4x64, .f32⟩
  | 75 => ⟨S64, .f32⟩
  | 76 => ⟨S16x256x4x4x64, .f32⟩
  | 77 => ⟨S_, .f32⟩
  | 78 => ⟨S16x256x4x4, .f32⟩
  | 79 => ⟨S16x256x4x4x1, .f32⟩
  | 80 => ⟨S_, .f32⟩
  | 81 => ⟨S16x256x4x4x1, .f32⟩
  | 82 => ⟨S16x256x4x4x1, .f32⟩
  | 83 => ⟨S_, .f32⟩
  | 84 => ⟨S16x256x4x4x1, .f32⟩
  | 85 => ⟨S16x256x4x4x1, .f32⟩
  | 86 => ⟨S16x256x4x4x1, .f32⟩
  | 87 => ⟨S16x256x4x4x64, .f32⟩
  | 88 => ⟨S16x256x4x4x64, .f32⟩
  | 89 => ⟨S1x1x1x1x64, .f32⟩
  | 90 => ⟨S16x256x4x4x64, .f32⟩
  | 91 => ⟨S16x256x4x4x64, .f32⟩
  | 92 => ⟨S16x256x4x64, .f32⟩
  | 93 => ⟨S64, .f32⟩
  | 94 => ⟨S16x256x4x64, .f32⟩
  | 95 => ⟨S_, .f32⟩
  | 96 => ⟨S16x256x4, .f32⟩
  | 97 => ⟨S16x256x4x1, .f32⟩
  | 98 => ⟨S_, .f32⟩
  | 99 => ⟨S16x256x4x1, .f32⟩
  | 100 => ⟨S16x256x4x1, .f32⟩
  | 101 => ⟨S_, .f32⟩
  | 102 => ⟨S16x256x4x1, .f32⟩
  | 103 => ⟨S16x256x4x1, .f32⟩
  | 104 => ⟨S16x256x4x1, .f32⟩
  | 105 => ⟨S16x256x4x64, .f32⟩
  | 106 => ⟨S16x256x4x64, .f32⟩
  | 107 => ⟨S1x1x1x64, .f32⟩
  | 108 => ⟨S16x256x4x64, .f32⟩
  | 109 => ⟨S16x256x4x64, .f32⟩
  | 110 => ⟨S16x256x4x64, .f32⟩
  | 111 => ⟨S16x4x256x256x4, .f32⟩
  | 112 => ⟨S16x4x4x256x256, .f32⟩
  | 113 => ⟨S_, .f32⟩
  | 114 => ⟨S16x4x4x256x256, .f32⟩
  | 115 => ⟨S16x4x4x256x256, .f32⟩
  | 116 => ⟨S_, .f32⟩
  | 117 => ⟨S16x4x4x256, .f32⟩
  | 118 => ⟨S_, .f32⟩
  | 119 => ⟨S16x4x4x256, .f32⟩
  | 120 => ⟨S16x4x4x256, .f32⟩
  | 121 => ⟨S16x4x4x256x1, .f32⟩
  | 122 => ⟨S16x4x4x256x256, .f32⟩
  | 123 => ⟨S16x4x4x256x256, .f32⟩
  | 124 => ⟨S16x4x4x256x256, .f32⟩
  | 125 => ⟨S_, .f32⟩
  | 126 => ⟨S16x4x4x256, .f32⟩
  | 127 => ⟨S16x4x4x256x1, .f32⟩
  | _ => ⟨S16x256x1024, .f32⟩

abbrev hbmTy0_1 (i : Nat) : BufTy := match i % 128 with
  | 0 => ⟨S16x4x4x256x256, .f32⟩
  | 1 => ⟨S16x4x4x256x256, .f32⟩
  | 2 => ⟨S16x4x64x4x256, .f32⟩
  | 3 => ⟨S16x256x4x4x64, .f32⟩
  | 4 => ⟨S16x256x1024, .f32⟩
  | 5 => ⟨S1024x1024, .f32⟩
  | 6 => ⟨S16x256x1024, .f32⟩
  | 7 => ⟨S16x256x1024, .f32⟩
  | 8 => ⟨S3x1024, .f32⟩
  | 9 => ⟨S_, .i32⟩
  | 10 => ⟨S_, .f32⟩
  | 11 => ⟨S16x258x1024, .f32⟩
  | 12 => ⟨S1x1024, .f32⟩
  | 13 => ⟨S1024, .f32⟩
  | 14 => ⟨S16x256x1024, .f32⟩
  | 15 => ⟨S1x1x1024, .f32⟩
  | 16 => ⟨S16x256x1024, .f32⟩
  | 17 => ⟨S16x256x1024, .f32⟩
  | 18 => ⟨S1x1024, .f32⟩
  | 19 => ⟨S1024, .f32⟩
  | 20 => ⟨S16x256x1024, .f32⟩
  | 21 => ⟨S1x1x1024, .f32⟩
  | 22 => ⟨S16x256x1024, .f32⟩
  | 23 => ⟨S16x256x1024, .f32⟩
  | 24 => ⟨S16x256x1024, .f32⟩
  | 25 => ⟨S1x1024, .f32⟩
  | 26 => ⟨S1024, .f32⟩
  | 27 => ⟨S16x256x1024, .f32⟩
  | 28 => ⟨S1x1x1024, .f32⟩
  | 29 => ⟨S16x256x1024, .f32⟩
  | 30 => ⟨S16x256x1024, .f32⟩
  | 31 => ⟨S16x256x1024, .f32⟩
  | 32 => ⟨S16x256x1024, .f32⟩
  | 33 => ⟨S1024x1024, .f32⟩
  | 34 => ⟨S16x256x1024, .f32⟩
  | 35 => ⟨S16x256x1024, .f32⟩
  | 36 => ⟨S16x256x1024, .f32⟩
  | 37 => ⟨S_, .f32⟩
  | 38 => ⟨S16x256x1024, .f32⟩
  | 39 => ⟨S16x256x1024, .f32⟩
  | 40 => ⟨S_, .f32⟩
  | 41 => ⟨S16x256x1024, .f32⟩
  | 42 => ⟨S16x256x1024, .f32⟩
  | 43 => ⟨S16x256x1024, .f32⟩
  | 44 => ⟨S16x256x1024, .f32⟩
  | 45 => ⟨S16x256x1024, .f32⟩
  | 46 => ⟨S_, .f32⟩
  | 47 => ⟨S16x256x1024, .f32⟩
  | 48 => ⟨S16x256x1024, .f32⟩
  | 49 => ⟨S_, .f32⟩
  | 50 => ⟨S16x256x1024, .f32⟩
  | 51 => ⟨S16x256x1024, .f32⟩
  | 52 => ⟨S16x256x1024, .f32⟩
  | 53 => ⟨S16x256x1024, .f32⟩
  | 54 => ⟨S1024x1024, .f32⟩
  | 55 => ⟨S16x256x1024, .f32⟩
  | 56 => ⟨S1024, .f32⟩
  | 57 => ⟨S16x256x1024, .f32⟩
  | 58 => ⟨S_, .f32⟩
  | 59 => ⟨S16x256, .f32⟩
  | 60 => ⟨S16x256x1, .f32⟩
  | 61 => ⟨S_, .f32⟩
  | 62 => ⟨S16x256x1, .f32⟩
  | 63 => ⟨S16x256x1, .f32⟩
  | 64 => ⟨S_, .f32⟩
  | 65 => ⟨S16x256x1, .f32⟩
  | 66 => ⟨S16x256x1, .f32⟩
  | 67 => ⟨S16x256x1, .f32⟩
  | 68 => ⟨S16x256x1024, .f32⟩
  | 69 => ⟨S16x256x1024, .f32⟩
  | 70 => ⟨S1x1x1024, .f32⟩
  | 71 => ⟨S16x256x1024, .f32⟩
  | 72 => ⟨S16x256x1024, .f32⟩
  | 73 => ⟨S1x1x1024, .f32⟩
  | 74 => ⟨S16x256x1024, .f32⟩
  | 75 => ⟨S16x256x1024, .f32⟩
  | 76 => ⟨S16x256x1024, .f32⟩
  | 77 => ⟨S1024, .f32⟩
  | 78 => ⟨S16x256x1024, .f32⟩
  | 79 => ⟨S_, .f32⟩
  | 80 => ⟨S16x256, .f32⟩
  | 81 => ⟨S16x256x1, .f32⟩
  | 82 => ⟨S_, .f32⟩
  | 83 => ⟨S16x256x1, .f32⟩
  | 84 => ⟨S16x256x1, .f32⟩
  | 85 => ⟨S_, .f32⟩
  | 86 => ⟨S16x256x1, .f32⟩
  | 87 => ⟨S16x256x1, .f32⟩
  | 88 => ⟨S16x256x1, .f32⟩
  | 89 => ⟨S16x256x1024, .f32⟩
  | 90 => ⟨S16x256x1024, .f32⟩
  | 91 => ⟨S1x1x1024, .f32⟩
  | 92 => ⟨S16x256x1024, .f32⟩
  | 93 => ⟨S16x256x1024, .f32⟩
  | 94 => ⟨S_, .f32⟩
  | 95 => ⟨S1024, .f32⟩
  | 96 => ⟨S1024, .f32⟩
  | 97 => ⟨S1x1x1024, .f32⟩
  | 98 => ⟨S16x256x1024, .f32⟩
  | 99 => ⟨S16x256x1024, .f32⟩
  | 100 => ⟨S1x1x1024, .f32⟩
  | 101 => ⟨S16x256x1024, .f32⟩
  | 102 => ⟨S16x256x1024, .f32⟩
  | 103 => ⟨S1024x5632, .f32⟩
  | 104 => ⟨S16x256x5632, .f32⟩
  | 105 => ⟨S3x5632, .f32⟩
  | 106 => ⟨S_, .i32⟩
  | 107 => ⟨S_, .f32⟩
  | 108 => ⟨S16x258x5632, .f32⟩
  | 109 => ⟨S1x5632, .f32⟩
  | 110 => ⟨S5632, .f32⟩
  | 111 => ⟨S16x256x5632, .f32⟩
  | 112 => ⟨S1x1x5632, .f32⟩
  | 113 => ⟨S16x256x5632, .f32⟩
  | 114 => ⟨S16x256x5632, .f32⟩
  | 115 => ⟨S1x5632, .f32⟩
  | 116 => ⟨S5632, .f32⟩
  | 117 => ⟨S16x256x5632, .f32⟩
  | 118 => ⟨S1x1x5632, .f32⟩
  | 119 => ⟨S16x256x5632, .f32⟩
  | 120 => ⟨S16x256x5632, .f32⟩
  | 121 => ⟨S16x256x5632, .f32⟩
  | 122 => ⟨S1x5632, .f32⟩
  | 123 => ⟨S5632, .f32⟩
  | 124 => ⟨S16x256x5632, .f32⟩
  | 125 => ⟨S1x1x5632, .f32⟩
  | 126 => ⟨S16x256x5632, .f32⟩
  | 127 => ⟨S16x256x5632, .f32⟩
  | _ => ⟨S16x256x1024, .f32⟩

abbrev hbmTy0_2 (i : Nat) : BufTy := match i % 128 with
  | 0 => ⟨S16x256x5632, .f32⟩
  | 1 => ⟨S16x256x2816, .f32⟩
  | 2 => ⟨S16x256x2816, .f32⟩
  | 3 => ⟨S16x256x2816, .f32⟩
  | 4 => ⟨S16x256x2816, .f32⟩
  | 5 => ⟨S_, .f32⟩
  | 6 => ⟨S16x256x2816, .f32⟩
  | 7 => ⟨S16x256x2816, .f32⟩
  | 8 => ⟨S_, .f32⟩
  | 9 => ⟨S16x256x2816, .f32⟩
  | 10 => ⟨S16x256x2816, .f32⟩
  | 11 => ⟨S16x256x2816, .f32⟩
  | 12 => ⟨S16x256x2816, .f32⟩
  | 13 => ⟨S2816x1024, .f32⟩
  | 14 => ⟨S16x256x1024, .f32⟩
  | 15 => ⟨S1024, .f32⟩
  | 16 => ⟨S16x256x1024, .f32⟩
  | 17 => ⟨S_, .f32⟩
  | 18 => ⟨S16x256, .f32⟩
  | 19 => ⟨S16x256x1, .f32⟩
  | 20 => ⟨S_, .f32⟩
  | 21 => ⟨S16x256x1, .f32⟩
  | 22 => ⟨S16x256x1, .f32⟩
  | 23 => ⟨S_, .f32⟩
  | 24 => ⟨S16x256x1, .f32⟩
  | 25 => ⟨S16x256x1, .f32⟩
  | 26 => ⟨S16x256x1, .f32⟩
  | 27 => ⟨S16x256x1024, .f32⟩
  | 28 => ⟨S16x256x1024, .f32⟩
  | 29 => ⟨S1x1x1024, .f32⟩
  | 30 => ⟨S16x256x1024, .f32⟩
  | 31 => ⟨S16x256x1024, .f32⟩
  | 32 => ⟨S1x1x1024, .f32⟩
  | 33 => ⟨S16x256x1024, .f32⟩
  | 34 => ⟨S16x256x1024, .f32⟩
  | 35 => ⟨S16x256x1024, .f32⟩
  | 36 => ⟨S16x1x256x4x64, .f32⟩
  | 37 => ⟨S16x1x256x4x64, .f32⟩
  | _ => ⟨S16x256x1024, .f32⟩

abbrev hbmTy (i : Nat) : BufTy := match i / 128 with
  | 0 => hbmTy0_0 i
  | 1 => hbmTy0_1 i
  | 2 => hbmTy0_2 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩
abbrev main_cst_0 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_3 : Ref sig .tc := ⟨.hbm, 77, rfl⟩
abbrev main_v46 : Ref sig .tc := ⟨.hbm, 78, rfl⟩
abbrev main_v47 : Ref sig .tc := ⟨.hbm, 79, rfl⟩
abbrev main_cst_4 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_6 : Ref sig .tc := ⟨.hbm, 95, rfl⟩
abbrev main_v61 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_cst_8 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_9 : Ref sig .tc := ⟨.hbm, 113, rfl⟩
abbrev main_v76 : Ref sig .tc := ⟨.hbm, 114, rfl⟩
abbrev main_v77 : Ref sig .tc := ⟨.hbm, 115, rfl⟩
abbrev main_cst_10 : Ref sig .tc := ⟨.hbm, 116, rfl⟩
abbrev main_v78 : Ref sig .tc := ⟨.hbm, 117, rfl⟩
abbrev main_cst_11 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_12 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c : Ref sig .tc := ⟨.hbm, 137, rfl⟩
abbrev main_call1_v0 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_13 : Ref sig .tc := ⟨.hbm, 165, rfl⟩
abbrev main_v122 : Ref sig .tc := ⟨.hbm, 166, rfl⟩
abbrev main_v123 : Ref sig .tc := ⟨.hbm, 167, rfl⟩
abbrev main_cst_14 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_15 : Ref sig .tc := ⟨.hbm, 174, rfl⟩
abbrev main_v129 : Ref sig .tc := ⟨.hbm, 175, rfl⟩
abbrev main_v130 : Ref sig .tc := ⟨.hbm, 176, rfl⟩
abbrev main_cst_16 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_17 : Ref sig .tc := ⟨.hbm, 186, rfl⟩
abbrev main_v139 : Ref sig .tc := ⟨.hbm, 187, rfl⟩
abbrev main_v140 : Ref sig .tc := ⟨.hbm, 188, rfl⟩
abbrev main_cst_18 : Ref sig .tc := ⟨.hbm, 189, rfl⟩
abbrev main_v141 : Ref sig .tc := ⟨.hbm, 190, rfl⟩
abbrev main_v142 : Ref sig .tc := ⟨.hbm, 191, rfl⟩
abbrev main_cst_19 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_20 : Ref sig .tc := ⟨.hbm, 207, rfl⟩
abbrev main_v157 : Ref sig .tc := ⟨.hbm, 208, rfl⟩
abbrev main_v158 : Ref sig .tc := ⟨.hbm, 209, rfl⟩
abbrev main_cst_21 : Ref sig .tc := ⟨.hbm, 210, rfl⟩
abbrev main_v159 : Ref sig .tc := ⟨.hbm, 211, rfl⟩
abbrev main_v160 : Ref sig .tc := ⟨.hbm, 212, rfl⟩
abbrev main_cst_22 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_23 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_c_24 : Ref sig .tc := ⟨.hbm, 234, rfl⟩
abbrev main_call2_v0 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_call3_v0 : Ref sig .tc := ⟨.hbm, 259, rfl⟩
abbrev main_call3_v1 : Ref sig .tc := ⟨.hbm, 260, rfl⟩
abbrev main_call3_cst : Ref sig .tc := ⟨.hbm, 261, rfl⟩
abbrev main_call3_v2 : Ref sig .tc := ⟨.hbm, 262, rfl⟩
abbrev main_call3_v3 : Ref sig .tc := ⟨.hbm, 263, rfl⟩
abbrev main_call3_cst_0 : Ref sig .tc := ⟨.hbm, 264, rfl⟩
abbrev main_call3_v4 : Ref sig .tc := ⟨.hbm, 265, rfl⟩
abbrev main_call3_v5 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_25 : Ref sig .tc := ⟨.hbm, 273, rfl⟩
abbrev main_v209 : Ref sig .tc := ⟨.hbm, 274, rfl⟩
abbrev main_v210 : Ref sig .tc := ⟨.hbm, 275, rfl⟩
abbrev main_cst_26 : Ref sig .tc := ⟨.hbm, 276, rfl⟩
abbrev main_v211 : Ref sig .tc := ⟨.hbm, 277, rfl⟩
abbrev main_v212 : Ref sig .tc := ⟨.hbm, 278, rfl⟩
abbrev main_cst_27 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩

abbrev nD : Nat := 1
abbrev τ : Topo := Topo.v7x

variable {F : FTy → Type} [FloatOps F]
-- ==== Attn.lean ====
abbrev S16384x1024 : Shape := ⟨2, ![16384, 1024]⟩
abbrev S16384x256 : Shape := ⟨2, ![16384, 256]⟩
abbrev S8x1x512x4x64 : Shape := ⟨5, ![8, 1, 512, 4, 64]⟩
abbrev S8x512x4x64 : Shape := ⟨4, ![8, 512, 4, 64]⟩
abbrev S8x2048x256 : Shape := ⟨3, ![8, 2048, 256]⟩
abbrev S8x512x256 : Shape := ⟨3, ![8, 512, 256]⟩
abbrev S8x2560x256 : Shape := ⟨3, ![8, 2560, 256]⟩
abbrev S8x2560x4x64 : Shape := ⟨4, ![8, 2560, 4, 64]⟩
abbrev S8x4x64x2560 : Shape := ⟨4, ![8, 4, 64, 2560]⟩
abbrev S8x4x2560x64 : Shape := ⟨4, ![8, 4, 2560, 64]⟩
abbrev S8x2048x1024 : Shape := ⟨3, ![8, 2048, 1024]⟩
abbrev S1x256x256 : Shape := ⟨3, ![1, 256, 256]⟩
abbrev S1x1x64x2560 : Shape := ⟨4, ![1, 1, 64, 2560]⟩
abbrev S1x1x2560x64 : Shape := ⟨4, ![1, 1, 2560, 64]⟩
abbrev S64x2560 : Shape := ⟨2, ![64, 2560]⟩
abbrev S2560x64 : Shape := ⟨2, ![2560, 64]⟩
abbrev S1x256x64 : Shape := ⟨3, ![1, 256, 64]⟩
abbrev S256x64 : Shape := ⟨2, ![256, 64]⟩
abbrev S256x2560 : Shape := ⟨2, ![256, 2560]⟩
abbrev S256 : Shape := ⟨1, ![256]⟩
abbrev S256x1 : Shape := ⟨2, ![256, 1]⟩
abbrev S256x256 : Shape := ⟨2, ![256, 256]⟩

abbrev nBuf : Space → Nat
  | .hbm => 21
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x1x512x4x64, .f32⟩
  | .hbm, ⟨4, _⟩ => ⟨S8x1x512x4x64, .f32⟩
  | .hbm, ⟨5, _⟩ => ⟨S8x512x4x64, .f32⟩
  | .hbm, ⟨6, _⟩ => ⟨S8x512x4x64, .f32⟩
  | .hbm, ⟨7, _⟩ => ⟨S8x2048x256, .bf16⟩
  | .hbm, ⟨8, _⟩ => ⟨S8x2048x256, .bf16⟩
  | .hbm, ⟨9, _⟩ => ⟨S8x512x256, .f32⟩
  | .hbm, ⟨10, _⟩ => ⟨S8x512x256, .bf16⟩
  | .hbm, ⟨11, _⟩ => ⟨S8x2560x256, .bf16⟩
  | .hbm, ⟨12, _⟩ => ⟨S8x512x256, .f32⟩
  | .hbm, ⟨13, _⟩ => ⟨S8x512x256, .bf16⟩
  | .hbm, ⟨14, _⟩ => ⟨S8x2560x256, .bf16⟩
  | .hbm, ⟨15, _⟩ => ⟨S8x2560x4x64, .bf16⟩
  | .hbm, ⟨16, _⟩ => ⟨S8x4x64x2560, .bf16⟩
  | .hbm, ⟨17, _⟩ => ⟨S8x2560x4x64, .bf16⟩
  | .hbm, ⟨18, _⟩ => ⟨S8x4x2560x64, .bf16⟩
  | .hbm, ⟨19, _⟩ => ⟨S8x2048x1024, .bf16⟩
  | .hbm, ⟨20, _⟩ => ⟨S8x2048x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x1x64x2560, .bf16⟩
  | .local _ .vmem, ⟨3, _⟩ => ⟨S1x1x64x2560, .bf16⟩
  | .local _ .vmem, ⟨4, _⟩ => ⟨S1x1x2560x64, .bf16⟩
  | .local _ .vmem, ⟨5, _⟩ => ⟨S1x1x2560x64, .bf16⟩
  | .local _ .vmem, ⟨6, _⟩ => ⟨S1x256x256, .bf16⟩
  | .local _ .vmem, ⟨7, _⟩ => ⟨S1x256x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2560x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16384x1024 : Shape := ⟨2, ![16384, 1024]⟩
abbrev S16384x256 : Shape := ⟨2, ![16384, 256]⟩
abbrev S8x1x512x4x64 : Shape := ⟨5, ![8, 1, 512, 4, 64]⟩
abbrev S8x2048x4x4x64 : Shape := ⟨5, ![8, 2048, 4, 4, 64]⟩
abbrev S8x512x4x64 : Shape := ⟨4, ![8, 512, 4, 64]⟩
abbrev S8x2048x4x64 : Shape := ⟨4, ![8, 2048, 4, 64]⟩
abbrev S8x2560x4x64 : Shape := ⟨4, ![8, 2560, 4, 64]⟩
abbrev S8x4x2560x2048x4 : Shape := ⟨5, ![8, 4, 2560, 2048, 4]⟩
abbrev S8x4x4x2048x2560 : Shape := ⟨5, ![8, 4, 4, 2048, 2560]⟩
abbrev S_ : Shape := ⟨0, ![]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩
abbrev S8x2048x1024 : Shape := ⟨3, ![8, 2048, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x1x512x4x64, .f32⟩
  | .hbm, ⟨4, _⟩ => ⟨S8x1x512x4x64, .f32⟩
  | .hbm, ⟨5, _⟩ => ⟨S16384x1024, .f32⟩
  | .hbm, ⟨6, _⟩ => ⟨S8x2048x4x4x64, .f32⟩
  | .hbm, ⟨7, _⟩ => ⟨S8x512x4x64, .f32⟩
  | .hbm, ⟨8, _⟩ => ⟨S16384x256, .f32⟩
  | .hbm, ⟨9, _⟩ => ⟨S8x2048x4x64, .f32⟩
  | .hbm, ⟨10, _⟩ => ⟨S8x2560x4x64, .f32⟩
  | .hbm, ⟨11, _⟩ => ⟨S8x512x4x64, .f32⟩
  | .hbm, ⟨12, _⟩ => ⟨S16384x256, .f32⟩
  | .hbm, ⟨13, _⟩ => ⟨S8x2048x4x64, .f32⟩
  | .hbm, ⟨14, _⟩ => ⟨S8x2560x4x64, .f32⟩
  | .hbm, ⟨15, _⟩ => ⟨S8x4x2560x2048x4, .f32⟩
  | .hbm, ⟨16, _⟩ => ⟨S8x4x4x2048x2560, .f32⟩
  | .hbm, ⟨17, _⟩ => ⟨S_, .f32⟩
  | .hbm, ⟨18, _⟩ => ⟨S8x4x4x2048, .f32⟩
  | .hbm, ⟨19, _⟩ => ⟨S_, .f32⟩
  | .hbm, ⟨20, _⟩ => ⟨S8x4x4x2048, .f32⟩
  | .hbm, ⟨21, _⟩ => ⟨S8x4x4x2048, .f32⟩
  | .hbm, ⟨22, _⟩ => ⟨S8x4x4x2048x1, .f32⟩
  | .hbm, ⟨23, _⟩ => ⟨S8x4x4x2048x2560, .f32⟩
  | .hbm, ⟨24, _⟩ => ⟨S8x4x4x2048x2560, .f32⟩
  | .hbm, ⟨25, _⟩ => ⟨S8x4x4x2048x2560, .f32⟩
  | .hbm, ⟨26, _⟩ => ⟨S_, .f32⟩
  | .hbm, ⟨27, _⟩ => ⟨S8x4x4x2048, .f32⟩
  | .hbm, ⟨28, _⟩ => ⟨S8x4x4x2048x1, .f32⟩
  | .hbm, ⟨29, _⟩ => ⟨S8x4x4x2048x2560, .f32⟩
  | .hbm, ⟨30, _⟩ => ⟨S8x4x4x2048x2560, .f32⟩
  | .hbm, ⟨31, _⟩ => ⟨S8x4x64x4x2048, .f32⟩
  | .hbm, ⟨32, _⟩ => ⟨S8x2048x4x4x64, .f32⟩
  | .hbm, ⟨33, _⟩ => ⟨S8x2048x1024, .f32⟩
  | .hbm, ⟨34, _⟩ => ⟨S8x2048x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Ffn.lean ====
abbrev S16384x1024 : Shape := ⟨2, ![16384, 1024]⟩
abbrev S16x1x6144 : Shape := ⟨3, ![16, 1, 6144]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S3x5632 : Shape := ⟨2, ![3, 5632]⟩
abbrev S1024x5632 : Shape := ⟨2, ![1024, 5632]⟩
abbrev S2816x1024 : Shape := ⟨2, ![2816, 1024]⟩
abbrev S512x1024 : Shape := ⟨2, ![512, 1024]⟩
abbrev S16x1024 : Shape := ⟨2, ![16, 1024]⟩
abbrev S1x1x1024 : Shape := ⟨3, ![1, 1, 1024]⟩
abbrev S544x1024 : Shape := ⟨2, ![544, 1024]⟩
abbrev S1024x1408 : Shape := ⟨2, ![1024, 1408]⟩
abbrev S544x1408 : Shape := ⟨2, ![544, 1408]⟩
abbrev S3x1408 : Shape := ⟨2, ![3, 1408]⟩
abbrev S512x1408 : Shape := ⟨2, ![512, 1408]⟩
abbrev S1x1408 : Shape := ⟨2, ![1, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16x1x6144, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x2816x1024, .f32⟩
  | .hbm, ⟨7, _⟩ => ⟨S1024, .f32⟩
  | .hbm, ⟨8, _⟩ => ⟨S1x1024, .f32⟩
  | .hbm, ⟨9, _⟩ => ⟨S3x5632, .f32⟩
  | .hbm, ⟨10, _⟩ => ⟨S1024x5632, .f32⟩
  | .hbm, ⟨11, _⟩ => ⟨S1024x5632, .bf16⟩
  | .hbm, ⟨12, _⟩ => ⟨S2816x1024, .f32⟩
  | .hbm, ⟨13, _⟩ => ⟨S2816x1024, .bf16⟩
  | .hbm, ⟨14, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S3x5632, .f32⟩
  | .local _ .vmem, ⟨12, _⟩ => ⟨S1024x5632, .bf16⟩
  | .local _ .vmem, ⟨13, _⟩ => ⟨S2816x1024, .bf16⟩
  | .local _ .vmem, ⟨14, _⟩ => ⟨S512x1024, .f32⟩
  | .local _ .vmem, ⟨15, _⟩ => ⟨S512x1024, .f32⟩
  | .local _ .vmem, ⟨16, _⟩ => ⟨S544x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c5_i32 : BitVec 32 := 5#32
  let c0_i32_6 : BitVec 32 := 0#32
  ![v17.toNat, c0_i32_5.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16384x1024 : Shape := ⟨2, ![16384, 1024]⟩
abbrev S16x1x6144 : Shape := ⟨3, ![16, 1, 6144]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S8x2048x1024 : Shape := ⟨3, ![8, 2048, 1024]⟩
abbrev S8x1x6144 : Shape := ⟨3, ![8, 1, 6144]⟩
abbrev S8x1x1024 : Shape := ⟨3, ![8, 1, 1024]⟩
abbrev S1024x5632 : Shape := ⟨2, ![1024, 5632]⟩
abbrev S8x2048x5632 : Shape := ⟨3, ![8, 2048, 5632]⟩
abbrev S3x5632 : Shape := ⟨2, ![3, 5632]⟩
abbrev S_ : Shape := ⟨0, ![]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩
abbrev S2816x1024 : Shape := ⟨2, ![2816, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16x1x6144, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x2816x1024, .f32⟩
  | .hbm, ⟨7, _⟩ => ⟨S16384x1024, .f32⟩
  | .hbm, ⟨8, _⟩ => ⟨S8x2048x1024, .f32⟩
  | .hbm, ⟨9, _⟩ => ⟨S8x2048x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1024x5632, .f32⟩
  | .hbm, ⟨18, _⟩ => ⟨S8x2048x5632, .f32⟩
  | .hbm, ⟨19, _⟩ => ⟨S3x5632, .f32⟩
  | .hbm, ⟨20, _⟩ => ⟨S_, .i32⟩
  | .hbm, ⟨21, _⟩ => ⟨S_, .f32⟩
  | .hbm, ⟨22, _⟩ => ⟨S8x2050x5632, .f32⟩
  | .hbm, ⟨23, _⟩ => ⟨S1x5632, .f32⟩
  | .hbm, ⟨24, _⟩ => ⟨S5632, .f32⟩
  | .hbm, ⟨25, _⟩ => ⟨S8x2048x5632, .f32⟩
  | .hbm, ⟨26, _⟩ => ⟨S1x1x5632, .f32⟩
  | .hbm, ⟨27, _⟩ => ⟨S8x2048x5632, .f32⟩
  | .hbm, ⟨28, _⟩ => ⟨S8x2048x5632, .f32⟩
  | .hbm, ⟨29, _⟩ => ⟨S1x5632, .f32⟩
  | .hbm, ⟨30, _⟩ => ⟨S5632, .f32⟩
  | .hbm, ⟨31, _⟩ => ⟨S8x2048x5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S1x5632, .f32⟩
  | .hbm, ⟨37, _⟩ => ⟨S5632, .f32⟩
  | .hbm, ⟨38, _⟩ => ⟨S8x2048x5632, .f32⟩
  | .hbm, ⟨39, _⟩ => ⟨S1x1x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S_, .f32⟩
  | .hbm, ⟨48, _⟩ => ⟨S8x2048x2816, .f32⟩
  | .hbm, ⟨49, _⟩ => ⟨S8x2048x2816, .f32⟩
  | .hbm, ⟨50, _⟩ => ⟨S_, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S2816x1024, .f32⟩
  | .hbm, ⟨56, _⟩ => ⟨S8x2048x1024, .f32⟩
  | .hbm, ⟨57, _⟩ => ⟨S1024, .f32⟩
  | .hbm, ⟨58, _⟩ => ⟨S8x2048x1024, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst : Ref sig .tc := ⟨.hbm, 59, rfl⟩
abbrev main_v42 : Ref sig .tc := ⟨.hbm, 60, rfl⟩
abbrev main_v43 : Ref sig .tc := ⟨.hbm, 61, rfl⟩
abbrev main_cst_0 : Ref sig .tc := ⟨.hbm, 62, rfl⟩
abbrev main_v44 : Ref sig .tc := ⟨.hbm, 63, rfl⟩
abbrev main_v45 : Ref sig .tc := ⟨.hbm, 64, rfl⟩
abbrev main_cst_1 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Mix.lean ====
abbrev S16384x1024 : Shape := ⟨2, ![16384, 1024]⟩
abbrev S16x1x6144 : Shape := ⟨3, ![16, 1, 6144]⟩
abbrev S1x1024 : Shape := ⟨2, ![1, 1024]⟩
abbrev S1x3x1024 : Shape := ⟨3, ![1, 3, 1024]⟩
abbrev S1x1024x1024 : Shape := ⟨3, ![1, 1024, 1024]⟩
abbrev S1024 : Shape := ⟨1, ![1024]⟩
abbrev S3x1024 : Shape := ⟨2, ![3, 1024]⟩
abbrev S1024x1024 : Shape := ⟨2, ![1024, 1024]⟩
abbrev S512x1024 : Shape := ⟨2, ![512, 1024]⟩
abbrev S16x1024 : Shape := ⟨2, ![16, 1024]⟩
abbrev S1x1x1024 : Shape := ⟨3, ![1, 1, 1024]⟩
abbrev S512x1 : Shape := ⟨2, ![512, 1]⟩
abbrev S512 : Shape := ⟨1, ![512]⟩

abbrev nBuf : Space → Nat
  | .hbm => 26
  | .vmem => 32
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .f32⟩
  | .hbm, ⟨6, _⟩ => ⟨S16x1x6144, .f32⟩
  | .hbm, ⟨7, _⟩ => ⟨S1x1024, .f32⟩
  | .hbm, ⟨8, _⟩ => ⟨S1x1024, .f32⟩
  | .hbm, ⟨9, _⟩ => ⟨S1x3x1024, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S3x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S16384x1024, .f32⟩
  | .hbm, ⟨25, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S3x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c2_i32 : BitVec 32 := 2#32
  let c0_i32_6 : BitVec 32 := 0#32
  ![v17.toNat, c0_i32_5.toNat, c2_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c3_i32 : BitVec 32 := 3#32
  let c0_i32_6 : BitVec 32 := 0#32
  ![v17.toNat, c0_i32_5.toNat, c3_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c4_i32_6 : BitVec 32 := 4#32
  let c0_i32_7 : BitVec 32 := 0#32
  ![v17.toNat, c0_i32_5.toNat, c4_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixRefIdeal.lean ====
abbrev S16384x1024 : Shape := ⟨2, ![16384, 1024]⟩
abbrev S16x1x6144 : Shape := ⟨3, ![16, 1, 6144]⟩
abbrev S1x1024 : Shape := ⟨2, ![1, 1024]⟩
abbrev S1x3x1024 : Shape := ⟨3, ![1, 3, 1024]⟩
abbrev S1x1024x1024 : Shape := ⟨3, ![1, 1024, 1024]⟩
abbrev S8x2048x1024 : Shape := ⟨3, ![8, 2048, 1024]⟩
abbrev S8x1x6144 : Shape := ⟨3, ![8, 1, 6144]⟩
abbrev S8x1x1024 : Shape := ⟨3, ![8, 1, 1024]⟩
abbrev S3x1024 : Shape := ⟨2, ![3, 1024]⟩
abbrev S_ : Shape := ⟨0, ![]⟩
abbrev S8x2050x1024 : Shape := ⟨3, ![8, 2050, 1024]⟩
abbrev S1024 : Shape := ⟨1, ![1024]⟩
abbrev S1x1x1024 : Shape := ⟨3, ![1, 1, 1024]⟩
abbrev S1024x1024 : Shape := ⟨2, ![1024, 1024]⟩
abbrev S8x2048 : Shape := ⟨2, ![8, 2048]⟩
abbrev S8x2048x1 : Shape := ⟨3, ![8, 2048, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .f32⟩
  | .hbm, ⟨6, _⟩ => ⟨S16x1x6144, .f32⟩
  | .hbm, ⟨7, _⟩ => ⟨S1x1024, .f32⟩
  | .hbm, ⟨8, _⟩ => ⟨S1x1024, .f32⟩
  | .hbm, ⟨9, _⟩ => ⟨S1x3x1024, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S16384x1024, .f32⟩
  | .hbm, ⟨14, _⟩ => ⟨S8x2048x1024, .f32⟩
  | .hbm, ⟨15, _⟩ => ⟨S16384x1024, .f32⟩
  | .hbm, ⟨16, _⟩ => ⟨S8x2048x1024, .f32⟩
  | .hbm, ⟨17, _⟩ => ⟨S16384x1024, .f32⟩
  | .hbm, ⟨18, _⟩ => ⟨S8x2048x1024, .f32⟩
  | .hbm, ⟨19, _⟩ => ⟨S16384x1024, .f32⟩
  | .hbm, ⟨20, _⟩ => ⟨S8x2048x1024, .f32⟩
  | .hbm, ⟨21, _⟩ => ⟨S16384x1024, .f32⟩
  | .hbm, ⟨22, _⟩ => ⟨S8x2048x1024, .f32⟩
  | .hbm, ⟨23, _⟩ => ⟨S8x2048x1024, .f32⟩
  | .hbm, ⟨24, _⟩ => ⟨S8x1x6144, .f32⟩
  | .hbm, ⟨25, _⟩ => ⟨S8x1x1024, .f32⟩
  | .hbm, ⟨26, _⟩ => ⟨S8x1x1024, .f32⟩
  | .hbm, ⟨27, _⟩ => ⟨S8x1x1024, .f32⟩
  | .hbm, ⟨28, _⟩ => ⟨S8x1x1024, .f32⟩
  | .hbm, ⟨29, _⟩ => ⟨S8x1x1024, .f32⟩
  | .hbm, ⟨30, _⟩ => ⟨S8x1x1024, .f32⟩
  | .hbm, ⟨31, _⟩ => ⟨S3x1024, .f32⟩
  | .hbm, ⟨32, _⟩ => ⟨S_, .i32⟩
  | .hbm, ⟨33, _⟩ => ⟨S_, .f32⟩
  | .hbm, ⟨34, _⟩ => ⟨S8x2050x1024, .f32⟩
  | .hbm, ⟨35, _⟩ => ⟨S1x1024, .f32⟩
  | .hbm, ⟨36, _⟩ => ⟨S1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S1x1024, .f32⟩
  | .hbm, ⟨42, _⟩ => ⟨S1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S1x1024, .f32⟩
  | .hbm, ⟨49, _⟩ => ⟨S1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S1024x1024, .f32⟩
  | .hbm, ⟨57, _⟩ => ⟨S8x2048x1024, .f32⟩
  | .hbm, ⟨58, _⟩ => ⟨S1024x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S1024x1024, .f32⟩
  | .hbm, ⟨64, _⟩ => ⟨S8x2048x1024, .f32⟩
  | .hbm, ⟨65, _⟩ => ⟨S1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S1024, .f32⟩
  | .hbm, ⟨86, _⟩ => ⟨S8x2048x1024, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S_, .f32⟩
  | .hbm, ⟨91, _⟩ => ⟨S8x2048x1, .f32⟩
  | .hbm, ⟨92, _⟩ => ⟨S8x2048x1, .f32⟩
  | .hbm, ⟨93, _⟩ => ⟨S_, .f32⟩
  | .hbm, ⟨94, _⟩ => ⟨S8x2048x1, .f32⟩
  | .hbm, ⟨95, _⟩ => ⟨S8x2048x1, .f32⟩
  | .hbm, ⟨96, _⟩ => ⟨S8x2048x1, .f32⟩
  | .hbm, ⟨97, _⟩ => ⟨S8x2048x1024, .f32⟩
  | .hbm, ⟨98, _⟩ => ⟨S8x2048x1024, .f32⟩
  | .hbm, ⟨99, _⟩ => ⟨S1x1x1024, .f32⟩
  | .hbm, ⟨100, _⟩ => ⟨S8x2048x1024, .f32⟩
  | .hbm, ⟨101, _⟩ => ⟨S8x2048x1024, .f32⟩
  | .hbm, ⟨102, _⟩ => ⟨S_, .f32⟩
  | .hbm, ⟨103, _⟩ => ⟨S8x1x1024, .f32⟩
  | .hbm, ⟨104, _⟩ => ⟨S8x1x1024, .f32⟩
  | .hbm, ⟨105, _⟩ => ⟨S8x2048x1024, .f32⟩
  | .hbm, ⟨106, _⟩ => ⟨S8x2048x1024, .f32⟩
  | .hbm, ⟨107, _⟩ => ⟨S8x2048x1024, .f32⟩
  | .hbm, ⟨108, _⟩ => ⟨S8x2048x1024, .f32⟩
  | .hbm, ⟨109, _⟩ => ⟨S16384x1024, .f32⟩
  | .hbm, ⟨110, _⟩ => ⟨S16384x1024, .f32⟩
  | .hbm, ⟨111, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst : Ref sig .tc := ⟨.hbm, 67, rfl⟩
abbrev main_v52 : Ref sig .tc := ⟨.hbm, 68, rfl⟩
abbrev main_v53 : Ref sig .tc := ⟨.hbm, 69, rfl⟩
abbrev main_cst_0 : Ref sig .tc := ⟨.hbm, 70, rfl⟩
abbrev main_v54 : Ref sig .tc := ⟨.hbm, 71, rfl⟩
abbrev main_v55 : Ref sig .tc := ⟨.hbm, 72, rfl⟩
abbrev main_cst_1 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_2 : Ref sig .tc := ⟨.hbm, 87, rfl⟩
abbrev main_v69 : Ref sig .tc := ⟨.hbm, 88, rfl⟩
abbrev main_v70 : Ref sig .tc := ⟨.hbm, 89, rfl⟩
abbrev main_cst_3 : Ref sig .tc := ⟨.hbm, 90, rfl⟩
abbrev main_v71 : Ref sig .tc := ⟨.hbm, 91, rfl⟩
abbrev main_v72 : Ref sig .tc := ⟨.hbm, 92, rfl⟩
abbrev main_cst_4 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_5 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩

abbrev nD : Nat := 1
abbrev τ : Topo := Topo.v7x

variable {F : FTy → Type} [FloatOps F]
-- ==== Proof.PromptIdeal.Region3.lean ====
/- Part of the frame of the whole program `PromptIdeal`: the region of the call mix_out. It follows the generated module of the same name;
   the body obligation of the call mix_out needs a larger limit than that module gives it. -/
module

public import proofs.«01_k».proof.Proof.Gen.PromptIdeal.Launch
public import proofs.«01_k».proof.Proof.Gen.PromptIdeal.Skeleton
public import proofs.«01_k».proof.Proof.Gen.PromptIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_mix_out_s256` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S256x1024 := Rect.unit (s := S256x1024) ![0, 0] S256x1024.size inb_S256x1024_S256x1024_0_0
abbrev r3_1 : Rect S16x1024 := Rect.unit (s := S16x1024) ![15, 0] S1x1024.size inb_S16x1024_S1x1024_15_0
abbrev r3_2 : Rect S16x1024 := Rect.unit (s := S16x1024) ![0, 0] S1x1024.size inb_S16x1024_S1x1024_0_0
abbrev r3_3 : Rect S3x1024 := Rect.unit (s := S3x1024) ![0, 0] S1x1024.size inb_S3x1024_S1x1024_0_0
abbrev r3_4 : Rect S3x1024 := Rect.unit (s := S3x1024) ![1, 0] S1x1024.size inb_S3x1024_S1x1024_1_0
abbrev r3_5 : Rect S3x1024 := Rect.unit (s := S3x1024) ![2, 0] S1x1024.size inb_S3x1024_S1x1024_2_0
abbrev r3_6 : Rect S1024x1024 := Rect.unit (s := S1024x1024) ![0, 0] S1024x1024.size inb_S1024x1024_S1024x1024_0_0
abbrev r3_7 : Rect S1x1x1024 := Rect.unit (s := S1x1x1024) ![0, 0, 0] S1x1x1024.size inb_S1x1x1024_S1x1x1024_0_0_0
abbrev r3_8 : Rect S1x1024 := Rect.unit (s := S1x1024) ![0, 0] S1x1024.size inb_S1x1024_S1x1024_0_0

/-! ## What the body leaves in each output window's buffer -/

/-! ### Values of the body that the stores' payloads, spelt out, would write more than once

    Each is a vector the body binds (often a part call's result), stated over the input windows' blocks and
    numbered on from the skeleton's payload functions (`k3_pay9` …, after `k3_pay8`), so that
    `out3_W` and the values after it name it instead of spelling it out (`unfold_out out3_W` opens a canon
    with them, `unfold_payloads` opens them with the payloads); the comment after each is the printed function's
    name for the value (a count appended where that name is bound again). -/

def k3_pay9 (i : grid3.Coords) (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S256x1024 .bf16) (x7 : Vec F S256x1024 .f32) (x8 : Vec F S1x1x1024 .f32) (x9 : Vec F S1x1x1024 .f32) (x10 : Vec F S1x1x1024 .f32) (x11 : Vec F S1x1024 .f32) (x12 : Vec F S1x1024 .f32) (x13 : Vec F S3x1024 .f32) (x14 : Vec F S1024x1024 .bf16) (x15 : Vec F S1024x1024 .bf16) (x16 : Vec F S1024x1024 .bf16) : FVec F S256x1024 .bf16 :=
  k3_pay5 (k3_pay2 (View.ld x2 r3_0)) (k3_pay3 i (View.ld x3 r3_1)) (k3_pay4 i (View.ld x4 r3_2)) (View.ld x13 r3_3) (View.ld x13 r3_4) (View.ld x13 r3_5) (View.ld x1 r3_0) -- `v74`
def k3_pay10 (i : grid3.Coords) (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S256x1024 .bf16) (x7 : Vec F S256x1024 .f32) (x8 : Vec F S1x1x1024 .f32) (x9 : Vec F S1x1x1024 .f32) (x10 : Vec F S1x1x1024 .f32) (x11 : Vec F S1x1024 .f32) (x12 : Vec F S1x1024 .f32) (x13 : Vec F S3x1024 .f32) (x14 : Vec F S1024x1024 .bf16) (x15 : Vec F S1024x1024 .bf16) (x16 : Vec F S1024x1024 .bf16) : FVec F S256x1024 .f32 :=
  k3_pay6 (View.ld x0 r3_0) (View.ld x14 r3_6) -- `v79`

/-- Window 17's staging buffer after the body, from the input windows' blocks: its 1 store as pieces, LAST
    FIRST (Lib/Pipeline/FrameBody.lean `View.canon`; the payloads are the skeleton's and the values stated above). -/
def out3_17 (i : grid3.Coords) (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S256x1024 .bf16) (x7 : Vec F S256x1024 .f32) (x8 : Vec F S1x1x1024 .f32) (x9 : Vec F S1x1x1024 .f32) (x10 : Vec F S1x1x1024 .f32) (x11 : Vec F S1x1024 .f32) (x12 : Vec F S1x1024 .f32) (x13 : Vec F S3x1024 .f32) (x14 : Vec F S1024x1024 .bf16) (x15 : Vec F S1024x1024 .bf16) (x16 : Vec F S1024x1024 .bf16) : Vec F S256x1024 .f32 :=
  View.canon [⟨r3_0, k3_pay7 (k3_pay9 i x0 x1 x2 x3 x4 x5 x6 x7 x8 x9 x10 x11 x12 x13 x14 x15 x16) (k3_pay10 i x0 x1 x2 x3 x4 x5 x6 x7 x8 x9 x10 x11 x12 x13 x14 x15 x16) (View.ld x15 r3_6) (View.ld x5 r3_0) (View.ld x6 r3_0) (View.ld x16 r3_6) (View.ld x7 r3_0) (View.ld x8 r3_7) (View.ld x11 r3_8)⟩]

/-- Its stores tile the buffer (checked by evaluation), so they cover it. -/
theorem cover3_17 (p0 : Vec F S256x1024 .f32) (y : S256x1024.Idx) :
    ∃ pc ∈ ([⟨r3_0, p0⟩] : List (View.Piece (Elt F) S256x1024 .f32)), y ∈ pc.1.set :=
  View.cover_of_tiled [⟨r3_0, p0⟩] S256x1024.size (by rfl) y

/-- Window 18's staging buffer after the body, from the input windows' blocks: its 1 store as pieces, LAST
    FIRST (Lib/Pipeline/FrameBody.lean `View.canon`; the payloads are the skeleton's and the values stated above). -/
def out3_18 (i : grid3.Coords) (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S256x1024 .bf16) (x7 : Vec F S256x1024 .f32) (x8 : Vec F S1x1x1024 .f32) (x9 : Vec F S1x1x1024 .f32) (x10 : Vec F S1x1x1024 .f32) (x11 : Vec F S1x1024 .f32) (x12 : Vec F S1x1024 .f32) (x13 : Vec F S3x1024 .f32) (x14 : Vec F S1024x1024 .bf16) (x15 : Vec F S1024x1024 .bf16) (x16 : Vec F S1024x1024 .bf16) : Vec F S256x1024 .bf16 :=
  View.canon [⟨r3_0, k3_pay1 (k3_pay7 (k3_pay9 i x0 x1 x2 x3 x4 x5 x6 x7 x8 x9 x10 x11 x12 x13 x14 x15 x16) (k3_pay10 i x0 x1 x2 x3 x4 x5 x6 x7 x8 x9 x10 x11 x12 x13 x14 x15 x16) (View.ld x15 r3_6) (View.ld x5 r3_0) (View.ld x6 r3_0) (View.ld x16 r3_6) (View.ld x7 r3_0) (View.ld x8 r3_7) (View.ld x11 r3_8)) (k3_pay8 (k3_pay9 i x0 x1 x2 x3 x4 x5 x6 x7 x8 x9 x10 x11 x12 x13 x14 x15 x16) (k3_pay10 i x0 x1 x2 x3 x4 x5 x6 x7 x8 x9 x10 x11 x12 x13 x14 x15 x16) (View.ld x15 r3_6) (View.ld x5 r3_0) (View.ld x6 r3_0) (View.ld x16 r3_6) (View.ld x7 r3_0) (View.ld x8 r3_7) (View.ld x11 r3_8)) (View.ld x12 r3_8) (View.ld x10 r3_7) (View.ld x9 r3_7)⟩]

/-- Its stores tile the buffer (checked by evaluation), so they cover it. -/
theorem cover3_18 (p0 : Vec F S256x1024 .bf16) (y : S256x1024.Idx) :
    ∃ pc ∈ ([⟨r3_0, p0⟩] : List (View.Piece (Elt F) S256x1024 .bf16)), y ∈ pc.1.set :=
  View.cover_of_tiled [⟨r3_0, p0⟩] S256x1024.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S3x1024 .f32) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S256x1024 .f32) (harg18 : arg18.IsWhole) (arg19 : Memref sig .tc .vmem S256x1024 .bf16) (harg19 : arg19.IsWhole)
    (x0 : Vec F S256x1024 .bf16) (x1 : Vec F S256x1024 .bf16) (x2 : Vec F S256x1024 .bf16) (x3 : Vec F S16x1024 .bf16) (x4 : Vec F S16x1024 .bf16) (x5 : Vec F S256x1024 .bf16) (x6 : Vec F S256x1024 .bf16) (x7 : Vec F S256x1024 .f32) (x8 : Vec F S1x1x1024 .f32) (x9 : Vec F S1x1x1024 .f32) (x10 : Vec F S1x1x1024 .f32) (x11 : Vec F S1x1024 .f32) (x12 : Vec F S1x1024 .f32) (x13 : Vec F S3x1024 .f32) (x14 : Vec F S1024x1024 .bf16) (x15 : Vec F S1024x1024 .bf16) (x16 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out3_17 i x0 x1 x2 x3 x4 x5 x6 x7 x8 x9 x10 x11 x12 x13 x14 x15 x16) ∗ owns (c : Thread nD τ) arg19 fullShare (out3_18 i x0 x1 x2 x3 x4 x5 x6 x7 x8 x9 x10 x11 x12 x13 x14 x15 x16)) -∗ K ⟨⟩))
      ⊢ wp frame (wpE (defs₀ (F := F)) Variants.none c none) E (cc3_mix_out_s256 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc3_mix_out_s256_eq_skeleton]; unfold cc3_mix_out_s256_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover3_17 _)).trans ?_
    rfl
  iexists _; isplitr
  swap; · iexact H18
  ipureintro
  refine (View.read_writes_eq_canon _ _ _ (cover3_18 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    each input's share of its array
    (`Pipeline.shareOf`: the full share of an array several windows stage, dealt among them). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => out3_17 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
    | ⟨18, _⟩ => out3_18 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
    | ⟨_ + 19, h⟩ => absurd h (Nat.not_lt.2 (Nat.le_add_left _ _))
  Φ _ := Pipeline.ΦA spec3 c
  q w := Pipeline.shareOf spec3 w
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = out3_17 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) := by dsimp only [dat3]
theorem after3_18 (c : Dev nD) (t : Fin cfg3.N) : (dat3 V c).after 18 t = out3_18 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel3 c Set.univ (grid3.coords t) _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

set_option maxHeartbeats 4000000 in
/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.PromptIdeal.Gen

end
-- ==== Proof.PromptIdeal.Fold.lean ====
/- Part of the frame of the whole program `PromptIdeal`: the buffer contents at every boundary between the segments. It follows the generated module of the same name;
   the body obligation of the call mix_out needs a larger limit than that module gives it. -/
module

public import proofs.«01_k».proof.Proof.Gen.PromptIdeal.Frame.Region0
public import proofs.«01_k».proof.Proof.Gen.PromptIdeal.Frame.Region1
public import proofs.«01_k».proof.Proof.Gen.PromptIdeal.Frame.Region2
public import proofs.«01_k».proof.Proof.PromptIdeal.Region3
public import proofs.«01_k».proof.Proof.Gen.PromptIdeal.Frame.Region4
public import proofs.«01_k».proof.Proof.Gen.PromptIdeal.Frame.Hosts0

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`) (region 4's entry). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact (dat3 (V7 m ρ) c).withArrays_arrAt launch₀3.sharedIn _ (A_eq3 (V7 m ρ) c) w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays_shared`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact (dat4 (V8 m ρ) c).withArrays_arrAt launch₀4.sharedIn _ (A_eq4 (V8 m ρ) c) w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- A reference that is none of region 4's OUTPUT arrays keeps its entry contents across it: an input window's
    array is never written back (`Dat.arrAt_in`, `A_eq4`); any other buffer is left as is. -/
theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn4 a ha)).trans (W8_args m ρ c a ha)
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves (`hF4`) and every other buffer what it
    held at entry (`hrest4`): the two hypotheses of Lib/Pipeline/RegionsLoop.lean `unscopedBufs_of_arrays_shared`. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After `hostOps5`. -/
abbrev W10 : Dev nD → Valuation τ sig (Elt F) := fun c => StableHlo.after hostOps5 (W9 m ρ c)
/-- A reference `hostOps5` does not write keeps its contents across it. -/
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h
theorem W10_args (c : Dev nD) : ∀ a ∈ argRefs, W10 m ρ c (Proc.devRef .tc a) = m ((c : Thread nD τ).loc a) :=
  fun a ha => (W10_of m ρ c a (hostOps5_args a ha)).trans (W9_args m ρ c a ha)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
theorem W10_main_arg12 (c : Dev nD) : W10 m ρ c (Proc.devRef .tc main_arg12) = m ((c : Thread nD τ).loc main_arg12) :=
  W10_args m ρ c main_arg12 (by decide)
theorem W10_main_arg13 (c : Dev nD) : W10 m ρ c (Proc.devRef .tc main_arg13) = m ((c : Thread nD τ).loc main_arg13) :=
  W10_args m ρ c main_arg13 (by decide)
theorem W10_main_arg14 (c : Dev nD) : W10 m ρ c (Proc.devRef .tc main_arg14) = m ((c : Thread nD τ).loc main_arg14) :=
  W10_args m ρ c main_arg14 (by decide)
theorem W10_main_arg15 (c : Dev nD) : W10 m ρ c (Proc.devRef .tc main_arg15) = m ((c : Thread nD τ).loc main_arg15) :=
  W10_args m ρ c main_arg15 (by decide)
theorem W10_main_arg16 (c : Dev nD) : W10 m ρ c (Proc.devRef .tc main_arg16) = m ((c : Thread nD τ).loc main_arg16) :=
  W10_args m ρ c main_arg16 (by decide)
theorem W10_main_arg17 (c : Dev nD) : W10 m ρ c (Proc.devRef .tc main_arg17) = m ((c : Thread nD τ).loc main_arg17) :=
  W10_args m ρ c main_arg17 (by decide)
theorem W10_main_arg18 (c : Dev nD) : W10 m ρ c (Proc.devRef .tc main_arg18) = m ((c : Thread nD τ).loc main_arg18) :=
  W10_args m ρ c main_arg18 (by decide)
end Cert.PromptIdeal.Gen

end
-- ==== Proof.PromptIdeal.State.lean ====
/- Part of the frame of the whole program `PromptIdeal`: every pipeline's proof data. It follows the generated module of the same name;
   the body obligation of the call mix_out needs a larger limit than that module gives it. -/
module

public import proofs.«01_k».proof.Proof.PromptIdeal.Fold

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.PromptIdeal.Gen

end
-- ==== Proof.PromptIdeal.Record0.lean ====
/- Part of the frame of the whole program `PromptIdeal`: the record of region 0. It follows the generated module of the same name;
   the body obligation of the call mix_out needs a larger limit than that module gives it. -/
module

public import proofs.«01_k».proof.Proof.PromptIdeal.State

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.PromptIdeal.Gen

end
-- ==== Proof.PromptIdeal.Record1.lean ====
/- Part of the frame of the whole program `PromptIdeal`: the record of region 1. It follows the generated module of the same name;
   the body obligation of the call mix_out needs a larger limit than that module gives it. -/
module

public import proofs.«01_k».proof.Proof.PromptIdeal.State

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.PromptIdeal.Gen

end
-- ==== Proof.PromptIdeal.Record2.lean ====
/- Part of the frame of the whole program `PromptIdeal`: the record of region 2. It follows the generated module of the same name;
   the body obligation of the call mix_out needs a larger limit than that module gives it. -/
module

public import proofs.«01_k».proof.Proof.PromptIdeal.State

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.PromptIdeal.Gen

end
-- ==== Proof.PromptIdeal.Record3.lean ====
/- Part of the frame of the whole program `PromptIdeal`: the record of region 3. It follows the generated module of the same name;
   the body obligation of the call mix_out needs a larger limit than that module gives it. -/
module

public import proofs.«01_k».proof.Proof.PromptIdeal.State

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs_shared`) and put back at the exit contents (`unscopedBufs_of_arrays_shared`; its input windows on one array (`launch₀3.sharedIn`) each dealt their share of it, `Pipeline.shareOf`, by the proof data); the generator register into the
    class invariant `ΦA` and out; nothing owed; no semaphore of the kernel's own. -/
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.PromptIdeal.Gen

end
-- ==== Proof.PromptIdeal.Record4.lean ====
/- Part of the frame of the whole program `PromptIdeal`: the record of region 4. It follows the generated module of the same name;
   the body obligation of the call mix_out needs a larger limit than that module gives it. -/
module

public import proofs.«01_k».proof.Proof.PromptIdeal.State

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W8`, left at `W9`
    (what the next segment is entered from). Its arrays split out of the unscoped buffers
    (`arrays_of_unscopedBufs_shared`) and put back at the exit contents (`unscopedBufs_of_arrays_shared`; its input windows on one array (`launch₀4.sharedIn`) each dealt their share of it, `Pipeline.shareOf`, by the proof data); the generator register into the
    class invariant `ΦA` and out; nothing owed; no semaphore of the kernel's own. -/
def reg4 : Pipeline.RegionSeg (pcfgs (F := F)) adm (pdats m ρ) () defs₀ 𝒱₀ L lv 4 where
  win := launch₀4.win
  block_pos := launch₀4.block_pos
  stage_whole := launch₀4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs_shared (p := 4) (pcfgs (F := F)) adm (pdats m ρ) launch₀4.win launch₀4.sharedIn launch₀4.arr_whole c
      (fun _ _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays_shared (p := 4) (pcfgs (F := F)) adm (Ix := Unit) (Name := ℕ) (U := UR sig nD τ) (Lvl := ℕ)
      launch₀4.win launch₀4.sharedIn launch₀4.arr_whole c (pdats m ρ) (fun _ _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.PromptIdeal.Gen

end
-- ==== Proof.PromptIdeal.Frame.lean ====
/- Part of the frame of the whole program `PromptIdeal`: the run of the whole program and its frame. It follows the generated module of the same name;
   the body obligation of the call mix_out needs a larger limit than that module gives it. -/
module

public import proofs.«01_k».proof.Proof.PromptIdeal.Record0
public import proofs.«01_k».proof.Proof.PromptIdeal.Record1
public import proofs.«01_k».proof.Proof.PromptIdeal.Record2
public import proofs.«01_k».proof.Proof.PromptIdeal.Record3
public import proofs.«01_k».proof.Proof.PromptIdeal.Record4

@[expose] public section

-- the blocks' extents are long
set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution of the program terminates, nothing faulting; every buffer of the TensorCores ends at
    the last boundary's contents `W10`, and every semaphore counter at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The frame: the run leaves the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r hr => ⟨(fun c =>
      ⟨(hr.1 c _ (mem_uc main_arg0 (by decide))).trans (W10_main_arg0 m ρ c),
       (hr.1 c _ (mem_uc main_arg1 (by decide))).trans (W10_main_arg1 m ρ c),
       (hr.1 c _ (mem_uc main_arg2 (by decide))).trans (W10_main_arg2 m ρ c),
       (hr.1 c _ (mem_uc main_arg3 (by decide))).trans (W10_main_arg3 m ρ c),
       (hr.1 c _ (mem_uc main_arg4 (by decide))).trans (W10_main_arg4 m ρ c),
       (hr.1 c _ (mem_uc main_arg5 (by decide))).trans (W10_main_arg5 m ρ c),
       (hr.1 c _ (mem_uc main_arg6 (by decide))).trans (W10_main_arg6 m ρ c),
       (hr.1 c _ (mem_uc main_arg7 (by decide))).trans (W10_main_arg7 m ρ c),
       (hr.1 c _ (mem_uc main_arg8 (by decide))).trans (W10_main_arg8 m ρ c),
       (hr.1 c _ (mem_uc main_arg9 (by decide))).trans (W10_main_arg9 m ρ c),
       (hr.1 c _ (mem_uc main_arg10 (by decide))).trans (W10_main_arg10 m ρ c),
       (hr.1 c _ (mem_uc main_arg11 (by decide))).trans (W10_main_arg11 m ρ c),
       (hr.1 c _ (mem_uc main_arg12 (by decide))).trans (W10_main_arg12 m ρ c),
       (hr.1 c _ (mem_uc main_arg13 (by decide))).trans (W10_main_arg13 m ρ c),
       (hr.1 c _ (mem_uc main_arg14 (by decide))).trans (W10_main_arg14 m ρ c),
       (hr.1 c _ (mem_uc main_arg15 (by decide))).trans (W10_main_arg15 m ρ c),
       (hr.1 c _ (mem_uc main_arg16 (by decide))).trans (W10_main_arg16 m ρ c),
       (hr.1 c _ (mem_uc main_arg17 (by decide))).trans (W10_main_arg17 m ρ c),
       (hr.1 c _ (mem_uc main_arg18 (by decide))).trans (W10_main_arg18 m ρ c)⟩), hr.2⟩) (run m ρ)

end Cert.PromptIdeal.Gen

end
-- ==== Proof.Softmax.lean ====
/- Extended-real arithmetic the value claims share: finite sums that keep a real factor, values that stay real,
   and the law that a softmax may be normalised after its weighted sum instead of before it. -/
module

public import Idealize.ShloMosaic.Lib.Pointwise

@[expose] public section

noncomputable section

namespace Cert.Softmax

open Idealize.ShloMosaic

/-- `x` is a real number: neither infinity. -/
def Real' (x : EReal) : Prop := ∃ r : ℝ, x = (r : EReal)

/-- A real factor that is not negative goes inside a finite sum of extended reals. -/
theorem sum_mul_real {ι : Type} (S : Finset ι) (f : ι → EReal) (c : EReal) (h0 : 0 ≤ c) (h1 : c ≠ ⊤) :
    (∑ i ∈ S, f i) * c = ∑ i ∈ S, f i * c := by
  classical
  induction S using Finset.induction_on with
  | empty => simp
  | insert a S ha ih =>
    rw [Finset.sum_insert ha, Finset.sum_insert ha, ← ih, mul_comm, EReal.left_distrib_of_nonneg_of_ne_top h0 h1,
      mul_comm c, mul_comm c]

/-- The largest of finitely many (at least one) reals is a real. -/
theorem real_fold_max {n : ℕ} (hn : 0 < n) (s : Fin n → EReal) (hs : ∀ t, Real' (s t)) :
    Real' (Finset.univ.fold max ⊥ s) := by
  haveI : Nonempty (Fin n) := ⟨⟨0, hn⟩⟩
  have e : Finset.univ.fold max ⊥ s = Finset.univ.sup' Finset.univ_nonempty s := by
    rw [Finset.sup'_eq_sup]; rfl
  obtain ⟨t, -, ht⟩ := Finset.exists_mem_eq_sup' (s := Finset.univ) Finset.univ_nonempty s
  rw [e, ht]; exact hs t

/-- A finite sum of reals is the real sum. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A finite sum of reals is a real. -/
theorem real_sum {ι : Type} (S : Finset ι) (f : ι → EReal) (h : ∀ i, Real' (f i)) : Real' (∑ i ∈ S, f i) := by
  choose g hg using h
  exact ⟨∑ i ∈ S, g i, by rw [← coe_sum]; exact Finset.sum_congr rfl fun i _ => hg i⟩

/-- A product of reals is a real. -/
theorem real_mul {x y : EReal} (hx : Real' x) (hy : Real' y) : Real' (x * y) := by
  obtain ⟨a, rfl⟩ := hx; obtain ⟨b, rfl⟩ := hy; exact ⟨a * b, by push_cast; rfl⟩

/-- A sum of two reals is a real. -/
theorem real_add {x y : EReal} (hx : Real' x) (hy : Real' y) : Real' (x + y) := by
  obtain ⟨a, rfl⟩ := hx; obtain ⟨b, rfl⟩ := hy; exact ⟨a + b, by push_cast; rfl⟩

/-- The softmax-weighted sum of `v` over real scores `s` (`M` a real shift), normalised after the sum (a product with the
    reciprocal of the weights' total) or before it (each weight divided by that total). -/
theorem normalise {n : ℕ} (hn : 0 < n) (s v : Fin n → EReal) (M : EReal) (hs : ∀ t, Real' (s t)) (hM : Real' M) :
    (∑ t, Ideal.exp (s t - M) * v t) * Ideal.div 1 (∑ t, Ideal.exp (s t - M))
      = ∑ t, v t * Ideal.div (Ideal.exp (s t - M)) (∑ t, Ideal.exp (s t - M)) := by
  choose r hr using hs
  obtain ⟨μ, rfl⟩ := hM
  have he : ∀ t, Ideal.exp (s t - (μ : EReal)) = ((Real.exp (r t - μ) : ℝ) : EReal) := fun t => by
    rw [hr t, ← EReal.coe_sub]; exact Ideal.exp_coe _
  have hL : ∑ t, Ideal.exp (s t - (μ : EReal)) = ((∑ t, Real.exp (r t - μ) : ℝ) : EReal) := by
    rw [← coe_sum]; exact Finset.sum_congr rfl fun t _ => he t
  have hpos : 0 < ∑ t, Real.exp (r t - μ) := Finset.sum_pos (fun t _ => Real.exp_pos _) ⟨⟨0, hn⟩, Finset.mem_univ _⟩
  rw [hL, Ideal.div_coe hpos.ne', one_mul, sum_mul_real _ _ _ (by exact_mod_cast (one_div_pos.mpr hpos).le) (EReal.coe_ne_top _)]
  refine Finset.sum_congr rfl fun t _ => ?_
  rw [Ideal.div_coe hpos.ne', mul_comm (Ideal.exp _) (v t), mul_assoc]

/-- The softmax-weighted sum of `v` over the scores `s`, shifted by the largest score and normalised after the sum. -/
def late {n : ℕ} (s v : Fin n → EReal) : EReal :=
  (∑ t, Ideal.exp (s t - Finset.univ.fold max ⊥ s) * v t) * Ideal.div 1 (∑ t, Ideal.exp (s t - Finset.univ.fold max ⊥ s))

/-- The softmax-weighted sum of `v` over the scores `s`, shifted by the largest score, each weight normalised. -/
def early {n : ℕ} (s v : Fin n → EReal) : EReal :=
  ∑ t, v t * Ideal.div (Ideal.exp (s t - Finset.univ.fold max ⊥ s)) (∑ t, Ideal.exp (s t - Finset.univ.fold max ⊥ s))

/-- `late` depends on the scores and the values only. -/
theorem late_congr {n : ℕ} {s s' v v' : Fin n → EReal} (hs : ∀ t, s t = s' t) (hv : ∀ t, v t = v' t) : late s v = late s' v' := by
  rw [funext hs, funext hv]

/-- Over real scores the two ways of normalising agree. -/
theorem late_eq_early {n : ℕ} (hn : 0 < n) (s v : Fin n → EReal) (hs : ∀ t, Real' (s t)) : late s v = early s v :=
  normalise hn s v _ hs (real_fold_max hn s hs)

/-- The bit pattern of minus infinity denotes the least extended real. -/
theorem ofBits_negInf : Ideal.ofBits .f32 0xFF800000#32 = (⊥ : EReal) := by
  simp [Ideal.ofBits, Ideal.ieee]

/-- The bit pattern of plus infinity denotes the greatest extended real. -/
theorem ofBits_posInf : Ideal.ofBits .f32 0x7F800000#32 = (⊤ : EReal) := by
  simp [Ideal.ofBits, Ideal.ieee]

/-- What the comparison of a magnitude with plus infinity says: the number is a real. -/
theorem real_of_lt {x : EReal} (h : Ideal.cmp .olt (max x (-x)) (Ideal.ofBits .f32 0x7F800000#32) = 1#1) : Real' x := by
  rw [ofBits_posInf] at h
  have h' : max x (-x) < ⊤ := by
    by_contra hn
    rw [Ideal.cmp, show decide (max x (-x) < ⊤) = false from decide_eq_false hn] at h
    exact absurd h (by decide)
  induction x with
  | bot => exact absurd h' (by simp)
  | top => exact absurd h' (by simp)
  | coe r => exact ⟨r, rfl⟩

/-- The host's largest entry along the last of five axes. -/
theorem host_max {a b c d n : ℕ} (A : FVec Ideal ⟨5, ![a, b, c, d, n]⟩ .f32) (init : FVec Ideal ⟨0, ![]⟩ .f32)
    (h' : (⟨5, ![a, b, c, d, n]⟩ : Shape).ReducesTo [4] ⟨4, ![a, b, c, d]⟩) (h : (⟨5, ![a, b, c, d, n]⟩ : Shape).Reduces [4] ⟨4, ![a, b, c, d]⟩)
    (hu : 0 < (⟨0, ![]⟩ : Shape).numel) (i0 : Fin a) (i1 : Fin b) (i2 : Fin c) (i3 : Fin d) :
    Host.reduce FloatOps.maximumf A init h' hu (ix4 i0 i1 i2 i3)
      = Finset.univ.fold max (init (Shape.Idx.first hu)) fun k : Fin n => A (ix5 i0 i1 i2 i3 k) := by
  rw [Host.reduce_eq_fold_single FloatOps.maximumf A _ h' h hu]
  have hf : (A ∘ h.lift (ix4 i0 i1 i2 i3)) = fun k : Fin n => A (ix5 i0 i1 i2 i3 k) := funext fun k => congrArg A (by
    funext x; apply Fin.ext
    fin_cases x <;> rfl)
  exact congrArg (fun f => Finset.fold max (init (Shape.Idx.first hu)) f (Finset.univ : Finset (Fin n))) hf

end Cert.Softmax

end
-- ==== Proof.Attn.Pure.lean ====
/- The attention kernel's payloads, read at an index. -/
module

public import proofs.«01_k».proof.Proof.Gen.AttnIdeal.Skeleton
public import proofs.«01_k».proof.Proof.Softmax

@[expose] public section

set_option maxRecDepth 16384

noncomputable section

namespace Cert.AttnIdeal.Pure

open Cert.AttnIdeal Cert.AttnIdeal.Gen Idealize.ShloMosaic Idealize.ShloMosaic.TcCoe Idealize.SL.Sem
open Cert.Softmax

/-- The attention kernel's block: lane `l` of query row `i` is head `l / 64`'s weighted values at its lane `l % 64`, over the
    reciprocal of that head's total weight; the four pieces of the queries' block are `q0`, `q1`, `q2`, `q3`. -/
theorem pay8_at (k : FVec Ideal S1x1x64x2560 .bf16) (v : FVec Ideal S1x1x2560x64 .bf16) (Q : FVec Ideal S1x256x256 .bf16)
    (q0 q1 q2 q3 : FVec Ideal S1x256x64 .bf16)
    (h0 : ∀ (i : Fin 256) (e : Fin 64), q0 (ix3 0 i e) = Q (ix3 0 i ⟨e.val, by omega⟩))
    (h1 : ∀ (i : Fin 256) (e : Fin 64), q1 (ix3 0 i e) = Q (ix3 0 i ⟨64 + e.val, by omega⟩))
    (h2 : ∀ (i : Fin 256) (e : Fin 64), q2 (ix3 0 i e) = Q (ix3 0 i ⟨128 + e.val, by omega⟩))
    (h3 : ∀ (i : Fin 256) (e : Fin 64), q3 (ix3 0 i e) = Q (ix3 0 i ⟨192 + e.val, by omega⟩)) (i l : Fin 256) :
    k0_pay8 (F := Ideal) (k0_pay1 k) (k0_pay2 v) (k0_pay3 k v q0) (k0_pay5 k q1) (k0_pay6 k v q1) k0_pay7 q2 q3 (ix3 0 i l)
      = late (fun t => ∑ e : Fin 64, Q (ix3 0 i ⟨64 * (l.val / 64) + e.val, by omega⟩) * k (ix4 0 0 e t))
          (fun t => v (ix4 0 0 t ⟨l.val % 64, by omega⟩)) := by
  pointwise [k0_pay8, k0_pay7, k0_pay6, k0_pay5, k0_pay4, k0_pay3, k0_pay1, k0_pay2]
  simp only [ofBits_negInf, h0, h1, h2, h3]
  obtain ⟨l, hl⟩ := l
  have hc : l / 64 = 0 ∨ l / 64 = 1 ∨ l / 64 = 2 ∨ l / 64 = 3 := by omega
  rcases hc with hc | hc | hc | hc
  · have e : l % 64 = l := by omega
    simp only [dif_pos (show l < 64 by omega), late, hc, e, Nat.mul_zero, Nat.zero_add]
  · have e : l % 64 = l - 64 := by omega
    simp only [dif_neg (show ¬ l < 64 by omega), dif_pos (show l - 64 < 64 by omega), late, hc, e, Nat.mul_one]
  · have e : l % 64 = l - 64 - 64 := by omega
    simp only [dif_neg (show ¬ l < 64 by omega), dif_neg (show ¬ l - 64 < 64 by omega), dif_pos (show l - 64 - 64 < 64 by omega), late, hc, e, Nat.reduceMul]
  · have e : l % 64 = l - 64 - 64 - 64 := by omega
    simp only [dif_neg (show ¬ l < 64 by omega), dif_neg (show ¬ l - 64 < 64 by omega), dif_neg (show ¬ l - 64 - 64 < 64 by omega), late, hc, e, Nat.reduceMul]

end Cert.AttnIdeal.Pure

end
-- ==== Proof.Attn.Final.lean ====
/- The attention program's result array after its run, as a function of the arrays its one call reads. -/
module

public import proofs.«01_k».proof.Proof.Gen.AttnIdeal.Frame
public import proofs.«01_k».proof.Proof.Attn.Pure
public import Idealize.ShloMosaic.Lib.Pipeline.ValueKit

@[expose] public section

set_option maxRecDepth 16384

noncomputable section

namespace Cert.AttnIdeal.Pure

open Cert.AttnIdeal Cert.AttnIdeal.Gen Idealize.ShloMosaic Idealize.ShloMosaic.TcCoe Idealize.SL.Sem
open Idealize.ShloMosaic.Pipeline (Dat)
open Cert.Softmax

variable (m : (ℓ : Loc nD τ sig) → Buf (Elt Ideal) ℓ)

/-- Lane `l` of query row `i` of batch `b`: head `l / 64` attends to the keys and values of its group `l / 256`. -/
def G (q : FVec Ideal S8x2048x1024 .bf16) (k : FVec Ideal S8x4x64x2560 .bf16) (v : FVec Ideal S8x4x2560x64 .bf16) : FVec Ideal S8x2048x1024 .bf16 :=
  fun j => late (fun t : Fin 2560 => ∑ e : Fin 64, q (ix3 (j 0) (j 1) ⟨64 * ((j 2).val / 64) + e.val, by have : (j 2).val < 1024 := (j 2).isLt; omega⟩)
      * k (ix4 (j 0) ⟨(j 2).val / 256, by have : (j 2).val < 1024 := (j 2).isLt; omega⟩ e t))
    (fun t => v (ix4 (j 0) ⟨(j 2).val / 256, by have : (j 2).val < 1024 := (j 2).isLt; omega⟩ t ⟨(j 2).val % 64, by omega⟩))

/-- Which block of its array each window holds at grid point `t`. -/
theorem idx : ∀ t : Fin cfg0.N, win0_0.index t = ![t.val / 32, t.val % 8, t.val / 8 % 4] ∧ win0_1.index t = ![t.val / 32, t.val / 8 % 4, 0, 0]
    ∧ win0_2.index t = ![t.val / 32, t.val / 8 % 4, 0, 0] ∧ win0_3.index t = ![t.val / 32, t.val % 8, t.val / 8 % 4] := (by decide +kernel : ∀ t : Fin grid0.N, _)

/-- Grid point `t`'s block of the queries. -/
theorem rd0 (A : FVec Ideal S8x2048x1024 .bf16) (t : Fin cfg0.N) (ht : t.val < 256) (i l : Fin 256) :
    ((cfg0.win 0).blk t).view.read (Elt Ideal) A (ix3 0 i l)
      = A (ix3 ⟨t.val / 32, by omega⟩ ⟨256 * (t.val % 8) + i.val, by omega⟩ ⟨256 * (t.val / 8 % 4) + l.val, by omega⟩) := by
  blk_ext [idx t]

/-- Grid point `t`'s block of the keys. -/
theorem rd1 (A : FVec Ideal S8x4x64x2560 .bf16) (t : Fin cfg0.N) (ht : t.val < 256) (e : Fin 64) (u : Fin 2560) :
    ((cfg0.win 1).blk t).view.read (Elt Ideal) A (ix4 0 0 e u) = A (ix4 ⟨t.val / 32, by omega⟩ ⟨t.val / 8 % 4, by omega⟩ e u) := by
  blk_ext [idx t]

/-- Grid point `t`'s block of the values. -/
theorem rd2 (A : FVec Ideal S8x4x2560x64 .bf16) (t : Fin cfg0.N) (ht : t.val < 256) (u : Fin 2560) (d : Fin 64) :
    ((cfg0.win 2).blk t).view.read (Elt Ideal) A (ix4 0 0 u d) = A (ix4 ⟨t.val / 32, by omega⟩ ⟨t.val / 8 % 4, by omega⟩ u d) := by
  blk_ext [idx t]

/-- Where grid point `t`'s block of the result lies. -/
theorem emb3 (t : Fin cfg0.N) (ht : t.val < 256) (i l : Fin 256) :
    (win0_3.blk t).view.emb (ix3 0 i l)
      = (ix3 ⟨t.val / 32, by omega⟩ ⟨256 * (t.val % 8) + i.val, by omega⟩ ⟨256 * (t.val / 8 % 4) + l.val, by omega⟩ : S8x2048x1024.Idx) := by
  blk_ext [idx t]

/-- What grid point `t` leaves in the output's block is that block of `G`. -/
theorem point (c : Dev nD) (t : Fin cfg0.N) (y : S1x256x256.Idx) :
    out0_3 (F := Ideal) (iblk m c 0 t) (iblk m c 1 t) (iblk m c 2 t) y
      = G (V m c main_v14) (V m c main_v11) (V m c main_v13) ((win0_3.blk t).view.emb y) := by
  have ht : t.val < 256 := t.isLt
  idx_vars y
  obtain rfl : y0 = 0 := Subsingleton.elim _ _
  frame_out
  refine (pay8_at (iblk m c 1 t) (iblk m c 2 t) (iblk m c 0 t) _ _ _ _ ?_ ?_ ?_ ?_ y1 y2).trans ?_
  · intro i e; pointwise
  · intro i e; pointwise
  · intro i e; pointwise
  · intro i e; pointwise
  · refine Eq.trans (late_congr (fun u => Finset.sum_congr rfl fun e _ => Ideal.mul_congr (rd0 (V m c main_v14) t ht _ _) (rd1 (V m c main_v11) t ht _ _)) fun u => rd2 (V m c main_v13) t ht _ _) ?_
    rw [show (win0_3.blk t).view.emb (ix3 0 y1 y2) = _ from emb3 t ht y1 y2]
    unfold G
    refine late_congr (fun u => Finset.sum_congr rfl fun e _ => Ideal.mul_congr ?_ ?_) fun u => ?_
    · refine congrArg (V m c main_v14) (congrArg (ix3 _ _) (Fin.ext ?_))
      show 256 * (t.val / 8 % 4) + (64 * (y2.val / 64) + e.val) = 64 * ((256 * (t.val / 8 % 4) + y2.val) / 64) + e.val
      omega
    · refine congrArg (V m c main_v11) (congrArg (fun a => ix4 _ a _ _) (Fin.ext ?_))
      show t.val / 8 % 4 = (256 * (t.val / 8 % 4) + y2.val) / 256
      omega
    · refine congrArg (V m c main_v13) (congrArg₂ (fun a b => ix4 _ a _ b) (Fin.ext ?_) (Fin.ext ?_))
      · show t.val / 8 % 4 = (256 * (t.val / 8 % 4) + y2.val) / 256
        omega
      · show y2.val % 64 = (256 * (t.val / 8 % 4) + y2.val) % 64
        omega

/-- The result array after the run. -/
theorem final (c : Dev nD) : (dats m 0 c).arrAt 3 cfg0.N = G (V m c main_v14) (V m c main_v11) (V m c main_v13) := by
  refine (dats m 0 c).arrAt_eq_of_covers 3 _ (by decide +kernel) fun t _ y => ?_
  blk_simp
  rw [after0_3]
  exact point m c t y

end Cert.AttnIdeal.Pure

end
-- ==== Proof.Attn.Ref.lean ====
/- The attention reference's result, read at an index. -/
module

public import proofs.«01_k».proof.Proof.Gen.AttnRefIdeal.Read
public import proofs.«01_k».proof.Proof.Softmax
public import Idealize.ShloMosaic.Lib.Pointwise

@[expose] public section

set_option maxRecDepth 16384

noncomputable section

namespace Cert.AttnRefIdeal.Pure

open Cert.AttnRefIdeal Cert.AttnRefIdeal.Gen Idealize.ShloMosaic Idealize.ShloMosaic.TcCoe Idealize.SL.Sem
open Cert.Softmax Cert.AttnRefIdeal.Read

/-- Lane `e` of key (or value) `t` of key head `g` in batch `b`: the cached ones come first, the fresh ones after. -/
def kv (x : FVec Ideal S16384x256 .bf16) (y : FVec Ideal S8x1x512x4x64 .f32) (b : Fin 8) (t : Fin 2560) (g : Fin 4) (e : Fin 64) : EReal :=
  if h : t.val < 512 then y (ix5 b 0 ⟨t.val, h⟩ g e)
  else x (ix2 ⟨2048 * b.val + (t.val - 512), by omega⟩ ⟨64 * g.val + e.val, by omega⟩)

/-- The reference's joined keys. -/
theorem keys (x1 : FVec Ideal S16384x256 .bf16) (x3 : FVec Ideal S8x1x512x4x64 .f32) (b : Fin 8) (t : Fin 2560) (g : Fin 4) (e : Fin 64) :
    val_main_v5 (F := Ideal) x1 x3 (ix4 b t g e) = kv x1 x3 b t g e := by
  unfold val_main_v5 val_main_v2 val_main_v4 val_main_v3 kv
  pointwise
  refine dite_congr rfl (fun _ => rfl) fun _ => congrArg x1 (congrArg₂ ix2 (Fin.ext ?_) (Fin.ext ?_))
  · show b.val * 2048 + (t.val - 512) = 2048 * b.val + (t.val - 512)
    omega
  · show g.val * 64 + e.val = 64 * g.val + e.val
    omega

/-- The reference's joined values. -/
theorem vals (x2 : FVec Ideal S16384x256 .bf16) (x4 : FVec Ideal S8x1x512x4x64 .f32) (b : Fin 8) (t : Fin 2560) (g : Fin 4) (e : Fin 64) :
    val_main_v9 (F := Ideal) x2 x4 (ix4 b t g e) = kv x2 x4 b t g e :=
  keys x2 x4 b t g e

/-- The score of key `t` for query `i` of head `4 g + r`. -/
def sc (x0 : FVec Ideal S16384x1024 .bf16) (x1 : FVec Ideal S16384x256 .bf16) (x3 : FVec Ideal S8x1x512x4x64 .f32)
    (b : Fin 8) (g r : Fin 4) (i : Fin 2048) (t : Fin 2560) : EReal :=
  ∑ e : Fin 64, x0 (ix2 ⟨2048 * b.val + i.val, by omega⟩ ⟨256 * g.val + 64 * r.val + e.val, by omega⟩) * kv x1 x3 b t g e

/-- The reference's scores. -/
theorem scores (x0 : FVec Ideal S16384x1024 .bf16) (x1 : FVec Ideal S16384x256 .bf16) (x3 : FVec Ideal S8x1x512x4x64 .f32)
    (b : Fin 8) (g r : Fin 4) (i : Fin 2048) (t : Fin 2560) :
    val_main_v11 (F := Ideal) x0 x1 x3 (ix5 b g r i t) = sc x0 x1 x3 b g r i t := by
  rw [val_main_v11_apply, val_main_v10_apply]
  refine Finset.sum_congr rfl fun e _ => ?_
  rw [show lidx_main_v10 (idx_main_v11 (ix5 b g r i t)) e = ix4 b t g e from by funext a; fin_cases a <;> rfl, keys, mul_comm]
  refine congrArg (· * _) ?_
  rw [val_main_v1_apply, val_main_v0_apply]
  refine congrArg x0 ?_
  funext a; apply Fin.ext
  fin_cases a
  · show ((((b.val * 2048 + i.val) * 4 + g.val) * 4 + r.val) * 64 + e.val) / 1024 = 2048 * b.val + i.val
    omega
  · show ((((b.val * 2048 + i.val) * 4 + g.val) * 4 + r.val) * 64 + e.val) % 1024 = 256 * g.val + 64 * r.val + e.val
    omega

/-- The reference's largest score of a query. -/
theorem largest (x0 : FVec Ideal S16384x1024 .bf16) (x1 : FVec Ideal S16384x256 .bf16) (x3 : FVec Ideal S8x1x512x4x64 .f32)
    (b : Fin 8) (g r : Fin 4) (i : Fin 2048) :
    val_main_v14 (F := Ideal) x0 x1 x3 (ix4 b g r i) = Finset.univ.fold max ⊥ (sc x0 x1 x3 b g r i) := by
  have h : val_main_v12 (F := Ideal) x0 x1 x3 (ix4 b g r i) = Finset.univ.fold max ⊥ (sc x0 x1 x3 b g r i) := by
    unfold val_main_v12
    refine (host_max _ _ _ ⟨rfl, by decide, by decide⟩ _ b g r i).trans ?_
    rw [funext (scores x0 x1 x3 b g r i)]
    exact congrArg (fun z => Finset.fold max z (sc x0 x1 x3 b g r i) Finset.univ) ofBits_negInf
  rw [val_main_v14_apply, h, val_main_v13_apply, val_main_cst_0_apply]
  exact (congrArg (max · _) ofBits_negInf).trans (max_eq_right bot_le)

/-- The reference's weight of key `t` before normalisation. -/
theorem weight (x0 : FVec Ideal S16384x1024 .bf16) (x1 : FVec Ideal S16384x256 .bf16) (x3 : FVec Ideal S8x1x512x4x64 .f32)
    (b : Fin 8) (g r : Fin 4) (i : Fin 2048) (t : Fin 2560) :
    val_main_v18 (F := Ideal) x0 x1 x3 (ix5 b g r i t)
      = Ideal.exp (sc x0 x1 x3 b g r i t - Finset.univ.fold max ⊥ (sc x0 x1 x3 b g r i)) := by
  rw [val_main_v18_apply, val_main_v17_apply, scores, val_main_v16_apply, val_main_v15_apply,
    show idx_main_v15 (idx_main_v16 (ix5 b g r i t)) = ix4 b g r i from by funext a; fin_cases a <;> rfl, largest]
  rfl

/-- The reference's normalised weight of key `t`. -/
theorem share (x0 : FVec Ideal S16384x1024 .bf16) (x1 : FVec Ideal S16384x256 .bf16) (x3 : FVec Ideal S8x1x512x4x64 .f32)
    (b : Fin 8) (g r : Fin 4) (i : Fin 2048) (t : Fin 2560) :
    val_main_v22 (F := Ideal) x0 x1 x3 (ix5 b g r i t)
      = Ideal.div (Ideal.exp (sc x0 x1 x3 b g r i t - Finset.univ.fold max ⊥ (sc x0 x1 x3 b g r i)))
          (∑ t, Ideal.exp (sc x0 x1 x3 b g r i t - Finset.univ.fold max ⊥ (sc x0 x1 x3 b g r i))) := by
  rw [val_main_v22_apply, weight, val_main_v21_apply, val_main_v20_apply,
    show idx_main_v20 (idx_main_v21 (ix5 b g r i t)) = ix4 b g r i from by funext a; fin_cases a <;> rfl, val_main_v19_apply]
  refine congrArg (Ideal.div _) ?_
  rw [val_main_cst_1_apply]
  refine (congrArg₂ (· + ·) (Ideal.ofBits_zero _) (Finset.sum_congr rfl fun k _ => ?_)).trans (zero_add _)
  rw [show idx_main_v19 (ix4 b g r i) k = ix5 b g r i k from by funext a; fin_cases a <;> rfl, weight]

/-- The reference's result: lane `d` of head `4 g + r`. -/
theorem result (x0 : FVec Ideal S16384x1024 .bf16) (x1 x2 : FVec Ideal S16384x256 .bf16) (x3 x4 : FVec Ideal S8x1x512x4x64 .f32)
    (b : Fin 8) (i : Fin 2048) (l : Fin 1024) :
    val_main_v26 (F := Ideal) x0 x1 x2 x3 x4 (ix3 b i l)
      = early (sc x0 x1 x3 b ⟨l.val / 256, by omega⟩ ⟨l.val / 64 % 4, by omega⟩ i)
          fun t => kv x2 x4 b t ⟨l.val / 256, by omega⟩ ⟨l.val % 64, by omega⟩ := by
  rw [val_main_v26_apply, val_main_v25_apply, val_main_v24_apply,
    show idx_main_v24 (idx_main_v25 (ix3 b i l)) = ix5 b ⟨l.val / 256, by omega⟩ ⟨l.val % 64, by omega⟩ ⟨l.val / 64 % 4, by omega⟩ i from ?_,
    val_main_v23_apply]
  · refine Finset.sum_congr rfl fun t _ => ?_
    refine (Ideal.mul_congr (congrArg (val_main_v9 (F := Ideal) x2 x4) (a₂ := ix4 b t ⟨l.val / 256, by omega⟩ ⟨l.val % 64, by omega⟩) ?_)
      (congrArg (val_main_v22 (F := Ideal) x0 x1 x3) (a₂ := ix5 b ⟨l.val / 256, by omega⟩ ⟨l.val / 64 % 4, by omega⟩ i t) ?_)).trans ?_
    · funext a; fin_cases a <;> rfl
    · funext a; fin_cases a <;> rfl
    · rw [vals, share]
  · funext a; apply Fin.ext
    fin_cases a
    · show ((b.val * 2048 + i.val) * 1024 + l.val) / 2097152 = b.val
      omega
    · show ((b.val * 2048 + i.val) * 1024 + l.val) / 256 % 4 = l.val / 256
      omega
    · show ((b.val * 2048 + i.val) * 1024 + l.val) % 64 = l.val % 64
      omega
    · show ((b.val * 2048 + i.val) * 1024 + l.val) / 64 % 4 = l.val / 64 % 4
      omega
    · show ((b.val * 2048 + i.val) * 1024 + l.val) / 1024 % 2048 = i.val
      omega

end Cert.AttnRefIdeal.Pure

end
-- ==== Proof.Attn.Agree.lean ====
/- The attention program and its reference compute the same array from finite queries and keys. -/
module

public import proofs.«01_k».proof.Defs
public import proofs.«01_k».proof.Proof.Gen.Pre_scores_finite
public import proofs.«01_k».proof.Proof.Attn.Final
public import proofs.«01_k».proof.Proof.Attn.Ref
public import Idealize.ShloMosaic.Lib.Claim

@[expose] public section

set_option maxRecDepth 16384

noncomputable section

namespace Cert.AttnIdeal.Pure

open Cert.AttnIdeal Cert.AttnIdeal.Gen Idealize.ShloMosaic Idealize.ShloMosaic.TcCoe Idealize.SL.Sem
open Cert.Softmax
open Cert.AttnRefIdeal.Pure (kv sc)

variable (m : (ℓ : Loc nD τ sig) → Buf (Elt Ideal) ℓ)

/-- The queries the call reads. -/
theorem queries (c : Dev nD) (b : Fin 8) (i : Fin 2048) (l : Fin 1024) :
    V m c main_v14 (ix3 b i l) = (m ((c.tc : Thread nD τ).loc main_arg0) : FVec Ideal S16384x1024 .bf16) (ix2 ⟨2048 * b.val + i.val, by omega⟩ l) := by
  entry_read
  pointwise
  refine congrArg (m ((c.tc : Thread nD τ).loc main_arg0) : FVec Ideal S16384x1024 .bf16) (congrArg (fun z : Fin 16384 => (ix2 z l : S16384x1024.Idx)) (Fin.ext ?_))
  show b.val * 2048 + i.val = 2048 * b.val + i.val
  omega

/-- `kv` with the head and lane read off their position in a row of 256 lanes. -/
theorem kv_of (x : FVec Ideal S16384x256 .bf16) (y : FVec Ideal S8x1x512x4x64 .f32) (b : Fin 8) (t : Fin 2560) (g : Fin 4) (e : Fin 64) :
    (if h : t.val < 512 then y (ix5 b 0 ⟨t.val, h⟩ ⟨(g.val * 64 + e.val) / 64, by omega⟩ ⟨(g.val * 64 + e.val) % 64, by omega⟩)
      else x (ix2 ⟨b.val * 2048 + (t.val - 512), by omega⟩ ⟨g.val * 64 + e.val, by omega⟩)) = kv x y b t g e := by
  unfold kv
  refine dite_congr rfl (fun _ => congrArg y (congrArg₂ (ix5 _ _ _) (Fin.ext ?_) (Fin.ext ?_))) fun _ => congrArg x (congrArg₂ ix2 (Fin.ext ?_) (Fin.ext ?_))
    <;> dsimp only <;> omega

/-- The keys the call reads. -/
theorem keys (c : Dev nD) (b : Fin 8) (g : Fin 4) (e : Fin 64) (t : Fin 2560) :
    V m c main_v11 (ix4 b g e t) = kv (m ((c.tc : Thread nD τ).loc main_arg1)) (m ((c.tc : Thread nD τ).loc main_arg3)) b t g e := by
  entry_read
  pointwise
  exact kv_of (m ((c.tc : Thread nD τ).loc main_arg1)) (m ((c.tc : Thread nD τ).loc main_arg3)) b t g e

/-- The values the call reads. -/
theorem vals (c : Dev nD) (b : Fin 8) (g : Fin 4) (t : Fin 2560) (e : Fin 64) :
    V m c main_v13 (ix4 b g t e) = kv (m ((c.tc : Thread nD τ).loc main_arg2)) (m ((c.tc : Thread nD τ).loc main_arg4)) b t g e := by
  entry_read
  pointwise
  exact kv_of (m ((c.tc : Thread nD τ).loc main_arg2)) (m ((c.tc : Thread nD τ).loc main_arg4)) b t g e

/-- Finite queries and keys, read off the precondition. -/
theorem finite (h : Pre_AttnIdeal_scores_finite (hPre_scores_finite := Cert.Pre_scores_finite.Gen.facts) m) (c : Dev nD) :
    (∀ i, Real' ((m ((c.tc : Thread nD τ).loc main_arg0) : FVec Ideal S16384x1024 .bf16) i))
      ∧ (∀ i, Real' ((m ((c.tc : Thread nD τ).loc main_arg1) : FVec Ideal S16384x256 .bf16) i))
      ∧ ∀ i, Real' ((m ((c.tc : Thread nD τ).loc main_arg3) : FVec Ideal S8x1x512x4x64 .f32) i) := by
  obtain ⟨h0, h1, h3⟩ := h c
  exact ⟨fun i => real_of_lt (congrFun h0 i), fun i => real_of_lt (congrFun h1 i), fun i => real_of_lt (congrFun h3 i)⟩

/-- The program's array is the reference's. -/
theorem agree (h : Pre_AttnIdeal_scores_finite (hPre_scores_finite := Cert.Pre_scores_finite.Gen.facts) m) (c : Dev nD) :
    G (V m c main_v14) (V m c main_v11) (V m c main_v13)
      = AttnRefIdeal.Read.val_main_v26 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨f0, f1, f3⟩ := finite m h c
  funext j
  idx_vars j
  refine Eq.trans ?_ (AttnRefIdeal.Pure.result _ _ _ _ _ j0 j1 j2).symm
  rw [← late_eq_early (by decide)]
  · unfold G
    refine late_congr (fun t => Finset.sum_congr rfl fun e _ => Ideal.mul_congr ?_ ?_) fun t => ?_
    · refine (queries m c _ _ _).trans (congrArg _ (congrArg (ix2 _) (Fin.ext ?_)))
      show 64 * (j2.val / 64) + e.val = 256 * (j2.val / 256) + 64 * (j2.val / 64 % 4) + e.val
      omega
    · exact keys m c _ _ _ _
    · exact vals m c _ _ _ _
  · intro t
    refine real_sum _ _ fun e => real_mul (f0 _) ?_
    unfold kv
    split
    · exact f3 _
    · exact f1 _

end Cert.AttnIdeal.Pure

end
-- ==== Proof.Layer.Spec.lean ====
/- The layer's arithmetic, row by row, over the ideal numbers: what the kernel's calls compute and what the reference writes. -/
module

public import Idealize.ShloMosaic.Lib.Pointwise

@[expose] public section

noncomputable section

namespace Cert.Layer

open Idealize.ShloMosaic

/-- A row of `n` numbers. -/
abbrev Row (n : Nat) := Fin n → EReal

/-- The literal 1024, the length of a row. -/
def cMean : EReal := Ideal.ofBits FTy.f32 1149239296#32

/-- The literal 1e-6 added under the root. -/
def cEps : EReal := Ideal.ofBits FTy.f32 897988541#32

/-- The reciprocal root mean square of a row. -/
def nrm (x : Row 1024) : EReal := Ideal.rsqrt (Ideal.div (∑ k, x k * x k) cMean + cEps)

/-- A row times a matrix. -/
def dot {n m : Nat} (x : Row n) (w : Fin n → Row m) : Row m := fun l => ∑ k, x k * w k l

/-- The normalised and modulated row, the gain and the scale multiplied first. -/
def uK (x g sc sh : Row 1024) : Row 1024 := fun l => x l * nrm x * (g l * (1 + sc l)) + sh l

/-- The norm of each of four heads side by side: the sum of squares over a head is a product with the table `s`. -/
def hK (z : Row 256) (s : Fin 256 → Row 256) (g : Row 256) : Row 256 :=
  fun l => z l * Ideal.rsqrt (∑ x, z x * z x * s x l + cEps) * g l

/-- Equal rows give equal modulated rows. -/
theorem uK_congr {x x' g g' sc sc' sh sh' : Row 1024} (hx : ∀ k, x k = x' k) (hg : ∀ k, g k = g' k) (hsc : ∀ k, sc k = sc' k) (hsh : ∀ k, sh k = sh' k) (l : Fin 1024) :
    uK x g sc sh l = uK x' g' sc' sh' l := by
  obtain rfl := funext hx; obtain rfl := funext hg; obtain rfl := funext hsc; obtain rfl := funext hsh; rfl

/-- Equal rows and matrices give equal products. -/
theorem dot_congr {n m : Nat} {x x' : Row n} {w w' : Fin n → Row m} (hx : ∀ k, x k = x' k) (hw : ∀ k l, w k l = w' k l) : dot x w = dot x' w' := by
  obtain rfl := funext hx; obtain rfl := funext fun k => funext (hw k); rfl

/-- Equal rows, tables and gains give equal norms. -/
theorem hK_congr {z z' g g' : Row 256} {s s' : Fin 256 → Row 256} (hz : ∀ k, z k = z' k) (hs : ∀ k l, s k l = s' k l) (hg : ∀ k, g k = g' k) (l : Fin 256) :
    hK z s g l = hK z' s' g' l := by
  obtain rfl := funext hz; obtain rfl := funext fun k => funext (hs k); obtain rfl := funext hg; rfl

/-- The 256 entries of a row from `256 * j` on. -/
def quarter {n : Nat} (z : Row n) (o : Nat) (h : o + 256 ≤ n) : Row 256 := fun l => z ⟨o + l.val, by omega⟩

/-- Three taps on three neighbouring rows. -/
def tap (w0 w1 w2 a b c : EReal) : EReal := w0 * a + w1 * b + w2 * c

/-- Equal taps give equal sums. -/
theorem tap_congr {w0 w1 w2 a b c w0' w1' w2' a' b' c' : EReal} (h0 : w0 = w0') (h1 : w1 = w1') (h2 : w2 = w2') (ha : a = a') (hb : b = b') (hc : c = c') :
    tap w0 w1 w2 a b c = tap w0' w1' w2' a' b' c' := by
  rw [h0, h1, h2, ha, hb, hc]

/-- The entry before the `i`-th of a sequence, zero before the first. -/
def before (i : Fin 256) (z : Fin 256 → EReal) : EReal := if h : i.val = 0 then 0 else z ⟨i.val - 1, by omega⟩

/-- The entry after the `i`-th of a sequence, zero after the last. -/
def after (i : Fin 256) (z : Fin 256 → EReal) : EReal := if h : i.val = 255 then 0 else z ⟨i.val + 1, by omega⟩

/-- The row `256 * b + i` of the whole array: row `i` of sequence `b`. -/
def rowOf (b : Fin 16) (i : Fin 256) : Fin 4096 := ⟨256 * b.val + i.val, by omega⟩

/-- The sequence of a row of the whole array. -/
def seqOf (r : Fin 4096) : Fin 16 := ⟨r.val / 256, by omega⟩

/-- The place of a row of the whole array in its sequence. -/
def posOf (r : Fin 4096) : Fin 256 := ⟨r.val % 256, by omega⟩

/-- The sequence of row `256 * b + i`. -/
theorem seqOf_rowOf (b : Fin 16) (i : Fin 256) : seqOf (rowOf b i) = b := Fin.ext (by show (256 * b.val + i.val) / 256 = b.val; omega)

/-- The place of row `256 * b + i`. -/
theorem posOf_rowOf (b : Fin 16) (i : Fin 256) : posOf (rowOf b i) = i := Fin.ext (by show (256 * b.val + i.val) % 256 = i.val; omega)

/-- The gated activation of a row holding the gates and then the values. -/
def act (z : Row 5632) : Row 2816 :=
  fun n => z ⟨n.val, by omega⟩ * Ideal.logistic (z ⟨n.val, by omega⟩) * z ⟨2816 + n.val, by omega⟩

/-- The row `h` with the gated norm of `f` added. -/
def addK (h g f p : Row 1024) : Row 1024 := fun l => h l + g l * (f l * nrm f * p l)

/-- Equal rows give equal sums. -/
theorem addK_congr {h h' g g' f f' p p' : Row 1024} (hh : ∀ k, h k = h' k) (hg : ∀ k, g k = g' k) (hf : ∀ k, f k = f' k) (hp : ∀ k, p k = p' k) (l : Fin 1024) :
    addK h g f p l = addK h' g' f' p' l := by
  obtain rfl := funext hh; obtain rfl := funext hg; obtain rfl := funext hf; obtain rfl := funext hp; rfl

end Cert.Layer

end
-- ==== Proof.Layer.InProjTile.lean ====
/- The call `in_proj`: what a tile's seven outputs hold, from the tile's input blocks. -/
module

public import proofs.«01_k».proof.Proof.Gen.PromptIdeal.Frame.Region1
public import proofs.«01_k».proof.Proof.Layer.Spec
public import Idealize.ShloMosaic.Lib.Pipeline.ValueKit

@[expose] public section

set_option maxRecDepth 16384

noncomputable section

namespace Cert.PromptIdeal.Layer

open Cert.PromptIdeal Cert.PromptIdeal.Gen Idealize.ShloMosaic Idealize.ShloMosaic.TcCoe Idealize.SL.Sem
open Cert.Layer

variable (x0 : Vec Ideal S512x1024 .f32) (x1 : Vec Ideal S1x1x1024 .f32) (x2 : Vec Ideal S1x1x1024 .f32) (x3 : Vec Ideal S1x1024 .f32) (x4 : Vec Ideal S1024x6656 .bf16) (x5 : Vec Ideal S1x256 .f32) (x6 : Vec Ideal S1x256 .f32) (x7 : Vec Ideal S256x256 .bf16)

/-- The modulated row `i` of a tile. -/
def uT (i : Fin 512) : Row 1024 := uK (fun k => x0 (ix2 i k)) (fun k => x3 (ix2 0 k)) (fun k => x2 (ix3 0 0 k)) (fun k => x1 (ix3 0 0 k))

/-- Column `n` of a tile's row `i` projected. -/
def zT (i : Fin 512) : Row 6656 := dot (uT x0 x1 x2 x3 i) (fun k n => x4 (ix2 k n))

/-- The tile's first value is the modulated rows. -/
theorem u_at (i : Fin 512) (k : Fin 1024) : k1_pay35 (F := Ideal) x0 x1 x2 x3 x4 x5 x6 x7 (ix2 i k) = uT x0 x1 x2 x3 i k := by
  unfold uT uK nrm cMean cEps
  pointwise [k1_pay35, k1_pay5]

/-- A projection spelt out equals the projected row at a column of the same number. -/
theorem zT_eq (i : Fin 512) (a b : Fin 6656) (h : a.val = b.val) :
    (∑ k, uT x0 x1 x2 x3 i k * x4 (ix2 k a)) = zT x0 x1 x2 x3 x4 i b := by
  obtain rfl := Fin.ext h
  rfl

/-- The gate `b`. -/
theorem o11 (i : Fin 512) (l : Fin 1024) : out1_11 (F := Ideal) x0 x1 x2 x3 x4 x5 x6 x7 (ix2 i l)
    = (zT x0 x1 x2 x3 x4 i ⟨1536 + l.val, by omega⟩) := by
  unfold out1_11
  canon_tiles y h
  all_goals
    idx_vars y
    obtain rfl : y0 = i := Fin.ext h0.symm
    have hl : l.val = _ := h1
    pointwise [k1_pay1, k1_pay34, k1_pay30, k1_pay26, k1_pay21]
    simp only [u_at]
    exact zT_eq _ _ _ _ _ _ _ _ (by dsimp only; omega)

/-- The product of the two gated inputs. -/
theorem o12 (i : Fin 512) (l : Fin 1024) : out1_12 (F := Ideal) x0 x1 x2 x3 x4 x5 x6 x7 (ix2 i l)
    = (zT x0 x1 x2 x3 x4 i ⟨2560 + l.val, by omega⟩) * (zT x0 x1 x2 x3 x4 i ⟨3584 + l.val, by omega⟩) := by
  unfold out1_12
  canon_tiles y h
  all_goals
    idx_vars y
    obtain rfl : y0 = i := Fin.ext h0.symm
    have hl : l.val = _ := h1
    pointwise [k1_pay2, k1_pay31, k1_pay27, k1_pay22]
    simp only [u_at]
    exact Ideal.mul_congr (zT_eq _ _ _ _ _ _ _ _ (by dsimp only; omega)) (zT_eq _ _ _ _ _ _ _ _ (by dsimp only; omega))

/-- The gate of the attention. -/
theorem o13 (i : Fin 512) (l : Fin 1024) : out1_13 (F := Ideal) x0 x1 x2 x3 x4 x5 x6 x7 (ix2 i l)
    = Ideal.logistic (zT x0 x1 x2 x3 x4 i ⟨4608 + l.val, by omega⟩) := by
  unfold out1_13
  canon_tiles y h
  all_goals
    idx_vars y
    obtain rfl : y0 = i := Fin.ext h0.symm
    have hl : l.val = _ := h1
    pointwise [k1_pay3, k1_pay32, k1_pay28, k1_pay23]
    simp only [u_at]
    exact congrArg Ideal.logistic (zT_eq _ _ _ _ _ _ _ _ (by dsimp only; omega))

/-- The gate of the convolution. -/
theorem o14 (i : Fin 512) (l : Fin 1024) : out1_14 (F := Ideal) x0 x1 x2 x3 x4 x5 x6 x7 (ix2 i l)
    = Ideal.logistic (zT x0 x1 x2 x3 x4 i ⟨5632 + l.val, by omega⟩) := by
  unfold out1_14
  canon_tiles y h
  all_goals
    idx_vars y
    obtain rfl : y0 = i := Fin.ext h0.symm
    have hl : l.val = _ := h1
    pointwise [k1_pay4, k1_pay33, k1_pay29, k1_pay25, k1_pay24]
    simp only [u_at]
    exact congrArg Ideal.logistic (zT_eq _ _ _ _ _ _ _ _ (by dsimp only; omega))

/-- The norm of four heads, spelt out over a projection's columns from `o` on. -/
theorem hK_eq (i : Fin 512) (g : Vec Ideal S1x256 .f32) (o : Nat) (ho : o + 256 ≤ 6656) (C : Fin 256 → Fin 6656) (hC : ∀ n, (C n).val = o + n.val) (l m : Fin 256) (hl : l.val = m.val) :
    (∑ k, uT x0 x1 x2 x3 i k * x4 (ix2 k (C l))) * Ideal.rsqrt (∑ n, ((∑ k, uT x0 x1 x2 x3 i k * x4 (ix2 k (C n))) * ∑ k, uT x0 x1 x2 x3 i k * x4 (ix2 k (C n))) * x7 (ix2 n l)
        + Ideal.ofBits FTy.f32 897988541#32) * g (ix2 0 l)
      = hK (quarter (zT x0 x1 x2 x3 x4 i) o ho) (fun a b => x7 (ix2 a b)) (fun b => g (ix2 0 b)) m := by
  obtain rfl := Fin.ext hl
  unfold hK quarter cEps
  simp only [fun n => zT_eq x0 x1 x2 x3 x4 i (C n) ⟨o + n.val, by omega⟩ (hC n)]

/-- The keys. -/
theorem o9 (i : Fin 512) (l : Fin 256) : out1_9 (F := Ideal) x0 x1 x2 x3 x4 x5 x6 x7 (ix2 i l)
    = hK (quarter (zT x0 x1 x2 x3 x4 i) 1024 (by omega)) (fun a b => x7 (ix2 a b)) (fun b => x6 (ix2 0 b)) l := by
  unfold out1_9
  canon_tiles y h
  all_goals
    idx_vars y
    obtain rfl : y0 = i := Fin.ext h0.symm
    have hl : l.val = _ := h1
    pointwise [k1_pay19, k1_pay18, k1_pay17]
    simp only [u_at]
    exact (hK_eq x0 x1 x2 x3 x4 x7 y0 x6 1024 (by omega) (fun n => ⟨1024 + n.val, by omega⟩) (fun n => rfl) y1 _ (by omega))

/-- The values. -/
theorem o10 (i : Fin 512) (l : Fin 256) : out1_10 (F := Ideal) x0 x1 x2 x3 x4 x5 x6 x7 (ix2 i l)
    = zT x0 x1 x2 x3 x4 i ⟨1280 + l.val, by omega⟩ := by
  unfold out1_10
  canon_tiles y h
  all_goals
    idx_vars y
    obtain rfl : y0 = i := Fin.ext h0.symm
    have hl : l.val = _ := h1
    pointwise [k1_pay20]
    simp only [u_at]
    exact zT_eq _ _ _ _ _ _ _ _ (by dsimp only; omega)

end Cert.PromptIdeal.Layer

end
-- ==== Proof.Layer.InProjQ.lean ====
/- The call `in_proj`: what a tile's queries hold. -/
module

public import proofs.«01_k».proof.Proof.Gen.PromptIdeal.Frame.Region1
public import proofs.«01_k».proof.Proof.Layer.InProjTile
public import Idealize.ShloMosaic.Lib.Pipeline.ValueKit

@[expose] public section

set_option maxRecDepth 16384

noncomputable section

namespace Cert.PromptIdeal.Layer

open Cert.PromptIdeal Cert.PromptIdeal.Gen Idealize.ShloMosaic Idealize.ShloMosaic.TcCoe Idealize.SL.Sem
open Cert.Layer

variable (x0 : Vec Ideal S512x1024 .f32) (x1 : Vec Ideal S1x1x1024 .f32) (x2 : Vec Ideal S1x1x1024 .f32) (x3 : Vec Ideal S1x1024 .f32) (x4 : Vec Ideal S1024x6656 .bf16) (x5 : Vec Ideal S1x256 .f32) (x6 : Vec Ideal S1x256 .f32) (x7 : Vec Ideal S256x256 .bf16)

/-- The tile's modulated rows, as the first projection reads them. -/
theorem u_at' (i : Fin 512) (k : Fin 1024) : k1_pay5 (F := Ideal) (View.ld x0 r1_0) (View.ld x3 r1_1) (View.ld x2 r1_2) (View.ld x1 r1_2) (ix2 i k) = uT x0 x1 x2 x3 i k := by
  unfold uT uK nrm cMean cEps
  pointwise [k1_pay5]

/-- One quarter of the queries is normed by itself. -/
theorem qpiece (i : Fin 512) (l : Fin 1024) (b : Fin 256) (o g : Nat) (hg : g < 4) (ho : o = 256 * g) (hl : l.val = o + b.val) :
    hK (quarter (zT x0 x1 x2 x3 x4 i) o (by omega)) (fun a b => x7 (ix2 a b)) (fun b => x5 (ix2 0 b)) b
      = hK (quarter (zT x0 x1 x2 x3 x4 i) (256 * (l.val / 256)) (by omega)) (fun a b => x7 (ix2 a b)) (fun b => x5 (ix2 0 b)) ⟨l.val % 256, by omega⟩ := by
  subst ho
  have e1 : 256 * (l.val / 256) = 256 * g := by omega
  have e2 : (⟨l.val % 256, by omega⟩ : Fin 256) = b := Fin.ext (by dsimp only; omega)
  rw [e2]
  have e3 : ∀ o' (h : o' + 256 ≤ 6656) (h' : 256 * g + 256 ≤ 6656), o' = 256 * g → quarter (zT x0 x1 x2 x3 x4 i) (256 * g) h' = quarter (zT x0 x1 x2 x3 x4 i) o' h := fun o' h h' e => by subst e; rfl
  rw [e3 (256 * (l.val / 256)) (by omega) (by omega) e1]

/-- The queries: each quarter of the columns is normed by itself. -/
theorem o8 (i : Fin 512) (l : Fin 1024) : out1_8 (F := Ideal) x0 x1 x2 x3 x4 x5 x6 x7 (ix2 i l)
    = hK (quarter (zT x0 x1 x2 x3 x4 i) (256 * (l.val / 256)) (by omega)) (fun a b => x7 (ix2 a b)) (fun b => x5 (ix2 0 b)) ⟨l.val % 256, by omega⟩ := by
  unfold out1_8
  canon_tiles y h
  case piece0 =>
    idx_vars y
    obtain rfl : y0 = i := Fin.ext h0.symm
    have hl : l.val = 768 + y1.val := h1
    pointwise [k1_pay16, k1_pay15, k1_pay14, k1_pay13, k1_pay12, k1_pay11, k1_pay10, k1_pay9, k1_pay8, k1_pay7, k1_pay6]
    simp only [u_at, u_at']
    exact (hK_eq x0 x1 x2 x3 x4 x7 y0 x5 768 (by omega) (fun n => ⟨768 + n.val, by omega⟩) (fun n => rfl) y1 _ rfl).trans
      (qpiece x0 x1 x2 x3 x4 x5 x7 y0 l y1 768 3 (by omega) rfl hl)
  case piece1 =>
    idx_vars y
    obtain rfl : y0 = i := Fin.ext h0.symm
    have hl : l.val = 512 + y1.val := h1
    pointwise [k1_pay16, k1_pay15, k1_pay14, k1_pay13, k1_pay12, k1_pay11, k1_pay10, k1_pay9, k1_pay8, k1_pay7, k1_pay6]
    simp only [u_at, u_at']
    exact (hK_eq x0 x1 x2 x3 x4 x7 y0 x5 512 (by omega) (fun n => ⟨512 + n.val, by omega⟩) (fun n => rfl) y1 _ rfl).trans
      (qpiece x0 x1 x2 x3 x4 x5 x7 y0 l y1 512 2 (by omega) rfl hl)
  case piece2 =>
    idx_vars y
    obtain rfl : y0 = i := Fin.ext h0.symm
    have hl : l.val = 256 + y1.val := h1
    pointwise [k1_pay16, k1_pay15, k1_pay14, k1_pay13, k1_pay12, k1_pay11, k1_pay10, k1_pay9, k1_pay8, k1_pay7, k1_pay6]
    simp only [u_at, u_at']
    exact (hK_eq x0 x1 x2 x3 x4 x7 y0 x5 256 (by omega) (fun n => ⟨256 + n.val, by omega⟩) (fun n => rfl) y1 _ rfl).trans
      (qpiece x0 x1 x2 x3 x4 x5 x7 y0 l y1 256 1 (by omega) rfl hl)
  case piece3 =>
    idx_vars y
    obtain rfl : y0 = i := Fin.ext h0.symm
    have hl : l.val = 0 + y1.val := h1.trans (Nat.zero_add _).symm
    pointwise [k1_pay16, k1_pay15, k1_pay14, k1_pay13, k1_pay12, k1_pay11, k1_pay10, k1_pay9, k1_pay8, k1_pay7, k1_pay6]
    simp only [u_at, u_at']
    exact (hK_eq x0 x1 x2 x3 x4 x7 y0 x5 0 (by omega) (fun n => ⟨n.val, by omega⟩) (fun n => (Nat.zero_add _).symm) y1 _ rfl).trans
      (qpiece x0 x1 x2 x3 x4 x5 x7 y0 l y1 0 0 (by omega) rfl hl)

end Cert.PromptIdeal.Layer

end
-- ==== Proof.Layer.InProj.lean ====
/- The call `in_proj`: its seven result arrays after its run, from the arrays it reads. -/
module

public import proofs.«01_k».proof.Proof.Layer.InProjQ

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

/-- The modulated row `r` of the whole array of rows. -/
def uF (X : FVec Ideal S4096x1024 .f32) (A : FVec Ideal S16x1x6144 .f32) (g : FVec Ideal S1x1024 .f32) (r : Fin 4096) : Row 1024 :=
  uK (fun k => X (ix2 r k)) (fun k => g (ix2 0 k)) (fun k => A (ix3 0 0 ⟨1024 + k.val, by omega⟩)) (fun k => A (ix3 0 0 ⟨k.val, by omega⟩))

/-- The row `r` projected. -/
def zF (X : FVec Ideal S4096x1024 .f32) (A : FVec Ideal S16x1x6144 .f32) (g : FVec Ideal S1x1024 .f32) (W : FVec Ideal S1024x6656 .bf16) (r : Fin 4096) : Row 6656 :=
  dot (uF X A g r) (fun k n => W (ix2 k n))

variable (V : (c : Dev nD) → (b : Ref sig .tc) → Buf (Elt Ideal) ((c : Thread nD τ).loc b))

/-- Which block of its array each window holds at grid point `t`. -/
theorem idx1 : ∀ t : Fin cfg1.N, win1_0.index t = ![t.val, 0] ∧ win1_1.index t = ![0, 0, 0] ∧ win1_2.index t = ![0, 0, 1]
    ∧ win1_3.index t = ![0, 0] ∧ win1_4.index t = ![0, 0] ∧ win1_5.index t = ![0, 0] ∧ win1_6.index t = ![0, 0] ∧ win1_7.index t = ![0, 0]
    ∧ win1_8.index t = ![t.val, 0] ∧ win1_9.index t = ![t.val, 0] ∧ win1_10.index t = ![t.val, 0] ∧ win1_11.index t = ![t.val, 0]
    ∧ win1_12.index t = ![t.val, 0] ∧ win1_13.index t = ![t.val, 0] ∧ win1_14.index t = ![t.val, 0] := (by decide +kernel : ∀ t : Fin grid1.N, _)

/-- Grid point `t`'s block of the rows. -/
theorem rd1_0 (A : FVec Ideal S4096x1024 .f32) (t : Fin cfg1.N) (ht : t.val < 8) (i : Fin 512) (k : Fin 1024) :
    ((cfg1.win 0).blk t).view.read (Elt Ideal) A (ix2 i k) = A (ix2 ⟨512 * t.val + i.val, by omega⟩ k) := by
  blk_ext [idx1 t]

/-- The shift's block. -/
theorem rd1_1 (A : FVec Ideal S16x1x6144 .f32) (t : Fin cfg1.N) (k : Fin 1024) :
    ((cfg1.win 1).blk t).view.read (Elt Ideal) A (ix3 0 0 k) = A (ix3 0 0 ⟨k.val, by omega⟩) := by
  blk_ext [idx1 t]

/-- The scale's block. -/
theorem rd1_2 (A : FVec Ideal S16x1x6144 .f32) (t : Fin cfg1.N) (k : Fin 1024) :
    ((cfg1.win 2).blk t).view.read (Elt Ideal) A (ix3 0 0 k) = A (ix3 0 0 ⟨1024 + k.val, by omega⟩) := by
  blk_ext [idx1 t]

/-- The gain, held whole. -/
theorem rd1_3 (A : FVec Ideal S1x1024 .f32) (t : Fin cfg1.N) (i : Fin 1) (k : Fin 1024) :
    ((cfg1.win 3).blk t).view.read (Elt Ideal) A (ix2 i k) = A (ix2 i k) := by
  blk_ext [idx1 t]

/-- The weight, held whole. -/
theorem rd1_4 (A : FVec Ideal S1024x6656 .bf16) (t : Fin cfg1.N) (i : Fin 1024) (k : Fin 6656) :
    ((cfg1.win 4).blk t).view.read (Elt Ideal) A (ix2 i k) = A (ix2 i k) := by
  blk_ext [idx1 t]

/-- The queries' gain, held whole. -/
theorem rd1_5 (A : FVec Ideal S1x256 .f32) (t : Fin cfg1.N) (i : Fin 1) (k : Fin 256) :
    ((cfg1.win 5).blk t).view.read (Elt Ideal) A (ix2 i k) = A (ix2 i k) := by
  blk_ext [idx1 t]

/-- The keys' gain, held whole. -/
theorem rd1_6 (A : FVec Ideal S1x256 .f32) (t : Fin cfg1.N) (i : Fin 1) (k : Fin 256) :
    ((cfg1.win 6).blk t).view.read (Elt Ideal) A (ix2 i k) = A (ix2 i k) := by
  blk_ext [idx1 t]

/-- The table of heads, held whole. -/
theorem rd1_7 (A : FVec Ideal S256x256 .bf16) (t : Fin cfg1.N) (i : Fin 256) (k : Fin 256) :
    ((cfg1.win 7).blk t).view.read (Elt Ideal) A (ix2 i k) = A (ix2 i k) := by
  blk_ext [idx1 t]

/-- Where grid point `t`'s block of window 8 lies. -/
theorem emb1_8 (t : Fin cfg1.N) (ht : t.val < 8) (i : Fin 512) (l : Fin 1024) :
    (win1_8.blk t).view.emb (ix2 i l) = (ix2 ⟨512 * t.val + i.val, by omega⟩ l : S4096x1024.Idx) := by
  blk_ext [idx1 t]

/-- Where grid point `t`'s block of window 9 lies. -/
theorem emb1_9 (t : Fin cfg1.N) (ht : t.val < 8) (i : Fin 512) (l : Fin 256) :
    (win1_9.blk t).view.emb (ix2 i l) = (ix2 ⟨512 * t.val + i.val, by omega⟩ l : S4096x256.Idx) := by
  blk_ext [idx1 t]

/-- Where grid point `t`'s block of window 10 lies. -/
theorem emb1_10 (t : Fin cfg1.N) (ht : t.val < 8) (i : Fin 512) (l : Fin 256) :
    (win1_10.blk t).view.emb (ix2 i l) = (ix2 ⟨512 * t.val + i.val, by omega⟩ l : S4096x256.Idx) := by
  blk_ext [idx1 t]

/-- Where grid point `t`'s block of window 11 lies. -/
theorem emb1_11 (t : Fin cfg1.N) (ht : t.val < 8) (i : Fin 512) (l : Fin 1024) :
    (win1_11.blk t).view.emb (ix2 i l) = (ix2 ⟨512 * t.val + i.val, by omega⟩ l : S4096x1024.Idx) := by
  blk_ext [idx1 t]

/-- Where grid point `t`'s block of window 12 lies. -/
theorem emb1_12 (t : Fin cfg1.N) (ht : t.val < 8) (i : Fin 512) (l : Fin 1024) :
    (win1_12.blk t).view.emb (ix2 i l) = (ix2 ⟨512 * t.val + i.val, by omega⟩ l : S4096x1024.Idx) := by
  blk_ext [idx1 t]

/-- Where grid point `t`'s block of window 13 lies. -/
theorem emb1_13 (t : Fin cfg1.N) (ht : t.val < 8) (i : Fin 512) (l : Fin 1024) :
    (win1_13.blk t).view.emb (ix2 i l) = (ix2 ⟨512 * t.val + i.val, by omega⟩ l : S4096x1024.Idx) := by
  blk_ext [idx1 t]

/-- Where grid point `t`'s block of window 14 lies. -/
theorem emb1_14 (t : Fin cfg1.N) (ht : t.val < 8) (i : Fin 512) (l : Fin 1024) :
    (win1_14.blk t).view.emb (ix2 i l) = (ix2 ⟨512 * t.val + i.val, by omega⟩ l : S4096x1024.Idx) := by
  blk_ext [idx1 t]

/-- A tile's projected row is the whole array's row. -/
theorem zT_blk (c : Dev nD) (t : Fin cfg1.N) (ht : t.val < 8) (i : Fin 512) :
    zT (iblk1 V c 0 t) (iblk1 V c 1 t) (iblk1 V c 2 t) (iblk1 V c 3 t) (iblk1 V c 4 t) i
      = zF (V c main_v45) (V c main_v44) (V c main_v6) (V c main_v14) ⟨512 * t.val + i.val, by omega⟩ := by
  unfold zT zF uT uF
  refine dot_congr (fun l => uK_congr (fun k => rd1_0 (V c main_v45) t ht i k) (fun k => rd1_3 (V c main_v6) t 0 k) (fun k => rd1_2 (V c main_v44) t k) (fun k => rd1_1 (V c main_v44) t k) l) fun k n => rd1_4 (V c main_v14) t k n

/-- The gate `b`, over the whole array. -/
def G1b (X : FVec Ideal S4096x1024 .f32) (A : FVec Ideal S16x1x6144 .f32) (g : FVec Ideal S1x1024 .f32) (W : FVec Ideal S1024x6656 .bf16) : FVec Ideal S4096x1024 .bf16 :=
  fun j => zF X A g W (j 0) ⟨1536 + (j 1).val, by have : (j 1).val < 1024 := (j 1).isLt; omega⟩

/-- What grid point `t` leaves in the block of window 11. -/
theorem point1_11 (c : Dev nD) (t : Fin cfg1.N) (y : S512x1024.Idx) :
    out1_11 (F := Ideal) (iblk1 V c 0 t) (iblk1 V c 1 t) (iblk1 V c 2 t) (iblk1 V c 3 t) (iblk1 V c 4 t) (iblk1 V c 5 t) (iblk1 V c 6 t) (iblk1 V c 7 t) y = G1b (V c main_v45) (V c main_v44) (V c main_v6) (V c main_v14) ((win1_11.blk t).view.emb y) := by
  have ht : t.val < 8 := t.isLt
  idx_vars y
  rw [show (win1_11.blk t).view.emb (ix2 y0 y1) = _ from emb1_11 t ht y0 y1]
  refine (o11 (iblk1 V c 0 t) (iblk1 V c 1 t) (iblk1 V c 2 t) (iblk1 V c 3 t) (iblk1 V c 4 t) (iblk1 V c 5 t) (iblk1 V c 6 t) (iblk1 V c 7 t) y0 y1).trans ?_
  exact congrFun (zT_blk V c t ht y0) _

/-- The gate `b`: the array after the run. -/
theorem final1_11 (c : Dev nD) : (dat1 V c).arrAt 11 cfg1.N = G1b (V c main_v45) (V c main_v44) (V c main_v6) (V c main_v14) := by
  refine (dat1 V c).arrAt_eq_of_covers 11 _ (by decide +kernel) fun t _ y => ?_
  blk_simp
  rw [after1_11]
  exact point1_11 V c t y

/-- The product of the two gated inputs, over the whole array. -/
def G1y (X : FVec Ideal S4096x1024 .f32) (A : FVec Ideal S16x1x6144 .f32) (g : FVec Ideal S1x1024 .f32) (W : FVec Ideal S1024x6656 .bf16) : FVec Ideal S4096x1024 .bf16 :=
  fun j => zF X A g W (j 0) ⟨2560 + (j 1).val, by have : (j 1).val < 1024 := (j 1).isLt; omega⟩ * zF X A g W (j 0) ⟨3584 + (j 1).val, by have : (j 1).val < 1024 := (j 1).isLt; omega⟩

/-- What grid point `t` leaves in the block of window 12. -/
theorem point1_12 (c : Dev nD) (t : Fin cfg1.N) (y : S512x1024.Idx) :
    out1_12 (F := Ideal) (iblk1 V c 0 t) (iblk1 V c 1 t) (iblk1 V c 2 t) (iblk1 V c 3 t) (iblk1 V c 4 t) (iblk1 V c 5 t) (iblk1 V c 6 t) (iblk1 V c 7 t) y = G1y (V c main_v45) (V c main_v44) (V c main_v6) (V c main_v14) ((win1_12.blk t).view.emb y) := by
  have ht : t.val < 8 := t.isLt
  idx_vars y
  rw [show (win1_12.blk t).view.emb (ix2 y0 y1) = _ from emb1_12 t ht y0 y1]
  refine (o12 (iblk1 V c 0 t) (iblk1 V c 1 t) (iblk1 V c 2 t) (iblk1 V c 3 t) (iblk1 V c 4 t) (iblk1 V c 5 t) (iblk1 V c 6 t) (iblk1 V c 7 t) y0 y1).trans ?_
  exact Ideal.mul_congr (congrFun (zT_blk V c t ht y0) _) (congrFun (zT_blk V c t ht y0) _)

/-- The product of the two gated inputs: the array after the run. -/
theorem final1_12 (c : Dev nD) : (dat1 V c).arrAt 12 cfg1.N = G1y (V c main_v45) (V c main_v44) (V c main_v6) (V c main_v14) := by
  refine (dat1 V c).arrAt_eq_of_covers 12 _ (by decide +kernel) fun t _ y => ?_
  blk_simp
  rw [after1_12]
  exact point1_12 V c t y

/-- The gate of the attention, over the whole array. -/
def G1sa (X : FVec Ideal S4096x1024 .f32) (A : FVec Ideal S16x1x6144 .f32) (g : FVec Ideal S1x1024 .f32) (W : FVec Ideal S1024x6656 .bf16) : FVec Ideal S4096x1024 .bf16 :=
  fun j => Ideal.logistic (zF X A g W (j 0) ⟨4608 + (j 1).val, by have : (j 1).val < 1024 := (j 1).isLt; omega⟩)

/-- What grid point `t` leaves in the block of window 13. -/
theorem point1_13 (c : Dev nD) (t : Fin cfg1.N) (y : S512x1024.Idx) :
    out1_13 (F := Ideal) (iblk1 V c 0 t) (iblk1 V c 1 t) (iblk1 V c 2 t) (iblk1 V c 3 t) (iblk1 V c 4 t) (iblk1 V c 5 t) (iblk1 V c 6 t) (iblk1 V c 7 t) y = G1sa (V c main_v45) (V c main_v44) (V c main_v6) (V c main_v14) ((win1_13.blk t).view.emb y) := by
  have ht : t.val < 8 := t.isLt
  idx_vars y
  rw [show (win1_13.blk t).view.emb (ix2 y0 y1) = _ from emb1_13 t ht y0 y1]
  refine (o13 (iblk1 V c 0 t) (iblk1 V c 1 t) (iblk1 V c 2 t) (iblk1 V c 3 t) (iblk1 V c 4 t) (iblk1 V c 5 t) (iblk1 V c 6 t) (iblk1 V c 7 t) y0 y1).trans ?_
  exact congrArg Ideal.logistic (congrFun (zT_blk V c t ht y0) _)

/-- The gate of the attention: the array after the run. -/
theorem final1_13 (c : Dev nD) : (dat1 V c).arrAt 13 cfg1.N = G1sa (V c main_v45) (V c main_v44) (V c main_v6) (V c main_v14) := by
  refine (dat1 V c).arrAt_eq_of_covers 13 _ (by decide +kernel) fun t _ y => ?_
  blk_simp
  rw [after1_13]
  exact point1_13 V c t y

/-- The gate of the convolution, over the whole array. -/
def G1sg (X : FVec Ideal S4096x1024 .f32) (A : FVec Ideal S16x1x6144 .f32) (g : FVec Ideal S1x1024 .f32) (W : FVec Ideal S1024x6656 .bf16) : FVec Ideal S4096x1024 .bf16 :=
  fun j => Ideal.logistic (zF X A g W (j 0) ⟨5632 + (j 1).val, by have : (j 1).val < 1024 := (j 1).isLt; omega⟩)

/-- What grid point `t` leaves in the block of window 14. -/
theorem point1_14 (c : Dev nD) (t : Fin cfg1.N) (y : S512x1024.Idx) :
    out1_14 (F := Ideal) (iblk1 V c 0 t) (iblk1 V c 1 t) (iblk1 V c 2 t) (iblk1 V c 3 t) (iblk1 V c 4 t) (iblk1 V c 5 t) (iblk1 V c 6 t) (iblk1 V c 7 t) y = G1sg (V c main_v45) (V c main_v44) (V c main_v6) (V c main_v14) ((win1_14.blk t).view.emb y) := by
  have ht : t.val < 8 := t.isLt
  idx_vars y
  rw [show (win1_14.blk t).view.emb (ix2 y0 y1) = _ from emb1_14 t ht y0 y1]
  refine (o14 (iblk1 V c 0 t) (iblk1 V c 1 t) (iblk1 V c 2 t) (iblk1 V c 3 t) (iblk1 V c 4 t) (iblk1 V c 5 t) (iblk1 V c 6 t) (iblk1 V c 7 t) y0 y1).trans ?_
  exact congrArg Ideal.logistic (congrFun (zT_blk V c t ht y0) _)

/-- The gate of the convolution: the array after the run. -/
theorem final1_14 (c : Dev nD) : (dat1 V c).arrAt 14 cfg1.N = G1sg (V c main_v45) (V c main_v44) (V c main_v6) (V c main_v14) := by
  refine (dat1 V c).arrAt_eq_of_covers 14 _ (by decide +kernel) fun t _ y => ?_
  blk_simp
  rw [after1_14]
  exact point1_14 V c t y

/-- The values, over the whole array. -/
def G1v (X : FVec Ideal S4096x1024 .f32) (A : FVec Ideal S16x1x6144 .f32) (g : FVec Ideal S1x1024 .f32) (W : FVec Ideal S1024x6656 .bf16) : FVec Ideal S4096x256 .f32 :=
  fun j => zF X A g W (j 0) ⟨1280 + (j 1).val, by have : (j 1).val < 256 := (j 1).isLt; omega⟩

/-- What grid point `t` leaves in the block of window 10. -/
theorem point1_10 (c : Dev nD) (t : Fin cfg1.N) (y : S512x256.Idx) :
    out1_10 (F := Ideal) (iblk1 V c 0 t) (iblk1 V c 1 t) (iblk1 V c 2 t) (iblk1 V c 3 t) (iblk1 V c 4 t) (iblk1 V c 5 t) (iblk1 V c 6 t) (iblk1 V c 7 t) y = G1v (V c main_v45) (V c main_v44) (V c main_v6) (V c main_v14) ((win1_10.blk t).view.emb y) := by
  have ht : t.val < 8 := t.isLt
  idx_vars y
  rw [show (win1_10.blk t).view.emb (ix2 y0 y1) = _ from emb1_10 t ht y0 y1]
  refine (o10 (iblk1 V c 0 t) (iblk1 V c 1 t) (iblk1 V c 2 t) (iblk1 V c 3 t) (iblk1 V c 4 t) (iblk1 V c 5 t) (iblk1 V c 6 t) (iblk1 V c 7 t) y0 y1).trans ?_
  exact congrFun (zT_blk V c t ht y0) _

/-- The values: the array after the run. -/
theorem final1_10 (c : Dev nD) : (dat1 V c).arrAt 10 cfg1.N = G1v (V c main_v45) (V c main_v44) (V c main_v6) (V c main_v14) := by
  refine (dat1 V c).arrAt_eq_of_covers 10 _ (by decide +kernel) fun t _ y => ?_
  blk_simp
  rw [after1_10]
  exact point1_10 V c t y

/-- The keys, over the whole array. -/
def G1k (X : FVec Ideal S4096x1024 .f32) (A : FVec Ideal S16x1x6144 .f32) (g : FVec Ideal S1x1024 .f32) (W : FVec Ideal S1024x6656 .bf16) (kg : FVec Ideal S1x256 .f32) (T : FVec Ideal S256x256 .bf16) : FVec Ideal S4096x256 .f32 :=
  fun j => hK (quarter (zF X A g W (j 0)) 1024 (by omega)) (fun a b => T (ix2 a b)) (fun b => kg (ix2 0 b)) (j 1)

/-- What grid point `t` leaves in the block of window 9. -/
theorem point1_9 (c : Dev nD) (t : Fin cfg1.N) (y : S512x256.Idx) :
    out1_9 (F := Ideal) (iblk1 V c 0 t) (iblk1 V c 1 t) (iblk1 V c 2 t) (iblk1 V c 3 t) (iblk1 V c 4 t) (iblk1 V c 5 t) (iblk1 V c 6 t) (iblk1 V c 7 t) y = G1k (V c main_v45) (V c main_v44) (V c main_v6) (V c main_v14) (V c main_v26) (V c main_cst) ((win1_9.blk t).view.emb y) := by
  have ht : t.val < 8 := t.isLt
  idx_vars y
  rw [show (win1_9.blk t).view.emb (ix2 y0 y1) = _ from emb1_9 t ht y0 y1]
  refine (o9 (iblk1 V c 0 t) (iblk1 V c 1 t) (iblk1 V c 2 t) (iblk1 V c 3 t) (iblk1 V c 4 t) (iblk1 V c 5 t) (iblk1 V c 6 t) (iblk1 V c 7 t) y0 y1).trans ?_
  exact hK_congr (congrFun (congrArg (fun z => quarter z _ _) (zT_blk V c t ht y0))) (fun a b => rd1_7 (V c main_cst) t a b) (fun b => rd1_6 (V c main_v26) t 0 b) _

/-- The keys: the array after the run. -/
theorem final1_9 (c : Dev nD) : (dat1 V c).arrAt 9 cfg1.N = G1k (V c main_v45) (V c main_v44) (V c main_v6) (V c main_v14) (V c main_v26) (V c main_cst) := by
  refine (dat1 V c).arrAt_eq_of_covers 9 _ (by decide +kernel) fun t _ y => ?_
  blk_simp
  rw [after1_9]
  exact point1_9 V c t y

/-- The queries, over the whole array. -/
def G1q (X : FVec Ideal S4096x1024 .f32) (A : FVec Ideal S16x1x6144 .f32) (g : FVec Ideal S1x1024 .f32) (W : FVec Ideal S1024x6656 .bf16) (qg : FVec Ideal S1x256 .f32) (T : FVec Ideal S256x256 .bf16) : FVec Ideal S4096x1024 .bf16 :=
  fun j => hK (quarter (zF X A g W (j 0)) (256 * ((j 1).val / 256)) (by have : (j 1).val < 1024 := (j 1).isLt; omega)) (fun a b => T (ix2 a b)) (fun b => qg (ix2 0 b)) ⟨(j 1).val % 256, by omega⟩

/-- What grid point `t` leaves in the block of window 8. -/
theorem point1_8 (c : Dev nD) (t : Fin cfg1.N) (y : S512x1024.Idx) :
    out1_8 (F := Ideal) (iblk1 V c 0 t) (iblk1 V c 1 t) (iblk1 V c 2 t) (iblk1 V c 3 t) (iblk1 V c 4 t) (iblk1 V c 5 t) (iblk1 V c 6 t) (iblk1 V c 7 t) y = G1q (V c main_v45) (V c main_v44) (V c main_v6) (V c main_v14) (V c main_v21) (V c main_cst) ((win1_8.blk t).view.emb y) := by
  have ht : t.val < 8 := t.isLt
  idx_vars y
  rw [show (win1_8.blk t).view.emb (ix2 y0 y1) = _ from emb1_8 t ht y0 y1]
  refine (o8 (iblk1 V c 0 t) (iblk1 V c 1 t) (iblk1 V c 2 t) (iblk1 V c 3 t) (iblk1 V c 4 t) (iblk1 V c 5 t) (iblk1 V c 6 t) (iblk1 V c 7 t) y0 y1).trans ?_
  exact hK_congr (congrFun (congrArg (fun z => quarter z _ _) (zT_blk V c t ht y0))) (fun a b => rd1_7 (V c main_cst) t a b) (fun b => rd1_5 (V c main_v21) t 0 b) _

/-- The queries: the array after the run. -/
theorem final1_8 (c : Dev nD) : (dat1 V c).arrAt 8 cfg1.N = G1q (V c main_v45) (V c main_v44) (V c main_v6) (V c main_v14) (V c main_v21) (V c main_cst) := by
  refine (dat1 V c).arrAt_eq_of_covers 8 _ (by decide +kernel) fun t _ y => ?_
  blk_simp
  rw [after1_8]
  exact point1_8 V c t y

end Cert.PromptIdeal.Layer

end
-- ==== Proof.Layer.AttTile.lean ====
/- The tile of the prompt's attention call: four groups of four heads in one block. -/
module

public import proofs.«01_k».proof.Proof.Softmax
public import proofs.«01_k».proof.Proof.Layer.Spec
public import proofs.«01_k».proof.Proof.Gen.PromptIdeal.Frame.Region2
public import Idealize.ShloMosaic.Lib.Pipeline.ValueKit

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer
open Cert.Softmax

/-- Lane `l` of query row `i`: head `l / 64` attends to the keys and values of its group `l / 256`. -/
def aT (x0 : FVec Ideal S1x256x1024 .bf16) (x1 : FVec Ideal S1x4x64x256 .bf16) (x2 : FVec Ideal S1x4x256x64 .bf16) (i : Fin 256) (l : Fin 1024) : EReal :=
  late (fun t : Fin 256 => ∑ e : Fin 64, x0 (ix3 0 i ⟨64 * (l.val / 64) + e.val, by omega⟩) * x1 (ix4 0 ⟨l.val / 256, by omega⟩ e t))
    (fun t => x2 (ix4 0 ⟨l.val / 256, by omega⟩ t ⟨l.val % 64, by omega⟩))

/-- The heads of group 0. -/
theorem grp0 (x0 : FVec Ideal S1x256x1024 .bf16) (x1 : FVec Ideal S1x4x64x256 .bf16) (x2 : FVec Ideal S1x4x256x64 .bf16) (i l : Fin 256) :
    k2_pay9 (F := Ideal) (k2_pay2 (View.ld x1 r2_0)) (k2_pay3 (View.ld x2 r2_1)) (k2_pay4 (View.ld x1 r2_0) (View.ld x2 r2_1) (View.ld x0 r2_2)) (k2_pay6 (View.ld x1 r2_0) (View.ld x0 r2_3)) (k2_pay7 (View.ld x1 r2_0) (View.ld x2 r2_1) (View.ld x0 r2_3)) k2_pay8 (View.ld x0 r2_4) (View.ld x0 r2_5) (ix3 0 i l)
      = late (fun t : Fin 256 => ∑ e : Fin 64, x0 (ix3 0 i ⟨0 + 64 * (l.val / 64) + e.val, by omega⟩) * x1 (ix4 0 0 e t)) (fun t => x2 (ix4 0 0 t ⟨l.val % 64, by omega⟩)) := by
  pointwise [k2_pay9, k2_pay8, k2_pay7, k2_pay6, k2_pay5, k2_pay4, k2_pay3, k2_pay2]
  simp only [ofBits_negInf]
  obtain ⟨l, hl⟩ := l
  have hc : l / 64 = 0 ∨ l / 64 = 1 ∨ l / 64 = 2 ∨ l / 64 = 3 := by omega
  rcases hc with hc | hc | hc | hc
  · have e : l % 64 = l := by omega
    simp only [dif_pos (show l < 64 by omega), late, hc, e, Nat.mul_zero, Nat.zero_add, Nat.reduceAdd]
    try rfl
  · have e : l % 64 = l - 64 := by omega
    simp only [dif_neg (show ¬ l < 64 by omega), dif_pos (show l - 64 < 64 by omega), late, hc, e, Nat.reduceMul, Nat.reduceAdd]
    try rfl
  · have e : l % 64 = l - 64 - 64 := by omega
    simp only [dif_neg (show ¬ l < 64 by omega), dif_neg (show ¬ l - 64 < 64 by omega), dif_pos (show l - 64 - 64 < 64 by omega), late, hc, e, Nat.reduceMul, Nat.reduceAdd]
    try rfl
  · have e : l % 64 = l - 64 - 64 - 64 := by omega
    simp only [dif_neg (show ¬ l < 64 by omega), dif_neg (show ¬ l - 64 < 64 by omega), dif_neg (show ¬ l - 64 - 64 < 64 by omega), late, hc, e, Nat.reduceMul, Nat.reduceAdd]
    try rfl

/-- The heads of group 1. -/
theorem grp1 (x0 : FVec Ideal S1x256x1024 .bf16) (x1 : FVec Ideal S1x4x64x256 .bf16) (x2 : FVec Ideal S1x4x256x64 .bf16) (i l : Fin 256) :
    k2_pay14 (F := Ideal) (k2_pay10 (View.ld x1 r2_7)) (k2_pay11 (View.ld x2 r2_8)) (k2_pay12 (View.ld x1 r2_7) (View.ld x2 r2_8) (View.ld x0 r2_9)) (k2_pay13 (View.ld x1 r2_7) (View.ld x2 r2_8) (View.ld x0 r2_10)) (View.ld x0 r2_11) (View.ld x0 r2_12) (ix3 0 i l)
      = late (fun t : Fin 256 => ∑ e : Fin 64, x0 (ix3 0 i ⟨256 + 64 * (l.val / 64) + e.val, by omega⟩) * x1 (ix4 0 1 e t)) (fun t => x2 (ix4 0 1 t ⟨l.val % 64, by omega⟩)) := by
  pointwise [k2_pay14, k2_pay13, k2_pay12, k2_pay11, k2_pay10]
  simp only [ofBits_negInf]
  obtain ⟨l, hl⟩ := l
  have hc : l / 64 = 0 ∨ l / 64 = 1 ∨ l / 64 = 2 ∨ l / 64 = 3 := by omega
  rcases hc with hc | hc | hc | hc
  · have e : l % 64 = l := by omega
    simp only [dif_pos (show l < 64 by omega), late, hc, e, Nat.mul_zero, Nat.zero_add, Nat.reduceAdd]
    try rfl
  · have e : l % 64 = l - 64 := by omega
    simp only [dif_neg (show ¬ l < 64 by omega), dif_pos (show l - 64 < 64 by omega), late, hc, e, Nat.reduceMul, Nat.reduceAdd]
    try rfl
  · have e : l % 64 = l - 64 - 64 := by omega
    simp only [dif_neg (show ¬ l < 64 by omega), dif_neg (show ¬ l - 64 < 64 by omega), dif_pos (show l - 64 - 64 < 64 by omega), late, hc, e, Nat.reduceMul, Nat.reduceAdd]
    try rfl
  · have e : l % 64 = l - 64 - 64 - 64 := by omega
    simp only [dif_neg (show ¬ l < 64 by omega), dif_neg (show ¬ l - 64 < 64 by omega), dif_neg (show ¬ l - 64 - 64 < 64 by omega), late, hc, e, Nat.reduceMul, Nat.reduceAdd]
    try rfl

/-- The heads of group 2. -/
theorem grp2 (x0 : FVec Ideal S1x256x1024 .bf16) (x1 : FVec Ideal S1x4x64x256 .bf16) (x2 : FVec Ideal S1x4x256x64 .bf16) (i l : Fin 256) :
    k2_pay19 (F := Ideal) (k2_pay15 (View.ld x1 r2_14)) (k2_pay16 (View.ld x2 r2_15)) (k2_pay17 (View.ld x1 r2_14) (View.ld x2 r2_15) (View.ld x0 r2_16)) (k2_pay18 (View.ld x1 r2_14) (View.ld x2 r2_15) (View.ld x0 r2_17)) (View.ld x0 r2_18) (View.ld x0 r2_19) (ix3 0 i l)
      = late (fun t : Fin 256 => ∑ e : Fin 64, x0 (ix3 0 i ⟨512 + 64 * (l.val / 64) + e.val, by omega⟩) * x1 (ix4 0 2 e t)) (fun t => x2 (ix4 0 2 t ⟨l.val % 64, by omega⟩)) := by
  pointwise [k2_pay19, k2_pay18, k2_pay17, k2_pay16, k2_pay15]
  simp only [ofBits_negInf]
  obtain ⟨l, hl⟩ := l
  have hc : l / 64 = 0 ∨ l / 64 = 1 ∨ l / 64 = 2 ∨ l / 64 = 3 := by omega
  rcases hc with hc | hc | hc | hc
  · have e : l % 64 = l := by omega
    simp only [dif_pos (show l < 64 by omega), late, hc, e, Nat.mul_zero, Nat.zero_add, Nat.reduceAdd]
    try rfl
  · have e : l % 64 = l - 64 := by omega
    simp only [dif_neg (show ¬ l < 64 by omega), dif_pos (show l - 64 < 64 by omega), late, hc, e, Nat.reduceMul, Nat.reduceAdd]
    try rfl
  · have e : l % 64 = l - 64 - 64 := by omega
    simp only [dif_neg (show ¬ l < 64 by omega), dif_neg (show ¬ l - 64 < 64 by omega), dif_pos (show l - 64 - 64 < 64 by omega), late, hc, e, Nat.reduceMul, Nat.reduceAdd]
    try rfl
  · have e : l % 64 = l - 64 - 64 - 64 := by omega
    simp only [dif_neg (show ¬ l < 64 by omega), dif_neg (show ¬ l - 64 < 64 by omega), dif_neg (show ¬ l - 64 - 64 < 64 by omega), late, hc, e, Nat.reduceMul, Nat.reduceAdd]
    try rfl

/-- The heads of group 3. -/
theorem grp3 (x0 : FVec Ideal S1x256x1024 .bf16) (x1 : FVec Ideal S1x4x64x256 .bf16) (x2 : FVec Ideal S1x4x256x64 .bf16) (i l : Fin 256) :
    k2_pay1 (F := Ideal) (k2_pay25 x0 x1 x2) (k2_pay21 (View.ld x2 r2_22)) (k2_pay22 (k2_pay25 x0 x1 x2) (View.ld x2 r2_22) (View.ld x0 r2_23)) (k2_pay23 (k2_pay25 x0 x1 x2) (View.ld x2 r2_22) (View.ld x0 r2_24)) (k2_pay24 (View.ld x0 r2_25)) (constant S256x256 .f32 0x00000000#32) (View.ld x0 r2_26) (ix3 0 i l)
      = late (fun t : Fin 256 => ∑ e : Fin 64, x0 (ix3 0 i ⟨768 + 64 * (l.val / 64) + e.val, by omega⟩) * x1 (ix4 0 3 e t)) (fun t => x2 (ix4 0 3 t ⟨l.val % 64, by omega⟩)) := by
  pointwise [k2_pay1, k2_pay25, k2_pay24, k2_pay23, k2_pay22, k2_pay21, k2_pay20]
  simp only [ofBits_negInf]
  obtain ⟨l, hl⟩ := l
  have hc : l / 64 = 0 ∨ l / 64 = 1 ∨ l / 64 = 2 ∨ l / 64 = 3 := by omega
  rcases hc with hc | hc | hc | hc
  · have e : l % 64 = l := by omega
    simp only [dif_pos (show l < 64 by omega), late, hc, e, Nat.mul_zero, Nat.zero_add, Nat.reduceAdd]
    try rfl
  · have e : l % 64 = l - 64 := by omega
    simp only [dif_neg (show ¬ l < 64 by omega), dif_pos (show l - 64 < 64 by omega), late, hc, e, Nat.reduceMul, Nat.reduceAdd]
    try rfl
  · have e : l % 64 = l - 64 - 64 := by omega
    simp only [dif_neg (show ¬ l < 64 by omega), dif_neg (show ¬ l - 64 < 64 by omega), dif_pos (show l - 64 - 64 < 64 by omega), late, hc, e, Nat.reduceMul, Nat.reduceAdd]
    try rfl
  · have e : l % 64 = l - 64 - 64 - 64 := by omega
    simp only [dif_neg (show ¬ l < 64 by omega), dif_neg (show ¬ l - 64 < 64 by omega), dif_neg (show ¬ l - 64 - 64 < 64 by omega), late, hc, e, Nat.reduceMul, Nat.reduceAdd]
    try rfl

/-- What grid point leaves in the block of the result. -/
theorem o2 (x0 : FVec Ideal S1x256x1024 .bf16) (x1 : FVec Ideal S1x4x64x256 .bf16) (x2 : FVec Ideal S1x4x256x64 .bf16) (i : Fin 256) (l : Fin 1024) : out2_3 (F := Ideal) x0 x1 x2 (ix3 0 i l) = aT x0 x1 x2 i l := by
  obtain ⟨y, hy⟩ : ∃ y, (ix3 0 i l : S1x256x1024.Idx) = y := ⟨_, rfl⟩
  rw [hy]
  unfold out2_3
  canon_tiles y h
  · subst hy
    idx_vars y
    obtain rfl : y1 = i := Fin.ext h1.symm
    obtain rfl : y0 = 0 := Subsingleton.elim _ _
    have hl : l.val = 768 + y2.val := h2
    refine (grp3 x0 x1 x2 y1 y2).trans ?_
    unfold aT
    have ha : (⟨l.val / 256, by omega⟩ : Fin 4) = 3 := Fin.ext (by show l.val / 256 = 3; omega)
    rw [ha]
    refine late_congr (fun t => Finset.sum_congr rfl fun e _ => Ideal.mul_congr (congrArg (fun q => x0 (ix3 0 y1 q)) (Fin.ext ?_)) rfl) fun t => congrArg (fun q => x2 (ix4 0 3 t q)) (Fin.ext ?_)
    · show 768 + 64 * (y2.val / 64) + e.val = 64 * (l.val / 64) + e.val; omega
    · show y2.val % 64 = l.val % 64; omega
  · subst hy
    idx_vars y
    obtain rfl : y1 = i := Fin.ext h1.symm
    obtain rfl : y0 = 0 := Subsingleton.elim _ _
    have hl : l.val = 512 + y2.val := h2
    refine (grp2 x0 x1 x2 y1 y2).trans ?_
    unfold aT
    have ha : (⟨l.val / 256, by omega⟩ : Fin 4) = 2 := Fin.ext (by show l.val / 256 = 2; omega)
    rw [ha]
    refine late_congr (fun t => Finset.sum_congr rfl fun e _ => Ideal.mul_congr (congrArg (fun q => x0 (ix3 0 y1 q)) (Fin.ext ?_)) rfl) fun t => congrArg (fun q => x2 (ix4 0 2 t q)) (Fin.ext ?_)
    · show 512 + 64 * (y2.val / 64) + e.val = 64 * (l.val / 64) + e.val; omega
    · show y2.val % 64 = l.val % 64; omega
  · subst hy
    idx_vars y
    obtain rfl : y1 = i := Fin.ext h1.symm
    obtain rfl : y0 = 0 := Subsingleton.elim _ _
    have hl : l.val = 256 + y2.val := h2
    refine (grp1 x0 x1 x2 y1 y2).trans ?_
    unfold aT
    have ha : (⟨l.val / 256, by omega⟩ : Fin 4) = 1 := Fin.ext (by show l.val / 256 = 1; omega)
    rw [ha]
    refine late_congr (fun t => Finset.sum_congr rfl fun e _ => Ideal.mul_congr (congrArg (fun q => x0 (ix3 0 y1 q)) (Fin.ext ?_)) rfl) fun t => congrArg (fun q => x2 (ix4 0 1 t q)) (Fin.ext ?_)
    · show 256 + 64 * (y2.val / 64) + e.val = 64 * (l.val / 64) + e.val; omega
    · show y2.val % 64 = l.val % 64; omega
  · subst hy
    idx_vars y
    obtain rfl : y1 = i := Fin.ext h1.symm
    obtain rfl : y0 = 0 := Subsingleton.elim _ _
    have hl : l.val = 0 + y2.val := h2.trans (Nat.zero_add _).symm
    refine (grp0 x0 x1 x2 y1 y2).trans ?_
    unfold aT
    have ha : (⟨l.val / 256, by omega⟩ : Fin 4) = 0 := Fin.ext (by show l.val / 256 = 0; omega)
    rw [ha]
    refine late_congr (fun t => Finset.sum_congr rfl fun e _ => Ideal.mul_congr (congrArg (fun q => x0 (ix3 0 y1 q)) (Fin.ext ?_)) rfl) fun t => congrArg (fun q => x2 (ix4 0 0 t q)) (Fin.ext ?_)
    · show 0 + 64 * (y2.val / 64) + e.val = 64 * (l.val / 64) + e.val; omega
    · show y2.val % 64 = l.val % 64; omega

end Cert.PromptIdeal.Layer

end
-- ==== Proof.Layer.Att.lean ====
/- The prompt's attention call: its result array after its run, from the arrays it reads. -/
module

public import proofs.«01_k».proof.Proof.Layer.AttTile

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer
open Cert.Softmax

/-- The result, over the whole array. -/
def G2 (q : FVec Ideal S16x256x1024 .bf16) (k : FVec Ideal S16x4x64x256 .bf16) (v : FVec Ideal S16x4x256x64 .bf16) : FVec Ideal S16x256x1024 .bf16 :=
  fun j => late (fun t : Fin 256 => ∑ e : Fin 64, q (ix3 (j 0) (j 1) ⟨64 * ((j 2).val / 64) + e.val, by have : (j 2).val < 1024 := (j 2).isLt; omega⟩)
      * k (ix4 (j 0) ⟨(j 2).val / 256, by have : (j 2).val < 1024 := (j 2).isLt; omega⟩ e t))
    (fun t => v (ix4 (j 0) ⟨(j 2).val / 256, by have : (j 2).val < 1024 := (j 2).isLt; omega⟩ t ⟨(j 2).val % 64, by omega⟩))

variable (V : (c : Dev nD) → (b : Ref sig .tc) → Buf (Elt Ideal) ((c : Thread nD τ).loc b))

/-- Which block of its array each window holds at grid point `t`. -/
theorem idx2 : ∀ t : Fin cfg2.N, win2_0.index t = ![t.val, 0, 0] ∧ win2_1.index t = ![t.val, 0, 0, 0]
    ∧ win2_2.index t = ![t.val, 0, 0, 0] ∧ win2_3.index t = ![t.val, 0, 0] := (by decide +kernel : ∀ t : Fin grid2.N, _)

/-- Grid point `t`'s block of the queries. -/
theorem rd2_0 (A : FVec Ideal S16x256x1024 .bf16) (t : Fin cfg2.N) (ht : t.val < 16) (i : Fin 256) (l : Fin 1024) :
    ((cfg2.win 0).blk t).view.read (Elt Ideal) A (ix3 0 i l) = A (ix3 ⟨t.val, ht⟩ i l) := by
  blk_ext [idx2 t]

/-- Grid point `t`'s block of the keys. -/
theorem rd2_1 (A : FVec Ideal S16x4x64x256 .bf16) (t : Fin cfg2.N) (ht : t.val < 16) (g : Fin 4) (e : Fin 64) (u : Fin 256) :
    ((cfg2.win 1).blk t).view.read (Elt Ideal) A (ix4 0 g e u) = A (ix4 ⟨t.val, ht⟩ g e u) := by
  blk_ext [idx2 t]

/-- Grid point `t`'s block of the values. -/
theorem rd2_2 (A : FVec Ideal S16x4x256x64 .bf16) (t : Fin cfg2.N) (ht : t.val < 16) (g : Fin 4) (u : Fin 256) (d : Fin 64) :
    ((cfg2.win 2).blk t).view.read (Elt Ideal) A (ix4 0 g u d) = A (ix4 ⟨t.val, ht⟩ g u d) := by
  blk_ext [idx2 t]

/-- Where grid point `t`'s block of the result lies. -/
theorem emb2_3 (t : Fin cfg2.N) (ht : t.val < 16) (i : Fin 256) (l : Fin 1024) :
    (win2_3.blk t).view.emb (ix3 0 i l) = (ix3 ⟨t.val, ht⟩ i l : S16x256x1024.Idx) := by
  blk_ext [idx2 t]

/-- What grid point `t` leaves in the output's block. -/
theorem point2 (c : Dev nD) (t : Fin cfg2.N) (y : S1x256x1024.Idx) :
    out2_3 (F := Ideal) (iblk2 V c 0 t) (iblk2 V c 1 t) (iblk2 V c 2 t) y
      = G2 (V c main_v55) (V c main_v52) (V c main_v54) ((win2_3.blk t).view.emb y) := by
  have ht : t.val < 16 := t.isLt
  idx_vars y
  obtain rfl : y0 = 0 := Subsingleton.elim _ _
  rw [show (win2_3.blk t).view.emb (ix3 0 y1 y2) = _ from emb2_3 t ht y1 y2]
  refine (o2 (iblk2 V c 0 t) (iblk2 V c 1 t) (iblk2 V c 2 t) y1 y2).trans ?_
  exact late_congr (fun u => Finset.sum_congr rfl fun e _ => Ideal.mul_congr (rd2_0 (V c main_v55) t ht _ _) (rd2_1 (V c main_v52) t ht _ _ _)) fun u => rd2_2 (V c main_v54) t ht _ _ _

/-- The result: the array after the run. -/
theorem final2 (c : Dev nD) : (dat2 V c).arrAt 3 cfg2.N = G2 (V c main_v55) (V c main_v52) (V c main_v54) := by
  refine (dat2 V c).arrAt_eq_of_covers 3 _ (by decide +kernel) fun t _ y => ?_
  blk_simp
  rw [after2_3]
  exact point2 V c t y

end Cert.PromptIdeal.Layer

end
-- ==== Proof.Layer.Ada.lean ====
/- The call `ada`: its result array after its run, from the arrays it reads. -/
module

public import proofs.«01_k».proof.Proof.Layer.Spec
public import proofs.«01_k».proof.Proof.Gen.PromptIdeal.Frame.Region0
public import Idealize.ShloMosaic.Lib.Pipeline.ValueKit

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

/-- The result, over the whole array. -/
def G0 (x : FVec Ideal S16x1024 .f32) (w : FVec Ideal S1024x6144 .f32) (b : FVec Ideal S1x6144 .f32) : FVec Ideal S16x6144 .f32 :=
  fun j => (∑ k : Fin 1024, x (ix2 (j 0) k) * Ideal.logistic (x (ix2 (j 0) k)) * w (ix2 k (j 1))) + b (ix2 0 (j 1))

variable (V : (c : Dev nD) → (b : Ref sig .tc) → Buf (Elt Ideal) ((c : Thread nD τ).loc b))

/-- Which block of its array each window holds at grid point `t`. -/
theorem idx0 : ∀ t : Fin cfg0.N, win0_0.index t = ![0, 0] ∧ win0_1.index t = ![0, t.val] ∧ win0_2.index t = ![0, t.val] ∧ win0_3.index t = ![0, t.val] := (by decide +kernel : ∀ t : Fin grid0.N, _)

/-- The rows, held whole. -/
theorem rd0_0 (A : FVec Ideal S16x1024 .f32) (t : Fin cfg0.N) (i : Fin 16) (k : Fin 1024) :
    ((cfg0.win 0).blk t).view.read (Elt Ideal) A (ix2 i k) = A (ix2 i k) := by
  blk_ext [idx0 t]

/-- Grid point `t`'s block of the weight. -/
theorem rd0_1 (A : FVec Ideal S1024x6144 .f32) (t : Fin cfg0.N) (ht : t.val < 6) (i k : Fin 1024) :
    ((cfg0.win 1).blk t).view.read (Elt Ideal) A (ix2 i k) = A (ix2 i ⟨1024 * t.val + k.val, by omega⟩) := by
  blk_ext [idx0 t]

/-- Grid point `t`'s block of the bias. -/
theorem rd0_2 (A : FVec Ideal S1x6144 .f32) (t : Fin cfg0.N) (ht : t.val < 6) (k : Fin 1024) :
    ((cfg0.win 2).blk t).view.read (Elt Ideal) A (ix2 0 k) = A (ix2 0 ⟨1024 * t.val + k.val, by omega⟩) := by
  blk_ext [idx0 t]

/-- Where grid point `t`'s block of the result lies. -/
theorem emb0_3 (t : Fin cfg0.N) (ht : t.val < 6) (i : Fin 16) (k : Fin 1024) :
    (win0_3.blk t).view.emb (ix2 i k) = (ix2 i ⟨1024 * t.val + k.val, by omega⟩ : S16x6144.Idx) := by
  blk_ext [idx0 t]

/-- What grid point `t` leaves in the output's block. -/
theorem point0 (c : Dev nD) (t : Fin cfg0.N) (y : S16x1024.Idx) :
    out0_3 (F := Ideal) (iblk0 V c 0 t) (iblk0 V c 1 t) (iblk0 V c 2 t) y
      = G0 (V c main_v4) (V c main_v39) (V c main_v41) ((win0_3.blk t).view.emb y) := by
  have ht : t.val < 6 := t.isLt
  idx_vars y
  rw [show (win0_3.blk t).view.emb (ix2 y0 y1) = _ from emb0_3 t ht y0 y1]
  frame_out
  pointwise [k0_pay1]
  exact Ideal.add_congr (Finset.sum_congr rfl fun k _ => Ideal.mul_congr (Ideal.mul_congr (rd0_0 (V c main_v4) t y0 k) (congrArg Ideal.logistic (rd0_0 (V c main_v4) t y0 k))) (rd0_1 (V c main_v39) t ht k y1)) (rd0_2 (V c main_v41) t ht y1)

/-- The result: the array after the run. -/
theorem final0 (c : Dev nD) : (dat0 V c).arrAt 3 cfg0.N = G0 (V c main_v4) (V c main_v39) (V c main_v41) := by
  refine (dat0 V c).arrAt_eq_of_covers 3 _ (by decide +kernel) fun t _ y => ?_
  blk_simp
  rw [after0_3]
  exact point0 V c t y

end Cert.PromptIdeal.Layer

end
-- ==== Proof.Layer.MixTile.lean ====
/- The tile of the call `mix_out`: one grid point's two results from its blocks. -/
module

public import proofs.«01_k».proof.Proof.Layer.Spec
public import proofs.«01_k».proof.Proof.PromptIdeal.Region3
public import Idealize.ShloMosaic.Lib.Pipeline.ValueKit

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

/-- Each tile is a whole sequence, so the weight of a row of a neighbouring tile is zero. -/
theorem nb0 : ∀ a : Fin 16, (Scalar.extui (Scalar.cmpi .ne (Scalar.select (Scalar.andi (Scalar.xori (Scalar.cmpi .slt (Scalar.remsi (BitVec.ofNat 32 a.val) 1#32) 0#32) 0#1) (Scalar.cmpi .ne (Scalar.remsi (BitVec.ofNat 32 a.val) 1#32) 0#32))
    (Scalar.addi (Scalar.remsi (BitVec.ofNat 32 a.val) 1#32) 1#32) (Scalar.remsi (BitVec.ofNat 32 a.val) 1#32)) 0#32) : BitVec 32) = 0#32 := by decide +kernel

/-- The row of the tile before is counted as zero. -/
theorem pay3_eq (i : grid3.Coords) (v : FVec Ideal S1x1024 .bf16) : k3_pay3 (F := Ideal) i v = fun _ => 0 := by
  funext y
  have h := nb0 (i 0)
  idx_vars y
  pointwise [k3_pay3]
  rw [show Scalar.cmpi .slt 1#32 0#32 = 0#1 from by decide, h]
  simp

/-- The row of the tile after is counted as zero. -/
theorem pay4_eq (i : grid3.Coords) (v : FVec Ideal S1x1024 .bf16) : k3_pay4 (F := Ideal) i v = fun _ => 0 := by
  funext y
  have h := nb0 (i 0)
  idx_vars y
  pointwise [k3_pay4]
  rw [show Scalar.cmpi .slt 1#32 0#32 = 0#1 from by decide, h]
  simp

/-- The comparison of a row's number with a literal. -/
theorem cmp_row (r : Fin 256) (n : Nat) (hn : n < 256) : IntOp.cmpi CmpIPredicate.eq (BitVec.ofNat 32 r.val) (BitVec.ofNat 32 n) = if r.val = n then 1#1 else 0#1 := by
  have : (BitVec.ofNat 32 r.val = BitVec.ofNat 32 n) ↔ r.val = n := by
    rw [← BitVec.toNat_inj]; simp only [BitVec.toNat_ofNat]; omega
  unfold IntOp.cmpi
  by_cases h : r.val = n
  · rw [if_pos h]; simp [this.2 h]
  · have h' : ¬ BitVec.ofNat 32 r.val = BitVec.ofNat 32 n := fun e => h (this.1 e)
    rw [if_neg h, beq_false_of_ne h']; rfl

/-- The gated convolution of a tile's row. -/
def cT (x1 x2 : FVec Ideal S256x1024 .bf16) (x13 : FVec Ideal S3x1024 .f32) (i : Fin 256) : Row 1024 :=
  fun l => x1 (ix2 i l) * tap (x13 (ix2 0 l)) (x13 (ix2 1 l)) (x13 (ix2 2 l)) (before i fun j => x2 (ix2 j l)) (x2 (ix2 i l)) (after i fun j => x2 (ix2 j l))

/-- The gated convolution the body computes. -/
theorem pay9_at (i : grid3.Coords) (x0 : FVec Ideal S256x1024 .bf16) (x1 : FVec Ideal S256x1024 .bf16) (x2 : FVec Ideal S256x1024 .bf16) (x3 : FVec Ideal S16x1024 .bf16) (x4 : FVec Ideal S16x1024 .bf16) (x5 : FVec Ideal S256x1024 .bf16) (x6 : FVec Ideal S256x1024 .bf16) (x7 : FVec Ideal S256x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 256) (l : Fin 1024) :
    k3_pay9 (F := Ideal) i x0 x1 x2 x3 x4 x5 x6 x7 x8 x9 x10 x11 x12 x13 x14 x15 x16 (ix2 r l) = cT x1 x2 x13 r l := by
  pointwise [k3_pay9, k3_pay5, k3_pay2]
  rw [pay3_eq, pay4_eq, cmp_row r 0 (by omega), cmp_row r 255 (by omega)]
  unfold cT tap before after
  refine Ideal.mul_congr rfl (Ideal.add_congr (Ideal.add_congr (Ideal.mul_congr rfl ?_) rfl) (Ideal.mul_congr rfl ?_))
  · by_cases h : r.val = 0
    · rw [if_pos h, dif_pos h]; rfl
    · rw [if_neg h, dif_neg h]
      exact congrArg (fun q => x2 (ix2 q l)) (Fin.ext (by show (r.val + 256 - 1) % 256 = r.val - 1; omega))
  · by_cases h : r.val = 255
    · rw [if_pos h, dif_pos h]; rfl
    · rw [if_neg h, dif_neg h]
      exact congrArg (fun q => x2 (ix2 q l)) (Fin.ext (by show (r.val + 256 - 255) % 256 = r.val + 1; omega))

/-- The merged row of a tile. -/
def mT (x0 x1 x2 x5 x6 : FVec Ideal S256x1024 .bf16) (x13 : FVec Ideal S3x1024 .f32) (x14 x15 : FVec Ideal S1024x1024 .bf16) (i : Fin 256) : Row 1024 :=
  fun l => x5 (ix2 i l) * dot (fun k => x0 (ix2 i k)) (fun k n => x14 (ix2 k n)) l + x6 (ix2 i l) * dot (cT x1 x2 x13 i) (fun k n => x15 (ix2 k n)) l

/-- The first result's row of a tile. -/
def h1T (x0 x1 x2 x5 x6 : FVec Ideal S256x1024 .bf16) (x7 : FVec Ideal S256x1024 .f32) (x8 : FVec Ideal S1x1x1024 .f32) (x11 : FVec Ideal S1x1024 .f32) (x13 : FVec Ideal S3x1024 .f32) (x14 x15 x16 : FVec Ideal S1024x1024 .bf16) (i : Fin 256) : Row 1024 :=
  addK (fun k => x7 (ix2 i k)) (fun k => x8 (ix3 0 0 k)) (dot (mT x0 x1 x2 x5 x6 x13 x14 x15 i) fun k n => x16 (ix2 k n)) (fun k => x11 (ix2 0 k))

/-- The payload of the first result. -/
theorem pay7_at (i : grid3.Coords) (x0 : FVec Ideal S256x1024 .bf16) (x1 : FVec Ideal S256x1024 .bf16) (x2 : FVec Ideal S256x1024 .bf16) (x3 : FVec Ideal S16x1024 .bf16) (x4 : FVec Ideal S16x1024 .bf16) (x5 : FVec Ideal S256x1024 .bf16) (x6 : FVec Ideal S256x1024 .bf16) (x7 : FVec Ideal S256x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 256) (l : Fin 1024) :
    k3_pay7 (F := Ideal) (k3_pay9 i x0 x1 x2 x3 x4 x5 x6 x7 x8 x9 x10 x11 x12 x13 x14 x15 x16) (k3_pay10 i x0 x1 x2 x3 x4 x5 x6 x7 x8 x9 x10 x11 x12 x13 x14 x15 x16) (View.ld x15 r3_6) (View.ld x5 r3_0) (View.ld x6 r3_0) (View.ld x16 r3_6) (View.ld x7 r3_0) (View.ld x8 r3_7) (View.ld x11 r3_8) (ix2 r l)
      = h1T x0 x1 x2 x5 x6 x7 x8 x11 x13 x14 x15 x16 r l := by
  pointwise [k3_pay7, k3_pay10, k3_pay6]
  simp only [pay9_at]
  rfl

/-- What grid point `i` leaves in the block of the first result. -/
theorem o17 (i : grid3.Coords) (x0 : FVec Ideal S256x1024 .bf16) (x1 : FVec Ideal S256x1024 .bf16) (x2 : FVec Ideal S256x1024 .bf16) (x3 : FVec Ideal S16x1024 .bf16) (x4 : FVec Ideal S16x1024 .bf16) (x5 : FVec Ideal S256x1024 .bf16) (x6 : FVec Ideal S256x1024 .bf16) (x7 : FVec Ideal S256x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 256) (l : Fin 1024) :
    out3_17 (F := Ideal) i x0 x1 x2 x3 x4 x5 x6 x7 x8 x9 x10 x11 x12 x13 x14 x15 x16 (ix2 r l) = h1T x0 x1 x2 x5 x6 x7 x8 x11 x13 x14 x15 x16 r l := by
  obtain ⟨y, hy⟩ : ∃ y, (ix2 r l : S256x1024.Idx) = y := ⟨_, rfl⟩
  rw [hy]
  unfold out3_17
  canon_tiles y h
  subst hy
  idx_vars y
  obtain rfl : y0 = r := Fin.ext h0.symm
  obtain rfl : y1 = l := Fin.ext h1.symm
  exact pay7_at i x0 x1 x2 x3 x4 x5 x6 x7 x8 x9 x10 x11 x12 x13 x14 x15 x16 y0 y1

/-- What grid point `i` leaves in the block of the second result. -/
theorem o18 (i : grid3.Coords) (x0 : FVec Ideal S256x1024 .bf16) (x1 : FVec Ideal S256x1024 .bf16) (x2 : FVec Ideal S256x1024 .bf16) (x3 : FVec Ideal S16x1024 .bf16) (x4 : FVec Ideal S16x1024 .bf16) (x5 : FVec Ideal S256x1024 .bf16) (x6 : FVec Ideal S256x1024 .bf16) (x7 : FVec Ideal S256x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 256) (l : Fin 1024) :
    out3_18 (F := Ideal) i x0 x1 x2 x3 x4 x5 x6 x7 x8 x9 x10 x11 x12 x13 x14 x15 x16 (ix2 r l) = uK (h1T x0 x1 x2 x5 x6 x7 x8 x11 x13 x14 x15 x16 r) (fun k => x12 (ix2 0 k)) (fun k => x10 (ix3 0 0 k)) (fun k => x9 (ix3 0 0 k)) l := by
  obtain ⟨y, hy⟩ : ∃ y, (ix2 r l : S256x1024.Idx) = y := ⟨_, rfl⟩
  rw [hy]
  unfold out3_18
  canon_tiles y h
  subst hy
  idx_vars y
  obtain rfl : y0 = r := Fin.ext h0.symm
  obtain rfl : y1 = l := Fin.ext h1.symm
  pointwise [k3_pay1, k3_pay8]
  simp only [pay7_at]
  rfl
end Cert.PromptIdeal.Layer

end
-- ==== Proof.Layer.Mix.lean ====
/- The call `mix_out`: its two result arrays after its run, from the arrays it reads. -/
module

public import proofs.«01_k».proof.Proof.Layer.MixTile

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

/-- The gated convolution of row `i` of sequence `b`. -/
def cF (bb y : FVec Ideal S4096x1024 .bf16) (cw : FVec Ideal S3x1024 .f32) (b : Fin 16) (i : Fin 256) : Row 1024 :=
  fun l => bb (ix2 (rowOf b i) l) * tap (cw (ix2 0 l)) (cw (ix2 1 l)) (cw (ix2 2 l)) (before i fun j => y (ix2 (rowOf b j) l)) (y (ix2 (rowOf b i) l)) (after i fun j => y (ix2 (rowOf b j) l))

/-- The merged row `i` of sequence `b`. -/
def mF (att bb y sa sg : FVec Ideal S4096x1024 .bf16) (cw : FVec Ideal S3x1024 .f32) (wa wc : FVec Ideal S1024x1024 .bf16) (b : Fin 16) (i : Fin 256) : Row 1024 :=
  fun l => sa (ix2 (rowOf b i) l) * dot (fun k => att (ix2 (rowOf b i) k)) (fun k n => wa (ix2 k n)) l + sg (ix2 (rowOf b i) l) * dot (cF bb y cw b i) (fun k n => wc (ix2 k n)) l

/-- The row `i` of sequence `b` of the first result. -/
def hF (att : FVec Ideal S4096x1024 .bf16) (bb : FVec Ideal S4096x1024 .bf16) (y : FVec Ideal S4096x1024 .bf16) (sa : FVec Ideal S4096x1024 .bf16) (sg : FVec Ideal S4096x1024 .bf16) (X : FVec Ideal S4096x1024 .f32) (A : FVec Ideal S16x1x6144 .f32) (gp : FVec Ideal S1x1024 .f32) (cw : FVec Ideal S3x1024 .f32) (wa : FVec Ideal S1024x1024 .bf16) (wc : FVec Ideal S1024x1024 .bf16) (wo : FVec Ideal S1024x1024 .bf16) (b : Fin 16) (i : Fin 256) : Row 1024 :=
  addK (fun k => X (ix2 (rowOf b i) k)) (fun k => A (ix3 0 0 ⟨2048 + k.val, by omega⟩)) (dot (mF att bb y sa sg cw wa wc b i) fun k n => wo (ix2 k n)) (fun k => gp (ix2 0 k))

/-- The first result, over the whole array. -/
def G3h (att : FVec Ideal S4096x1024 .bf16) (bb : FVec Ideal S4096x1024 .bf16) (y : FVec Ideal S4096x1024 .bf16) (sa : FVec Ideal S4096x1024 .bf16) (sg : FVec Ideal S4096x1024 .bf16) (X : FVec Ideal S4096x1024 .f32) (A : FVec Ideal S16x1x6144 .f32) (gp : FVec Ideal S1x1024 .f32) (cw : FVec Ideal S3x1024 .f32) (wa : FVec Ideal S1024x1024 .bf16) (wc : FVec Ideal S1024x1024 .bf16) (wo : FVec Ideal S1024x1024 .bf16) : FVec Ideal S4096x1024 .f32 := fun j => hF att bb y sa sg X A gp cw wa wc wo (seqOf (j 0)) (posOf (j 0)) (j 1)

/-- The second result, over the whole array. -/
def G3u (att : FVec Ideal S4096x1024 .bf16) (bb : FVec Ideal S4096x1024 .bf16) (y : FVec Ideal S4096x1024 .bf16) (sa : FVec Ideal S4096x1024 .bf16) (sg : FVec Ideal S4096x1024 .bf16) (X : FVec Ideal S4096x1024 .f32) (A : FVec Ideal S16x1x6144 .f32) (gp : FVec Ideal S1x1024 .f32) (cw : FVec Ideal S3x1024 .f32) (wa : FVec Ideal S1024x1024 .bf16) (wc : FVec Ideal S1024x1024 .bf16) (wo : FVec Ideal S1024x1024 .bf16) (gq : FVec Ideal S1x1024 .f32) : FVec Ideal S4096x1024 .bf16 :=
  fun j => uK (hF att bb y sa sg X A gp cw wa wc wo (seqOf (j 0)) (posOf (j 0))) (fun k => gq (ix2 0 k)) (fun k => A (ix3 0 0 ⟨4096 + k.val, by omega⟩)) (fun k => A (ix3 0 0 ⟨3072 + k.val, by omega⟩)) (j 1)

variable (V : (c : Dev nD) → (b : Ref sig .tc) → Buf (Elt Ideal) ((c : Thread nD τ).loc b))

/-- Which block of its array each window holds at grid point `t`. -/
theorem idx3 : ∀ t : Fin cfg3.N, win3_0.index t = ![t.val, 0] ∧ win3_1.index t = ![t.val, 0] ∧ win3_2.index t = ![t.val, 0] ∧ win3_5.index t = ![t.val, 0]
    ∧ win3_6.index t = ![t.val, 0] ∧ win3_7.index t = ![t.val, 0] ∧ win3_8.index t = ![0, 0, 2] ∧ win3_9.index t = ![0, 0, 3] ∧ win3_10.index t = ![0, 0, 4]
    ∧ win3_11.index t = ![0, 0] ∧ win3_12.index t = ![0, 0] ∧ win3_13.index t = ![0, 0] ∧ win3_14.index t = ![0, 0] ∧ win3_15.index t = ![0, 0] ∧ win3_16.index t = ![0, 0]
    ∧ win3_17.index t = ![t.val, 0] ∧ win3_18.index t = ![t.val, 0] := (by decide +kernel : ∀ t : Fin grid3.N, _)

/-- Grid point `t`'s block of window 0. -/
theorem rd3_0 (A : FVec Ideal S4096x1024 .bf16) (t : Fin cfg3.N) (ht : t.val < 16) (i : Fin 256) (k : Fin 1024) :
    ((cfg3.win 0).blk t).view.read (Elt Ideal) A (ix2 i k) = A (ix2 (rowOf ⟨t.val, ht⟩ i) k) := by
  blk_ext [idx3 t, rowOf]

/-- Grid point `t`'s block of window 1. -/
theorem rd3_1 (A : FVec Ideal S4096x1024 .bf16) (t : Fin cfg3.N) (ht : t.val < 16) (i : Fin 256) (k : Fin 1024) :
    ((cfg3.win 1).blk t).view.read (Elt Ideal) A (ix2 i k) = A (ix2 (rowOf ⟨t.val, ht⟩ i) k) := by
  blk_ext [idx3 t, rowOf]

/-- Grid point `t`'s block of window 2. -/
theorem rd3_2 (A : FVec Ideal S4096x1024 .bf16) (t : Fin cfg3.N) (ht : t.val < 16) (i : Fin 256) (k : Fin 1024) :
    ((cfg3.win 2).blk t).view.read (Elt Ideal) A (ix2 i k) = A (ix2 (rowOf ⟨t.val, ht⟩ i) k) := by
  blk_ext [idx3 t, rowOf]

/-- Grid point `t`'s block of window 5. -/
theorem rd3_5 (A : FVec Ideal S4096x1024 .bf16) (t : Fin cfg3.N) (ht : t.val < 16) (i : Fin 256) (k : Fin 1024) :
    ((cfg3.win 5).blk t).view.read (Elt Ideal) A (ix2 i k) = A (ix2 (rowOf ⟨t.val, ht⟩ i) k) := by
  blk_ext [idx3 t, rowOf]

/-- Grid point `t`'s block of window 6. -/
theorem rd3_6 (A : FVec Ideal S4096x1024 .bf16) (t : Fin cfg3.N) (ht : t.val < 16) (i : Fin 256) (k : Fin 1024) :
    ((cfg3.win 6).blk t).view.read (Elt Ideal) A (ix2 i k) = A (ix2 (rowOf ⟨t.val, ht⟩ i) k) := by
  blk_ext [idx3 t, rowOf]

/-- Grid point `t`'s block of window 7. -/
theorem rd3_7 (A : FVec Ideal S4096x1024 .f32) (t : Fin cfg3.N) (ht : t.val < 16) (i : Fin 256) (k : Fin 1024) :
    ((cfg3.win 7).blk t).view.read (Elt Ideal) A (ix2 i k) = A (ix2 (rowOf ⟨t.val, ht⟩ i) k) := by
  blk_ext [idx3 t, rowOf]

/-- The block of window 8. -/
theorem rd3_8 (A : FVec Ideal S16x1x6144 .f32) (t : Fin cfg3.N) (k : Fin 1024) :
    ((cfg3.win 8).blk t).view.read (Elt Ideal) A (ix3 0 0 k) = A (ix3 0 0 ⟨2048 + k.val, by omega⟩) := by
  blk_ext [idx3 t]

/-- The block of window 9. -/
theorem rd3_9 (A : FVec Ideal S16x1x6144 .f32) (t : Fin cfg3.N) (k : Fin 1024) :
    ((cfg3.win 9).blk t).view.read (Elt Ideal) A (ix3 0 0 k) = A (ix3 0 0 ⟨3072 + k.val, by omega⟩) := by
  blk_ext [idx3 t]

/-- The block of window 10. -/
theorem rd3_10 (A : FVec Ideal S16x1x6144 .f32) (t : Fin cfg3.N) (k : Fin 1024) :
    ((cfg3.win 10).blk t).view.read (Elt Ideal) A (ix3 0 0 k) = A (ix3 0 0 ⟨4096 + k.val, by omega⟩) := by
  blk_ext [idx3 t]

/-- Window 11 holds its array whole. -/
theorem rd3_11 (A : FVec Ideal S1x1024 .f32) (t : Fin cfg3.N) (i : Fin 1) (k : Fin 1024) :
    ((cfg3.win 11).blk t).view.read (Elt Ideal) A (ix2 i k) = A (ix2 i k) := by
  blk_ext [idx3 t]

/-- Window 12 holds its array whole. -/
theorem rd3_12 (A : FVec Ideal S1x1024 .f32) (t : Fin cfg3.N) (i : Fin 1) (k : Fin 1024) :
    ((cfg3.win 12).blk t).view.read (Elt Ideal) A (ix2 i k) = A (ix2 i k) := by
  blk_ext [idx3 t]

/-- Window 13 holds its array whole. -/
theorem rd3_13 (A : FVec Ideal S3x1024 .f32) (t : Fin cfg3.N) (i : Fin 3) (k : Fin 1024) :
    ((cfg3.win 13).blk t).view.read (Elt Ideal) A (ix2 i k) = A (ix2 i k) := by
  blk_ext [idx3 t]

/-- Window 14 holds its array whole. -/
theorem rd3_14 (A : FVec Ideal S1024x1024 .bf16) (t : Fin cfg3.N) (i : Fin 1024) (k : Fin 1024) :
    ((cfg3.win 14).blk t).view.read (Elt Ideal) A (ix2 i k) = A (ix2 i k) := by
  blk_ext [idx3 t]

/-- Window 15 holds its array whole. -/
theorem rd3_15 (A : FVec Ideal S1024x1024 .bf16) (t : Fin cfg3.N) (i : Fin 1024) (k : Fin 1024) :
    ((cfg3.win 15).blk t).view.read (Elt Ideal) A (ix2 i k) = A (ix2 i k) := by
  blk_ext [idx3 t]

/-- Window 16 holds its array whole. -/
theorem rd3_16 (A : FVec Ideal S1024x1024 .bf16) (t : Fin cfg3.N) (i : Fin 1024) (k : Fin 1024) :
    ((cfg3.win 16).blk t).view.read (Elt Ideal) A (ix2 i k) = A (ix2 i k) := by
  blk_ext [idx3 t]

/-- Where grid point `t`'s block of window 17 lies. -/
theorem emb3_17 (t : Fin cfg3.N) (ht : t.val < 16) (i : Fin 256) (l : Fin 1024) :
    (win3_17.blk t).view.emb (ix2 i l) = (ix2 (rowOf ⟨t.val, ht⟩ i) l : S4096x1024.Idx) := by
  blk_ext [idx3 t, rowOf]

/-- Where grid point `t`'s block of window 18 lies. -/
theorem emb3_18 (t : Fin cfg3.N) (ht : t.val < 16) (i : Fin 256) (l : Fin 1024) :
    (win3_18.blk t).view.emb (ix2 i l) = (ix2 (rowOf ⟨t.val, ht⟩ i) l : S4096x1024.Idx) := by
  blk_ext [idx3 t, rowOf]

/-- A tile's row of the first result is the whole array's. -/
theorem h1T_blk (c : Dev nD) (t : Fin cfg3.N) (ht : t.val < 16) (i : Fin 256) :
    h1T (iblk3 V c 0 t) (iblk3 V c 1 t) (iblk3 V c 2 t) (iblk3 V c 5 t) (iblk3 V c 6 t) (iblk3 V c 7 t) (iblk3 V c 8 t) (iblk3 V c 11 t) (iblk3 V c 13 t) (iblk3 V c 14 t) (iblk3 V c 15 t) (iblk3 V c 16 t) i = hF (V c main_v57) (V c main_v46_3) (V c main_v46_4) (V c main_v46_5) (V c main_v46_6) (V c main_v45) (V c main_v44) (V c main_v8) (V c main_v29) (V c main_v28) (V c main_v31) (V c main_v33) ⟨t.val, ht⟩ i := by
  funext l
  unfold h1T hF
  refine addK_congr (fun k => rd3_7 (V c main_v45) t ht i k) (fun k => rd3_8 (V c main_v44) t k) (fun k => congrFun (dot_congr (fun n => ?_) fun a b => rd3_16 (V c main_v33) t a b) k) (fun k => rd3_11 (V c main_v8) t 0 k) l
  unfold mT mF
  refine Ideal.add_congr (Ideal.mul_congr (rd3_5 (V c main_v46_5) t ht i n) (congrFun (dot_congr (fun k => rd3_0 (V c main_v57) t ht i k) fun a b => rd3_14 (V c main_v28) t a b) n))
    (Ideal.mul_congr (rd3_6 (V c main_v46_6) t ht i n) (congrFun (dot_congr (fun k => ?_) fun a b => rd3_15 (V c main_v31) t a b) n))
  unfold cT cF
  have hy : ∀ j : Fin 256, (iblk3 V c 2 t : FVec Ideal S256x1024 .bf16) (ix2 j k) = (V c main_v46_4 : FVec Ideal S4096x1024 .bf16) (ix2 (rowOf ⟨t.val, ht⟩ j) k) := fun j => rd3_2 (V c main_v46_4) t ht j k
  exact Ideal.mul_congr (rd3_1 (V c main_v46_3) t ht i k) (tap_congr (rd3_13 (V c main_v29) t 0 k) (rd3_13 (V c main_v29) t 1 k) (rd3_13 (V c main_v29) t 2 k)
    (congrArg (before i) (funext hy)) (hy i) (congrArg (after i) (funext hy)))

/-- What grid point `t` leaves in the block of window 17. -/
theorem point3_17 (c : Dev nD) (t : Fin cfg3.N) (i : grid3.Coords) (y : S256x1024.Idx) :
    out3_17 (F := Ideal) i (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) y = G3h (V c main_v57) (V c main_v46_3) (V c main_v46_4) (V c main_v46_5) (V c main_v46_6) (V c main_v45) (V c main_v44) (V c main_v8) (V c main_v29) (V c main_v28) (V c main_v31) (V c main_v33) ((win3_17.blk t).view.emb y) := by
  have ht : t.val < 16 := t.isLt
  idx_vars y
  rw [show (win3_17.blk t).view.emb (ix2 y0 y1) = _ from emb3_17 t ht y0 y1]
  refine (o17 i (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) y0 y1).trans ?_
  show _ = hF (V c main_v57) (V c main_v46_3) (V c main_v46_4) (V c main_v46_5) (V c main_v46_6) (V c main_v45) (V c main_v44) (V c main_v8) (V c main_v29) (V c main_v28) (V c main_v31) (V c main_v33) (seqOf (rowOf ⟨t.val, ht⟩ y0)) (posOf (rowOf ⟨t.val, ht⟩ y0)) y1
  rw [seqOf_rowOf, posOf_rowOf]
  exact congrFun (h1T_blk V c t ht y0) y1

/-- Window 17's array after the run. -/
theorem final3_17 (c : Dev nD) : (dat3 V c).arrAt 17 cfg3.N = G3h (V c main_v57) (V c main_v46_3) (V c main_v46_4) (V c main_v46_5) (V c main_v46_6) (V c main_v45) (V c main_v44) (V c main_v8) (V c main_v29) (V c main_v28) (V c main_v31) (V c main_v33) := by
  refine (dat3 V c).arrAt_eq_of_covers 17 _ (by decide +kernel) fun t _ y => ?_
  blk_simp
  rw [after3_17]
  exact point3_17 V c t _ y

/-- What grid point `t` leaves in the block of window 18. -/
theorem point3_18 (c : Dev nD) (t : Fin cfg3.N) (i : grid3.Coords) (y : S256x1024.Idx) :
    out3_18 (F := Ideal) i (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) y = G3u (V c main_v57) (V c main_v46_3) (V c main_v46_4) (V c main_v46_5) (V c main_v46_6) (V c main_v45) (V c main_v44) (V c main_v8) (V c main_v29) (V c main_v28) (V c main_v31) (V c main_v33) (V c main_v10) ((win3_18.blk t).view.emb y) := by
  have ht : t.val < 16 := t.isLt
  idx_vars y
  rw [show (win3_18.blk t).view.emb (ix2 y0 y1) = _ from emb3_18 t ht y0 y1]
  refine (o18 i (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) y0 y1).trans ?_
  show _ = uK (hF (V c main_v57) (V c main_v46_3) (V c main_v46_4) (V c main_v46_5) (V c main_v46_6) (V c main_v45) (V c main_v44) (V c main_v8) (V c main_v29) (V c main_v28) (V c main_v31) (V c main_v33) (seqOf (rowOf ⟨t.val, ht⟩ y0)) (posOf (rowOf ⟨t.val, ht⟩ y0))) _ _ _ y1
  rw [seqOf_rowOf, posOf_rowOf]
  exact uK_congr (fun k => congrFun (h1T_blk V c t ht y0) k) (fun k => rd3_12 (V c main_v10) t 0 k) (fun k => rd3_10 (V c main_v44) t k) (fun k => rd3_9 (V c main_v44) t k) y1

/-- Window 18's array after the run. -/
theorem final3_18 (c : Dev nD) : (dat3 V c).arrAt 18 cfg3.N = G3u (V c main_v57) (V c main_v46_3) (V c main_v46_4) (V c main_v46_5) (V c main_v46_6) (V c main_v45) (V c main_v44) (V c main_v8) (V c main_v29) (V c main_v28) (V c main_v31) (V c main_v33) (V c main_v10) := by
  refine (dat3 V c).arrAt_eq_of_covers 18 _ (by decide +kernel) fun t _ y => ?_
  blk_simp
  rw [after3_18]
  exact point3_18 V c t _ y

end Cert.PromptIdeal.Layer

end
-- ==== Proof.Layer.FfnTile.lean ====
/- The tile of the call `ffn`: one grid point's result from the rows in its scratch buffer. -/
module

public import proofs.«01_k».proof.Proof.Layer.Spec
public import proofs.«01_k».proof.Proof.Gen.PromptIdeal.Frame.Region4
public import Idealize.ShloMosaic.Lib.Pipeline.ValueKit

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

/-- The row `i` of the tile after the three taps: rows `15 + i`, `16 + i` and `17 + i` of the scratch buffer, projected. -/
def cvT (e : FVec Ideal S288x1024 .bf16) (x7 : FVec Ideal S1024x5632 .bf16) (x6 : FVec Ideal S3x5632 .f32) (i : Fin 256) : Row 5632 :=
  fun n => tap (x6 (ix2 0 n)) (x6 (ix2 1 n)) (x6 (ix2 2 n))
    (∑ k, e (ix2 ⟨15 + i.val, by omega⟩ k) * x7 (ix2 k n)) (∑ k, e (ix2 ⟨16 + i.val, by omega⟩ k) * x7 (ix2 k n)) (∑ k, e (ix2 ⟨17 + i.val, by omega⟩ k) * x7 (ix2 k n))

/-- A sum over the lower half and a sum over the upper half are the sum over all. -/
theorem sum_halves (f : Fin 2816 → EReal) :
    (∑ n : Fin 1408, f ⟨n.val, by omega⟩) + (∑ n : Fin 1408, f ⟨1408 + n.val, by omega⟩) = ∑ n, f n :=
  (Fin.sum_univ_add (a := 1408) (b := 1408) f).symm

/-- A row read past a turn by one. -/
theorem up (i : Fin 256) (h : (16 + i.val + 288 - 1) % 288 < 288) : (⟨(16 + i.val + 288 - 1) % 288, h⟩ : Fin 288) = ⟨15 + i.val, by omega⟩ :=
  Fin.ext (by show (16 + i.val + 288 - 1) % 288 = 15 + i.val; omega)

/-- A row read past a turn by all but one. -/
theorem dn (i : Fin 256) (h : (16 + i.val + 288 - 287) % 288 < 288) : (⟨(16 + i.val + 288 - 287) % 288, h⟩ : Fin 288) = ⟨17 + i.val, by omega⟩ :=
  Fin.ext (by show (16 + i.val + 288 - 287) % 288 = 17 + i.val; omega)

/-- The taps of the gates from column 0 on. -/
theorem cv5 (e : FVec Ideal S288x1024 .bf16) (x7 : FVec Ideal S1024x5632 .bf16) (x6 : FVec Ideal S3x5632 .f32) (i : Fin 256) (n : Fin 1408) :
    k4_pay5 (F := Ideal) e (View.ld x7 (Rect.unit (s := S1024x5632) ![0, 0] ![1024, 1408] inb_S1024x5632_S1024x1408_0_0)) (View.ld x6 (Rect.unit (s := S3x5632) ![0, 0] ![3, 1408] inb_S3x5632_S3x1408_0_0)) (ix2 i n) = cvT e x7 x6 i ⟨0 + n.val, by omega⟩ := by
  pointwise [k4_pay5]
  unfold cvT tap
  simp only [up, dn]

/-- The taps of the gates from column 1408 on. -/
theorem cv12 (e : FVec Ideal S288x1024 .bf16) (x7 : FVec Ideal S1024x5632 .bf16) (x6 : FVec Ideal S3x5632 .f32) (i : Fin 256) (n : Fin 1408) :
    k4_pay12 (F := Ideal) e (View.ld x7 (Rect.unit (s := S1024x5632) ![0, 1408] ![1024, 1408] inb_S1024x5632_S1024x1408_0_1408)) (View.ld x6 (Rect.unit (s := S3x5632) ![0, 1408] ![3, 1408] inb_S3x5632_S3x1408_0_1408)) (ix2 i n) = cvT e x7 x6 i ⟨1408 + n.val, by omega⟩ := by
  pointwise [k4_pay12]
  unfold cvT tap
  simp only [up, dn]

/-- The lower half of the sum over the hidden width. -/
theorem part11 (e : FVec Ideal S288x1024 .bf16) (x7 : FVec Ideal S1024x5632 .bf16) (x6 : FVec Ideal S3x5632 .f32) (x8 : FVec Ideal S2816x1024 .bf16) (i : Fin 256) (l : Fin 1024) :
    k4_pay11 (F := Ideal) (k4_pay5 e (View.ld x7 (Rect.unit (s := S1024x5632) ![0, 0] ![1024, 1408] inb_S1024x5632_S1024x1408_0_0)) (View.ld x6 (Rect.unit (s := S3x5632) ![0, 0] ![3, 1408] inb_S3x5632_S3x1408_0_0))) (k4_pay6 e (View.ld x7 (Rect.unit (s := S1024x5632) ![0, 2816] ![1024, 1408] inb_S1024x5632_S1024x1408_0_2816))) (k4_pay7 (View.ld x6 (Rect.unit (s := S3x5632) ![0, 2816] ![3, 1408] inb_S3x5632_S3x1408_0_2816))) (k4_pay8 e (View.ld x7 (Rect.unit (s := S1024x5632) ![0, 2816] ![1024, 1408] inb_S1024x5632_S1024x1408_0_2816))) (k4_pay9 e (View.ld x7 (Rect.unit (s := S1024x5632) ![0, 2816] ![1024, 1408] inb_S1024x5632_S1024x1408_0_2816))) (k4_pay10 (View.ld x6 (Rect.unit (s := S3x5632) ![0, 2816] ![3, 1408] inb_S3x5632_S3x1408_0_2816))) (View.ld x8 (Rect.unit (s := S2816x1024) ![0, 0] ![1408, 1024] inb_S2816x1024_S1408x1024_0_0)) (ix2 i l)
      = ∑ n : Fin 1408, act (cvT e x7 x6 i) ⟨n.val, by omega⟩ * x8 (ix2 ⟨n.val, by omega⟩ l) := by
  pointwise [k4_pay11, k4_pay6, k4_pay7, k4_pay8, k4_pay9, k4_pay10]
  simp only [cv5, up, dn, Nat.zero_add]
  rfl

/-- The upper half's summand. -/
theorem part16 (e : FVec Ideal S288x1024 .bf16) (x7 : FVec Ideal S1024x5632 .bf16) (x6 : FVec Ideal S3x5632 .f32) (x8 : FVec Ideal S2816x1024 .bf16)
    (x3 : FVec Ideal S256x1024 .f32) (x4 : FVec Ideal S1x1x1024 .f32) (x5 : FVec Ideal S1x1024 .f32) (i : Fin 256) (l : Fin 1024) :
    k4_pay16 (F := Ideal) (k4_pay11 (F := Ideal) (k4_pay5 e (View.ld x7 (Rect.unit (s := S1024x5632) ![0, 0] ![1024, 1408] inb_S1024x5632_S1024x1408_0_0)) (View.ld x6 (Rect.unit (s := S3x5632) ![0, 0] ![3, 1408] inb_S3x5632_S3x1408_0_0))) (k4_pay6 e (View.ld x7 (Rect.unit (s := S1024x5632) ![0, 2816] ![1024, 1408] inb_S1024x5632_S1024x1408_0_2816))) (k4_pay7 (View.ld x6 (Rect.unit (s := S3x5632) ![0, 2816] ![3, 1408] inb_S3x5632_S3x1408_0_2816))) (k4_pay8 e (View.ld x7 (Rect.unit (s := S1024x5632) ![0, 2816] ![1024, 1408] inb_S1024x5632_S1024x1408_0_2816))) (k4_pay9 e (View.ld x7 (Rect.unit (s := S1024x5632) ![0, 2816] ![1024, 1408] inb_S1024x5632_S1024x1408_0_2816))) (k4_pay10 (View.ld x6 (Rect.unit (s := S3x5632) ![0, 2816] ![3, 1408] inb_S3x5632_S3x1408_0_2816))) (View.ld x8 (Rect.unit (s := S2816x1024) ![0, 0] ![1408, 1024] inb_S2816x1024_S1408x1024_0_0)))
        (k4_pay12 e (View.ld x7 (Rect.unit (s := S1024x5632) ![0, 1408] ![1024, 1408] inb_S1024x5632_S1024x1408_0_1408)) (View.ld x6 (Rect.unit (s := S3x5632) ![0, 1408] ![3, 1408] inb_S3x5632_S3x1408_0_1408))) (k4_pay13 e (View.ld x7 (Rect.unit (s := S1024x5632) ![0, 4224] ![1024, 1408] inb_S1024x5632_S1024x1408_0_4224))) (k4_pay14 (View.ld x6 (Rect.unit (s := S3x5632) ![0, 4224] ![3, 1408] inb_S3x5632_S3x1408_0_4224))) (k4_pay15 e (View.ld x7 (Rect.unit (s := S1024x5632) ![0, 4224] ![1024, 1408] inb_S1024x5632_S1024x1408_0_4224))) (View.ld x8 (Rect.unit (s := S2816x1024) ![1408, 0] ![1408, 1024] inb_S2816x1024_S1408x1024_1408_0)) x3 x4 x5 (ix2 i l)
      = addK (fun k => x3 (ix2 i k)) (fun k => x4 (ix3 0 0 k)) (dot (act (cvT e x7 x6 i)) fun n k => x8 (ix2 n k)) (fun k => x5 (ix2 0 k)) l := by
  have H : ∀ k : Fin 1024, (∑ n : Fin 1408, act (cvT e x7 x6 i) ⟨n.val, by omega⟩ * x8 (ix2 ⟨n.val, by omega⟩ k)) + (∑ n : Fin 1408, act (cvT e x7 x6 i) ⟨1408 + n.val, by omega⟩ * x8 (ix2 ⟨1408 + n.val, by omega⟩ k))
      = dot (act (cvT e x7 x6 i)) (fun n k => x8 (ix2 n k)) k := fun k => sum_halves fun n => act (cvT e x7 x6 i) n * x8 (ix2 n k)
  have hx : ∀ n : Fin 1408, cvT e x7 x6 i ⟨1408 + n.val, by omega⟩ * Ideal.logistic (cvT e x7 x6 i ⟨1408 + n.val, by omega⟩)
      * (x6 (ix2 0 ⟨4224 + n.val, by omega⟩) * (∑ k, e (ix2 ⟨15 + i.val, by omega⟩ k) * x7 (ix2 k ⟨4224 + n.val, by omega⟩))
        + x6 (ix2 1 ⟨4224 + n.val, by omega⟩) * (∑ k, e (ix2 ⟨16 + i.val, by omega⟩ k) * x7 (ix2 k ⟨4224 + n.val, by omega⟩))
        + x6 (ix2 2 ⟨4224 + n.val, by omega⟩) * (∑ k, e (ix2 ⟨17 + i.val, by omega⟩ k) * x7 (ix2 k ⟨4224 + n.val, by omega⟩)))
      = act (cvT e x7 x6 i) ⟨1408 + n.val, by omega⟩ := fun n => by
    have hn : (⟨4224 + n.val, by omega⟩ : Fin 5632) = ⟨2816 + (1408 + n.val), by omega⟩ := Fin.ext (by show 4224 + n.val = 2816 + (1408 + n.val); omega)
    rw [hn]; rfl
  pointwise [k4_pay16, k4_pay13, k4_pay14, k4_pay15]
  simp only [cv12, part11, up, dn, hx, H]
  rfl
end Cert.PromptIdeal.Layer

end
-- ==== Proof.Layer.FfnExt.lean ====
/- The tile of the call `ffn`: what its scratch buffer holds. -/
module

public import proofs.«01_k».proof.Proof.Layer.FfnTile

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

/-- The condition the body computes for the rows after the tile. -/
abbrev nx (i : grid4.Coords) : BitVec 1 :=
  Scalar.cmpi .ne (Scalar.select (Scalar.andi (Scalar.xori (Scalar.cmpi .slt (Scalar.remsi (BitVec.ofNat 32 (i 0).val) 1#32) 0#32) 0#1) (Scalar.cmpi .ne (Scalar.remsi (BitVec.ofNat 32 (i 0).val) 1#32) 0#32))
    (Scalar.addi (Scalar.remsi (BitVec.ofNat 32 (i 0).val) 1#32) 1#32) (Scalar.remsi (BitVec.ofNat 32 (i 0).val) 1#32)) 0#32

/-- Each tile is a whole sequence, so the condition is false. -/
theorem nx0 : ∀ a : Fin 16, Scalar.cmpi .ne (Scalar.select (Scalar.andi (Scalar.xori (Scalar.cmpi .slt (Scalar.remsi (BitVec.ofNat 32 a.val) 1#32) 0#32) 0#1) (Scalar.cmpi .ne (Scalar.remsi (BitVec.ofNat 32 a.val) 1#32) 0#32))
    (Scalar.addi (Scalar.remsi (BitVec.ofNat 32 a.val) 1#32) 1#32) (Scalar.remsi (BitVec.ofNat 32 a.val) 1#32)) 0#32 = 0#1 := by decide +kernel

/-- The rows stored after the tile are zeros. -/
theorem spay4_eq (i : grid4.Coords) (x2 : FVec Ideal S16x1024 .bf16) : k4_pay4 (F := Ideal) (nx i) k4_pay1 x2 = fun _ => 0 := by
  funext y
  rw [show nx i = 0#1 from nx0 (i 0)]
  idx_vars y
  pointwise [k4_pay4, k4_pay1]

/-- The rows stored before the tile are zeros. -/
theorem spay2_eq (i : grid4.Coords) (x1 : FVec Ideal S16x1024 .bf16) : k4_pay2 (F := Ideal) i x1 = fun _ => 0 := by
  funext y
  have h := nx0 (i 0)
  idx_vars y
  pointwise [k4_pay2, k4_pay1]
  rw [show Scalar.cmpi .slt 1#32 0#32 = 0#1 from by decide, h]
  rfl

/-- The rows the scratch buffer holds. -/
abbrev ext (i : grid4.Coords) (x0 : FVec Ideal S256x1024 .bf16) (x1 x2 : FVec Ideal S16x1024 .bf16) : FVec Ideal S288x1024 .bf16 :=
  View.canon (Val := Elt Ideal) (s := S288x1024) (e := .bf16) [⟨Rect.unit ![272, 0] ![16, 1024] inb_S288x1024_S16x1024_272_0, k4_pay4 (F := Ideal) (nx i) k4_pay1 x2⟩,
    ⟨Rect.unit ![16, 0] ![256, 1024] inb_S288x1024_S256x1024_16_0, k4_pay3 (F := Ideal) x0⟩,
    ⟨Rect.unit ![0, 0] ![16, 1024] inb_S288x1024_S16x1024_0_0, k4_pay2 (F := Ideal) i x1⟩]

/-- What the scratch buffer holds: zeros, the tile, zeros. -/
theorem ext_at (i : grid4.Coords) (x0 : FVec Ideal S256x1024 .bf16) (x1 x2 : FVec Ideal S16x1024 .bf16) (z : S288x1024.Idx) :
    ext i x0 x1 x2 z = if h : 16 ≤ (z 0).val ∧ (z 0).val < 272 then x0 (ix2 ⟨(z 0).val - 16, by omega⟩ (z 1)) else 0 := by
  unfold ext
  obtain ⟨y, hy⟩ : ∃ y, z = y := ⟨z, rfl⟩
  rw [hy]
  canon_tiles y h using View.cover_of_tiledBy _ ![16, 1024] (by sl_kernel_rfl) y
  all_goals subst hy
  · rw [dif_neg (by omega)]
    exact (congrFun (spay4_eq i x2) y)
  · rw [dif_pos (by omega)]
    idx_vars y
    pointwise [k4_pay3]
    have h0' : (z 0).val = 16 + y0.val := h0
    have e0 : (⟨(z 0).val - 16, by omega⟩ : Fin 256) = y0 := Fin.ext (by show (z 0).val - 16 = y0.val; omega)
    have e1 : (z 1 : Fin 1024) = y1 := Fin.ext h1
    exact congrArg x0 (by rw [e0, e1])
  · rw [dif_neg (by omega)]
    exact (congrFun (spay2_eq i x1) y)

/-- A row of the scratch buffer inside the tile. -/
theorem ext_in (i : grid4.Coords) (x0 : FVec Ideal S256x1024 .bf16) (x1 x2 : FVec Ideal S16x1024 .bf16) (r : Fin 288) (j : Fin 256) (h : r.val = 16 + j.val) (k : Fin 1024) :
    ext i x0 x1 x2 (ix2 r k) = x0 (ix2 j k) :=
  (ext_at i x0 x1 x2 (ix2 r k)).trans ((dif_pos (show 16 ≤ r.val ∧ r.val < 272 by omega)).trans
    (congrArg (fun q => x0 (ix2 q k)) (Fin.ext (by show r.val - 16 = j.val; omega))))

/-- A row of the scratch buffer outside the tile. -/
theorem ext_out (i : grid4.Coords) (x0 : FVec Ideal S256x1024 .bf16) (x1 x2 : FVec Ideal S16x1024 .bf16) (r : Fin 288) (h : r.val < 16 ∨ 272 ≤ r.val) (k : Fin 1024) :
    ext i x0 x1 x2 (ix2 r k) = 0 :=
  (ext_at i x0 x1 x2 (ix2 r k)).trans (dif_neg (show ¬ (16 ≤ r.val ∧ r.val < 272) by omega))

/-- The load of the whole scratch buffer. -/
theorem ld_all (X : FVec Ideal S288x1024 .bf16) : View.ld (Val := Elt Ideal) (e' := .bf16) X (Rect.unit (s := S288x1024) ![0, 0] S288x1024.size inb_S288x1024_S288x1024_0_0) = X := by
  have h : (![0, 0] : Fin 2 → ℕ) = fun _ => 0 := by funext a; fin_cases a <;> rfl
  exact View.ld_unit_zero (Val := Elt Ideal) (S := S288x1024) (e := .bf16) h _ X

/-- The taps of a tile: the row before the first and the row after the last are zero. -/
theorem cvT_ext (i : grid4.Coords) (x0 : FVec Ideal S256x1024 .bf16) (x1 x2 : FVec Ideal S16x1024 .bf16) (x7 : FVec Ideal S1024x5632 .bf16) (x6 : FVec Ideal S3x5632 .f32) (r : Fin 256) (n : Fin 5632) :
    cvT (ext i x0 x1 x2) x7 x6 r n = tap (x6 (ix2 0 n)) (x6 (ix2 1 n)) (x6 (ix2 2 n)) (before r fun j => ∑ k, x0 (ix2 j k) * x7 (ix2 k n)) (∑ k, x0 (ix2 r k) * x7 (ix2 k n)) (after r fun j => ∑ k, x0 (ix2 j k) * x7 (ix2 k n)) := by
  have hs : ∀ (q : Fin 288) (j : Fin 256) (h : q.val = 16 + j.val), (∑ k, ext i x0 x1 x2 (ix2 q k) * x7 (ix2 k n)) = ∑ k, x0 (ix2 j k) * x7 (ix2 k n) := fun q j h =>
    Finset.sum_congr rfl fun k _ => Ideal.mul_congr (ext_in i x0 x1 x2 q j h k) rfl
  have hz : ∀ (q : Fin 288) (h : q.val < 16 ∨ 272 ≤ q.val), (∑ k, ext i x0 x1 x2 (ix2 q k) * x7 (ix2 k n)) = 0 := fun q h =>
    (Finset.sum_congr rfl fun k _ => (Ideal.mul_congr (ext_out i x0 x1 x2 q h k) rfl).trans (zero_mul _)).trans Finset.sum_const_zero
  unfold cvT before after
  refine tap_congr rfl rfl rfl ?_ (hs _ r rfl) ?_
  · by_cases h : r.val = 0
    · rw [dif_pos h]; exact hz _ (Or.inl (by show 15 + r.val < 16; omega))
    · rw [dif_neg h]; exact hs _ ⟨r.val - 1, by omega⟩ (by show 15 + r.val = 16 + (r.val - 1); omega)
  · by_cases h : r.val = 255
    · rw [dif_pos h]; exact hz _ (Or.inr (by show 272 ≤ 17 + r.val; omega))
    · rw [dif_neg h]; exact hs _ ⟨r.val + 1, by omega⟩ (by show 17 + r.val = 16 + (r.val + 1); omega)

end Cert.PromptIdeal.Layer

end
-- ==== Proof.Layer.Ffn.lean ====
/- The call `ffn`: its result array after its run, from the arrays it reads. -/
module

public import proofs.«01_k».proof.Proof.Layer.FfnExt

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

/-- The row `i` of sequence `b` projected and put through the three taps. -/
def cvF (U : FVec Ideal S4096x1024 .bf16) (W : FVec Ideal S1024x5632 .bf16) (cw : FVec Ideal S3x5632 .f32) (b : Fin 16) (i : Fin 256) : Row 5632 :=
  fun n => tap (cw (ix2 0 n)) (cw (ix2 1 n)) (cw (ix2 2 n)) (before i fun j => ∑ k, U (ix2 (rowOf b j) k) * W (ix2 k n)) (∑ k, U (ix2 (rowOf b i) k) * W (ix2 k n)) (after i fun j => ∑ k, U (ix2 (rowOf b j) k) * W (ix2 k n))

/-- The result, over the whole array. -/
def G4 (U : FVec Ideal S4096x1024 .bf16) (H : FVec Ideal S4096x1024 .f32) (A : FVec Ideal S16x1x6144 .f32) (g : FVec Ideal S1x1024 .f32) (cw : FVec Ideal S3x5632 .f32) (W : FVec Ideal S1024x5632 .bf16) (D : FVec Ideal S2816x1024 .bf16) : FVec Ideal S4096x1024 .f32 :=
  fun j => addK (fun k => H (ix2 (j 0) k)) (fun k => A (ix3 0 0 ⟨5120 + k.val, by omega⟩)) (dot (act (cvF U W cw (seqOf (j 0)) (posOf (j 0)))) fun n k => D (ix2 n k)) (fun k => g (ix2 0 k)) (j 1)

variable (V : (c : Dev nD) → (b : Ref sig .tc) → Buf (Elt Ideal) ((c : Thread nD τ).loc b))

/-- Which block of its array each window holds at grid point `t`. -/
theorem idx4 : ∀ t : Fin cfg4.N, win4_0.index t = ![t.val, 0] ∧ win4_3.index t = ![t.val, 0] ∧ win4_4.index t = ![0, 0, 5] ∧ win4_5.index t = ![0, 0]
    ∧ win4_6.index t = ![0, 0] ∧ win4_7.index t = ![0, 0] ∧ win4_8.index t = ![0, 0] ∧ win4_9.index t = ![t.val, 0] := (by decide +kernel : ∀ t : Fin grid4.N, _)

/-- Grid point `t`'s block of window 0. -/
theorem rd4_0 (A : FVec Ideal S4096x1024 .bf16) (t : Fin cfg4.N) (ht : t.val < 16) (i : Fin 256) (k : Fin 1024) :
    ((cfg4.win 0).blk t).view.read (Elt Ideal) A (ix2 i k) = A (ix2 (rowOf ⟨t.val, ht⟩ i) k) := by
  blk_ext [idx4 t, rowOf]

/-- Grid point `t`'s block of window 3. -/
theorem rd4_3 (A : FVec Ideal S4096x1024 .f32) (t : Fin cfg4.N) (ht : t.val < 16) (i : Fin 256) (k : Fin 1024) :
    ((cfg4.win 3).blk t).view.read (Elt Ideal) A (ix2 i k) = A (ix2 (rowOf ⟨t.val, ht⟩ i) k) := by
  blk_ext [idx4 t, rowOf]

/-- The gate's block. -/
theorem rd4_4 (A : FVec Ideal S16x1x6144 .f32) (t : Fin cfg4.N) (k : Fin 1024) :
    ((cfg4.win 4).blk t).view.read (Elt Ideal) A (ix3 0 0 k) = A (ix3 0 0 ⟨5120 + k.val, by omega⟩) := by
  blk_ext [idx4 t]

/-- Window 5 holds its array whole. -/
theorem rd4_5 (A : FVec Ideal S1x1024 .f32) (t : Fin cfg4.N) (i : Fin 1) (k : Fin 1024) :
    ((cfg4.win 5).blk t).view.read (Elt Ideal) A (ix2 i k) = A (ix2 i k) := by
  blk_ext [idx4 t]

/-- Window 6 holds its array whole. -/
theorem rd4_6 (A : FVec Ideal S3x5632 .f32) (t : Fin cfg4.N) (i : Fin 3) (k : Fin 5632) :
    ((cfg4.win 6).blk t).view.read (Elt Ideal) A (ix2 i k) = A (ix2 i k) := by
  blk_ext [idx4 t]

/-- Window 7 holds its array whole. -/
theorem rd4_7 (A : FVec Ideal S1024x5632 .bf16) (t : Fin cfg4.N) (i : Fin 1024) (k : Fin 5632) :
    ((cfg4.win 7).blk t).view.read (Elt Ideal) A (ix2 i k) = A (ix2 i k) := by
  blk_ext [idx4 t]

/-- Window 8 holds its array whole. -/
theorem rd4_8 (A : FVec Ideal S2816x1024 .bf16) (t : Fin cfg4.N) (i : Fin 2816) (k : Fin 1024) :
    ((cfg4.win 8).blk t).view.read (Elt Ideal) A (ix2 i k) = A (ix2 i k) := by
  blk_ext [idx4 t]

/-- Where grid point `t`'s block of the result lies. -/
theorem emb4_9 (t : Fin cfg4.N) (ht : t.val < 16) (i : Fin 256) (l : Fin 1024) :
    (win4_9.blk t).view.emb (ix2 i l) = (ix2 (rowOf ⟨t.val, ht⟩ i) l : S4096x1024.Idx) := by
  blk_ext [idx4 t, rowOf]

/-- Taps of a block that is a part of the whole array. -/
theorem taps_congr (x0 : FVec Ideal S256x1024 .bf16) (x7 : FVec Ideal S1024x5632 .bf16) (x6 : FVec Ideal S3x5632 .f32) (U : FVec Ideal S4096x1024 .bf16) (W : FVec Ideal S1024x5632 .bf16)
    (cw : FVec Ideal S3x5632 .f32) (b : Fin 16) (i : Fin 256) (n : Fin 5632) (h0 : ∀ j k, x0 (ix2 j k) = U (ix2 (rowOf b j) k)) (h7 : ∀ k, x7 (ix2 k n) = W (ix2 k n)) (h6 : ∀ r, x6 (ix2 r n) = cw (ix2 r n)) :
    tap (x6 (ix2 0 n)) (x6 (ix2 1 n)) (x6 (ix2 2 n)) (before i fun j => ∑ k, x0 (ix2 j k) * x7 (ix2 k n)) (∑ k, x0 (ix2 i k) * x7 (ix2 k n)) (after i fun j => ∑ k, x0 (ix2 j k) * x7 (ix2 k n))
      = cvF U W cw b i n := by
  have hz : ∀ j : Fin 256, ∑ k, x0 (ix2 j k) * x7 (ix2 k n) = ∑ k, U (ix2 (rowOf b j) k) * W (ix2 k n) :=
    fun j => Finset.sum_congr rfl fun k _ => Ideal.mul_congr (h0 j k) (h7 k)
  exact tap_congr (h6 0) (h6 1) (h6 2) (congrArg (before i) (funext hz)) (hz i) (congrArg (after i) (funext hz))

/-- The tile's taps from the whole array. -/
theorem cvT_blk (c : Dev nD) (t : Fin cfg4.N) (ht : t.val < 16) (i : Fin 256) :
    cvT (ext (grid4.coords t) (iblk4 V c 0 t) (iblk4 V c 1 t) (iblk4 V c 2 t)) (iblk4 V c 7 t) (iblk4 V c 6 t) i
      = cvF (V c main_v58_1) (V c main_v35) (V c main_v36) ⟨t.val, ht⟩ i := by
  funext n
  refine (cvT_ext (grid4.coords t) (iblk4 V c 0 t) (iblk4 V c 1 t) (iblk4 V c 2 t) (iblk4 V c 7 t) (iblk4 V c 6 t) i n).trans ?_
  exact taps_congr (iblk4 V c 0 t) (iblk4 V c 7 t) (iblk4 V c 6 t) (V c main_v58_1) (V c main_v35) (V c main_v36) ⟨t.val, ht⟩ i n
    (fun j k => rd4_0 (V c main_v58_1) t ht j k) (fun k => rd4_7 (V c main_v35) t k n) (fun r => rd4_6 (V c main_v36) t r n)

/-- What grid point `t` leaves in the block of the result. -/
theorem point4 (c : Dev nD) (t : Fin cfg4.N) (y : S256x1024.Idx) :
    outsAt4 V c t y = G4 (V c main_v58_1) (V c main_v58_0) (V c main_v44) (V c main_v12) (V c main_v36) (V c main_v35) (V c main_v38) ((win4_9.blk t).view.emb y) := by
  have ht : t.val < 16 := t.isLt
  have hc := cvT_blk V c t ht
  unfold outsAt4
  frame_out
  idx_vars y
  rw [show (win4_9.blk t).view.emb (ix2 y0 y1) = _ from emb4_9 t ht y0 y1]
  rw [View.readCov_eq_canon_ld _ _ _ (fun z => View.cover_of_tiledBy _ ![16, 1024] (by sl_kernel_rfl) z)]
  rw [ld_all]
  refine (part16 (ext (grid4.coords t) (iblk4 V c 0 t) (iblk4 V c 1 t) (iblk4 V c 2 t)) (iblk4 V c 7 t) (iblk4 V c 6 t) (iblk4 V c 8 t) (iblk4 V c 3 t) (iblk4 V c 4 t) (iblk4 V c 5 t) y0 y1).trans ?_
  rw [hc y0]
  unfold G4
  show addK _ _ _ _ y1 = addK _ _ (dot (act (cvF _ _ _ (seqOf (rowOf ⟨t.val, ht⟩ y0)) (posOf (rowOf ⟨t.val, ht⟩ y0)))) _) _ y1
  rw [seqOf_rowOf, posOf_rowOf]
  exact addK_congr (fun k => rd4_3 (V c main_v58_0) t ht y0 k) (fun k => rd4_4 (V c main_v44) t k)
    (fun k => congrFun (dot_congr (fun _ => rfl) fun n l => rd4_8 (V c main_v38) t n l) k) (fun k => rd4_5 (V c main_v12) t 0 k) y1

/-- The result: the array after the run. -/
theorem final4 (c : Dev nD) : (dat4 V c).arrAt 9 cfg4.N = G4 (V c main_v58_1) (V c main_v58_0) (V c main_v44) (V c main_v12) (V c main_v36) (V c main_v35) (V c main_v38) := by
  refine (dat4 V c).arrAt_eq_of_covers 9 _ (by decide +kernel) fun t _ y => ?_
  blk_simp
  rw [after4_9]
  exact point4 V c t y

end Cert.PromptIdeal.Layer

end
-- ==== Proof.Layer.Model.lean ====
/- The layer's prompt path as mathematics: every intermediate of the layer as a function of the arguments, written once
   and used for both programs, and the finiteness of the attention's scores from that of the head gains. -/
module

public import proofs.«01_k».proof.Proof.Layer.Spec
public import proofs.«01_k».proof.Proof.Softmax

@[expose] public section

noncomputable section

namespace Cert.Layer

open Idealize.ShloMosaic Cert.Softmax

/-- The arguments the prompt path uses, entry by entry: the prompt `x`, the context vector `cx`, the modulation's weight
    and bias `wA`, `bA`, the four gains `g1` … `g4`, the input projection `wI`, the head gains `qn`, `kn`, the attention's
    output projection `wa`, the convolution's taps and output projection `cw`, `wc`, the merged output projection `wo`, and
    the feed-forward's `wu`, `cf`, `wd`. -/
structure Args where
  x : Fin 16 → Fin 256 → Row 1024
  cx : Row 1024
  wA : Fin 1024 → Row 6144
  bA : Row 6144
  g1 : Row 1024
  g2 : Row 1024
  g3 : Row 1024
  g4 : Row 1024
  wI : Fin 1024 → Row 6656
  qn : Row 64
  kn : Row 64
  wa : Fin 1024 → Row 1024
  cw : Fin 3 → Row 1024
  wc : Fin 1024 → Row 1024
  wo : Fin 1024 → Row 1024
  wu : Fin 1024 → Row 5632
  cf : Fin 3 → Row 5632
  wd : Fin 2816 → Row 1024

/-- The score scale, an eighth. -/
def c8 : EReal := Ideal.ofBits FTy.f32 0x3E000000#32

/-- The head width. -/
def c64 : EReal := Ideal.ofBits FTy.f32 0x42800000#32

/-- The norm of one head. -/
def hn (w g : Row 64) : Row 64 := fun d => w d * Ideal.rsqrt (Ideal.div (∑ e, w e * w e) c64 + cEps) * g d

/-- The modulation vector. -/
def ada (a : Args) : Row 6144 := fun n => (∑ k, a.cx k * Ideal.logistic (a.cx k) * a.wA k n) + a.bA n

/-- The `j`-th sixth of the modulation vector. -/
def adaAt (a : Args) (o : Nat) (h : o + 1024 ≤ 6144) : Row 1024 := fun l => ada a ⟨o + l.val, by omega⟩

/-- The modulated rows before the input projection. -/
def u1 (a : Args) (b : Fin 16) (i : Fin 256) : Row 1024 := uK (a.x b i) a.g1 (adaAt a 1024 (by omega)) (adaAt a 0 (by omega))

/-- The input projection. -/
def zz (a : Args) (b : Fin 16) (i : Fin 256) : Row 6656 := dot (u1 a b i) a.wI

/-- Sixty-four entries of the input projection. -/
def piece (a : Args) (b : Fin 16) (i : Fin 256) (o : Nat) (h : o + 64 ≤ 6656) : Row 64 := fun e => zz a b i ⟨o + e.val, by omega⟩

/-- The queries of head `h`. -/
def qq (a : Args) (b : Fin 16) (i : Fin 256) (h : Fin 16) : Row 64 := hn (piece a b i (64 * h.val) (by omega)) a.qn

/-- The keys of group `n`. -/
def kk (a : Args) (b : Fin 16) (i : Fin 256) (n : Fin 4) : Row 64 := hn (piece a b i (1024 + 64 * n.val) (by omega)) a.kn

/-- The values of group `n`. -/
def vv (a : Args) (b : Fin 16) (i : Fin 256) (n : Fin 4) : Row 64 := piece a b i (1280 + 64 * n.val) (by omega)

/-- The score of query `i` of head `h` against key `t`. -/
def score (a : Args) (b : Fin 16) (i : Fin 256) (h : Fin 16) (t : Fin 256) : EReal :=
  (∑ d, qq a b i h d * kk a b t ⟨h.val / 4, by omega⟩ d) * c8

/-- The attention's row, head beside head. -/
def attn (a : Args) (b : Fin 16) (i : Fin 256) : Row 1024 :=
  fun l => early (score a b i ⟨l.val / 64, by omega⟩) fun t => vv a b t ⟨l.val / 256, by omega⟩ ⟨l.val % 64, by omega⟩

/-- The gated convolution's row. -/
def cnv (a : Args) (b : Fin 16) (i : Fin 256) : Row 1024 := fun l =>
  zz a b i ⟨1536 + l.val, by omega⟩ * tap (a.cw 0 l) (a.cw 1 l) (a.cw 2 l)
    (before i fun j => zz a b j ⟨2560 + l.val, by omega⟩ * zz a b j ⟨3584 + l.val, by omega⟩)
    (zz a b i ⟨2560 + l.val, by omega⟩ * zz a b i ⟨3584 + l.val, by omega⟩)
    (after i fun j => zz a b j ⟨2560 + l.val, by omega⟩ * zz a b j ⟨3584 + l.val, by omega⟩)

/-- The merged row. -/
def mrg (a : Args) (b : Fin 16) (i : Fin 256) : Row 1024 := fun l =>
  Ideal.logistic (zz a b i ⟨4608 + l.val, by omega⟩) * dot (attn a b i) a.wa l
    + Ideal.logistic (zz a b i ⟨5632 + l.val, by omega⟩) * dot (cnv a b i) a.wc l

/-- The row after the first residual sum. -/
def h1 (a : Args) (b : Fin 16) (i : Fin 256) : Row 1024 := addK (a.x b i) (adaAt a 2048 (by omega)) (dot (mrg a b i) a.wo) a.g2

/-- The modulated row before the feed-forward. -/
def u2 (a : Args) (b : Fin 16) (i : Fin 256) : Row 1024 := uK (h1 a b i) a.g3 (adaAt a 4096 (by omega)) (adaAt a 3072 (by omega))

/-- The feed-forward's taps. -/
def ff (a : Args) (b : Fin 16) (i : Fin 256) : Row 5632 := fun n =>
  tap (a.cf 0 n) (a.cf 1 n) (a.cf 2 n) (before i fun j => dot (u2 a b j) a.wu n) (dot (u2 a b i) a.wu n) (after i fun j => dot (u2 a b j) a.wu n)

/-- The layer's row. -/
def yy (a : Args) (b : Fin 16) (i : Fin 256) : Row 1024 := addK (h1 a b i) (adaAt a 5120 (by omega)) (dot (act (ff a b i)) a.wd) a.g4

/-- The reference's order of the modulation's products. -/
theorem uK_ref (x g sc sh : Row 1024) (l : Fin 1024) : x l * nrm x * g l * (1 + sc l) + sh l = uK x g sc sh l := by
  unfold uK; rw [mul_assoc (x l * nrm x)]

/-! ## Finiteness -/

/-- The gains of the queries and of the keys are real. -/
structure Args.Finite (a : Args) : Prop where
  qn : ∀ d, Real' (a.qn d)
  kn : ∀ d, Real' (a.kn d)

/-- The width of a head, as a real. -/
theorem c64_val : c64 = ((64 : ℝ) : EReal) := by
  simp [c64, Ideal.ofBits, Ideal.ieee]
  rw [← EReal.coe_mul]; norm_num

/-- The score scale, as a real. -/
theorem c8_val : c8 = ((1 / 8 : ℝ) : EReal) := by
  simp [c8, Ideal.ofBits, Ideal.ieee]
  rw [← EReal.coe_mul]; norm_num

/-- The number added under the roots is a positive real. -/
theorem cEps_pos : ∃ e : ℝ, 0 < e ∧ cEps = (e : EReal) := by
  have h : cEps = ((8796093 / 8796093022208 : ℝ) : EReal) := by
    simp [cEps, Ideal.ofBits, Ideal.ieee]
    rw [← EReal.coe_mul]; norm_num
  exact ⟨_, by norm_num, h⟩

/-- The reciprocal root of a mean of squares of reals, with the small number added, is real. -/
theorem real_rms {n : ℕ} (w : Row n) (c : EReal) (r : ℝ) (hc : c = (r : EReal)) (hr : 0 < r) (hw : ∀ e, Real' (w e)) :
    Real' (Ideal.rsqrt (Ideal.div (∑ e, w e * w e) c + cEps)) := by
  choose f hf using hw
  obtain ⟨e, he, hE⟩ := cEps_pos
  have h1 : ∑ e, w e * w e = ((∑ e, f e * f e : ℝ) : EReal) := by
    rw [← coe_sum]; exact Finset.sum_congr rfl fun e _ => by rw [hf e, EReal.coe_mul]
  have h2 : Ideal.div (∑ e, w e * w e) c + cEps = (((∑ e, f e * f e) * (1 / r) + e : ℝ) : EReal) := by
    rw [h1, hc, Ideal.div_coe hr.ne', hE, ← EReal.coe_mul, ← EReal.coe_add]
  have h3 : 0 < (∑ e, f e * f e) * (1 / r) + e := by
    have : 0 ≤ ∑ e, f e * f e := Finset.sum_nonneg fun e _ => mul_self_nonneg (f e)
    positivity
  rw [h2, Ideal.rsqrt_coe, if_neg h3.not_gt, if_neg h3.ne']
  exact ⟨_, rfl⟩

/-- A square is not negative. -/
theorem sq_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- The square of a number that is not real is infinite. -/
theorem sq_top {x : EReal} (h : ¬ Real' x) : x * x = ⊤ := by
  induction x using EReal.rec with
  | bot => exact EReal.bot_mul_bot
  | top => exact EReal.top_mul_top
  | coe r => exact absurd ⟨r, rfl⟩ h

/-- The reciprocal root of an infinite mean of squares is zero. -/
theorem rms_zero {n : ℕ} (w : Row n) (c : EReal) (r : ℝ) (hc : c = (r : EReal)) (hr : 0 < r) (e : Fin n) (he : ¬ Real' (w e)) :
    Ideal.rsqrt (Ideal.div (∑ e, w e * w e) c + cEps) = 0 := by
  obtain ⟨p, _, hE⟩ := cEps_pos
  have hs : ∑ e, w e * w e = ⊤ := top_le_iff.mp
    ((sq_top he).ge.trans (Finset.single_le_sum (f := fun e => w e * w e) (fun e _ => sq_nonneg (w e)) (Finset.mem_univ e)))
  rw [hs, hc, Ideal.div_coe hr.ne', EReal.top_mul_coe_of_pos (by positivity), hE, EReal.top_add_coe, Ideal.rsqrt_top]

/-- The norm of any head is real when the gain is: an infinite entry makes the reciprocal root zero. -/
theorem real_hn (w g : Row 64) (hg : ∀ e, Real' (g e)) (d : Fin 64) : Real' (hn w g d) := by
  refine real_mul ?_ (hg d)
  by_cases hw : ∀ e, Real' (w e)
  · exact real_mul (hw d) (real_rms w c64 64 c64_val (by norm_num) hw)
  · obtain ⟨e, he⟩ := not_forall.mp hw
    rw [rms_zero w c64 64 c64_val (by norm_num) e he, mul_zero]
    exact ⟨0, rfl⟩

/-- The scores are real. -/
theorem real_score (a : Args) (h : a.Finite) (b : Fin 16) (i : Fin 256) (q : Fin 16) (t : Fin 256) : Real' (score a b i q t) :=
  real_mul (real_sum _ _ fun d => real_mul (real_hn _ _ h.qn d) (real_hn _ _ h.kn d))
    ⟨_, c8_val⟩

/-- A scale in the gain of the queries is a scale of the score. -/
theorem score_gain (w g k : Row 64) : ∑ d, w d * Ideal.rsqrt (Ideal.div (∑ e, w e * w e) c64 + cEps) * (g d * c8) * k d = (∑ d, hn w g d * k d) * c8 := by
  have h8 : (0 : ℝ) ≤ 1 / 8 := by norm_num
  rw [sum_mul_real _ _ _ (by rw [c8_val]; exact_mod_cast h8) (by rw [c8_val]; exact EReal.coe_ne_top _)]
  refine Finset.sum_congr rfl fun d _ => ?_
  unfold hn
  rw [← mul_assoc (w d * _) (g d) c8, mul_assoc _ c8 (k d), mul_comm c8 (k d), ← mul_assoc]

end Cert.Layer

end
-- ==== Proof.Layer.Calls.lean ====
/- Each call's result as the layer's mathematics, given that the arrays it reads are. -/
module

public import proofs.«01_k».proof.Proof.Layer.InProj
public import proofs.«01_k».proof.Proof.Layer.Att
public import proofs.«01_k».proof.Proof.Layer.Ada
public import proofs.«01_k».proof.Proof.Layer.Mix
public import proofs.«01_k».proof.Proof.Layer.Ffn
public import proofs.«01_k».proof.Proof.Layer.Model

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer
open Cert.Softmax

variable (a : Args)

/-- The projected row. -/
theorem z_of (X : FVec Ideal S4096x1024 .f32) (A : FVec Ideal S16x1x6144 .f32) (g : FVec Ideal S1x1024 .f32) (W : FVec Ideal S1024x6656 .bf16) (b : Fin 16) (i : Fin 256)
    (hX : ∀ k, X (ix2 (rowOf b i) k) = a.x b i k) (hA : ∀ n, A (ix3 0 0 n) = ada a n) (hg : ∀ k, g (ix2 0 k) = a.g1 k) (hW : ∀ k n, W (ix2 k n) = a.wI k n) :
    zF X A g W (rowOf b i) = zz a b i := by
  unfold zF zz
  refine dot_congr (fun k => ?_) hW
  exact uK_congr hX hg (fun k => hA _) (fun k => (hA _).trans (congrArg (ada a) (Fin.ext (by show k.val = 0 + k.val; omega)))) k

/-- The sum of squares over a head, as a product with the table. -/
theorem table_sum (z : Row 256) (T : Fin 256 → Row 256) (hT : ∀ x l : Fin 256, T x l = if x.val / 64 = l.val / 64 then ((1 / 64 : ℝ) : EReal) else 0) (l : Fin 256) :
    ∑ x, z x * z x * T x l = Ideal.div (∑ e : Fin 64, z ⟨64 * (l.val / 64) + e.val, by omega⟩ * z ⟨64 * (l.val / 64) + e.val, by omega⟩) c64 := by
  have h64 : (0 : ℝ) ≤ 1 / 64 := by norm_num
  rw [c64_val, Ideal.div_coe (by norm_num : (64 : ℝ) ≠ 0), sum_mul_real _ _ _ (by exact_mod_cast h64) (EReal.coe_ne_top _)]
  have hs : ∑ x, z x * z x * T x l = ∑ p : Fin 4 × Fin 64, z ⟨64 * p.1.val + p.2.val, by omega⟩ * z ⟨64 * p.1.val + p.2.val, by omega⟩ * T ⟨64 * p.1.val + p.2.val, by omega⟩ l := by
    refine (Fintype.sum_equiv (finProdFinEquiv (m := 4) (n := 64)) _ _ fun p => ?_).symm
    have e : (⟨64 * p.1.val + p.2.val, by omega⟩ : Fin 256) = finProdFinEquiv (m := 4) (n := 64) p := Fin.ext (by
      show 64 * p.1.val + p.2.val = p.2.val + 64 * p.1.val; omega)
    rw [e]
  rw [hs, Fintype.sum_prod_type, Finset.sum_eq_single (⟨l.val / 64, by omega⟩ : Fin 4)]
  · refine Finset.sum_congr rfl fun e _ => ?_
    rw [hT, if_pos (show (64 * (l.val / 64) + e.val) / 64 = l.val / 64 by omega)]
  · intro n _ hn
    refine Finset.sum_eq_zero fun e _ => ?_
    rw [hT, if_neg (show ¬ (64 * n.val + e.val) / 64 = l.val / 64 from fun h => hn (Fin.ext (by show n.val = l.val / 64; omega))), mul_zero]
  · intro h; exact absurd (Finset.mem_univ _) h

/-- One head of the four: the norm of its own sixty-four entries. -/
theorem hK_head (z : Row 256) (T : Fin 256 → Row 256) (hT : ∀ x l : Fin 256, T x l = if x.val / 64 = l.val / 64 then ((1 / 64 : ℝ) : EReal) else 0) (g : Row 256) (gd : EReal) (l : Fin 256)
    (w : Row 64) (d : Fin 64) (hw : ∀ (e : Fin 64) (q : Fin 256), q.val = 64 * (l.val / 64) + e.val → z q = w e) (hd : l.val = 64 * (l.val / 64) + d.val) (hg : g l = gd) :
    hK z T g l = w d * Ideal.rsqrt (Ideal.div (∑ e, w e * w e) c64 + cEps) * gd := by
  unfold hK
  rw [table_sum z T hT l, hg, hw d l hd]
  have hs : ∀ e : Fin 64, z ⟨64 * (l.val / 64) + e.val, by omega⟩ = w e := fun e => hw e _ rfl
  simp only [hs]

/-- The keys. -/
theorem k_of (X : FVec Ideal S4096x1024 .f32) (A : FVec Ideal S16x1x6144 .f32) (g : FVec Ideal S1x1024 .f32) (W : FVec Ideal S1024x6656 .bf16) (kg : FVec Ideal S1x256 .f32) (T : FVec Ideal S256x256 .bf16) (b : Fin 16) (i : Fin 256)
    (hX : ∀ k, X (ix2 (rowOf b i) k) = a.x b i k) (hA : ∀ n, A (ix3 0 0 n) = ada a n) (hg : ∀ k, g (ix2 0 k) = a.g1 k) (hW : ∀ k n, W (ix2 k n) = a.wI k n)
    (hk : ∀ n : Fin 256, kg (ix2 0 n) = a.kn ⟨n.val % 64, by omega⟩) (hT : ∀ x l : Fin 256, T (ix2 x l) = if x.val / 64 = l.val / 64 then ((1 / 64 : ℝ) : EReal) else 0)
    (n : Fin 4) (d : Fin 64) : G1k X A g W kg T (ix2 (rowOf b i) ⟨64 * n.val + d.val, by omega⟩) = kk a b i n d := by
  refine hK_head _ _ hT _ _ ⟨64 * n.val + d.val, by omega⟩ (piece a b i (1024 + 64 * n.val) (by omega)) d (fun e q hq => ?_) (by show 64 * n.val + d.val = 64 * ((64 * n.val + d.val) / 64) + d.val; omega)
    ((hk _).trans (congrArg a.kn (Fin.ext (by show (64 * n.val + d.val) % 64 = d.val; omega))))
  refine (congrFun (z_of a X A g W b i hX hA hg hW) _).trans (congrArg (zz a b i) (Fin.ext ?_))
  have hq' : q.val = 64 * ((64 * n.val + d.val) / 64) + e.val := hq
  show 1024 + q.val = 1024 + 64 * n.val + e.val
  omega

/-- A query with the score scale in its gain. -/
def qs (b : Fin 16) (i : Fin 256) (h : Fin 16) (d : Fin 64) : EReal :=
  piece a b i (64 * h.val) (by omega) d * Ideal.rsqrt (Ideal.div (∑ e, piece a b i (64 * h.val) (by omega) e * piece a b i (64 * h.val) (by omega) e) c64 + cEps) * (a.qn d * c8)

/-- The queries. -/
theorem q_of (X : FVec Ideal S4096x1024 .f32) (A : FVec Ideal S16x1x6144 .f32) (g : FVec Ideal S1x1024 .f32) (W : FVec Ideal S1024x6656 .bf16) (qg : FVec Ideal S1x256 .f32) (T : FVec Ideal S256x256 .bf16) (b : Fin 16) (i : Fin 256)
    (hX : ∀ k, X (ix2 (rowOf b i) k) = a.x b i k) (hA : ∀ n, A (ix3 0 0 n) = ada a n) (hg : ∀ k, g (ix2 0 k) = a.g1 k) (hW : ∀ k n, W (ix2 k n) = a.wI k n)
    (hk : ∀ n : Fin 256, qg (ix2 0 n) = a.qn ⟨n.val % 64, by omega⟩ * c8) (hT : ∀ x l : Fin 256, T (ix2 x l) = if x.val / 64 = l.val / 64 then ((1 / 64 : ℝ) : EReal) else 0)
    (h : Fin 16) (d : Fin 64) : G1q X A g W qg T (ix2 (rowOf b i) ⟨64 * h.val + d.val, by omega⟩) = qs a b i h d := by
  refine hK_head _ _ hT _ _ ⟨(64 * h.val + d.val) % 256, by omega⟩ (piece a b i (64 * h.val) (by omega)) d (fun e q hq => ?_) (by show (64 * h.val + d.val) % 256 = 64 * ((64 * h.val + d.val) % 256 / 64) + d.val; omega)
    ((hk _).trans (congrArg (fun x => a.qn x * c8) (Fin.ext (by show (64 * h.val + d.val) % 256 % 64 = d.val; omega))))
  refine (congrFun (z_of a X A g W b i hX hA hg hW) _).trans (congrArg (zz a b i) (Fin.ext ?_))
  have hq' : q.val = 64 * ((64 * h.val + d.val) % 256 / 64) + e.val := hq
  show 256 * ((64 * h.val + d.val) / 256) + q.val = 64 * h.val + e.val
  omega

/-- The attention. -/
theorem att_of (ha : a.Finite) (q : FVec Ideal S16x256x1024 .bf16) (k : FVec Ideal S16x4x64x256 .bf16) (v : FVec Ideal S16x4x256x64 .bf16)
    (hq : ∀ b i (h : Fin 16) (d : Fin 64), q (ix3 b i ⟨64 * h.val + d.val, by omega⟩) = qs a b i h d) (hk : ∀ b n d t, k (ix4 b n d t) = kk a b t n d) (hv : ∀ b n t d, v (ix4 b n t d) = vv a b t n d)
    (b : Fin 16) (i : Fin 256) (l : Fin 1024) : G2 q k v (ix3 b i l) = attn a b i l := by
  unfold attn
  rw [← late_eq_early (by omega) _ _ fun t => real_score a ha b i _ t]
  refine late_congr (fun t => ?_) fun t => hv _ _ _ _
  unfold score qq
  rw [← score_gain]
  refine Finset.sum_congr rfl fun e _ => Ideal.mul_congr (hq b i ⟨l.val / 64, by omega⟩ e) ((hk _ _ _ _).trans ?_)
  exact congrArg (fun n => kk a b t n e) (Fin.ext (by show l.val / 256 = l.val / 64 / 4; omega))

/-- The row after the first residual sum. -/
theorem hF_of (att bb y sa sg : FVec Ideal S4096x1024 .bf16) (X : FVec Ideal S4096x1024 .f32) (A : FVec Ideal S16x1x6144 .f32) (gp : FVec Ideal S1x1024 .f32) (cw : FVec Ideal S3x1024 .f32) (wa wc wo : FVec Ideal S1024x1024 .bf16)
    (hatt : ∀ b i l, att (ix2 (rowOf b i) l) = attn a b i l) (hbb : ∀ b i l, bb (ix2 (rowOf b i) l) = zz a b i ⟨1536 + l.val, by omega⟩)
    (hy : ∀ b i l, y (ix2 (rowOf b i) l) = zz a b i ⟨2560 + l.val, by omega⟩ * zz a b i ⟨3584 + l.val, by omega⟩)
    (hsa : ∀ b i l, sa (ix2 (rowOf b i) l) = Ideal.logistic (zz a b i ⟨4608 + l.val, by omega⟩)) (hsg : ∀ b i l, sg (ix2 (rowOf b i) l) = Ideal.logistic (zz a b i ⟨5632 + l.val, by omega⟩))
    (hX : ∀ b i k, X (ix2 (rowOf b i) k) = a.x b i k) (hA : ∀ n, A (ix3 0 0 n) = ada a n) (hgp : ∀ k, gp (ix2 0 k) = a.g2 k) (hcw : ∀ r l, cw (ix2 r l) = a.cw r l)
    (hwa : ∀ k n, wa (ix2 k n) = a.wa k n) (hwc : ∀ k n, wc (ix2 k n) = a.wc k n) (hwo : ∀ k n, wo (ix2 k n) = a.wo k n) (b : Fin 16) (i : Fin 256) :
    hF att bb y sa sg X A gp cw wa wc wo b i = h1 a b i := by
  funext l
  have hc : cF bb y cw b i = cnv a b i := funext fun l =>
    Ideal.mul_congr (hbb b i l) (tap_congr (hcw 0 l) (hcw 1 l) (hcw 2 l) (congrArg (before i) (funext fun j => hy b j l)) (hy b i l) (congrArg (after i) (funext fun j => hy b j l)))
  have hm : mF att bb y sa sg cw wa wc b i = mrg a b i := funext fun l => by
    unfold mF mrg
    rw [hc]
    exact Ideal.add_congr (Ideal.mul_congr (hsa b i l) (congrFun (dot_congr (hatt b i) hwa) l)) (Ideal.mul_congr (hsg b i l) (congrFun (dot_congr (fun _ => rfl) hwc) l))
  unfold hF h1
  rw [hm]
  exact addK_congr (hX b i) (fun k => hA _) (fun k => congrFun (dot_congr (fun _ => rfl) hwo) k) hgp l

/-- The first result of the mixing call. -/
theorem h_of (att bb y sa sg : FVec Ideal S4096x1024 .bf16) (X : FVec Ideal S4096x1024 .f32) (A : FVec Ideal S16x1x6144 .f32) (gp : FVec Ideal S1x1024 .f32) (cw : FVec Ideal S3x1024 .f32) (wa wc wo : FVec Ideal S1024x1024 .bf16)
    (hatt : ∀ b i l, att (ix2 (rowOf b i) l) = attn a b i l) (hbb : ∀ b i l, bb (ix2 (rowOf b i) l) = zz a b i ⟨1536 + l.val, by omega⟩)
    (hy : ∀ b i l, y (ix2 (rowOf b i) l) = zz a b i ⟨2560 + l.val, by omega⟩ * zz a b i ⟨3584 + l.val, by omega⟩)
    (hsa : ∀ b i l, sa (ix2 (rowOf b i) l) = Ideal.logistic (zz a b i ⟨4608 + l.val, by omega⟩)) (hsg : ∀ b i l, sg (ix2 (rowOf b i) l) = Ideal.logistic (zz a b i ⟨5632 + l.val, by omega⟩))
    (hX : ∀ b i k, X (ix2 (rowOf b i) k) = a.x b i k) (hA : ∀ n, A (ix3 0 0 n) = ada a n) (hgp : ∀ k, gp (ix2 0 k) = a.g2 k) (hcw : ∀ r l, cw (ix2 r l) = a.cw r l)
    (hwa : ∀ k n, wa (ix2 k n) = a.wa k n) (hwc : ∀ k n, wc (ix2 k n) = a.wc k n) (hwo : ∀ k n, wo (ix2 k n) = a.wo k n) (b : Fin 16) (i : Fin 256) (l : Fin 1024) :
    G3h att bb y sa sg X A gp cw wa wc wo (ix2 (rowOf b i) l) = h1 a b i l := by
  show hF att bb y sa sg X A gp cw wa wc wo (seqOf (rowOf b i)) (posOf (rowOf b i)) l = _
  rw [seqOf_rowOf, posOf_rowOf, hF_of a att bb y sa sg X A gp cw wa wc wo hatt hbb hy hsa hsg hX hA hgp hcw hwa hwc hwo b i]

/-- The second result of the mixing call. -/
theorem u_of (att bb y sa sg : FVec Ideal S4096x1024 .bf16) (X : FVec Ideal S4096x1024 .f32) (A : FVec Ideal S16x1x6144 .f32) (gp : FVec Ideal S1x1024 .f32) (cw : FVec Ideal S3x1024 .f32) (wa wc wo : FVec Ideal S1024x1024 .bf16) (gq : FVec Ideal S1x1024 .f32)
    (hatt : ∀ b i l, att (ix2 (rowOf b i) l) = attn a b i l) (hbb : ∀ b i l, bb (ix2 (rowOf b i) l) = zz a b i ⟨1536 + l.val, by omega⟩)
    (hy : ∀ b i l, y (ix2 (rowOf b i) l) = zz a b i ⟨2560 + l.val, by omega⟩ * zz a b i ⟨3584 + l.val, by omega⟩)
    (hsa : ∀ b i l, sa (ix2 (rowOf b i) l) = Ideal.logistic (zz a b i ⟨4608 + l.val, by omega⟩)) (hsg : ∀ b i l, sg (ix2 (rowOf b i) l) = Ideal.logistic (zz a b i ⟨5632 + l.val, by omega⟩))
    (hX : ∀ b i k, X (ix2 (rowOf b i) k) = a.x b i k) (hA : ∀ n, A (ix3 0 0 n) = ada a n) (hgp : ∀ k, gp (ix2 0 k) = a.g2 k) (hcw : ∀ r l, cw (ix2 r l) = a.cw r l)
    (hwa : ∀ k n, wa (ix2 k n) = a.wa k n) (hwc : ∀ k n, wc (ix2 k n) = a.wc k n) (hwo : ∀ k n, wo (ix2 k n) = a.wo k n) (hgq : ∀ k, gq (ix2 0 k) = a.g3 k) (b : Fin 16) (i : Fin 256) (l : Fin 1024) :
    G3u att bb y sa sg X A gp cw wa wc wo gq (ix2 (rowOf b i) l) = u2 a b i l := by
  show uK (hF att bb y sa sg X A gp cw wa wc wo (seqOf (rowOf b i)) (posOf (rowOf b i))) _ _ _ l = _
  rw [seqOf_rowOf, posOf_rowOf, hF_of a att bb y sa sg X A gp cw wa wc wo hatt hbb hy hsa hsg hX hA hgp hcw hwa hwc hwo b i]
  exact uK_congr (fun _ => rfl) hgq (fun k => hA _) (fun k => hA _) l

/-- The feed-forward. -/
theorem y_of (U : FVec Ideal S4096x1024 .bf16) (H : FVec Ideal S4096x1024 .f32) (A : FVec Ideal S16x1x6144 .f32) (g : FVec Ideal S1x1024 .f32) (cw : FVec Ideal S3x5632 .f32) (W : FVec Ideal S1024x5632 .bf16) (D : FVec Ideal S2816x1024 .bf16)
    (hU : ∀ b i l, U (ix2 (rowOf b i) l) = u2 a b i l) (hH : ∀ b i l, H (ix2 (rowOf b i) l) = h1 a b i l) (hA : ∀ n, A (ix3 0 0 n) = ada a n) (hg : ∀ k, g (ix2 0 k) = a.g4 k)
    (hcw : ∀ r n, cw (ix2 r n) = a.cf r n) (hW : ∀ k n, W (ix2 k n) = a.wu k n) (hD : ∀ k n, D (ix2 k n) = a.wd k n) (b : Fin 16) (i : Fin 256) (l : Fin 1024) :
    G4 U H A g cw W D (ix2 (rowOf b i) l) = yy a b i l := by
  have hz : ∀ n, ∀ j : Fin 256, ∑ k, U (ix2 (rowOf b j) k) * W (ix2 k n) = dot (u2 a b j) a.wu n := fun n j =>
    Finset.sum_congr rfl fun k _ => Ideal.mul_congr (hU b j k) (hW k n)
  have hc : cvF U W cw b i = ff a b i := funext fun n =>
    tap_congr (hcw 0 n) (hcw 1 n) (hcw 2 n) (congrArg (before i) (funext (hz n))) (hz n i) (congrArg (after i) (funext (hz n)))
  show addK _ _ (dot (act (cvF U W cw (seqOf (rowOf b i)) (posOf (rowOf b i)))) _) _ l = _
  rw [seqOf_rowOf, posOf_rowOf, hc]
  exact addK_congr (hH b i) (fun k => hA _) (fun k => congrFun (dot_congr (fun _ => rfl) hD) k) hg l

end Cert.PromptIdeal.Layer

end
-- ==== Proof.Layer.Entry.lean ====
/- What the host operations before the first call leave: every operand of the calls, read at an entry, from the arguments. -/
module

public import proofs.«01_k».proof.Proof.PromptIdeal.Frame
public import proofs.«01_k».proof.Proof.Layer.Spec
public import proofs.«01_k».proof.Proof.Gen.PromptIdeal.Frame.Region0
public import Idealize.ShloMosaic.Lib.Pipeline.ValueKit
public import Idealize.ShloMosaic.Lib.Claim
public import Idealize.ShloMosaic.Lib.Routing.OpsSet
public import Idealize.ShloMosaic.Lib.Routing.OpsPair

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer

variable (m : (ℓ : Loc nD τ sig) → Buf (Elt Ideal) ℓ) (ρ : Dev nD → PrngReg)

/-- A gain. -/
theorem e6 (c : Dev nD) (k : Fin 1024) : V1 m ρ c main_v6 (ix2 0 k) = (m ((c : Thread nD τ).loc main_arg5)) (ix2 0 k) := by
  show StableHlo.after hostOps0 (W0 m ρ c) (Proc.devRef .tc main_v6) (ix2 0 k) = _
  entry_read
  pointwise

/-- A gain. -/
theorem e8 (c : Dev nD) (k : Fin 1024) : V1 m ρ c main_v8 (ix2 0 k) = (m ((c : Thread nD τ).loc main_arg6)) (ix2 0 k) := by
  show StableHlo.after hostOps0 (W0 m ρ c) (Proc.devRef .tc main_v8) (ix2 0 k) = _
  entry_read
  pointwise

/-- A gain. -/
theorem e10 (c : Dev nD) (k : Fin 1024) : V1 m ρ c main_v10 (ix2 0 k) = (m ((c : Thread nD τ).loc main_arg7)) (ix2 0 k) := by
  show StableHlo.after hostOps0 (W0 m ρ c) (Proc.devRef .tc main_v10) (ix2 0 k) = _
  entry_read
  pointwise

/-- A gain. -/
theorem e12 (c : Dev nD) (k : Fin 1024) : V1 m ρ c main_v12 (ix2 0 k) = (m ((c : Thread nD τ).loc main_arg8)) (ix2 0 k) := by
  show StableHlo.after hostOps0 (W0 m ρ c) (Proc.devRef .tc main_v12) (ix2 0 k) = _
  entry_read
  pointwise

/-- A weight. -/
theorem e14 (c : Dev nD) (k : Fin 1024) (n : Fin 6656) : V1 m ρ c main_v14 (ix2 k n) = (m ((c : Thread nD τ).loc main_arg9)) (ix3 0 k n) := by
  show StableHlo.after hostOps0 (W0 m ρ c) (Proc.devRef .tc main_v14) (ix2 k n) = _
  entry_read
  pointwise

/-- A weight. -/
theorem e28 (c : Dev nD) (k : Fin 1024) (n : Fin 1024) : V1 m ρ c main_v28 (ix2 k n) = (m ((c : Thread nD τ).loc main_arg12)) (ix3 0 k n) := by
  show StableHlo.after hostOps0 (W0 m ρ c) (Proc.devRef .tc main_v28) (ix2 k n) = _
  entry_read
  pointwise

/-- A weight. -/
theorem e29 (c : Dev nD) (k : Fin 3) (n : Fin 1024) : V1 m ρ c main_v29 (ix2 k n) = (m ((c : Thread nD τ).loc main_arg13)) (ix3 0 k n) := by
  show StableHlo.after hostOps0 (W0 m ρ c) (Proc.devRef .tc main_v29) (ix2 k n) = _
  entry_read
  pointwise

/-- A weight. -/
theorem e31 (c : Dev nD) (k : Fin 1024) (n : Fin 1024) : V1 m ρ c main_v31 (ix2 k n) = (m ((c : Thread nD τ).loc main_arg14)) (ix3 0 k n) := by
  show StableHlo.after hostOps0 (W0 m ρ c) (Proc.devRef .tc main_v31) (ix2 k n) = _
  entry_read
  pointwise

/-- A weight. -/
theorem e33 (c : Dev nD) (k : Fin 1024) (n : Fin 1024) : V1 m ρ c main_v33 (ix2 k n) = (m ((c : Thread nD τ).loc main_arg15)) (ix3 0 k n) := by
  show StableHlo.after hostOps0 (W0 m ρ c) (Proc.devRef .tc main_v33) (ix2 k n) = _
  entry_read
  pointwise

/-- A weight. -/
theorem e35 (c : Dev nD) (k : Fin 1024) (n : Fin 5632) : V1 m ρ c main_v35 (ix2 k n) = (m ((c : Thread nD τ).loc main_arg16)) (ix3 0 k n) := by
  show StableHlo.after hostOps0 (W0 m ρ c) (Proc.devRef .tc main_v35) (ix2 k n) = _
  entry_read
  pointwise

/-- A weight. -/
theorem e36 (c : Dev nD) (k : Fin 3) (n : Fin 5632) : V1 m ρ c main_v36 (ix2 k n) = (m ((c : Thread nD τ).loc main_arg17)) (ix3 0 k n) := by
  show StableHlo.after hostOps0 (W0 m ρ c) (Proc.devRef .tc main_v36) (ix2 k n) = _
  entry_read
  pointwise

/-- A weight. -/
theorem e38 (c : Dev nD) (k : Fin 2816) (n : Fin 1024) : V1 m ρ c main_v38 (ix2 k n) = (m ((c : Thread nD τ).loc main_arg18)) (ix3 0 k n) := by
  show StableHlo.after hostOps0 (W0 m ρ c) (Proc.devRef .tc main_v38) (ix2 k n) = _
  entry_read
  pointwise

/-- A weight. -/
theorem e39 (c : Dev nD) (k : Fin 1024) (n : Fin 6144) : V1 m ρ c main_v39 (ix2 k n) = (m ((c : Thread nD τ).loc main_arg3)) (ix3 0 k n) := by
  show StableHlo.after hostOps0 (W0 m ρ c) (Proc.devRef .tc main_v39) (ix2 k n) = _
  entry_read
  pointwise

/-- The bias. -/
theorem e41 (c : Dev nD) (n : Fin 6144) : V1 m ρ c main_v41 (ix2 0 n) = (m ((c : Thread nD τ).loc main_arg4)) (ix2 0 n) := by
  show StableHlo.after hostOps0 (W0 m ρ c) (Proc.devRef .tc main_v41) (ix2 0 n) = _
  entry_read
  pointwise

/-- The query gain, repeated, with the score scale in it. -/
theorem e21 (c : Dev nD) (n : Fin 256) : V1 m ρ c main_v21 (ix2 0 n) = HMul.hMul (α := EReal) (β := EReal) ((m ((c : Thread nD τ).loc main_arg10)) (ix2 0 ⟨n.val % 64, by omega⟩)) (Ideal.ofBits .f32 0x3E000000#32) := by
  show StableHlo.after hostOps0 (W0 m ρ c) (Proc.devRef .tc main_v21) (ix2 0 n) = _
  entry_read
  pointwise

/-- The key gain, repeated. -/
theorem e26 (c : Dev nD) (n : Fin 256) : V1 m ρ c main_v26 (ix2 0 n) = (m ((c : Thread nD τ).loc main_arg11)) (ix2 0 ⟨n.val % 64, by omega⟩) := by
  show StableHlo.after hostOps0 (W0 m ρ c) (Proc.devRef .tc main_v26) (ix2 0 n) = _
  entry_read
  pointwise

/-- The first scatter sets row 0. -/
theorem sc0 (x : FVec Ideal S16x1024 .f32) (idx : IVec S1 32) (hi : ∀ i, idx i = 0#32) (u : FVec Ideal S1024 .f32) (k : Fin 1024) :
    Host.scatter scatter_S16x1024_S1_S1024_0_0_0_0 (fun _ b => b) x idx u (ix2 0 k) = u (ix1 k) := by
  have h0 : ∀ j : S1024.Idx, scatter_S16x1024_S1_S1024_0_0_0_0.start j idx 0 = 0 := fun j => by
    unfold ScatterDims.start
    rw [dif_pos (by decide)]
    rw [hi]; rfl
  have h1 : ∀ j : S1024.Idx, scatter_S16x1024_S1_S1024_0_0_0_0.start j idx 1 = 0 := fun j => by
    unfold ScatterDims.start
    rw [dif_neg (by decide)]
  have w0 : ∀ j : S1024.Idx, scatter_S16x1024_S1_S1024_0_0_0_0.window j 0 = 0 := fun j => rfl
  have w1 : ∀ j : S1024.Idx, scatter_S16x1024_S1_S1024_0_0_0_0.window j 1 = (j 0).val := fun j => rfl
  refine Routing.scatter_set_hit _ _ _ _ _ _ (fun j hj => ?_) (ix1 k) ?_
  · have := (Routing.resultIdx?_eq_some _ _ _ _).1 hj 1
    rw [h1, w1] at this
    idx_vars j
    have e : (j0.val : Int) = (k.val : Int) := by simpa using this
    obtain rfl : j0 = k := Fin.ext (by exact_mod_cast e)
    rfl
  · refine (Routing.resultIdx?_eq_some _ _ _ _).2 fun a => ?_
    fin_cases a
    · show scatter_S16x1024_S1_S1024_0_0_0_0.start _ idx 0 + _ = _
      rw [h0]; rfl
    · show scatter_S16x1024_S1_S1024_0_0_0_0.start _ idx 1 + _ = _
      rw [h1]; exact zero_add _

/-- The second scatter leaves row 0. -/
theorem sc1 (x : FVec Ideal S16x1024 .f32) (idx : IVec S1 32) (hi : ∀ i, idx i = 1#32) (u : FVec Ideal S8x1024 .f32) (k : Fin 1024) :
    Host.scatter scatter_S16x1024_S1_S8x1024_01_n_0_0 (fun _ b => b) x idx u (ix2 0 k) = x (ix2 0 k) := by
  refine Routing.scatter_set_miss _ _ _ _ _ fun j hj => ?_
  have h0 : scatter_S16x1024_S1_S8x1024_01_n_0_0.start j idx 0 = 1 := by
    unfold ScatterDims.start
    rw [dif_pos (by decide)]
    rw [hi]; rfl
  have := (Routing.resultIdx?_eq_some _ _ _ _).1 hj 0
  rw [h0] at this
  have e : (1 : Int) + (scatter_S16x1024_S1_S8x1024_01_n_0_0.window j 0 : Int) = 0 := this
  omega

/-- Row 0 of the stacked conditioning vectors is the context's. -/
theorem e4 (c : Dev nD) (k : Fin 1024) : V1 m ρ c main_v4 (ix2 0 k) = (m ((c : Thread nD τ).loc main_arg2)) (ix1 k) := by
  show StableHlo.after hostOps0 (W0 m ρ c) (Proc.devRef .tc main_v4) (ix2 0 k) = _
  entry_read
  refine (sc1 _ _ (fun i => ?_) _ k).trans (sc0 _ _ (fun i => ?_) _ k)
  · rfl
  · rfl

/-- The table. -/
theorem ecst (c : Dev nD) (a b : Fin 256) : V1 m ρ c main_cst (ix2 a b) = Ideal.ofBits .bf16 (lit0 (S256x256.rowMajor (ix2 a b))) := by
  show StableHlo.after hostOps0 (W0 m ρ c) (Proc.devRef .tc main_cst) (ix2 a b) = _
  entry_read
  rfl

end Cert.PromptIdeal.Layer

end
-- ==== Proof.Layer.Table.lean ====
/- The table of head means that the input projection multiplies by: a sixty-fourth where two lanes share a head, zero elsewhere. -/
module

public import proofs.«01_k».proof.Proof.Gen.PromptIdeal
public import proofs.«01_k».proof.Proof.Layer.Spec
public import proofs.«01_k».proof.Proof.Softmax
public import Idealize.ShloMosaic.Lib.Pipeline.ValueKit

@[expose] public section

set_option maxRecDepth 16384

noncomputable section

namespace Cert.PromptIdeal.Layer

open Cert.PromptIdeal Idealize.ShloMosaic Idealize.ShloMosaic.TcCoe Idealize.SL.Sem
open Idealize.ShloMosaic.Pipeline (Dat)
open Cert.Layer

/-- A leaf of the printed table. -/
theorem leafA (i : ℕ) : lit0t0_0 i = if i % 128 < 64 then 0x3C80#16 else 0x0000#16 := by
  have key : ∀ r : Fin 128, lit0t0_0 r.val = if r.val < 64 then 0x3C80#16 else 0x0000#16 := by decide +kernel
  have h := key ⟨i % 128, Nat.mod_lt _ (by norm_num)⟩
  refine Eq.trans ?_ h
  show lit0t0_0 i = lit0t0_0 (i % 128)
  unfold lit0t0_0
  rw [Nat.mod_mod]

/-- A leaf of the printed table. -/
theorem leafB (i : ℕ) : lit0t0_128 i = if 64 ≤ i % 128 then 0x3C80#16 else 0x0000#16 := by
  have key : ∀ r : Fin 128, lit0t0_128 r.val = if 64 ≤ r.val then 0x3C80#16 else 0x0000#16 := by decide +kernel
  have h := key ⟨i % 128, Nat.mod_lt _ (by norm_num)⟩
  refine Eq.trans ?_ h
  show lit0t0_128 i = lit0t0_128 (i % 128)
  unfold lit0t0_128
  rw [Nat.mod_mod]

/-- A leaf of the printed table. -/
theorem leafZ (i : ℕ) : lit0t0_1 i = if False then 0x3C80#16 else 0x0000#16 := by
  have key : ∀ r : Fin 128, lit0t0_1 r.val = if False then 0x3C80#16 else 0x0000#16 := by decide +kernel
  have h := key ⟨i % 128, Nat.mod_lt _ (by norm_num)⟩
  refine Eq.trans ?_ h
  show lit0t0_1 i = lit0t0_1 (i % 128)
  unfold lit0t0_1
  rw [Nat.mod_mod]

/-- The leaves of a quarter of the table. -/
def pick0 (j i : ℕ) : BitVec 16 := match j with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | 98 => lit0t0_98 i
  | 99 => lit0t0_99 i
  | 100 => lit0t0_100 i
  | 101 => lit0t0_101 i
  | 102 => lit0t0_102 i
  | 103 => lit0t0_103 i
  | 104 => lit0t0_104 i
  | 105 => lit0t0_105 i
  | 106 => lit0t0_106 i
  | 107 => lit0t0_107 i
  | 108 => lit0t0_108 i
  | 109 => lit0t0_109 i
  | 110 => lit0t0_110 i
  | 111 => lit0t0_111 i
  | 112 => lit0t0_112 i
  | 113 => lit0t0_113 i
  | 114 => lit0t0_114 i
  | 115 => lit0t0_115 i
  | 116 => lit0t0_116 i
  | 117 => lit0t0_117 i
  | 118 => lit0t0_118 i
  | 119 => lit0t0_119 i
  | 120 => lit0t0_120 i
  | 121 => lit0t0_121 i
  | 122 => lit0t0_122 i
  | 123 => lit0t0_123 i
  | 124 => lit0t0_124 i
  | 125 => lit0t0_125 i
  | 126 => lit0t0_126 i
  | 127 => lit0t0_127 i
  | _ => 0#16

/-- A quarter of the table reads one of its leaves. -/
theorem quarter0_pick (i : ℕ) : lit0t1_0 i = pick0 (i / 128 % 128) i := rfl

/-- The leaves of a quarter alternate between two. -/
theorem pick0_eq (j : Fin 128) (i : ℕ) : pick0 j.val i = if j.val % 2 = 0 then lit0t0_0 i else lit0t0_1 i := by
  fin_cases j <;> rfl

/-- The leaves of a quarter of the table. -/
def pick1 (j i : ℕ) : BitVec 16 := match j with
  | 0 => lit0t0_128 i
  | 1 => lit0t0_129 i
  | 2 => lit0t0_130 i
  | 3 => lit0t0_131 i
  | 4 => lit0t0_132 i
  | 5 => lit0t0_133 i
  | 6 => lit0t0_134 i
  | 7 => lit0t0_135 i
  | 8 => lit0t0_136 i
  | 9 => lit0t0_137 i
  | 10 => lit0t0_138 i
  | 11 => lit0t0_139 i
  | 12 => lit0t0_140 i
  | 13 => lit0t0_141 i
  | 14 => lit0t0_142 i
  | 15 => lit0t0_143 i
  | 16 => lit0t0_144 i
  | 17 => lit0t0_145 i
  | 18 => lit0t0_146 i
  | 19 => lit0t0_147 i
  | 20 => lit0t0_148 i
  | 21 => lit0t0_149 i
  | 22 => lit0t0_150 i
  | 23 => lit0t0_151 i
  | 24 => lit0t0_152 i
  | 25 => lit0t0_153 i
  | 26 => lit0t0_154 i
  | 27 => lit0t0_155 i
  | 28 => lit0t0_156 i
  | 29 => lit0t0_157 i
  | 30 => lit0t0_158 i
  | 31 => lit0t0_159 i
  | 32 => lit0t0_160 i
  | 33 => lit0t0_161 i
  | 34 => lit0t0_162 i
  | 35 => lit0t0_163 i
  | 36 => lit0t0_164 i
  | 37 => lit0t0_165 i
  | 38 => lit0t0_166 i
  | 39 => lit0t0_167 i
  | 40 => lit0t0_168 i
  | 41 => lit0t0_169 i
  | 42 => lit0t0_170 i
  | 43 => lit0t0_171 i
  | 44 => lit0t0_172 i
  | 45 => lit0t0_173 i
  | 46 => lit0t0_174 i
  | 47 => lit0t0_175 i
  | 48 => lit0t0_176 i
  | 49 => lit0t0_177 i
  | 50 => lit0t0_178 i
  | 51 => lit0t0_179 i
  | 52 => lit0t0_180 i
  | 53 => lit0t0_181 i
  | 54 => lit0t0_182 i
  | 55 => lit0t0_183 i
  | 56 => lit0t0_184 i
  | 57 => lit0t0_185 i
  | 58 => lit0t0_186 i
  | 59 => lit0t0_187 i
  | 60 => lit0t0_188 i
  | 61 => lit0t0_189 i
  | 62 => lit0t0_190 i
  | 63 => lit0t0_191 i
  | 64 => lit0t0_192 i
  | 65 => lit0t0_193 i
  | 66 => lit0t0_194 i
  | 67 => lit0t0_195 i
  | 68 => lit0t0_196 i
  | 69 => lit0t0_197 i
  | 70 => lit0t0_198 i
  | 71 => lit0t0_199 i
  | 72 => lit0t0_200 i
  | 73 => lit0t0_201 i
  | 74 => lit0t0_202 i
  | 75 => lit0t0_203 i
  | 76 => lit0t0_204 i
  | 77 => lit0t0_205 i
  | 78 => lit0t0_206 i
  | 79 => lit0t0_207 i
  | 80 => lit0t0_208 i
  | 81 => lit0t0_209 i
  | 82 => lit0t0_210 i
  | 83 => lit0t0_211 i
  | 84 => lit0t0_212 i
  | 85 => lit0t0_213 i
  | 86 => lit0t0_214 i
  | 87 => lit0t0_215 i
  | 88 => lit0t0_216 i
  | 89 => lit0t0_217 i
  | 90 => lit0t0_218 i
  | 91 => lit0t0_219 i
  | 92 => lit0t0_220 i
  | 93 => lit0t0_221 i
  | 94 => lit0t0_222 i
  | 95 => lit0t0_223 i
  | 96 => lit0t0_224 i
  | 97 => lit0t0_225 i
  | 98 => lit0t0_226 i
  | 99 => lit0t0_227 i
  | 100 => lit0t0_228 i
  | 101 => lit0t0_229 i
  | 102 => lit0t0_230 i
  | 103 => lit0t0_231 i
  | 104 => lit0t0_232 i
  | 105 => lit0t0_233 i
  | 106 => lit0t0_234 i
  | 107 => lit0t0_235 i
  | 108 => lit0t0_236 i
  | 109 => lit0t0_237 i
  | 110 => lit0t0_238 i
  | 111 => lit0t0_239 i
  | 112 => lit0t0_240 i
  | 113 => lit0t0_241 i
  | 114 => lit0t0_242 i
  | 115 => lit0t0_243 i
  | 116 => lit0t0_244 i
  | 117 => lit0t0_245 i
  | 118 => lit0t0_246 i
  | 119 => lit0t0_247 i
  | 120 => lit0t0_248 i
  | 121 => lit0t0_249 i
  | 122 => lit0t0_250 i
  | 123 => lit0t0_251 i
  | 124 => lit0t0_252 i
  | 125 => lit0t0_253 i
  | 126 => lit0t0_254 i
  | 127 => lit0t0_255 i
  | _ => 0#16

/-- A quarter of the table reads one of its leaves. -/
theorem quarter1_pick (i : ℕ) : lit0t1_1 i = pick1 (i / 128 % 128) i := rfl

/-- The leaves of a quarter alternate between two. -/
theorem pick1_eq (j : Fin 128) (i : ℕ) : pick1 j.val i = if j.val % 2 = 0 then lit0t0_128 i else lit0t0_1 i := by
  fin_cases j <;> rfl

/-- The leaves of a quarter of the table. -/
def pick2 (j i : ℕ) : BitVec 16 := match j with
  | 0 => lit0t0_256 i
  | 1 => lit0t0_257 i
  | 2 => lit0t0_258 i
  | 3 => lit0t0_259 i
  | 4 => lit0t0_260 i
  | 5 => lit0t0_261 i
  | 6 => lit0t0_262 i
  | 7 => lit0t0_263 i
  | 8 => lit0t0_264 i
  | 9 => lit0t0_265 i
  | 10 => lit0t0_266 i
  | 11 => lit0t0_267 i
  | 12 => lit0t0_268 i
  | 13 => lit0t0_269 i
  | 14 => lit0t0_270 i
  | 15 => lit0t0_271 i
  | 16 => lit0t0_272 i
  | 17 => lit0t0_273 i
  | 18 => lit0t0_274 i
  | 19 => lit0t0_275 i
  | 20 => lit0t0_276 i
  | 21 => lit0t0_277 i
  | 22 => lit0t0_278 i
  | 23 => lit0t0_279 i
  | 24 => lit0t0_280 i
  | 25 => lit0t0_281 i
  | 26 => lit0t0_282 i
  | 27 => lit0t0_283 i
  | 28 => lit0t0_284 i
  | 29 => lit0t0_285 i
  | 30 => lit0t0_286 i
  | 31 => lit0t0_287 i
  | 32 => lit0t0_288 i
  | 33 => lit0t0_289 i
  | 34 => lit0t0_290 i
  | 35 => lit0t0_291 i
  | 36 => lit0t0_292 i
  | 37 => lit0t0_293 i
  | 38 => lit0t0_294 i
  | 39 => lit0t0_295 i
  | 40 => lit0t0_296 i
  | 41 => lit0t0_297 i
  | 42 => lit0t0_298 i
  | 43 => lit0t0_299 i
  | 44 => lit0t0_300 i
  | 45 => lit0t0_301 i
  | 46 => lit0t0_302 i
  | 47 => lit0t0_303 i
  | 48 => lit0t0_304 i
  | 49 => lit0t0_305 i
  | 50 => lit0t0_306 i
  | 51 => lit0t0_307 i
  | 52 => lit0t0_308 i
  | 53 => lit0t0_309 i
  | 54 => lit0t0_310 i
  | 55 => lit0t0_311 i
  | 56 => lit0t0_312 i
  | 57 => lit0t0_313 i
  | 58 => lit0t0_314 i
  | 59 => lit0t0_315 i
  | 60 => lit0t0_316 i
  | 61 => lit0t0_317 i
  | 62 => lit0t0_318 i
  | 63 => lit0t0_319 i
  | 64 => lit0t0_320 i
  | 65 => lit0t0_321 i
  | 66 => lit0t0_322 i
  | 67 => lit0t0_323 i
  | 68 => lit0t0_324 i
  | 69 => lit0t0_325 i
  | 70 => lit0t0_326 i
  | 71 => lit0t0_327 i
  | 72 => lit0t0_328 i
  | 73 => lit0t0_329 i
  | 74 => lit0t0_330 i
  | 75 => lit0t0_331 i
  | 76 => lit0t0_332 i
  | 77 => lit0t0_333 i
  | 78 => lit0t0_334 i
  | 79 => lit0t0_335 i
  | 80 => lit0t0_336 i
  | 81 => lit0t0_337 i
  | 82 => lit0t0_338 i
  | 83 => lit0t0_339 i
  | 84 => lit0t0_340 i
  | 85 => lit0t0_341 i
  | 86 => lit0t0_342 i
  | 87 => lit0t0_343 i
  | 88 => lit0t0_344 i
  | 89 => lit0t0_345 i
  | 90 => lit0t0_346 i
  | 91 => lit0t0_347 i
  | 92 => lit0t0_348 i
  | 93 => lit0t0_349 i
  | 94 => lit0t0_350 i
  | 95 => lit0t0_351 i
  | 96 => lit0t0_352 i
  | 97 => lit0t0_353 i
  | 98 => lit0t0_354 i
  | 99 => lit0t0_355 i
  | 100 => lit0t0_356 i
  | 101 => lit0t0_357 i
  | 102 => lit0t0_358 i
  | 103 => lit0t0_359 i
  | 104 => lit0t0_360 i
  | 105 => lit0t0_361 i
  | 106 => lit0t0_362 i
  | 107 => lit0t0_363 i
  | 108 => lit0t0_364 i
  | 109 => lit0t0_365 i
  | 110 => lit0t0_366 i
  | 111 => lit0t0_367 i
  | 112 => lit0t0_368 i
  | 113 => lit0t0_369 i
  | 114 => lit0t0_370 i
  | 115 => lit0t0_371 i
  | 116 => lit0t0_372 i
  | 117 => lit0t0_373 i
  | 118 => lit0t0_374 i
  | 119 => lit0t0_375 i
  | 120 => lit0t0_376 i
  | 121 => lit0t0_377 i
  | 122 => lit0t0_378 i
  | 123 => lit0t0_379 i
  | 124 => lit0t0_380 i
  | 125 => lit0t0_381 i
  | 126 => lit0t0_382 i
  | 127 => lit0t0_383 i
  | _ => 0#16

/-- A quarter of the table reads one of its leaves. -/
theorem quarter2_pick (i : ℕ) : lit0t1_2 i = pick2 (i / 128 % 128) i := rfl

/-- The leaves of a quarter alternate between two. -/
theorem pick2_eq (j : Fin 128) (i : ℕ) : pick2 j.val i = if j.val % 2 = 0 then lit0t0_1 i else lit0t0_0 i := by
  fin_cases j <;> rfl

/-- The leaves of a quarter of the table. -/
def pick3 (j i : ℕ) : BitVec 16 := match j with
  | 0 => lit0t0_384 i
  | 1 => lit0t0_385 i
  | 2 => lit0t0_386 i
  | 3 => lit0t0_387 i
  | 4 => lit0t0_388 i
  | 5 => lit0t0_389 i
  | 6 => lit0t0_390 i
  | 7 => lit0t0_391 i
  | 8 => lit0t0_392 i
  | 9 => lit0t0_393 i
  | 10 => lit0t0_394 i
  | 11 => lit0t0_395 i
  | 12 => lit0t0_396 i
  | 13 => lit0t0_397 i
  | 14 => lit0t0_398 i
  | 15 => lit0t0_399 i
  | 16 => lit0t0_400 i
  | 17 => lit0t0_401 i
  | 18 => lit0t0_402 i
  | 19 => lit0t0_403 i
  | 20 => lit0t0_404 i
  | 21 => lit0t0_405 i
  | 22 => lit0t0_406 i
  | 23 => lit0t0_407 i
  | 24 => lit0t0_408 i
  | 25 => lit0t0_409 i
  | 26 => lit0t0_410 i
  | 27 => lit0t0_411 i
  | 28 => lit0t0_412 i
  | 29 => lit0t0_413 i
  | 30 => lit0t0_414 i
  | 31 => lit0t0_415 i
  | 32 => lit0t0_416 i
  | 33 => lit0t0_417 i
  | 34 => lit0t0_418 i
  | 35 => lit0t0_419 i
  | 36 => lit0t0_420 i
  | 37 => lit0t0_421 i
  | 38 => lit0t0_422 i
  | 39 => lit0t0_423 i
  | 40 => lit0t0_424 i
  | 41 => lit0t0_425 i
  | 42 => lit0t0_426 i
  | 43 => lit0t0_427 i
  | 44 => lit0t0_428 i
  | 45 => lit0t0_429 i
  | 46 => lit0t0_430 i
  | 47 => lit0t0_431 i
  | 48 => lit0t0_432 i
  | 49 => lit0t0_433 i
  | 50 => lit0t0_434 i
  | 51 => lit0t0_435 i
  | 52 => lit0t0_436 i
  | 53 => lit0t0_437 i
  | 54 => lit0t0_438 i
  | 55 => lit0t0_439 i
  | 56 => lit0t0_440 i
  | 57 => lit0t0_441 i
  | 58 => lit0t0_442 i
  | 59 => lit0t0_443 i
  | 60 => lit0t0_444 i
  | 61 => lit0t0_445 i
  | 62 => lit0t0_446 i
  | 63 => lit0t0_447 i
  | 64 => lit0t0_448 i
  | 65 => lit0t0_449 i
  | 66 => lit0t0_450 i
  | 67 => lit0t0_451 i
  | 68 => lit0t0_452 i
  | 69 => lit0t0_453 i
  | 70 => lit0t0_454 i
  | 71 => lit0t0_455 i
  | 72 => lit0t0_456 i
  | 73 => lit0t0_457 i
  | 74 => lit0t0_458 i
  | 75 => lit0t0_459 i
  | 76 => lit0t0_460 i
  | 77 => lit0t0_461 i
  | 78 => lit0t0_462 i
  | 79 => lit0t0_463 i
  | 80 => lit0t0_464 i
  | 81 => lit0t0_465 i
  | 82 => lit0t0_466 i
  | 83 => lit0t0_467 i
  | 84 => lit0t0_468 i
  | 85 => lit0t0_469 i
  | 86 => lit0t0_470 i
  | 87 => lit0t0_471 i
  | 88 => lit0t0_472 i
  | 89 => lit0t0_473 i
  | 90 => lit0t0_474 i
  | 91 => lit0t0_475 i
  | 92 => lit0t0_476 i
  | 93 => lit0t0_477 i
  | 94 => lit0t0_478 i
  | 95 => lit0t0_479 i
  | 96 => lit0t0_480 i
  | 97 => lit0t0_481 i
  | 98 => lit0t0_482 i
  | 99 => lit0t0_483 i
  | 100 => lit0t0_484 i
  | 101 => lit0t0_485 i
  | 102 => lit0t0_486 i
  | 103 => lit0t0_487 i
  | 104 => lit0t0_488 i
  | 105 => lit0t0_489 i
  | 106 => lit0t0_490 i
  | 107 => lit0t0_491 i
  | 108 => lit0t0_492 i
  | 109 => lit0t0_493 i
  | 110 => lit0t0_494 i
  | 111 => lit0t0_495 i
  | 112 => lit0t0_496 i
  | 113 => lit0t0_497 i
  | 114 => lit0t0_498 i
  | 115 => lit0t0_499 i
  | 116 => lit0t0_500 i
  | 117 => lit0t0_501 i
  | 118 => lit0t0_502 i
  | 119 => lit0t0_503 i
  | 120 => lit0t0_504 i
  | 121 => lit0t0_505 i
  | 122 => lit0t0_506 i
  | 123 => lit0t0_507 i
  | 124 => lit0t0_508 i
  | 125 => lit0t0_509 i
  | 126 => lit0t0_510 i
  | 127 => lit0t0_511 i
  | _ => 0#16

/-- A quarter of the table reads one of its leaves. -/
theorem quarter3_pick (i : ℕ) : lit0t1_3 i = pick3 (i / 128 % 128) i := rfl

/-- The leaves of a quarter alternate between two. -/
theorem pick3_eq (j : Fin 128) (i : ℕ) : pick3 j.val i = if j.val % 2 = 0 then lit0t0_1 i else lit0t0_128 i := by
  fin_cases j <;> rfl

/-- A quarter of the table, by the leaf's parity. -/
theorem quarter_of {e o : ℕ → BitVec 16} {Q : ℕ → BitVec 16} {pk : ℕ → ℕ → BitVec 16} (hQ : ∀ i, Q i = pk (i / 128 % 128) i)
    (hp : ∀ (j : Fin 128) (i : ℕ), pk j.val i = if j.val % 2 = 0 then e i else o i) (i : ℕ) : Q i = if (i / 128 % 128) % 2 = 0 then e i else o i :=
  (hQ i).trans (hp ⟨i / 128 % 128, Nat.mod_lt _ (by norm_num)⟩ i)

/-- The printed table, entry by entry. -/
theorem lit0_val (a b : Fin 256) : lit0 ⟨256 * a.val + b.val, by omega⟩ = if a.val / 64 = b.val / 64 then 0x3C80#16 else 0x0000#16 := by
  have ha := a.isLt
  have hb := b.isLt
  have h0 := quarter_of quarter0_pick pick0_eq (256 * a.val + b.val)
  have h1 := quarter_of quarter1_pick pick1_eq (256 * a.val + b.val)
  have h2 := quarter_of quarter2_pick pick2_eq (256 * a.val + b.val)
  have h3 := quarter_of quarter3_pick pick3_eq (256 * a.val + b.val)
  rw [leafA, leafZ] at h0
  rw [leafB, leafZ] at h1
  rw [leafZ, leafA] at h2
  rw [leafZ, leafB] at h3
  have hq : (256 * a.val + b.val) / 16384 = a.val / 64 := by omega
  have hp : ((256 * a.val + b.val) / 128 % 128) % 2 = b.val / 128 := by omega
  have hr : (256 * a.val + b.val) % 128 = b.val % 128 := by omega
  rw [hp, hr] at h0 h1 h2 h3
  show lit0t (256 * a.val + b.val) = _
  unfold lit0t
  rw [hq]
  have hlt : a.val / 64 < 4 := by omega
  generalize hx : a.val / 64 = x at hlt ⊢
  have hc : ∀ (p : Prop) [Decidable p] (y : BitVec 16), y = (if p then 0x3C80#16 else 0x0000#16) → ((x = b.val / 64) ↔ p) → y = if x = b.val / 64 then 0x3C80#16 else 0x0000#16 := by
    intro p _ y h e
    rw [h]; exact if_congr e.symm rfl rfl
  interval_cases x
  · refine hc (b.val / 128 = 0 ∧ b.val % 128 < 64) _ (h0.trans ?_) (by omega)
    by_cases u : b.val / 128 = 0 <;> simp [u]
  · refine hc (b.val / 128 = 0 ∧ 64 ≤ b.val % 128) _ (h1.trans ?_) (by omega)
    by_cases u : b.val / 128 = 0 <;> simp [u]
  · refine hc (¬ b.val / 128 = 0 ∧ b.val % 128 < 64) _ (h2.trans ?_) (by omega)
    by_cases u : b.val / 128 = 0 <;> simp [u]
  · refine hc (¬ b.val / 128 = 0 ∧ 64 ≤ b.val % 128) _ (h3.trans ?_) (by omega)
    by_cases u : b.val / 128 = 0 <;> simp [u]

/-- The bf16 pattern of a sixty-fourth. -/
theorem ofBits_sixtyfourth : Ideal.ofBits .bf16 0x3C80#16 = ((1 / 64 : ℝ) : EReal) := by
  simp [Ideal.ofBits, Ideal.ieee]
  rw [← EReal.coe_mul]; norm_num

end Cert.PromptIdeal.Layer

end
-- ==== Proof.Layer.Chain.lean ====
/- The prompt path of the kernel: its calls and host operations chained, each array the layer's mathematics of the arguments. -/
module

public import proofs.«01_k».proof.Proof.Layer.Calls
public import proofs.«01_k».proof.Proof.Layer.Entry
public import proofs.«01_k».proof.Proof.Layer.Table

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer
open Cert.Softmax

variable (m : (ℓ : Loc nD τ sig) → Buf (Elt Ideal) ℓ) (ρ : Dev nD → PrngReg)

/-- The kernel's arguments. -/
def argsOf (c : Dev nD) : Args where
  x := fun b i k => m ((c : Thread nD τ).loc main_arg0) (ix3 b i k)
  cx := fun k => m ((c : Thread nD τ).loc main_arg2) (ix1 k)
  wA := fun k n => m ((c : Thread nD τ).loc main_arg3) (ix3 0 k n)
  bA := fun n => m ((c : Thread nD τ).loc main_arg4) (ix2 0 n)
  g1 := fun k => m ((c : Thread nD τ).loc main_arg5) (ix2 0 k)
  g2 := fun k => m ((c : Thread nD τ).loc main_arg6) (ix2 0 k)
  g3 := fun k => m ((c : Thread nD τ).loc main_arg7) (ix2 0 k)
  g4 := fun k => m ((c : Thread nD τ).loc main_arg8) (ix2 0 k)
  wI := fun k n => m ((c : Thread nD τ).loc main_arg9) (ix3 0 k n)
  qn := fun d => m ((c : Thread nD τ).loc main_arg10) (ix2 0 d)
  kn := fun d => m ((c : Thread nD τ).loc main_arg11) (ix2 0 d)
  wa := fun k n => m ((c : Thread nD τ).loc main_arg12) (ix3 0 k n)
  cw := fun r n => m ((c : Thread nD τ).loc main_arg13) (ix3 0 r n)
  wc := fun k n => m ((c : Thread nD τ).loc main_arg14) (ix3 0 k n)
  wo := fun k n => m ((c : Thread nD τ).loc main_arg15) (ix3 0 k n)
  wu := fun k n => m ((c : Thread nD τ).loc main_arg16) (ix3 0 k n)
  cf := fun r n => m ((c : Thread nD τ).loc main_arg17) (ix3 0 r n)
  wd := fun k n => m ((c : Thread nD τ).loc main_arg18) (ix3 0 k n)

/-- The table's entries. -/
theorem tab (c : Dev nD) (x l : Fin 256) : V1 m ρ c main_cst (ix2 x l) = if x.val / 64 = l.val / 64 then ((1 / 64 : ℝ) : EReal) else 0 := by
  have h := lit0_val x l
  have e : S256x256.rowMajor (ix2 x l) = (⟨256 * x.val + l.val, by omega⟩ : Fin 65536) := Fin.ext (by
    rw [Idealize.ShloMosaic.Shape.rowMajor_val_two]; show x.val * 256 + l.val = 256 * x.val + l.val; omega)
  refine (ecst m ρ c x l).trans ?_
  rw [e, h]
  split
  · exact ofBits_sixtyfourth
  · exact Ideal.ofBits_zero _

/-- Nothing between writes this array. -/
theorem p3_1_v6 (c : Dev nD) : V3 m ρ c main_v6 = V1 m ρ c main_v6 :=
  (W3_of m ρ c main_v6 (by decide)).trans ((W2_of m ρ c main_v6 (by decide)).trans (rfl))

/-- Nothing between writes this array. -/
theorem p3_1_v14 (c : Dev nD) : V3 m ρ c main_v14 = V1 m ρ c main_v14 :=
  (W3_of m ρ c main_v14 (by decide)).trans ((W2_of m ρ c main_v14 (by decide)).trans (rfl))

/-- Nothing between writes this array. -/
theorem p3_1_v21 (c : Dev nD) : V3 m ρ c main_v21 = V1 m ρ c main_v21 :=
  (W3_of m ρ c main_v21 (by decide)).trans ((W2_of m ρ c main_v21 (by decide)).trans (rfl))

/-- Nothing between writes this array. -/
theorem p3_1_v26 (c : Dev nD) : V3 m ρ c main_v26 = V1 m ρ c main_v26 :=
  (W3_of m ρ c main_v26 (by decide)).trans ((W2_of m ρ c main_v26 (by decide)).trans (rfl))

/-- Nothing between writes this array. -/
theorem p3_1_cst (c : Dev nD) : V3 m ρ c main_cst = V1 m ρ c main_cst :=
  (W3_of m ρ c main_cst (by decide)).trans ((W2_of m ρ c main_cst (by decide)).trans (rfl))

/-- Nothing between writes this array. -/
theorem p7_1_v8 (c : Dev nD) : V7 m ρ c main_v8 = V1 m ρ c main_v8 :=
  (W7_of m ρ c main_v8 (by decide)).trans ((W6_of m ρ c main_v8 (by decide)).trans ((W5_of m ρ c main_v8 (by decide)).trans ((W4_of m ρ c main_v8 (by decide)).trans ((W3_of m ρ c main_v8 (by decide)).trans ((W2_of m ρ c main_v8 (by decide)).trans (rfl))))))

/-- Nothing between writes this array. -/
theorem p7_1_v10 (c : Dev nD) : V7 m ρ c main_v10 = V1 m ρ c main_v10 :=
  (W7_of m ρ c main_v10 (by decide)).trans ((W6_of m ρ c main_v10 (by decide)).trans ((W5_of m ρ c main_v10 (by decide)).trans ((W4_of m ρ c main_v10 (by decide)).trans ((W3_of m ρ c main_v10 (by decide)).trans ((W2_of m ρ c main_v10 (by decide)).trans (rfl))))))

/-- Nothing between writes this array. -/
theorem p7_1_v28 (c : Dev nD) : V7 m ρ c main_v28 = V1 m ρ c main_v28 :=
  (W7_of m ρ c main_v28 (by decide)).trans ((W6_of m ρ c main_v28 (by decide)).trans ((W5_of m ρ c main_v28 (by decide)).trans ((W4_of m ρ c main_v28 (by decide)).trans ((W3_of m ρ c main_v28 (by decide)).trans ((W2_of m ρ c main_v28 (by decide)).trans (rfl))))))

/-- Nothing between writes this array. -/
theorem p7_1_v29 (c : Dev nD) : V7 m ρ c main_v29 = V1 m ρ c main_v29 :=
  (W7_of m ρ c main_v29 (by decide)).trans ((W6_of m ρ c main_v29 (by decide)).trans ((W5_of m ρ c main_v29 (by decide)).trans ((W4_of m ρ c main_v29 (by decide)).trans ((W3_of m ρ c main_v29 (by decide)).trans ((W2_of m ρ c main_v29 (by decide)).trans (rfl))))))

/-- Nothing between writes this array. -/
theorem p7_1_v31 (c : Dev nD) : V7 m ρ c main_v31 = V1 m ρ c main_v31 :=
  (W7_of m ρ c main_v31 (by decide)).trans ((W6_of m ρ c main_v31 (by decide)).trans ((W5_of m ρ c main_v31 (by decide)).trans ((W4_of m ρ c main_v31 (by decide)).trans ((W3_of m ρ c main_v31 (by decide)).trans ((W2_of m ρ c main_v31 (by decide)).trans (rfl))))))

/-- Nothing between writes this array. -/
theorem p7_1_v33 (c : Dev nD) : V7 m ρ c main_v33 = V1 m ρ c main_v33 :=
  (W7_of m ρ c main_v33 (by decide)).trans ((W6_of m ρ c main_v33 (by decide)).trans ((W5_of m ρ c main_v33 (by decide)).trans ((W4_of m ρ c main_v33 (by decide)).trans ((W3_of m ρ c main_v33 (by decide)).trans ((W2_of m ρ c main_v33 (by decide)).trans (rfl))))))

/-- Nothing between writes this array. -/
theorem p8_1_v12 (c : Dev nD) : V8 m ρ c main_v12 = V1 m ρ c main_v12 :=
  (W8_of m ρ c main_v12 (by decide)).trans ((W7_of m ρ c main_v12 (by decide)).trans ((W6_of m ρ c main_v12 (by decide)).trans ((W5_of m ρ c main_v12 (by decide)).trans ((W4_of m ρ c main_v12 (by decide)).trans ((W3_of m ρ c main_v12 (by decide)).trans ((W2_of m ρ c main_v12 (by decide)).trans (rfl)))))))

/-- Nothing between writes this array. -/
theorem p8_1_v35 (c : Dev nD) : V8 m ρ c main_v35 = V1 m ρ c main_v35 :=
  (W8_of m ρ c main_v35 (by decide)).trans ((W7_of m ρ c main_v35 (by decide)).trans ((W6_of m ρ c main_v35 (by decide)).trans ((W5_of m ρ c main_v35 (by decide)).trans ((W4_of m ρ c main_v35 (by decide)).trans ((W3_of m ρ c main_v35 (by decide)).trans ((W2_of m ρ c main_v35 (by decide)).trans (rfl)))))))

/-- Nothing between writes this array. -/
theorem p8_1_v36 (c : Dev nD) : V8 m ρ c main_v36 = V1 m ρ c main_v36 :=
  (W8_of m ρ c main_v36 (by decide)).trans ((W7_of m ρ c main_v36 (by decide)).trans ((W6_of m ρ c main_v36 (by decide)).trans ((W5_of m ρ c main_v36 (by decide)).trans ((W4_of m ρ c main_v36 (by decide)).trans ((W3_of m ρ c main_v36 (by decide)).trans ((W2_of m ρ c main_v36 (by decide)).trans (rfl)))))))

/-- Nothing between writes this array. -/
theorem p8_1_v38 (c : Dev nD) : V8 m ρ c main_v38 = V1 m ρ c main_v38 :=
  (W8_of m ρ c main_v38 (by decide)).trans ((W7_of m ρ c main_v38 (by decide)).trans ((W6_of m ρ c main_v38 (by decide)).trans ((W5_of m ρ c main_v38 (by decide)).trans ((W4_of m ρ c main_v38 (by decide)).trans ((W3_of m ρ c main_v38 (by decide)).trans ((W2_of m ρ c main_v38 (by decide)).trans (rfl)))))))

/-- Nothing between writes this array. -/
theorem p7_3_v44 (c : Dev nD) : V7 m ρ c main_v44 = V3 m ρ c main_v44 :=
  (W7_of m ρ c main_v44 (by decide)).trans ((W6_of m ρ c main_v44 (by decide)).trans ((W5_of m ρ c main_v44 (by decide)).trans ((W4_of m ρ c main_v44 (by decide)).trans (rfl))))

/-- Nothing between writes this array. -/
theorem p7_3_v45 (c : Dev nD) : V7 m ρ c main_v45 = V3 m ρ c main_v45 :=
  (W7_of m ρ c main_v45 (by decide)).trans ((W6_of m ρ c main_v45 (by decide)).trans ((W5_of m ρ c main_v45 (by decide)).trans ((W4_of m ρ c main_v45 (by decide)).trans (rfl))))

/-- Nothing between writes this array. -/
theorem p8_3_v44 (c : Dev nD) : V8 m ρ c main_v44 = V3 m ρ c main_v44 :=
  (W8_of m ρ c main_v44 (by decide)).trans ((W7_of m ρ c main_v44 (by decide)).trans ((W6_of m ρ c main_v44 (by decide)).trans ((W5_of m ρ c main_v44 (by decide)).trans ((W4_of m ρ c main_v44 (by decide)).trans (rfl)))))

/-- Nothing between writes this array. -/
theorem p7_4_v46_3 (c : Dev nD) : V7 m ρ c main_v46_3 = V4 m ρ c main_v46_3 :=
  (W7_of m ρ c main_v46_3 (by decide)).trans ((W6_of m ρ c main_v46_3 (by decide)).trans ((W5_of m ρ c main_v46_3 (by decide)).trans (rfl)))

/-- Nothing between writes this array. -/
theorem p7_4_v46_4 (c : Dev nD) : V7 m ρ c main_v46_4 = V4 m ρ c main_v46_4 :=
  (W7_of m ρ c main_v46_4 (by decide)).trans ((W6_of m ρ c main_v46_4 (by decide)).trans ((W5_of m ρ c main_v46_4 (by decide)).trans (rfl)))

/-- Nothing between writes this array. -/
theorem p7_4_v46_5 (c : Dev nD) : V7 m ρ c main_v46_5 = V4 m ρ c main_v46_5 :=
  (W7_of m ρ c main_v46_5 (by decide)).trans ((W6_of m ρ c main_v46_5 (by decide)).trans ((W5_of m ρ c main_v46_5 (by decide)).trans (rfl)))

/-- Nothing between writes this array. -/
theorem p7_4_v46_6 (c : Dev nD) : V7 m ρ c main_v46_6 = V4 m ρ c main_v46_6 :=
  (W7_of m ρ c main_v46_6 (by decide)).trans ((W6_of m ρ c main_v46_6 (by decide)).trans ((W5_of m ρ c main_v46_6 (by decide)).trans (rfl)))

/-- Nothing between writes this array. -/
theorem p9_4_v46_1 (c : Dev nD) : V9 m ρ c main_v46_1 = V4 m ρ c main_v46_1 :=
  (W9_of m ρ c main_v46_1 (by decide)).trans ((W8_of m ρ c main_v46_1 (by decide)).trans ((W7_of m ρ c main_v46_1 (by decide)).trans ((W6_of m ρ c main_v46_1 (by decide)).trans ((W5_of m ρ c main_v46_1 (by decide)).trans (rfl)))))

/-- Nothing between writes this array. -/
theorem p9_4_v46_2 (c : Dev nD) : V9 m ρ c main_v46_2 = V4 m ρ c main_v46_2 :=
  (W9_of m ρ c main_v46_2 (by decide)).trans ((W8_of m ρ c main_v46_2 (by decide)).trans ((W7_of m ρ c main_v46_2 (by decide)).trans ((W6_of m ρ c main_v46_2 (by decide)).trans ((W5_of m ρ c main_v46_2 (by decide)).trans (rfl)))))

/-- The modulation call's vector is the layer's. -/
theorem ada_of (a : Args) (x : FVec Ideal S16x1024 .f32) (w : FVec Ideal S1024x6144 .f32) (b : FVec Ideal S1x6144 .f32) (hx : ∀ k, x (ix2 0 k) = a.cx k)
    (hw : ∀ k n, w (ix2 k n) = a.wA k n) (hb : ∀ n, b (ix2 0 n) = a.bA n) (n : Fin 6144) : G0 x w b (ix2 0 n) = ada a n := by
  show (∑ k : Fin 1024, x (ix2 0 k) * Ideal.logistic (x (ix2 0 k)) * w (ix2 k n)) + b (ix2 0 n) = (∑ k, a.cx k * Ideal.logistic (a.cx k) * a.wA k n) + a.bA n
  rw [hb]
  exact congrArg (· + a.bA n) (Finset.sum_congr rfl fun k _ => by rw [hx, hw])

/-- The modulation vector. -/
theorem v42 (c : Dev nD) (n : Fin 6144) : V2 m ρ c main_v42 (ix2 0 n) = ada (argsOf m c) n := by
  have h : V2 m ρ c main_v42 = G0 (V1 m ρ c main_v4) (V1 m ρ c main_v39) (V1 m ρ c main_v41) := (W2_arr m ρ c 3).trans (final0 (V1 m ρ) c)
  rw [h]
  exact ada_of (argsOf m c) _ _ _ (e4 m ρ c) (e39 m ρ c) (e41 m ρ c) n

/-- The modulation vector as the calls read it. -/
theorem v44 (c : Dev nD) (n : Fin 6144) : V3 m ρ c main_v44 (ix3 0 0 n) = ada (argsOf m c) n := by
  refine Eq.trans ?_ (v42 m ρ c n)
  show StableHlo.after hostOps1 (W2 m ρ c) (Proc.devRef .tc main_v44) (ix3 0 0 n) = _
  entry_read
  pointwise

/-- The prompt, flattened. -/
theorem v45 (c : Dev nD) (b : Fin 16) (i : Fin 256) (k : Fin 1024) : V3 m ρ c main_v45 (ix2 (rowOf b i) k) = (argsOf m c).x b i k := by
  have h := congrFun ((W2_of m ρ c main_arg0 (by decide)).trans (W1_of m ρ c main_arg0 (by decide))) (ix3 b i k)
  refine Eq.trans ?_ h
  show StableHlo.after hostOps1 (W2 m ρ c) (Proc.devRef .tc main_v45) (ix2 (rowOf b i) k) = _
  entry_read
  pointwise [rowOf]

/-- The projected rows. -/
theorem zrow (c : Dev nD) (b : Fin 16) (i : Fin 256) : zF (V3 m ρ c main_v45) (V3 m ρ c main_v44) (V3 m ρ c main_v6) (V3 m ρ c main_v14) (rowOf b i) = zz (argsOf m c) b i :=
  z_of (argsOf m c) _ _ _ _ b i (fun k => v45 m ρ c b i k) (v44 m ρ c) (fun k => (congrFun (p3_1_v6 m ρ c) _).trans (e6 m ρ c k)) (fun k n => (congrFun (p3_1_v14 m ρ c) _).trans (e14 m ρ c k n))

/-- A result of the input projection. -/
theorem v46_3 (c : Dev nD) (b : Fin 16) (i : Fin 256) (l : Fin 1024) : V4 m ρ c main_v46_3 (ix2 (rowOf b i) l) = zz (argsOf m c) b i ⟨1536 + l.val, by omega⟩ :=
  (congrFun ((W4_arr m ρ c 11).trans (final1_11 (V3 m ρ) c)) (ix2 (rowOf b i) l)).trans (congrFun (zrow m ρ c b i) _)

/-- A result of the input projection. -/
theorem v46_4 (c : Dev nD) (b : Fin 16) (i : Fin 256) (l : Fin 1024) : V4 m ρ c main_v46_4 (ix2 (rowOf b i) l) = zz (argsOf m c) b i ⟨2560 + l.val, by omega⟩ * zz (argsOf m c) b i ⟨3584 + l.val, by omega⟩ :=
  (congrFun ((W4_arr m ρ c 12).trans (final1_12 (V3 m ρ) c)) (ix2 (rowOf b i) l)).trans (Ideal.mul_congr (congrFun (zrow m ρ c b i) _) (congrFun (zrow m ρ c b i) _))

/-- A result of the input projection. -/
theorem v46_5 (c : Dev nD) (b : Fin 16) (i : Fin 256) (l : Fin 1024) : V4 m ρ c main_v46_5 (ix2 (rowOf b i) l) = Ideal.logistic (zz (argsOf m c) b i ⟨4608 + l.val, by omega⟩) :=
  (congrFun ((W4_arr m ρ c 13).trans (final1_13 (V3 m ρ) c)) (ix2 (rowOf b i) l)).trans (congrArg Ideal.logistic (congrFun (zrow m ρ c b i) _))

/-- A result of the input projection. -/
theorem v46_6 (c : Dev nD) (b : Fin 16) (i : Fin 256) (l : Fin 1024) : V4 m ρ c main_v46_6 (ix2 (rowOf b i) l) = Ideal.logistic (zz (argsOf m c) b i ⟨5632 + l.val, by omega⟩) :=
  (congrFun ((W4_arr m ρ c 14).trans (final1_14 (V3 m ρ) c)) (ix2 (rowOf b i) l)).trans (congrArg Ideal.logistic (congrFun (zrow m ρ c b i) _))

/-- The values. -/
theorem v46_2 (c : Dev nD) (b : Fin 16) (i : Fin 256) (n : Fin 4) (d : Fin 64) : V4 m ρ c main_v46_2 (ix2 (rowOf b i) ⟨64 * n.val + d.val, by omega⟩) = vv (argsOf m c) b i n d :=
  (congrFun ((W4_arr m ρ c 10).trans (final1_10 (V3 m ρ) c)) (ix2 (rowOf b i) ⟨64 * n.val + d.val, by omega⟩)).trans ((congrFun (zrow m ρ c b i) _).trans
    (congrArg (zz (argsOf m c) b i) (Fin.ext (by show 1280 + (64 * n.val + d.val) = 1280 + 64 * n.val + d.val; omega))))

/-- The keys. -/
theorem v46_1 (c : Dev nD) (b : Fin 16) (i : Fin 256) (n : Fin 4) (d : Fin 64) : V4 m ρ c main_v46_1 (ix2 (rowOf b i) ⟨64 * n.val + d.val, by omega⟩) = kk (argsOf m c) b i n d :=
  (congrFun ((W4_arr m ρ c 9).trans (final1_9 (V3 m ρ) c)) (ix2 (rowOf b i) ⟨64 * n.val + d.val, by omega⟩)).trans
    (k_of (argsOf m c) _ _ _ _ _ _ b i (fun k => v45 m ρ c b i k) (v44 m ρ c) (fun k => (congrFun (p3_1_v6 m ρ c) _).trans (e6 m ρ c k)) (fun k n => (congrFun (p3_1_v14 m ρ c) _).trans (e14 m ρ c k n)) (fun n => (congrFun (p3_1_v26 m ρ c) _).trans (e26 m ρ c n)) (fun x l => (congrFun (p3_1_cst m ρ c) _).trans (tab m ρ c x l)) n d)

/-- The queries. -/
theorem v46_0 (c : Dev nD) (b : Fin 16) (i : Fin 256) (h : Fin 16) (d : Fin 64) : V4 m ρ c main_v46_0 (ix2 (rowOf b i) ⟨64 * h.val + d.val, by omega⟩) = qs (argsOf m c) b i h d :=
  (congrFun ((W4_arr m ρ c 8).trans (final1_8 (V3 m ρ) c)) (ix2 (rowOf b i) ⟨64 * h.val + d.val, by omega⟩)).trans
    (q_of (argsOf m c) _ _ _ _ _ _ b i (fun k => v45 m ρ c b i k) (v44 m ρ c) (fun k => (congrFun (p3_1_v6 m ρ c) _).trans (e6 m ρ c k)) (fun k n => (congrFun (p3_1_v14 m ρ c) _).trans (e14 m ρ c k n)) (fun n => (congrFun (p3_1_v21 m ρ c) _).trans (e21 m ρ c n)) (fun x l => (congrFun (p3_1_cst m ρ c) _).trans (tab m ρ c x l)) h d)

/-- The queries as the attention reads them. -/
theorem v55 (c : Dev nD) (b : Fin 16) (i : Fin 256) (h : Fin 16) (d : Fin 64) : V5 m ρ c main_v55 (ix3 b i ⟨64 * h.val + d.val, by omega⟩) = qs (argsOf m c) b i h d := by
  refine Eq.trans ?_ (v46_0 m ρ c b i h d)
  show StableHlo.after hostOps2 (W4 m ρ c) (Proc.devRef .tc main_v55) (ix3 b i ⟨64 * h.val + d.val, _⟩) = _
  entry_read
  pointwise [rowOf]
  exact congrArg (V4 m ρ c main_v46_0) (congrArg₂ ix2 (Fin.ext (by show b.val * 256 + i.val = 256 * b.val + i.val; omega)) rfl)

/-- The keys as the attention reads them. -/
theorem v52 (c : Dev nD) (b : Fin 16) (n : Fin 4) (d : Fin 64) (t : Fin 256) : V5 m ρ c main_v52 (ix4 b n d t) = kk (argsOf m c) b t n d := by
  refine Eq.trans ?_ (v46_1 m ρ c b t n d)
  show StableHlo.after hostOps2 (W4 m ρ c) (Proc.devRef .tc main_v52) (ix4 b n d t) = _
  entry_read
  pointwise [rowOf]
  exact congrArg (V4 m ρ c main_v46_1) (congrArg₂ ix2 (Fin.ext (by show b.val * 256 + t.val = 256 * b.val + t.val; omega)) (Fin.ext (by show n.val * 64 + d.val = 64 * n.val + d.val; omega)))

/-- The values as the attention reads them. -/
theorem v54 (c : Dev nD) (b : Fin 16) (n : Fin 4) (t : Fin 256) (d : Fin 64) : V5 m ρ c main_v54 (ix4 b n t d) = vv (argsOf m c) b t n d := by
  refine Eq.trans ?_ (v46_2 m ρ c b t n d)
  show StableHlo.after hostOps2 (W4 m ρ c) (Proc.devRef .tc main_v54) (ix4 b n t d) = _
  entry_read
  pointwise [rowOf]
  exact congrArg (V4 m ρ c main_v46_2) (congrArg₂ ix2 (Fin.ext (by show b.val * 256 + t.val = 256 * b.val + t.val; omega)) (Fin.ext (by show n.val * 64 + d.val = 64 * n.val + d.val; omega)))

/-- The attention's result. -/
theorem v56 (c : Dev nD) (ha : (argsOf m c).Finite) (b : Fin 16) (i : Fin 256) (l : Fin 1024) : V6 m ρ c main_v56 (ix3 b i l) = attn (argsOf m c) b i l :=
  (congrFun ((W6_arr m ρ c 3).trans (final2 (V5 m ρ) c)) (ix3 b i l)).trans (att_of (argsOf m c) ha _ _ _ (v55 m ρ c) (v52 m ρ c) (v54 m ρ c) b i l)

/-- The attention's result, flattened. -/
theorem v57 (c : Dev nD) (ha : (argsOf m c).Finite) (b : Fin 16) (i : Fin 256) (l : Fin 1024) : V7 m ρ c main_v57 (ix2 (rowOf b i) l) = attn (argsOf m c) b i l := by
  refine Eq.trans ?_ (v56 m ρ c ha b i l)
  show StableHlo.after hostOps3 (W6 m ρ c) (Proc.devRef .tc main_v57) (ix2 (rowOf b i) l) = _
  entry_read
  pointwise [rowOf]

/-- The row after the first residual sum. -/
theorem v58_0 (c : Dev nD) (ha : (argsOf m c).Finite) (b : Fin 16) (i : Fin 256) (l : Fin 1024) : V8 m ρ c main_v58_0 (ix2 (rowOf b i) l) = h1 (argsOf m c) b i l :=
  (congrFun ((W8_arr m ρ c 17).trans (final3_17 (V7 m ρ) c)) (ix2 (rowOf b i) l)).trans
    (h_of (argsOf m c) _ _ _ _ _ _ _ _ _ _ _ _ (v57 m ρ c ha) (fun b i l => (congrFun (p7_4_v46_3 m ρ c) _).trans (v46_3 m ρ c b i l)) (fun b i l => (congrFun (p7_4_v46_4 m ρ c) _).trans (v46_4 m ρ c b i l)) (fun b i l => (congrFun (p7_4_v46_5 m ρ c) _).trans (v46_5 m ρ c b i l)) (fun b i l => (congrFun (p7_4_v46_6 m ρ c) _).trans (v46_6 m ρ c b i l)) (fun b i k => (congrFun (p7_3_v45 m ρ c) _).trans (v45 m ρ c b i k)) (fun n => (congrFun (p7_3_v44 m ρ c) _).trans (v44 m ρ c n)) (fun k => (congrFun (p7_1_v8 m ρ c) _).trans (e8 m ρ c k)) (fun k n => (congrFun (p7_1_v29 m ρ c) _).trans (e29 m ρ c k n)) (fun k n => (congrFun (p7_1_v28 m ρ c) _).trans (e28 m ρ c k n)) (fun k n => (congrFun (p7_1_v31 m ρ c) _).trans (e31 m ρ c k n)) (fun k n => (congrFun (p7_1_v33 m ρ c) _).trans (e33 m ρ c k n)) b i l)

/-- The modulated row before the feed-forward. -/
theorem v58_1 (c : Dev nD) (ha : (argsOf m c).Finite) (b : Fin 16) (i : Fin 256) (l : Fin 1024) : V8 m ρ c main_v58_1 (ix2 (rowOf b i) l) = u2 (argsOf m c) b i l :=
  (congrFun ((W8_arr m ρ c 18).trans (final3_18 (V7 m ρ) c)) (ix2 (rowOf b i) l)).trans
    (u_of (argsOf m c) _ _ _ _ _ _ _ _ _ _ _ _ _ (v57 m ρ c ha) (fun b i l => (congrFun (p7_4_v46_3 m ρ c) _).trans (v46_3 m ρ c b i l)) (fun b i l => (congrFun (p7_4_v46_4 m ρ c) _).trans (v46_4 m ρ c b i l)) (fun b i l => (congrFun (p7_4_v46_5 m ρ c) _).trans (v46_5 m ρ c b i l)) (fun b i l => (congrFun (p7_4_v46_6 m ρ c) _).trans (v46_6 m ρ c b i l)) (fun b i k => (congrFun (p7_3_v45 m ρ c) _).trans (v45 m ρ c b i k)) (fun n => (congrFun (p7_3_v44 m ρ c) _).trans (v44 m ρ c n)) (fun k => (congrFun (p7_1_v8 m ρ c) _).trans (e8 m ρ c k)) (fun k n => (congrFun (p7_1_v29 m ρ c) _).trans (e29 m ρ c k n)) (fun k n => (congrFun (p7_1_v28 m ρ c) _).trans (e28 m ρ c k n)) (fun k n => (congrFun (p7_1_v31 m ρ c) _).trans (e31 m ρ c k n)) (fun k n => (congrFun (p7_1_v33 m ρ c) _).trans (e33 m ρ c k n)) (fun k => (congrFun (p7_1_v10 m ρ c) _).trans (e10 m ρ c k)) b i l)

/-- The layer's rows. -/
theorem v59 (c : Dev nD) (ha : (argsOf m c).Finite) (b : Fin 16) (i : Fin 256) (l : Fin 1024) : V9 m ρ c main_v59 (ix2 (rowOf b i) l) = yy (argsOf m c) b i l :=
  (congrFun ((W9_arr m ρ c 9).trans (final4 (V8 m ρ) c)) (ix2 (rowOf b i) l)).trans
    (y_of (argsOf m c) _ _ _ _ _ _ _ (v58_1 m ρ c ha) (v58_0 m ρ c ha) (fun n => (congrFun (p8_3_v44 m ρ c) _).trans (v44 m ρ c n)) (fun k => (congrFun (p8_1_v12 m ρ c) _).trans (e12 m ρ c k))
      (fun k n => (congrFun (p8_1_v36 m ρ c) _).trans (e36 m ρ c k n)) (fun k n => (congrFun (p8_1_v35 m ρ c) _).trans (e35 m ρ c k n)) (fun k n => (congrFun (p8_1_v38 m ρ c) _).trans (e38 m ρ c k n)) b i l)

/-- The first result: the layer's output. -/
theorem out1 (c : Dev nD) (ha : (argsOf m c).Finite) (b : Fin 16) (i : Fin 256) (l : Fin 1024) : W10 m ρ c (Proc.devRef .tc main_v60) (ix3 b i l) = yy (argsOf m c) b i l := by
  refine Eq.trans ?_ (v59 m ρ c ha b i l)
  show StableHlo.after hostOps5 (W9 m ρ c) (Proc.devRef .tc main_v60) (ix3 b i l) = _
  entry_read
  pointwise [rowOf]
  exact congrArg (V9 m ρ c main_v59) (congrArg₂ ix2 (Fin.ext (by show b.val * 256 + i.val = 256 * b.val + i.val; omega)) rfl)

/-- The second result: the new keys. -/
theorem out2 (c : Dev nD) (b : Fin 16) (i : Fin 256) (n : Fin 4) (d : Fin 64) : W10 m ρ c (Proc.devRef .tc main_v63) (ix5 b 0 i n d) = kk (argsOf m c) b i n d := by
  refine Eq.trans ?_ ((congrFun (p9_4_v46_1 m ρ c) _).trans (v46_1 m ρ c b i n d))
  show StableHlo.after hostOps5 (W9 m ρ c) (Proc.devRef .tc main_v63) (ix5 b 0 i n d) = _
  entry_read
  pointwise [rowOf]
  exact congrArg (V9 m ρ c main_v46_1) (congrArg₂ ix2 (Fin.ext (by show b.val * 256 + i.val = 256 * b.val + i.val; omega)) (Fin.ext (by show n.val * 64 + d.val = 64 * n.val + d.val; omega)))

/-- The third result: the new values. -/
theorem out3 (c : Dev nD) (b : Fin 16) (i : Fin 256) (n : Fin 4) (d : Fin 64) : W10 m ρ c (Proc.devRef .tc main_v64) (ix5 b 0 i n d) = vv (argsOf m c) b i n d := by
  refine Eq.trans ?_ ((congrFun (p9_4_v46_2 m ρ c) _).trans (v46_2 m ρ c b i n d))
  show StableHlo.after hostOps5 (W9 m ρ c) (Proc.devRef .tc main_v64) (ix5 b 0 i n d) = _
  entry_read
  pointwise [rowOf]
  exact congrArg (V9 m ρ c main_v46_2) (congrArg₂ ix2 (Fin.ext (by show b.val * 256 + i.val = 256 * b.val + i.val; omega)) (Fin.ext (by show n.val * 64 + d.val = 64 * n.val + d.val; omega)))

end Cert.PromptIdeal.Layer

end
-- ==== Proof.Layer.RefProj.lean ====
/- The prompt reference: the modulation vector, the modulated rows and the input projection. -/
module

public import proofs.«01_k».proof.Proof.Layer.Model
public import proofs.«01_k».proof.Proof.Gen.PromptRefIdeal.Read
public import Idealize.ShloMosaic.Lib.Pointwise

@[expose] public section

set_option maxRecDepth 16384

noncomputable section

namespace Cert.PromptRefIdeal.Pure

open Cert.PromptRefIdeal Cert.PromptRefIdeal.Gen Cert.PromptRefIdeal.Read Idealize.ShloMosaic Idealize.ShloMosaic.TcCoe Idealize.SL.Sem
open Cert.Layer
open Cert.Softmax

variable (x0 : FVec Ideal S16x256x1024 .f32) (x2 : FVec Ideal S1024 .f32) (x3 : FVec Ideal S1x1024x6144 .f32) (x4 : FVec Ideal S1x6144 .f32) (x5 : FVec Ideal S1x1024 .f32) (x6 : FVec Ideal S1x1024 .f32) (x7 : FVec Ideal S1x1024 .f32) (x8 : FVec Ideal S1x1024 .f32) (x9 : FVec Ideal S1x1024x6656 .f32) (x10 : FVec Ideal S1x64 .f32) (x11 : FVec Ideal S1x64 .f32) (x12 : FVec Ideal S1x1024x1024 .f32) (x13 : FVec Ideal S1x3x1024 .f32) (x14 : FVec Ideal S1x1024x1024 .f32) (x15 : FVec Ideal S1x1024x1024 .f32) (x16 : FVec Ideal S1x1024x5632 .f32) (x17 : FVec Ideal S1x3x5632 .f32) (x18 : FVec Ideal S1x2816x1024 .f32)

/-- The reference's arguments. -/
def argsR : Args where
  x := fun b i k => x0 (ix3 b i k)
  cx := fun k => x2 (ix1 k)
  wA := fun k n => x3 (ix3 0 k n)
  bA := fun n => x4 (ix2 0 n)
  g1 := fun k => x5 (ix2 0 k)
  g2 := fun k => x6 (ix2 0 k)
  g3 := fun k => x7 (ix2 0 k)
  g4 := fun k => x8 (ix2 0 k)
  wI := fun k n => x9 (ix3 0 k n)
  qn := fun d => x10 (ix2 0 d)
  kn := fun d => x11 (ix2 0 d)
  wa := fun k n => x12 (ix3 0 k n)
  cw := fun r n => x13 (ix3 0 r n)
  wc := fun k n => x14 (ix3 0 k n)
  wo := fun k n => x15 (ix3 0 k n)
  wu := fun k n => x16 (ix3 0 k n)
  cf := fun r n => x17 (ix3 0 r n)
  wd := fun k n => x18 (ix3 0 k n)

/-- The logistic function as the reference writes it. -/
theorem sig_ref (z : EReal) : Ideal.div (Ideal.ofBits .f32 0x3F800000#32) (Ideal.ofBits .f32 0x3F800000#32 + Ideal.exp (-z)) = Ideal.logistic z := by
  rw [Ideal.ofBits_one_f32]; rfl

/-- The reference's modulation vector. -/
theorem r4 (n : Fin 6144) : val_main_v4 (F := Ideal) x2 x3 x4 (ix1 n) = ada (argsR x0 x2 x3 x4 x5 x6 x7 x8 x9 x10 x11 x12 x13 x14 x15 x16 x17 x18) n := by
  rw [val_main_v4_apply, val_main_v2_apply]
  refine Ideal.add_congr (Finset.sum_congr rfl fun k _ => ?_) ?_
  · rw [show lidx_main_v2 (ix1 n) k = ix1 k from by funext a; fin_cases a <;> rfl, show ridx_main_v2 (ix1 n) k = ix2 k n from by funext a; fin_cases a <;> rfl]
    refine Ideal.mul_congr ?_ ?_
    · pointwise [val_main_v0, val_main_call0_v0, val_main_call0_v1, val_main_call0_cst, val_main_call0_v2, val_main_call0_v3, val_main_call0_cst_0, val_main_call0_v4, val_main_call0_v5]
      rfl
    · pointwise [val_main_v1]
      rfl
  · pointwise [val_main_v3]
    rfl

/-- The reference's sum of squares of a row of the prompt. -/
theorem r13 (b : Fin 16) (i : Fin 256) : val_main_v13 (F := Ideal) x0 (ix2 b i) = ∑ k, x0 (ix3 b i k) * x0 (ix3 b i k) := by
  rw [val_main_v13_apply]
  refine (Ideal.add_congr (Ideal.ofBits_zero .f32) (Finset.sum_congr rfl fun k _ => ?_)).trans (zero_add (∑ k, x0 (ix3 b i k) * x0 (ix3 b i k)))
  rw [show idx_main_v13 (ix2 b i) k = ix3 b i k from by funext a; fin_cases a <;> rfl]
  rfl

/-- The reference's modulated rows. -/
theorem r32 (b : Fin 16) (i : Fin 256) (l : Fin 1024) : val_main_v32 (F := Ideal) x0 x2 x3 x4 x5 (ix3 b i l) = u1 (argsR x0 x2 x3 x4 x5 x6 x7 x8 x9 x10 x11 x12 x13 x14 x15 x16 x17 x18) b i l := by
  refine Eq.trans ?_ (uK_ref ((argsR x0 x2 x3 x4 x5 x6 x7 x8 x9 x10 x11 x12 x13 x14 x15 x16 x17 x18).x b i) (argsR x0 x2 x3 x4 x5 x6 x7 x8 x9 x10 x11 x12 x13 x14 x15 x16 x17 x18).g1 (adaAt (argsR x0 x2 x3 x4 x5 x6 x7 x8 x9 x10 x11 x12 x13 x14 x15 x16 x17 x18) 1024 (by omega)) (adaAt (argsR x0 x2 x3 x4 x5 x6 x7 x8 x9 x10 x11 x12 x13 x14 x15 x16 x17 x18) 0 (by omega)) l)
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v11, val_main_v6, val_main_v5, val_main_cst_0, val_main_cst_1, val_main_cst_2]
  rw [r13, r4 x0 x2 x3 x4 x5 x6 x7 x8 x9 x10 x11 x12 x13 x14 x15 x16 x17 x18, r4 x0 x2 x3 x4 x5 x6 x7 x8 x9 x10 x11 x12 x13 x14 x15 x16 x17 x18]
  exact Ideal.add_congr rfl (congrArg (ada (argsR x0 x2 x3 x4 x5 x6 x7 x8 x9 x10 x11 x12 x13 x14 x15 x16 x17 x18)) (Fin.ext (Nat.zero_add l.val).symm))

/-- The reference's input projection. -/
theorem r34 (b : Fin 16) (i : Fin 256) (n : Fin 6656) : val_main_v34 (F := Ideal) x0 x2 x3 x4 x5 x9 (ix3 b i n) = zz (argsR x0 x2 x3 x4 x5 x6 x7 x8 x9 x10 x11 x12 x13 x14 x15 x16 x17 x18) b i n := by
  rw [val_main_v34_apply]
  show _ = ∑ k, u1 (argsR x0 x2 x3 x4 x5 x6 x7 x8 x9 x10 x11 x12 x13 x14 x15 x16 x17 x18) b i k * (argsR x0 x2 x3 x4 x5 x6 x7 x8 x9 x10 x11 x12 x13 x14 x15 x16 x17 x18).wI k n
  refine Finset.sum_congr rfl fun k _ => ?_
  rw [show lidx_main_v34 (ix3 b i n) k = ix3 b i k from by funext a; fin_cases a <;> rfl, show ridx_main_v34 (ix3 b i n) k = ix2 k n from by funext a; fin_cases a <;> rfl]
  refine Ideal.mul_congr (r32 x0 x2 x3 x4 x5 x6 x7 x8 x9 x10 x11 x12 x13 x14 x15 x16 x17 x18 b i k) ?_
  pointwise [val_main_v33]
  rfl

end Cert.PromptRefIdeal.Pure

end
-- ==== Proof.Layer.RefAtt.lean ====
/- The prompt reference: the heads of queries, keys and values, and the attention. -/
module

public import proofs.«01_k».proof.Proof.Layer.RefProj

@[expose] public section

set_option maxRecDepth 16384

noncomputable section

namespace Cert.PromptRefIdeal.Pure

open Cert.PromptRefIdeal Cert.PromptRefIdeal.Gen Cert.PromptRefIdeal.Read Idealize.ShloMosaic Idealize.ShloMosaic.TcCoe Idealize.SL.Sem
open Cert.Layer
open Cert.Softmax

variable (x0 : FVec Ideal S16x256x1024 .f32) (x2 : FVec Ideal S1024 .f32) (x3 : FVec Ideal S1x1024x6144 .f32) (x4 : FVec Ideal S1x6144 .f32) (x5 : FVec Ideal S1x1024 .f32) (x6 : FVec Ideal S1x1024 .f32) (x7 : FVec Ideal S1x1024 .f32) (x8 : FVec Ideal S1x1024 .f32) (x9 : FVec Ideal S1x1024x6656 .f32) (x10 : FVec Ideal S1x64 .f32) (x11 : FVec Ideal S1x64 .f32) (x12 : FVec Ideal S1x1024x1024 .f32) (x13 : FVec Ideal S1x3x1024 .f32) (x14 : FVec Ideal S1x1024x1024 .f32) (x15 : FVec Ideal S1x1024x1024 .f32) (x16 : FVec Ideal S1x1024x5632 .f32) (x17 : FVec Ideal S1x3x5632 .f32) (x18 : FVec Ideal S1x2816x1024 .f32)

/-- The reference's queries before the norm. -/
theorem r43 (b : Fin 16) (i : Fin 256) (g r : Fin 4) (d : Fin 64) : val_main_v43 (F := Ideal) x0 x2 x3 x4 x5 x9 (ix5 b i g r d) = piece (argsR x0 x2 x3 x4 x5 x6 x7 x8 x9 x10 x11 x12 x13 x14 x15 x16 x17 x18) b i (64 * (4 * g.val + r.val)) (by omega) d := by
  pointwise [val_main_v43, val_main_v35]
  rw [r34 x0 x2 x3 x4 x5 x6 x7 x8 x9 x10 x11 x12 x13 x14 x15 x16 x17 x18]
  exact congrArg (zz (argsR x0 x2 x3 x4 x5 x6 x7 x8 x9 x10 x11 x12 x13 x14 x15 x16 x17 x18) b i) (Fin.ext (by show g.val * 256 + r.val * 64 + d.val = 64 * (4 * g.val + r.val) + d.val; omega))

/-- The reference's sum of squares of a head of queries. -/
theorem r46 (b : Fin 16) (i : Fin 256) (g r : Fin 4) : val_main_v46 (F := Ideal) x0 x2 x3 x4 x5 x9 (ix4 b i g r) = ∑ e, piece (argsR x0 x2 x3 x4 x5 x6 x7 x8 x9 x10 x11 x12 x13 x14 x15 x16 x17 x18) b i (64 * (4 * g.val + r.val)) (by omega) e * piece (argsR x0 x2 x3 x4 x5 x6 x7 x8 x9 x10 x11 x12 x13 x14 x15 x16 x17 x18) b i (64 * (4 * g.val + r.val)) (by omega) e := by
  rw [val_main_v46_apply]
  refine (Ideal.add_congr (Ideal.ofBits_zero .f32) (Finset.sum_congr rfl fun k _ => ?_)).trans (zero_add (∑ e, piece (argsR x0 x2 x3 x4 x5 x6 x7 x8 x9 x10 x11 x12 x13 x14 x15 x16 x17 x18) b i (64 * (4 * g.val + r.val)) (by omega) e * piece (argsR x0 x2 x3 x4 x5 x6 x7 x8 x9 x10 x11 x12 x13 x14 x15 x16 x17 x18) b i (64 * (4 * g.val + r.val)) (by omega) e))
  rw [show idx_main_v46 (ix4 b i g r) k = ix5 b i g r k from by funext a; fin_cases a <;> rfl]
  exact Ideal.mul_congr (r43 x0 x2 x3 x4 x5 x6 x7 x8 x9 x10 x11 x12 x13 x14 x15 x16 x17 x18 b i g r k) (r43 x0 x2 x3 x4 x5 x6 x7 x8 x9 x10 x11 x12 x13 x14 x15 x16 x17 x18 b i g r k)

/-- The reference's queries. -/
theorem r57 (b : Fin 16) (i : Fin 256) (g r : Fin 4) (d : Fin 64) : val_main_v57 (F := Ideal) x0 x2 x3 x4 x5 x9 x10 (ix5 b i g r d) = qq (argsR x0 x2 x3 x4 x5 x6 x7 x8 x9 x10 x11 x12 x13 x14 x15 x16 x17 x18) b i ⟨4 * g.val + r.val, by omega⟩ d := by
  pointwise [val_main_v47, val_main_v48, val_main_v49, val_main_v50, val_main_v51, val_main_v52, val_main_v53, val_main_v54, val_main_v55, val_main_v56, val_main_v57, val_main_v44, val_main_cst_4, val_main_cst_5]
  rw [r43 x0 x2 x3 x4 x5 x6 x7 x8 x9 x10 x11 x12 x13 x14 x15 x16 x17 x18, r46 x0 x2 x3 x4 x5 x6 x7 x8 x9 x10 x11 x12 x13 x14 x15 x16 x17 x18]
  rfl

/-- The reference's keys before the norm. -/
theorem r58 (b : Fin 16) (i : Fin 256) (n : Fin 4) (d : Fin 64) : val_main_v58 (F := Ideal) x0 x2 x3 x4 x5 x9 (ix4 b i n d) = piece (argsR x0 x2 x3 x4 x5 x6 x7 x8 x9 x10 x11 x12 x13 x14 x15 x16 x17 x18) b i (1024 + 64 * n.val) (by omega) d := by
  pointwise [val_main_v58, val_main_v36]
  rw [r34 x0 x2 x3 x4 x5 x6 x7 x8 x9 x10 x11 x12 x13 x14 x15 x16 x17 x18]
  exact congrArg (zz (argsR x0 x2 x3 x4 x5 x6 x7 x8 x9 x10 x11 x12 x13 x14 x15 x16 x17 x18) b i) (Fin.ext (by show 1024 + (n.val * 64 + d.val) = 1024 + 64 * n.val + d.val; omega))

/-- The reference's sum of squares of a head of keys. -/
theorem r61 (b : Fin 16) (i : Fin 256) (n : Fin 4) : val_main_v61 (F := Ideal) x0 x2 x3 x4 x5 x9 (ix3 b i n) = ∑ e, piece (argsR x0 x2 x3 x4 x5 x6 x7 x8 x9 x10 x11 x12 x13 x14 x15 x16 x17 x18) b i (1024 + 64 * n.val) (by omega) e * piece (argsR x0 x2 x3 x4 x5 x6 x7 x8 x9 x10 x11 x12 x13 x14 x15 x16 x17 x18) b i (1024 + 64 * n.val) (by omega) e := by
  rw [val_main_v61_apply]
  refine (Ideal.add_congr (Ideal.ofBits_zero .f32) (Finset.sum_congr rfl fun k _ => ?_)).trans (zero_add (∑ e, piece (argsR x0 x2 x3 x4 x5 x6 x7 x8 x9 x10 x11 x12 x13 x14 x15 x16 x17 x18) b i (1024 + 64 * n.val) (by omega) e * piece (argsR x0 x2 x3 x4 x5 x6 x7 x8 x9 x10 x11 x12 x13 x14 x15 x16 x17 x18) b i (1024 + 64 * n.val) (by omega) e))
  rw [show idx_main_v61 (ix3 b i n) k = ix4 b i n k from by funext a; fin_cases a <;> rfl]
  exact Ideal.mul_congr (r58 x0 x2 x3 x4 x5 x6 x7 x8 x9 x10 x11 x12 x13 x14 x15 x16 x17 x18 b i n k) (r58 x0 x2 x3 x4 x5 x6 x7 x8 x9 x10 x11 x12 x13 x14 x15 x16 x17 x18 b i n k)

/-- The reference's keys. -/
theorem r72 (b : Fin 16) (i : Fin 256) (n : Fin 4) (d : Fin 64) : val_main_v72 (F := Ideal) x0 x2 x3 x4 x5 x9 x11 (ix4 b i n d) = kk (argsR x0 x2 x3 x4 x5 x6 x7 x8 x9 x10 x11 x12 x13 x14 x15 x16 x17 x18) b i n d := by
  pointwise [val_main_v62, val_main_v63, val_main_v64, val_main_v65, val_main_v66, val_main_v67, val_main_v68, val_main_v69, val_main_v70, val_main_v71, val_main_v72, val_main_v59, val_main_cst_7, val_main_cst_8]
  rw [r58 x0 x2 x3 x4 x5 x6 x7 x8 x9 x10 x11 x12 x13 x14 x15 x16 x17 x18, r61 x0 x2 x3 x4 x5 x6 x7 x8 x9 x10 x11 x12 x13 x14 x15 x16 x17 x18]
  rfl

/-- The reference's values. -/
theorem r73 (b : Fin 16) (i : Fin 256) (n : Fin 4) (d : Fin 64) : val_main_v73 (F := Ideal) x0 x2 x3 x4 x5 x9 (ix4 b i n d) = vv (argsR x0 x2 x3 x4 x5 x6 x7 x8 x9 x10 x11 x12 x13 x14 x15 x16 x17 x18) b i n d := by
  pointwise [val_main_v73, val_main_v37]
  rw [r34 x0 x2 x3 x4 x5 x6 x7 x8 x9 x10 x11 x12 x13 x14 x15 x16 x17 x18]
  exact congrArg (zz (argsR x0 x2 x3 x4 x5 x6 x7 x8 x9 x10 x11 x12 x13 x14 x15 x16 x17 x18) b i) (Fin.ext (by show 1280 + (n.val * 64 + d.val) = 1280 + 64 * n.val + d.val; omega))

/-- The reference's products of queries and keys. -/
theorem r75 (b : Fin 16) (g r : Fin 4) (i t : Fin 256) : val_main_v75 (F := Ideal) x0 x2 x3 x4 x5 x9 x10 x11 (ix5 b g r i t) = ∑ d, qq (argsR x0 x2 x3 x4 x5 x6 x7 x8 x9 x10 x11 x12 x13 x14 x15 x16 x17 x18) b i ⟨4 * g.val + r.val, by omega⟩ d * kk (argsR x0 x2 x3 x4 x5 x6 x7 x8 x9 x10 x11 x12 x13 x14 x15 x16 x17 x18) b t g d := by
  rw [val_main_v75_apply, val_main_v74_apply]
  refine Finset.sum_congr rfl fun d _ => ?_
  rw [show lidx_main_v74 (idx_main_v75 (ix5 b g r i t)) d = ix4 b t g d from by funext a; fin_cases a <;> rfl,
    show ridx_main_v74 (idx_main_v75 (ix5 b g r i t)) d = ix5 b i g r d from by funext a; fin_cases a <;> rfl, r72 x0 x2 x3 x4 x5 x6 x7 x8 x9 x10 x11 x12 x13 x14 x15 x16 x17 x18, r57 x0 x2 x3 x4 x5 x6 x7 x8 x9 x10 x11 x12 x13 x14 x15 x16 x17 x18]
  exact mul_comm _ _

/-- The reference's scores. -/
theorem r77 (b : Fin 16) (g r : Fin 4) (i t : Fin 256) : val_main_v77 (F := Ideal) x0 x2 x3 x4 x5 x9 x10 x11 (ix5 b g r i t) = score (argsR x0 x2 x3 x4 x5 x6 x7 x8 x9 x10 x11 x12 x13 x14 x15 x16 x17 x18) b i ⟨4 * g.val + r.val, by omega⟩ t := by
  have e : (⟨(4 * g.val + r.val) / 4, by omega⟩ : Fin 4) = g := Fin.ext (by show (4 * g.val + r.val) / 4 = g.val; omega)
  pointwise [val_main_v77, val_main_v76, val_main_cst_9]
  rw [r75 x0 x2 x3 x4 x5 x6 x7 x8 x9 x10 x11 x12 x13 x14 x15 x16 x17 x18]
  show _ = (∑ d, qq (argsR x0 x2 x3 x4 x5 x6 x7 x8 x9 x10 x11 x12 x13 x14 x15 x16 x17 x18) b i ⟨4 * g.val + r.val, by omega⟩ d * kk (argsR x0 x2 x3 x4 x5 x6 x7 x8 x9 x10 x11 x12 x13 x14 x15 x16 x17 x18) b t ⟨(4 * g.val + r.val) / 4, _⟩ d) * c8
  rw [e]
  rfl

/-- The reference's largest score of a query. -/
theorem r80 (b : Fin 16) (g r : Fin 4) (i : Fin 256) : val_main_v80 (F := Ideal) x0 x2 x3 x4 x5 x9 x10 x11 (ix4 b g r i) = Finset.univ.fold max ⊥ (score (argsR x0 x2 x3 x4 x5 x6 x7 x8 x9 x10 x11 x12 x13 x14 x15 x16 x17 x18) b i ⟨4 * g.val + r.val, by omega⟩) := by
  have h : val_main_v78 (F := Ideal) x0 x2 x3 x4 x5 x9 x10 x11 (ix4 b g r i) = Finset.univ.fold max ⊥ (score (argsR x0 x2 x3 x4 x5 x6 x7 x8 x9 x10 x11 x12 x13 x14 x15 x16 x17 x18) b i ⟨4 * g.val + r.val, by omega⟩) := by
    unfold val_main_v78
    refine (host_max _ _ _ ⟨rfl, by decide, by decide⟩ _ b g r i).trans ?_
    rw [funext (r77 x0 x2 x3 x4 x5 x6 x7 x8 x9 x10 x11 x12 x13 x14 x15 x16 x17 x18 b g r i)]
    exact congrArg (fun z => Finset.fold max z (score (argsR x0 x2 x3 x4 x5 x6 x7 x8 x9 x10 x11 x12 x13 x14 x15 x16 x17 x18) b i ⟨4 * g.val + r.val, by omega⟩) Finset.univ) ofBits_negInf
  rw [val_main_v80_apply, h, val_main_v79_apply, val_main_cst_11_apply]
  exact (congrArg (max · _) ofBits_negInf).trans (max_eq_right bot_le)

/-- The reference's weight of a key before normalisation. -/
theorem r84 (b : Fin 16) (g r : Fin 4) (i t : Fin 256) : val_main_v84 (F := Ideal) x0 x2 x3 x4 x5 x9 x10 x11 (ix5 b g r i t)
    = Ideal.exp (score (argsR x0 x2 x3 x4 x5 x6 x7 x8 x9 x10 x11 x12 x13 x14 x15 x16 x17 x18) b i ⟨4 * g.val + r.val, by omega⟩ t - Finset.univ.fold max ⊥ (score (argsR x0 x2 x3 x4 x5 x6 x7 x8 x9 x10 x11 x12 x13 x14 x15 x16 x17 x18) b i ⟨4 * g.val + r.val, by omega⟩)) := by
  rw [val_main_v84_apply, val_main_v83_apply, r77 x0 x2 x3 x4 x5 x6 x7 x8 x9 x10 x11 x12 x13 x14 x15 x16 x17 x18, val_main_v82_apply, val_main_v81_apply,
    show idx_main_v81 (idx_main_v82 (ix5 b g r i t)) = ix4 b g r i from by funext a; fin_cases a <;> rfl, r80 x0 x2 x3 x4 x5 x6 x7 x8 x9 x10 x11 x12 x13 x14 x15 x16 x17 x18]
  rfl

/-- The reference's normalised weight of a key. -/
theorem r88 (b : Fin 16) (g r : Fin 4) (i t : Fin 256) : val_main_v88 (F := Ideal) x0 x2 x3 x4 x5 x9 x10 x11 (ix5 b g r i t)
    = Ideal.div (Ideal.exp (score (argsR x0 x2 x3 x4 x5 x6 x7 x8 x9 x10 x11 x12 x13 x14 x15 x16 x17 x18) b i ⟨4 * g.val + r.val, by omega⟩ t - Finset.univ.fold max ⊥ (score (argsR x0 x2 x3 x4 x5 x6 x7 x8 x9 x10 x11 x12 x13 x14 x15 x16 x17 x18) b i ⟨4 * g.val + r.val, by omega⟩)))
        (∑ t, Ideal.exp (score (argsR x0 x2 x3 x4 x5 x6 x7 x8 x9 x10 x11 x12 x13 x14 x15 x16 x17 x18) b i ⟨4 * g.val + r.val, by omega⟩ t - Finset.univ.fold max ⊥ (score (argsR x0 x2 x3 x4 x5 x6 x7 x8 x9 x10 x11 x12 x13 x14 x15 x16 x17 x18) b i ⟨4 * g.val + r.val, by omega⟩))) := by
  rw [val_main_v88_apply, r84 x0 x2 x3 x4 x5 x6 x7 x8 x9 x10 x11 x12 x13 x14 x15 x16 x17 x18, val_main_v87_apply, val_main_v86_apply,
    show idx_main_v86 (idx_main_v87 (ix5 b g r i t)) = ix4 b g r i from by funext a; fin_cases a <;> rfl, val_main_v85_apply]
  refine congrArg (Ideal.div _) ?_
  rw [val_main_cst_12_apply]
  refine (congrArg₂ (· + ·) (Ideal.ofBits_zero _) (Finset.sum_congr rfl fun k _ => ?_)).trans (zero_add _)
  rw [show idx_main_v85 (ix4 b g r i) k = ix5 b g r i k from by funext a; fin_cases a <;> rfl, r84 x0 x2 x3 x4 x5 x6 x7 x8 x9 x10 x11 x12 x13 x14 x15 x16 x17 x18]

/-- The reference's attention. -/
theorem r91 (b : Fin 16) (i : Fin 256) (l : Fin 1024) : val_main_v91 (F := Ideal) x0 x2 x3 x4 x5 x9 x10 x11 (ix3 b i l) = attn (argsR x0 x2 x3 x4 x5 x6 x7 x8 x9 x10 x11 x12 x13 x14 x15 x16 x17 x18) b i l := by
  have e : (⟨4 * (l.val / 256) + l.val / 64 % 4, by omega⟩ : Fin 16) = ⟨l.val / 64, by omega⟩ := Fin.ext (by show 4 * (l.val / 256) + l.val / 64 % 4 = l.val / 64; omega)
  rw [val_main_v91_apply, val_main_v90_apply,
    show idx_main_v90 (idx_main_v91 (ix3 b i l)) = ix5 b ⟨l.val / 256, by omega⟩ ⟨l.val % 64, by omega⟩ ⟨l.val / 64 % 4, by omega⟩ i from ?_,
    val_main_v89_apply]
  · show _ = ∑ t, vv (argsR x0 x2 x3 x4 x5 x6 x7 x8 x9 x10 x11 x12 x13 x14 x15 x16 x17 x18) b t ⟨l.val / 256, by omega⟩ ⟨l.val % 64, by omega⟩ * Ideal.div (Ideal.exp (score (argsR x0 x2 x3 x4 x5 x6 x7 x8 x9 x10 x11 x12 x13 x14 x15 x16 x17 x18) b i ⟨l.val / 64, by omega⟩ t - Finset.univ.fold max ⊥ (score (argsR x0 x2 x3 x4 x5 x6 x7 x8 x9 x10 x11 x12 x13 x14 x15 x16 x17 x18) b i ⟨l.val / 64, by omega⟩)))
        (∑ t, Ideal.exp (score (argsR x0 x2 x3 x4 x5 x6 x7 x8 x9 x10 x11 x12 x13 x14 x15 x16 x17 x18) b i ⟨l.val / 64, by omega⟩ t - Finset.univ.fold max ⊥ (score (argsR x0 x2 x3 x4 x5 x6 x7 x8 x9 x10 x11 x12 x13 x14 x15 x16 x17 x18) b i ⟨l.val / 64, by omega⟩)))
    rw [← e]
    refine Finset.sum_congr rfl fun t _ => ?_
    refine Ideal.mul_congr ((congrArg (val_main_v73 (F := Ideal) x0 x2 x3 x4 x5 x9) (a₂ := ix4 b t ⟨l.val / 256, by omega⟩ ⟨l.val % 64, by omega⟩) ?_).trans (r73 x0 x2 x3 x4 x5 x6 x7 x8 x9 x10 x11 x12 x13 x14 x15 x16 x17 x18 b t _ _))
      ((congrArg (val_main_v88 (F := Ideal) x0 x2 x3 x4 x5 x9 x10 x11) (a₂ := ix5 b ⟨l.val / 256, by omega⟩ ⟨l.val / 64 % 4, by omega⟩ i t) ?_).trans (r88 x0 x2 x3 x4 x5 x6 x7 x8 x9 x10 x11 x12 x13 x14 x15 x16 x17 x18 b _ _ i t))
    · funext a; fin_cases a <;> rfl
    · funext a; fin_cases a <;> rfl
  · funext a; apply Fin.ext
    fin_cases a
    · show ((b.val * 256 + i.val) * 1024 + l.val) / 262144 = b.val
      omega
    · show ((b.val * 256 + i.val) * 1024 + l.val) / 256 % 4 = l.val / 256
      omega
    · show ((b.val * 256 + i.val) * 1024 + l.val) % 64 = l.val % 64
      omega
    · show ((b.val * 256 + i.val) * 1024 + l.val) / 64 % 4 = l.val / 64 % 4
      omega
    · show ((b.val * 256 + i.val) * 1024 + l.val) / 1024 % 256 = i.val
      omega

end Cert.PromptRefIdeal.Pure

end
-- ==== Proof.Layer.RefMix.lean ====
/- The prompt reference: the gated convolution, the merged output and the first residual sum, and the rows before the feed-forward. -/
module

public import proofs.«01_k».proof.Proof.Layer.RefAtt

@[expose] public section

set_option maxRecDepth 16384

noncomputable section

namespace Cert.PromptRefIdeal.Pure

open Cert.PromptRefIdeal Cert.PromptRefIdeal.Gen Cert.PromptRefIdeal.Read Idealize.ShloMosaic Idealize.ShloMosaic.TcCoe Idealize.SL.Sem
open Cert.Layer
open Cert.Softmax

/-- Sequences padded by one row on either side, read at a row. -/
theorem pad_row {n : ℕ} (x : FVec Ideal ⟨3, ![16, 256, n]⟩ .f32) (v : FVec Ideal ⟨0, ![]⟩ .f32)
    (h : (⟨3, ![16, 256, n]⟩ : Shape).Pads (![0, 1, 0] : Fin 3 → ℕ) ![0, 1, 0] ![0, 0, 0] ⟨3, ![16, 258, n]⟩) (hu : 0 < (⟨0, ![]⟩ : Shape).numel)
    (b : Fin 16) (j : Fin 258) (l : Fin n) :
    pad ⟨3, ![16, 258, n]⟩ ![0, 1, 0] ![0, 1, 0] ![0, 0, 0] x v h hu (ix3 b j l)
      = if h : 1 ≤ j.val ∧ j.val < 257 then x (ix3 b ⟨j.val - 1, by omega⟩ l) else v (Shape.Idx.first hu) := by
  unfold pad
  by_cases c : 1 ≤ j.val ∧ j.val < 257
  · rw [dif_pos c, dif_pos]
    · refine congrArg x ?_
      funext a; apply Fin.ext
      fin_cases a
      · show (b.val - 0) / (0 + 1) = b.val
        simp
      · show (j.val - 1) / (0 + 1) = j.val - 1
        simp
      · show (l.val - 0) / (0 + 1) = l.val
        simp
    · intro a
      fin_cases a
      · show 0 ≤ b.val ∧ (b.val - 0) % (0 + 1) = 0 ∧ (b.val - 0) / (0 + 1) < 16
        have := b.isLt
        refine ⟨by omega, by simp [Nat.mod_one], by simpa using this⟩
      · show 1 ≤ j.val ∧ (j.val - 1) % (0 + 1) = 0 ∧ (j.val - 1) / (0 + 1) < 256
        refine ⟨c.1, by simp [Nat.mod_one], ?_⟩
        rw [Nat.div_one]; omega
      · show 0 ≤ l.val ∧ (l.val - 0) % (0 + 1) = 0 ∧ (l.val - 0) / (0 + 1) < n
        have := l.isLt
        refine ⟨by omega, by simp [Nat.mod_one], by simpa using this⟩
  · rw [dif_neg c, dif_neg]
    intro hin
    have h1 := hin 1
    have h2 : 1 ≤ j.val ∧ (j.val - 1) % (0 + 1) = 0 ∧ (j.val - 1) / (0 + 1) < 256 := h1
    obtain ⟨p, -, q⟩ := h2
    rw [Nat.div_one] at q
    exact c ⟨p, by omega⟩

/-- The row before, the row itself and the row after, read from the padded sequences. -/
theorem pad_before {n : ℕ} (x : FVec Ideal ⟨3, ![16, 256, n]⟩ .f32) (v : FVec Ideal ⟨0, ![]⟩ .f32)
    (h : (⟨3, ![16, 256, n]⟩ : Shape).Pads (![0, 1, 0] : Fin 3 → ℕ) ![0, 1, 0] ![0, 0, 0] ⟨3, ![16, 258, n]⟩) (hu : 0 < (⟨0, ![]⟩ : Shape).numel)
    (hv : v (Shape.Idx.first hu) = 0) (b : Fin 16) (i : Fin 256) (l : Fin n) :
    pad ⟨3, ![16, 258, n]⟩ ![0, 1, 0] ![0, 1, 0] ![0, 0, 0] x v h hu (ix3 b ⟨i.val, by omega⟩ l) = before i (fun j => x (ix3 b j l)) := by
  have hi := i.isLt
  rw [pad_row]
  unfold before
  by_cases c : i.val = 0
  · rw [dif_pos c, dif_neg (by show ¬ (1 ≤ i.val ∧ i.val < 257); omega), hv]
  · rw [dif_neg c, dif_pos (by show 1 ≤ i.val ∧ i.val < 257; omega)]

/-- The row itself. -/
theorem pad_here {n : ℕ} (x : FVec Ideal ⟨3, ![16, 256, n]⟩ .f32) (v : FVec Ideal ⟨0, ![]⟩ .f32)
    (h : (⟨3, ![16, 256, n]⟩ : Shape).Pads (![0, 1, 0] : Fin 3 → ℕ) ![0, 1, 0] ![0, 0, 0] ⟨3, ![16, 258, n]⟩) (hu : 0 < (⟨0, ![]⟩ : Shape).numel)
    (b : Fin 16) (i : Fin 256) (l : Fin n) :
    pad ⟨3, ![16, 258, n]⟩ ![0, 1, 0] ![0, 1, 0] ![0, 0, 0] x v h hu (ix3 b ⟨1 + i.val, by omega⟩ l) = x (ix3 b i l) := by
  have hi := i.isLt
  rw [pad_row, dif_pos (by show 1 ≤ 1 + i.val ∧ 1 + i.val < 257; omega)]
  exact congrArg x (congrArg (ix3 b · l) (Fin.ext (by show 1 + i.val - 1 = i.val; omega)))

/-- The row after. -/
theorem pad_after {n : ℕ} (x : FVec Ideal ⟨3, ![16, 256, n]⟩ .f32) (v : FVec Ideal ⟨0, ![]⟩ .f32)
    (h : (⟨3, ![16, 256, n]⟩ : Shape).Pads (![0, 1, 0] : Fin 3 → ℕ) ![0, 1, 0] ![0, 0, 0] ⟨3, ![16, 258, n]⟩) (hu : 0 < (⟨0, ![]⟩ : Shape).numel)
    (hv : v (Shape.Idx.first hu) = 0) (b : Fin 16) (i : Fin 256) (l : Fin n) :
    pad ⟨3, ![16, 258, n]⟩ ![0, 1, 0] ![0, 1, 0] ![0, 0, 0] x v h hu (ix3 b ⟨2 + i.val, by omega⟩ l) = after i (fun j => x (ix3 b j l)) := by
  have hi := i.isLt
  rw [pad_row]
  unfold after
  by_cases c : i.val = 255
  · rw [dif_pos c, dif_neg (by show ¬ (1 ≤ 2 + i.val ∧ 2 + i.val < 257); omega), hv]
  · rw [dif_neg c, dif_pos (by show 1 ≤ 2 + i.val ∧ 2 + i.val < 257; omega)]
    exact congrArg x (congrArg (ix3 b · l) (Fin.ext (by show 2 + i.val - 1 = i.val + 1; omega)))

variable (x0 : FVec Ideal S16x256x1024 .f32) (x2 : FVec Ideal S1024 .f32) (x3 : FVec Ideal S1x1024x6144 .f32) (x4 : FVec Ideal S1x6144 .f32) (x5 : FVec Ideal S1x1024 .f32) (x6 : FVec Ideal S1x1024 .f32) (x7 : FVec Ideal S1x1024 .f32) (x8 : FVec Ideal S1x1024 .f32) (x9 : FVec Ideal S1x1024x6656 .f32) (x10 : FVec Ideal S1x64 .f32) (x11 : FVec Ideal S1x64 .f32) (x12 : FVec Ideal S1x1024x1024 .f32) (x13 : FVec Ideal S1x3x1024 .f32) (x14 : FVec Ideal S1x1024x1024 .f32) (x15 : FVec Ideal S1x1024x1024 .f32) (x16 : FVec Ideal S1x1024x5632 .f32) (x17 : FVec Ideal S1x3x5632 .f32) (x18 : FVec Ideal S1x2816x1024 .f32)

/-- The reference's attention output. -/
theorem r93 (b : Fin 16) (i : Fin 256) (l : Fin 1024) : val_main_v93 (F := Ideal) x0 x2 x3 x4 x5 x9 x10 x11 x12 (ix3 b i l) = dot (attn (argsR x0 x2 x3 x4 x5 x6 x7 x8 x9 x10 x11 x12 x13 x14 x15 x16 x17 x18) b i) (argsR x0 x2 x3 x4 x5 x6 x7 x8 x9 x10 x11 x12 x13 x14 x15 x16 x17 x18).wa l := by
  rw [val_main_v93_apply]
  show _ = ∑ k, attn (argsR x0 x2 x3 x4 x5 x6 x7 x8 x9 x10 x11 x12 x13 x14 x15 x16 x17 x18) b i k * (argsR x0 x2 x3 x4 x5 x6 x7 x8 x9 x10 x11 x12 x13 x14 x15 x16 x17 x18).wa k l
  refine Finset.sum_congr rfl fun k _ => ?_
  rw [show lidx_main_v93 (ix3 b i l) k = ix3 b i k from by funext a; fin_cases a <;> rfl, show ridx_main_v93 (ix3 b i l) k = ix2 k l from by funext a; fin_cases a <;> rfl]
  refine Ideal.mul_congr (r91 x0 x2 x3 x4 x5 x6 x7 x8 x9 x10 x11 x12 x13 x14 x15 x16 x17 x18 b i k) ?_
  pointwise [val_main_v92]
  rfl

/-- The reference's gated rows. -/
theorem r94 (b : Fin 16) (j : Fin 256) (l : Fin 1024) : val_main_v94 (F := Ideal) x0 x2 x3 x4 x5 x9 (ix3 b j l) = zz (argsR x0 x2 x3 x4 x5 x6 x7 x8 x9 x10 x11 x12 x13 x14 x15 x16 x17 x18) b j ⟨2560 + l.val, by omega⟩ * zz (argsR x0 x2 x3 x4 x5 x6 x7 x8 x9 x10 x11 x12 x13 x14 x15 x16 x17 x18) b j ⟨3584 + l.val, by omega⟩ := by
  pointwise [val_main_v94, val_main_v39, val_main_v40]
  rw [r34 x0 x2 x3 x4 x5 x6 x7 x8 x9 x10 x11 x12 x13 x14 x15 x16 x17 x18, r34 x0 x2 x3 x4 x5 x6 x7 x8 x9 x10 x11 x12 x13 x14 x15 x16 x17 x18]

/-- The padding is zero. -/
theorem zero_pad1 : val_main_call1_v0 (F := Ideal) (Shape.Idx.first h_S_) = 0 := by
  pointwise [val_main_call1_v0, val_main_c]
  show (((0#32 : BitVec 32).toInt : ℝ) : EReal) = 0
  simp

/-- The reference's gated convolution. -/
theorem r117 (b : Fin 16) (i : Fin 256) (l : Fin 1024) : val_main_v117 (F := Ideal) x0 x2 x3 x4 x5 x9 x13 (ix3 b i l) = cnv (argsR x0 x2 x3 x4 x5 x6 x7 x8 x9 x10 x11 x12 x13 x14 x15 x16 x17 x18) b i l := by
  have p0 := pad_before (val_main_v94 (F := Ideal) x0 x2 x3 x4 x5 x9) (val_main_call1_v0 (F := Ideal)) pads_S16x256x1024_S16x258x1024_000_110_000 h_S_ zero_pad1 b i l
  have p1 := pad_here (val_main_v94 (F := Ideal) x0 x2 x3 x4 x5 x9) (val_main_call1_v0 (F := Ideal)) pads_S16x256x1024_S16x258x1024_000_110_000 h_S_ b i l
  have p2 := pad_after (val_main_v94 (F := Ideal) x0 x2 x3 x4 x5 x9) (val_main_call1_v0 (F := Ideal)) pads_S16x256x1024_S16x258x1024_000_110_000 h_S_ zero_pad1 b i l
  rw [funext (fun j => r94 x0 x2 x3 x4 x5 x6 x7 x8 x9 x10 x11 x12 x13 x14 x15 x16 x17 x18 b j l)] at p0 p2
  rw [r94 x0 x2 x3 x4 x5 x6 x7 x8 x9 x10 x11 x12 x13 x14 x15 x16 x17 x18] at p1
  pointwise [val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v95, val_main_v38]
  rw [r34 x0 x2 x3 x4 x5 x6 x7 x8 x9 x10 x11 x12 x13 x14 x15 x16 x17 x18]
  refine Ideal.mul_congr rfl (Ideal.add_congr (Ideal.add_congr (Ideal.mul_congr rfl (Eq.trans ?_ p0)) (Ideal.mul_congr rfl (Eq.trans ?_ p1))) (Ideal.mul_congr rfl (Eq.trans ?_ p2)))
  · rfl
  · rfl
  · rfl

/-- The reference's convolution output. -/
theorem r119 (b : Fin 16) (i : Fin 256) (l : Fin 1024) : val_main_v119 (F := Ideal) x0 x2 x3 x4 x5 x9 x13 x14 (ix3 b i l) = dot (cnv (argsR x0 x2 x3 x4 x5 x6 x7 x8 x9 x10 x11 x12 x13 x14 x15 x16 x17 x18) b i) (argsR x0 x2 x3 x4 x5 x6 x7 x8 x9 x10 x11 x12 x13 x14 x15 x16 x17 x18).wc l := by
  rw [val_main_v119_apply]
  show _ = ∑ k, cnv (argsR x0 x2 x3 x4 x5 x6 x7 x8 x9 x10 x11 x12 x13 x14 x15 x16 x17 x18) b i k * (argsR x0 x2 x3 x4 x5 x6 x7 x8 x9 x10 x11 x12 x13 x14 x15 x16 x17 x18).wc k l
  refine Finset.sum_congr rfl fun k _ => ?_
  rw [show lidx_main_v119 (ix3 b i l) k = ix3 b i k from by funext a; fin_cases a <;> rfl, show ridx_main_v119 (ix3 b i l) k = ix2 k l from by funext a; fin_cases a <;> rfl]
  refine Ideal.mul_congr (r117 x0 x2 x3 x4 x5 x6 x7 x8 x9 x10 x11 x12 x13 x14 x15 x16 x17 x18 b i k) ?_
  pointwise [val_main_v118]
  rfl

/-- The reference's merged rows. -/
theorem r134 (b : Fin 16) (i : Fin 256) (l : Fin 1024) : val_main_v134 (F := Ideal) x0 x2 x3 x4 x5 x9 x10 x11 x12 x13 x14 (ix3 b i l) = mrg (argsR x0 x2 x3 x4 x5 x6 x7 x8 x9 x10 x11 x12 x13 x14 x15 x16 x17 x18) b i l := by
  pointwise [val_main_v120, val_main_v121, val_main_v122, val_main_v123, val_main_v124, val_main_v125, val_main_v126, val_main_v127, val_main_v128, val_main_v129, val_main_v130, val_main_v131, val_main_v132, val_main_v133, val_main_v134, val_main_v41, val_main_v42, val_main_cst_13, val_main_cst_14, val_main_cst_15, val_main_cst_16]
  rw [r34 x0 x2 x3 x4 x5 x6 x7 x8 x9 x10 x11 x12 x13 x14 x15 x16 x17 x18, r34 x0 x2 x3 x4 x5 x6 x7 x8 x9 x10 x11 x12 x13 x14 x15 x16 x17 x18, r93 x0 x2 x3 x4 x5 x6 x7 x8 x9 x10 x11 x12 x13 x14 x15 x16 x17 x18, r119 x0 x2 x3 x4 x5 x6 x7 x8 x9 x10 x11 x12 x13 x14 x15 x16 x17 x18]
  rfl

/-- The reference's merged output. -/
theorem r136 (b : Fin 16) (i : Fin 256) (l : Fin 1024) : val_main_v136 (F := Ideal) x0 x2 x3 x4 x5 x9 x10 x11 x12 x13 x14 x15 (ix3 b i l) = dot (mrg (argsR x0 x2 x3 x4 x5 x6 x7 x8 x9 x10 x11 x12 x13 x14 x15 x16 x17 x18) b i) (argsR x0 x2 x3 x4 x5 x6 x7 x8 x9 x10 x11 x12 x13 x14 x15 x16 x17 x18).wo l := by
  rw [val_main_v136_apply]
  show _ = ∑ k, mrg (argsR x0 x2 x3 x4 x5 x6 x7 x8 x9 x10 x11 x12 x13 x14 x15 x16 x17 x18) b i k * (argsR x0 x2 x3 x4 x5 x6 x7 x8 x9 x10 x11 x12 x13 x14 x15 x16 x17 x18).wo k l
  refine Finset.sum_congr rfl fun k _ => ?_
  rw [show lidx_main_v136 (ix3 b i l) k = ix3 b i k from by funext a; fin_cases a <;> rfl, show ridx_main_v136 (ix3 b i l) k = ix2 k l from by funext a; fin_cases a <;> rfl]
  refine Ideal.mul_congr (r134 x0 x2 x3 x4 x5 x6 x7 x8 x9 x10 x11 x12 x13 x14 x15 x16 x17 x18 b i k) ?_
  pointwise [val_main_v135]
  rfl

/-- The reference's sum of squares of these rows. -/
theorem r139 (b : Fin 16) (i : Fin 256) : val_main_v139 (F := Ideal) x0 x2 x3 x4 x5 x9 x10 x11 x12 x13 x14 x15 (ix2 b i) = ∑ k, dot (mrg (argsR x0 x2 x3 x4 x5 x6 x7 x8 x9 x10 x11 x12 x13 x14 x15 x16 x17 x18) b i) (argsR x0 x2 x3 x4 x5 x6 x7 x8 x9 x10 x11 x12 x13 x14 x15 x16 x17 x18).wo k * dot (mrg (argsR x0 x2 x3 x4 x5 x6 x7 x8 x9 x10 x11 x12 x13 x14 x15 x16 x17 x18) b i) (argsR x0 x2 x3 x4 x5 x6 x7 x8 x9 x10 x11 x12 x13 x14 x15 x16 x17 x18).wo k := by
  rw [val_main_v139_apply]
  refine (Ideal.add_congr (Ideal.ofBits_zero .f32) (Finset.sum_congr rfl fun k _ => ?_)).trans (zero_add (∑ k, dot (mrg (argsR x0 x2 x3 x4 x5 x6 x7 x8 x9 x10 x11 x12 x13 x14 x15 x16 x17 x18) b i) (argsR x0 x2 x3 x4 x5 x6 x7 x8 x9 x10 x11 x12 x13 x14 x15 x16 x17 x18).wo k * dot (mrg (argsR x0 x2 x3 x4 x5 x6 x7 x8 x9 x10 x11 x12 x13 x14 x15 x16 x17 x18) b i) (argsR x0 x2 x3 x4 x5 x6 x7 x8 x9 x10 x11 x12 x13 x14 x15 x16 x17 x18).wo k))
  rw [show idx_main_v139 (ix2 b i) k = ix3 b i k from by funext a; fin_cases a <;> rfl]
  exact Ideal.mul_congr (r136 x0 x2 x3 x4 x5 x6 x7 x8 x9 x10 x11 x12 x13 x14 x15 x16 x17 x18 b i k) (r136 x0 x2 x3 x4 x5 x6 x7 x8 x9 x10 x11 x12 x13 x14 x15 x16 x17 x18 b i k)

/-- The reference's rows after the first residual sum. -/
theorem r154 (b : Fin 16) (i : Fin 256) (l : Fin 1024) : val_main_v154 (F := Ideal) x0 x2 x3 x4 x5 x6 x9 x10 x11 x12 x13 x14 x15 (ix3 b i l) = h1 (argsR x0 x2 x3 x4 x5 x6 x7 x8 x9 x10 x11 x12 x13 x14 x15 x16 x17 x18) b i l := by
  pointwise [val_main_v140, val_main_v141, val_main_v142, val_main_v143, val_main_v144, val_main_v145, val_main_v146, val_main_v147, val_main_v148, val_main_v149, val_main_v150, val_main_v151, val_main_v152, val_main_v153, val_main_v154, val_main_v137, val_main_v7, val_main_cst_18, val_main_cst_19]
  rw [r136 x0 x2 x3 x4 x5 x6 x7 x8 x9 x10 x11 x12 x13 x14 x15 x16 x17 x18, r139 x0 x2 x3 x4 x5 x6 x7 x8 x9 x10 x11 x12 x13 x14 x15 x16 x17 x18, r4 x0 x2 x3 x4 x5 x6 x7 x8 x9 x10 x11 x12 x13 x14 x15 x16 x17 x18]
  rfl

/-- The reference's sum of squares of these rows. -/
theorem r157 (b : Fin 16) (i : Fin 256) : val_main_v157 (F := Ideal) x0 x2 x3 x4 x5 x6 x9 x10 x11 x12 x13 x14 x15 (ix2 b i) = ∑ k, h1 (argsR x0 x2 x3 x4 x5 x6 x7 x8 x9 x10 x11 x12 x13 x14 x15 x16 x17 x18) b i k * h1 (argsR x0 x2 x3 x4 x5 x6 x7 x8 x9 x10 x11 x12 x13 x14 x15 x16 x17 x18) b i k := by
  rw [val_main_v157_apply]
  refine (Ideal.add_congr (Ideal.ofBits_zero .f32) (Finset.sum_congr rfl fun k _ => ?_)).trans (zero_add (∑ k, h1 (argsR x0 x2 x3 x4 x5 x6 x7 x8 x9 x10 x11 x12 x13 x14 x15 x16 x17 x18) b i k * h1 (argsR x0 x2 x3 x4 x5 x6 x7 x8 x9 x10 x11 x12 x13 x14 x15 x16 x17 x18) b i k))
  rw [show idx_main_v157 (ix2 b i) k = ix3 b i k from by funext a; fin_cases a <;> rfl]
  exact Ideal.mul_congr (r154 x0 x2 x3 x4 x5 x6 x7 x8 x9 x10 x11 x12 x13 x14 x15 x16 x17 x18 b i k) (r154 x0 x2 x3 x4 x5 x6 x7 x8 x9 x10 x11 x12 x13 x14 x15 x16 x17 x18 b i k)

/-- The reference's modulated rows before the feed-forward. -/
theorem r176 (b : Fin 16) (i : Fin 256) (l : Fin 1024) : val_main_v176 (F := Ideal) x0 x2 x3 x4 x5 x6 x7 x9 x10 x11 x12 x13 x14 x15 (ix3 b i l) = u2 (argsR x0 x2 x3 x4 x5 x6 x7 x8 x9 x10 x11 x12 x13 x14 x15 x16 x17 x18) b i l := by
  refine Eq.trans ?_ (uK_ref (h1 (argsR x0 x2 x3 x4 x5 x6 x7 x8 x9 x10 x11 x12 x13 x14 x15 x16 x17 x18) b i) (argsR x0 x2 x3 x4 x5 x6 x7 x8 x9 x10 x11 x12 x13 x14 x15 x16 x17 x18).g3 (adaAt (argsR x0 x2 x3 x4 x5 x6 x7 x8 x9 x10 x11 x12 x13 x14 x15 x16 x17 x18) 4096 (by omega)) (adaAt (argsR x0 x2 x3 x4 x5 x6 x7 x8 x9 x10 x11 x12 x13 x14 x15 x16 x17 x18) 3072 (by omega)) l)
  pointwise [val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v155, val_main_v8, val_main_v9, val_main_cst_21, val_main_cst_22, val_main_cst_23]
  rw [r154 x0 x2 x3 x4 x5 x6 x7 x8 x9 x10 x11 x12 x13 x14 x15 x16 x17 x18, r157 x0 x2 x3 x4 x5 x6 x7 x8 x9 x10 x11 x12 x13 x14 x15 x16 x17 x18, r4 x0 x2 x3 x4 x5 x6 x7 x8 x9 x10 x11 x12 x13 x14 x15 x16 x17 x18, r4 x0 x2 x3 x4 x5 x6 x7 x8 x9 x10 x11 x12 x13 x14 x15 x16 x17 x18]
  rfl

end Cert.PromptRefIdeal.Pure

end
-- ==== Proof.Layer.RefOut.lean ====
/- The prompt reference: the feed-forward and the results. -/
module

public import proofs.«01_k».proof.Proof.Layer.RefMix

@[expose] public section

set_option maxRecDepth 16384

noncomputable section

namespace Cert.PromptRefIdeal.Pure

open Cert.PromptRefIdeal Cert.PromptRefIdeal.Gen Cert.PromptRefIdeal.Read Idealize.ShloMosaic Idealize.ShloMosaic.TcCoe Idealize.SL.Sem
open Cert.Layer
open Cert.Softmax

variable (x0 : FVec Ideal S16x256x1024 .f32) (x2 : FVec Ideal S1024 .f32) (x3 : FVec Ideal S1x1024x6144 .f32) (x4 : FVec Ideal S1x6144 .f32) (x5 : FVec Ideal S1x1024 .f32) (x6 : FVec Ideal S1x1024 .f32) (x7 : FVec Ideal S1x1024 .f32) (x8 : FVec Ideal S1x1024 .f32) (x9 : FVec Ideal S1x1024x6656 .f32) (x10 : FVec Ideal S1x64 .f32) (x11 : FVec Ideal S1x64 .f32) (x12 : FVec Ideal S1x1024x1024 .f32) (x13 : FVec Ideal S1x3x1024 .f32) (x14 : FVec Ideal S1x1024x1024 .f32) (x15 : FVec Ideal S1x1024x1024 .f32) (x16 : FVec Ideal S1x1024x5632 .f32) (x17 : FVec Ideal S1x3x5632 .f32) (x18 : FVec Ideal S1x2816x1024 .f32)

/-- The reference's feed-forward projection. -/
theorem r178 (b : Fin 16) (i : Fin 256) (l : Fin 5632) : val_main_v178 (F := Ideal) x0 x2 x3 x4 x5 x6 x7 x9 x10 x11 x12 x13 x14 x15 x16 (ix3 b i l) = dot (u2 (argsR x0 x2 x3 x4 x5 x6 x7 x8 x9 x10 x11 x12 x13 x14 x15 x16 x17 x18) b i) (argsR x0 x2 x3 x4 x5 x6 x7 x8 x9 x10 x11 x12 x13 x14 x15 x16 x17 x18).wu l := by
  rw [val_main_v178_apply]
  show _ = ∑ k, u2 (argsR x0 x2 x3 x4 x5 x6 x7 x8 x9 x10 x11 x12 x13 x14 x15 x16 x17 x18) b i k * (argsR x0 x2 x3 x4 x5 x6 x7 x8 x9 x10 x11 x12 x13 x14 x15 x16 x17 x18).wu k l
  refine Finset.sum_congr rfl fun k _ => ?_
  rw [show lidx_main_v178 (ix3 b i l) k = ix3 b i k from by funext a; fin_cases a <;> rfl, show ridx_main_v178 (ix3 b i l) k = ix2 k l from by funext a; fin_cases a <;> rfl]
  refine Ideal.mul_congr (r176 x0 x2 x3 x4 x5 x6 x7 x8 x9 x10 x11 x12 x13 x14 x15 x16 x17 x18 b i k) ?_
  pointwise [val_main_v177]
  rfl

/-- The padding is zero. -/
theorem zero_pad2 : val_main_call2_v0 (F := Ideal) (Shape.Idx.first h_S_) = 0 := by
  pointwise [val_main_call2_v0, val_main_c_24]
  show (((0#32 : BitVec 32).toInt : ℝ) : EReal) = 0
  simp

/-- The reference's feed-forward taps. -/
theorem r200 (b : Fin 16) (i : Fin 256) (l : Fin 5632) : val_main_v200 (F := Ideal) x0 x2 x3 x4 x5 x6 x7 x9 x10 x11 x12 x13 x14 x15 x16 x17 (ix3 b i l) = ff (argsR x0 x2 x3 x4 x5 x6 x7 x8 x9 x10 x11 x12 x13 x14 x15 x16 x17 x18) b i l := by
  have p0 := pad_before (val_main_v178 (F := Ideal) x0 x2 x3 x4 x5 x6 x7 x9 x10 x11 x12 x13 x14 x15 x16) (val_main_call2_v0 (F := Ideal)) pads_S16x256x5632_S16x258x5632_000_110_000 h_S_ zero_pad2 b i l
  have p1 := pad_here (val_main_v178 (F := Ideal) x0 x2 x3 x4 x5 x6 x7 x9 x10 x11 x12 x13 x14 x15 x16) (val_main_call2_v0 (F := Ideal)) pads_S16x256x5632_S16x258x5632_000_110_000 h_S_ b i l
  have p2 := pad_after (val_main_v178 (F := Ideal) x0 x2 x3 x4 x5 x6 x7 x9 x10 x11 x12 x13 x14 x15 x16) (val_main_call2_v0 (F := Ideal)) pads_S16x256x5632_S16x258x5632_000_110_000 h_S_ zero_pad2 b i l
  rw [funext (fun j => r178 x0 x2 x3 x4 x5 x6 x7 x8 x9 x10 x11 x12 x13 x14 x15 x16 x17 x18 b j l)] at p0 p2
  rw [r178 x0 x2 x3 x4 x5 x6 x7 x8 x9 x10 x11 x12 x13 x14 x15 x16 x17 x18] at p1
  pointwise [val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v179]
  refine Ideal.add_congr (Ideal.add_congr (Ideal.mul_congr rfl (Eq.trans ?_ p0)) (Ideal.mul_congr rfl (Eq.trans ?_ p1))) (Ideal.mul_congr rfl (Eq.trans ?_ p2))
  · rfl
  · rfl
  · rfl

/-- The reference's activated rows. -/
theorem r204 (b : Fin 16) (i : Fin 256) (n : Fin 2816) : val_main_v204 (F := Ideal) x0 x2 x3 x4 x5 x6 x7 x9 x10 x11 x12 x13 x14 x15 x16 x17 (ix3 b i n) = act (ff (argsR x0 x2 x3 x4 x5 x6 x7 x8 x9 x10 x11 x12 x13 x14 x15 x16 x17 x18) b i) n := by
  pointwise [val_main_v201, val_main_v202, val_main_v203, val_main_v204, val_main_call3_v0, val_main_call3_v1, val_main_call3_cst, val_main_call3_v2, val_main_call3_v3, val_main_call3_cst_0, val_main_call3_v4, val_main_call3_v5]
  rw [r200 x0 x2 x3 x4 x5 x6 x7 x8 x9 x10 x11 x12 x13 x14 x15 x16 x17 x18, r200 x0 x2 x3 x4 x5 x6 x7 x8 x9 x10 x11 x12 x13 x14 x15 x16 x17 x18]
  rfl

/-- The reference's feed-forward output. -/
theorem r206 (b : Fin 16) (i : Fin 256) (l : Fin 1024) : val_main_v206 (F := Ideal) x0 x2 x3 x4 x5 x6 x7 x9 x10 x11 x12 x13 x14 x15 x16 x17 x18 (ix3 b i l) = dot (act (ff (argsR x0 x2 x3 x4 x5 x6 x7 x8 x9 x10 x11 x12 x13 x14 x15 x16 x17 x18) b i)) (argsR x0 x2 x3 x4 x5 x6 x7 x8 x9 x10 x11 x12 x13 x14 x15 x16 x17 x18).wd l := by
  rw [val_main_v206_apply]
  show _ = ∑ k, act (ff (argsR x0 x2 x3 x4 x5 x6 x7 x8 x9 x10 x11 x12 x13 x14 x15 x16 x17 x18) b i) k * (argsR x0 x2 x3 x4 x5 x6 x7 x8 x9 x10 x11 x12 x13 x14 x15 x16 x17 x18).wd k l
  refine Finset.sum_congr rfl fun k _ => ?_
  rw [show lidx_main_v206 (ix3 b i l) k = ix3 b i k from by funext a; fin_cases a <;> rfl, show ridx_main_v206 (ix3 b i l) k = ix2 k l from by funext a; fin_cases a <;> rfl]
  refine Ideal.mul_congr (r204 x0 x2 x3 x4 x5 x6 x7 x8 x9 x10 x11 x12 x13 x14 x15 x16 x17 x18 b i k) ?_
  pointwise [val_main_v205]
  rfl

/-- The reference's sum of squares of these rows. -/
theorem r209 (b : Fin 16) (i : Fin 256) : val_main_v209 (F := Ideal) x0 x2 x3 x4 x5 x6 x7 x9 x10 x11 x12 x13 x14 x15 x16 x17 x18 (ix2 b i) = ∑ k, dot (act (ff (argsR x0 x2 x3 x4 x5 x6 x7 x8 x9 x10 x11 x12 x13 x14 x15 x16 x17 x18) b i)) (argsR x0 x2 x3 x4 x5 x6 x7 x8 x9 x10 x11 x12 x13 x14 x15 x16 x17 x18).wd k * dot (act (ff (argsR x0 x2 x3 x4 x5 x6 x7 x8 x9 x10 x11 x12 x13 x14 x15 x16 x17 x18) b i)) (argsR x0 x2 x3 x4 x5 x6 x7 x8 x9 x10 x11 x12 x13 x14 x15 x16 x17 x18).wd k := by
  rw [val_main_v209_apply]
  refine (Ideal.add_congr (Ideal.ofBits_zero .f32) (Finset.sum_congr rfl fun k _ => ?_)).trans (zero_add (∑ k, dot (act (ff (argsR x0 x2 x3 x4 x5 x6 x7 x8 x9 x10 x11 x12 x13 x14 x15 x16 x17 x18) b i)) (argsR x0 x2 x3 x4 x5 x6 x7 x8 x9 x10 x11 x12 x13 x14 x15 x16 x17 x18).wd k * dot (act (ff (argsR x0 x2 x3 x4 x5 x6 x7 x8 x9 x10 x11 x12 x13 x14 x15 x16 x17 x18) b i)) (argsR x0 x2 x3 x4 x5 x6 x7 x8 x9 x10 x11 x12 x13 x14 x15 x16 x17 x18).wd k))
  rw [show idx_main_v209 (ix2 b i) k = ix3 b i k from by funext a; fin_cases a <;> rfl]
  exact Ideal.mul_congr (r206 x0 x2 x3 x4 x5 x6 x7 x8 x9 x10 x11 x12 x13 x14 x15 x16 x17 x18 b i k) (r206 x0 x2 x3 x4 x5 x6 x7 x8 x9 x10 x11 x12 x13 x14 x15 x16 x17 x18 b i k)

/-- The reference's first result. -/
theorem r224 (b : Fin 16) (i : Fin 256) (l : Fin 1024) : val_main_v224 (F := Ideal) x0 x2 x3 x4 x5 x6 x7 x8 x9 x10 x11 x12 x13 x14 x15 x16 x17 x18 (ix3 b i l) = yy (argsR x0 x2 x3 x4 x5 x6 x7 x8 x9 x10 x11 x12 x13 x14 x15 x16 x17 x18) b i l := by
  pointwise [val_main_v210, val_main_v211, val_main_v212, val_main_v213, val_main_v214, val_main_v215, val_main_v216, val_main_v217, val_main_v218, val_main_v219, val_main_v220, val_main_v221, val_main_v222, val_main_v223, val_main_v224, val_main_v207, val_main_v10, val_main_cst_26, val_main_cst_27]
  rw [r154 x0 x2 x3 x4 x5 x6 x7 x8 x9 x10 x11 x12 x13 x14 x15 x16 x17 x18, r206 x0 x2 x3 x4 x5 x6 x7 x8 x9 x10 x11 x12 x13 x14 x15 x16 x17 x18, r209 x0 x2 x3 x4 x5 x6 x7 x8 x9 x10 x11 x12 x13 x14 x15 x16 x17 x18, r4 x0 x2 x3 x4 x5 x6 x7 x8 x9 x10 x11 x12 x13 x14 x15 x16 x17 x18]
  rfl

/-- The reference's second result. -/
theorem r225 (b : Fin 16) (i : Fin 256) (n : Fin 4) (d : Fin 64) : val_main_v225 (F := Ideal) x0 x2 x3 x4 x5 x9 x11 (ix5 b 0 i n d) = kk (argsR x0 x2 x3 x4 x5 x6 x7 x8 x9 x10 x11 x12 x13 x14 x15 x16 x17 x18) b i n d := by
  pointwise [val_main_v225]
  exact r72 x0 x2 x3 x4 x5 x6 x7 x8 x9 x10 x11 x12 x13 x14 x15 x16 x17 x18 b i n d

/-- The reference's third result. -/
theorem r226 (b : Fin 16) (i : Fin 256) (n : Fin 4) (d : Fin 64) : val_main_v226 (F := Ideal) x0 x2 x3 x4 x5 x9 (ix5 b 0 i n d) = vv (argsR x0 x2 x3 x4 x5 x6 x7 x8 x9 x10 x11 x12 x13 x14 x15 x16 x17 x18) b i n d := by
  pointwise [val_main_v226]
  exact r73 x0 x2 x3 x4 x5 x6 x7 x8 x9 x10 x11 x12 x13 x14 x15 x16 x17 x18 b i n d

end Cert.PromptRefIdeal.Pure

end
-- ==== Proof.Layer.Agree.lean ====
/- The prompt path: the kernel and the reference end with equal results from equal arguments. -/
module

public import proofs.«01_k».proof.Defs
public import proofs.«01_k».proof.Proof.Layer.Chain
public import proofs.«01_k».proof.Proof.Layer.RefOut
public import proofs.«01_k».proof.Proof.PromptIdeal.Frame
public import proofs.«01_k».proof.Proof.Gen.Pre_gains_finite
public import Idealize.ShloMosaic.Lib.Claim

@[expose] public section

set_option maxRecDepth 16384

noncomputable section

namespace Cert.PromptIdeal.Layer

open Cert.PromptIdeal Cert.PromptIdeal.Gen Idealize.ShloMosaic Idealize.ShloMosaic.TcCoe Idealize.SL.Sem
open Idealize.ShloMosaic.Pipeline (Dat)
open Cert.Layer
open Cert.Softmax

variable (m : (ℓ : Loc nD τ sig) → Buf (Elt Ideal) ℓ) (ρ : Dev nD → PrngReg)

/-- Finite head gains, read off the precondition. -/
theorem finite (h : Cert.Pre_PromptIdeal_gains_finite (hPre_gains_finite := Cert.Pre_gains_finite.Gen.facts) m) (c : Dev nD) : (argsOf m c).Finite := by
  obtain ⟨h10, h11⟩ := h c
  exact ⟨fun d => real_of_lt (congrFun h10 (ix2 0 d)), fun d => real_of_lt (congrFun h11 (ix2 0 d))⟩

/-- The first result is the reference's. -/
theorem agree1 (c : Dev nD) (ha : (argsOf m c).Finite) : W10 m ρ c (Proc.devRef .tc main_v60) = Cert.PromptRefIdeal.Read.val_main_v224 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  funext j
  idx_vars j
  exact (out1 m ρ c ha j0 j1 j2).trans (Cert.PromptRefIdeal.Pure.r224 _ _ _ _ _ _ _ _ _ _ _ _ _ _ _ _ _ _ j0 j1 j2).symm

/-- The second result is the reference's. -/
theorem agree2 (c : Dev nD) : W10 m ρ c (Proc.devRef .tc main_v63) = Cert.PromptRefIdeal.Read.val_main_v225 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg11)) := by
  funext j
  idx_vars j
  obtain rfl : j1 = 0 := Subsingleton.elim _ _
  exact (out2 m ρ c j0 j2 j3 j4).trans (Cert.PromptRefIdeal.Pure.r225 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) j0 j2 j3 j4).symm

/-- The third result is the reference's. -/
theorem agree3 (c : Dev nD) : W10 m ρ c (Proc.devRef .tc main_v64) = Cert.PromptRefIdeal.Read.val_main_v226 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) := by
  funext j
  idx_vars j
  obtain rfl : j1 = 0 := Subsingleton.elim _ _
  exact (out3 m ρ c j0 j2 j3 j4).trans (Cert.PromptRefIdeal.Pure.r226 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) j0 j2 j3 j4).symm

/-- The run: the results at the chain's values, the arguments as they were. -/
theorem run_out : θ_run defs (onTc (τ := τ) (main (F := Ideal))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_v63) = W10 m ρ c (Proc.devRef .tc main_v63)
      ∧ r.2.mem ((c.tc : Thread nD τ).loc main_v64) = W10 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r hr c => ⟨hr.1 c _ (mem_uc main_v60 (by decide)), hr.1 c _ (mem_uc main_v63 (by decide)), hr.1 c _ (mem_uc main_v64 (by decide)),
      (hr.1 c _ (mem_uc main_arg0 (by decide))).trans (W10_main_arg0 m ρ c),
      (hr.1 c _ (mem_uc main_arg1 (by decide))).trans (W10_main_arg1 m ρ c),
      (hr.1 c _ (mem_uc main_arg2 (by decide))).trans (W10_main_arg2 m ρ c),
      (hr.1 c _ (mem_uc main_arg3 (by decide))).trans (W10_main_arg3 m ρ c),
      (hr.1 c _ (mem_uc main_arg4 (by decide))).trans (W10_main_arg4 m ρ c),
      (hr.1 c _ (mem_uc main_arg5 (by decide))).trans (W10_main_arg5 m ρ c),
      (hr.1 c _ (mem_uc main_arg6 (by decide))).trans (W10_main_arg6 m ρ c),
      (hr.1 c _ (mem_uc main_arg7 (by decide))).trans (W10_main_arg7 m ρ c),
      (hr.1 c _ (mem_uc main_arg8 (by decide))).trans (W10_main_arg8 m ρ c),
      (hr.1 c _ (mem_uc main_arg9 (by decide))).trans (W10_main_arg9 m ρ c),
      (hr.1 c _ (mem_uc main_arg10 (by decide))).trans (W10_main_arg10 m ρ c),
      (hr.1 c _ (mem_uc main_arg11 (by decide))).trans (W10_main_arg11 m ρ c),
      (hr.1 c _ (mem_uc main_arg12 (by decide))).trans (W10_main_arg12 m ρ c),
      (hr.1 c _ (mem_uc main_arg13 (by decide))).trans (W10_main_arg13 m ρ c),
      (hr.1 c _ (mem_uc main_arg14 (by decide))).trans (W10_main_arg14 m ρ c),
      (hr.1 c _ (mem_uc main_arg15 (by decide))).trans (W10_main_arg15 m ρ c),
      (hr.1 c _ (mem_uc main_arg16 (by decide))).trans (W10_main_arg16 m ρ c),
      (hr.1 c _ (mem_uc main_arg17 (by decide))).trans (W10_main_arg17 m ρ c),
      (hr.1 c _ (mem_uc main_arg18 (by decide))).trans (W10_main_arg18 m ρ c)⟩) (run m ρ)

end Cert.PromptIdeal.Layer

end
-- ==== Proof.Ffn.Tile.lean ====
/- The tile of the sample's feed-forward call: one grid point's result from the rows in its scratch buffer. -/
module

public import proofs.«01_k».proof.Proof.Layer.Spec
public import proofs.«01_k».proof.Proof.Gen.FfnIdeal.Skeleton
public import Idealize.ShloMosaic.Lib.Pipeline.ValueKit

@[expose] public section

set_option maxRecDepth 16384

noncomputable section

namespace Cert.FfnIdeal.Pure

open Cert.FfnIdeal Cert.FfnIdeal.Gen Idealize.ShloMosaic Idealize.ShloMosaic.TcCoe Idealize.SL.Sem
open Idealize.ShloMosaic.Pipeline (Dat)
open Cert.Layer

/-- The row `i` of the tile after the three taps: rows `15 + i`, `16 + i` and `17 + i` of the scratch buffer, projected. -/
def cvT (e : FVec Ideal S544x1024 .bf16) (x7 : FVec Ideal S1024x5632 .bf16) (x6 : FVec Ideal S3x5632 .f32) (i : Fin 512) : Row 5632 :=
  fun n => tap (x6 (ix2 0 n)) (x6 (ix2 1 n)) (x6 (ix2 2 n))
    (∑ k, e (ix2 ⟨15 + i.val, by omega⟩ k) * x7 (ix2 k n)) (∑ k, e (ix2 ⟨16 + i.val, by omega⟩ k) * x7 (ix2 k n)) (∑ k, e (ix2 ⟨17 + i.val, by omega⟩ k) * x7 (ix2 k n))

/-- A sum over the lower half and a sum over the upper half are the sum over all. -/
theorem sum_halves (f : Fin 2816 → EReal) :
    (∑ n : Fin 1408, f ⟨n.val, by omega⟩) + (∑ n : Fin 1408, f ⟨1408 + n.val, by omega⟩) = ∑ n, f n :=
  (Fin.sum_univ_add (a := 1408) (b := 1408) f).symm

/-- A row read past a turn by one. -/
theorem up (i : Fin 512) (h : (16 + i.val + 544 - 1) % 544 < 544) : (⟨(16 + i.val + 544 - 1) % 544, h⟩ : Fin 544) = ⟨15 + i.val, by omega⟩ :=
  Fin.ext (by show (16 + i.val + 544 - 1) % 544 = 15 + i.val; omega)

/-- A row read past a turn by all but one. -/
theorem dn (i : Fin 512) (h : (16 + i.val + 544 - 543) % 544 < 544) : (⟨(16 + i.val + 544 - 543) % 544, h⟩ : Fin 544) = ⟨17 + i.val, by omega⟩ :=
  Fin.ext (by show (16 + i.val + 544 - 543) % 544 = 17 + i.val; omega)

/-- The taps of the gates from column 0 on. -/
theorem cv5 (e : FVec Ideal S544x1024 .bf16) (x7 : FVec Ideal S1024x5632 .bf16) (x6 : FVec Ideal S3x5632 .f32) (i : Fin 512) (n : Fin 1408) :
    k0_pay5 (F := Ideal) e (View.ld x7 (Rect.unit (s := S1024x5632) ![0, 0] ![1024, 1408] inb_S1024x5632_S1024x1408_0_0)) (View.ld x6 (Rect.unit (s := S3x5632) ![0, 0] ![3, 1408] inb_S3x5632_S3x1408_0_0)) (ix2 i n) = cvT e x7 x6 i ⟨0 + n.val, by omega⟩ := by
  pointwise [k0_pay5]
  unfold cvT tap
  simp only [up, dn]

/-- The taps of the gates from column 1408 on. -/
theorem cv13 (e : FVec Ideal S544x1024 .bf16) (x7 : FVec Ideal S1024x5632 .bf16) (x6 : FVec Ideal S3x5632 .f32) (i : Fin 512) (n : Fin 1408) :
    k0_pay13 (F := Ideal) e (View.ld x7 (Rect.unit (s := S1024x5632) ![0, 1408] ![1024, 1408] inb_S1024x5632_S1024x1408_0_1408)) (View.ld x6 (Rect.unit (s := S3x5632) ![0, 1408] ![3, 1408] inb_S3x5632_S3x1408_0_1408)) (ix2 i n) = cvT e x7 x6 i ⟨1408 + n.val, by omega⟩ := by
  pointwise [k0_pay13]
  unfold cvT tap
  simp only [up, dn]

/-- The lower half of the sum over the hidden width. -/
theorem part12 (e : FVec Ideal S544x1024 .bf16) (x7 : FVec Ideal S1024x5632 .bf16) (x6 : FVec Ideal S3x5632 .f32) (x8 : FVec Ideal S2816x1024 .bf16) (i : Fin 512) (l : Fin 1024) :
    k0_pay12 (F := Ideal) (k0_pay5 e (View.ld x7 (Rect.unit (s := S1024x5632) ![0, 0] ![1024, 1408] inb_S1024x5632_S1024x1408_0_0)) (View.ld x6 (Rect.unit (s := S3x5632) ![0, 0] ![3, 1408] inb_S3x5632_S3x1408_0_0))) (k0_pay7 (View.ld x6 (Rect.unit (s := S3x5632) ![0, 2816] ![3, 1408] inb_S3x5632_S3x1408_0_2816))) (k0_pay8 e (View.ld x7 (Rect.unit (s := S1024x5632) ![0, 2816] ![1024, 1408] inb_S1024x5632_S1024x1408_0_2816))) (k0_pay9 e (View.ld x7 (Rect.unit (s := S1024x5632) ![0, 2816] ![1024, 1408] inb_S1024x5632_S1024x1408_0_2816)) (View.ld x6 (Rect.unit (s := S3x5632) ![0, 2816] ![3, 1408] inb_S3x5632_S3x1408_0_2816))) (k0_pay10 (View.ld x6 (Rect.unit (s := S3x5632) ![0, 2816] ![3, 1408] inb_S3x5632_S3x1408_0_2816))) (k0_pay11 e (View.ld x7 (Rect.unit (s := S1024x5632) ![0, 2816] ![1024, 1408] inb_S1024x5632_S1024x1408_0_2816))) (View.ld x8 (Rect.unit (s := S2816x1024) ![0, 0] ![1408, 1024] inb_S2816x1024_S1408x1024_0_0)) (ix2 i l)
      = ∑ n : Fin 1408, act (cvT e x7 x6 i) ⟨n.val, by omega⟩ * x8 (ix2 ⟨n.val, by omega⟩ l) := by
  pointwise [k0_pay12, k0_pay6, k0_pay7, k0_pay8, k0_pay9, k0_pay10, k0_pay11]
  simp only [cv5, up, dn, Nat.zero_add]
  rfl

/-- The upper half's summand. -/
theorem part18 (e : FVec Ideal S544x1024 .bf16) (x7 : FVec Ideal S1024x5632 .bf16) (x6 : FVec Ideal S3x5632 .f32) (x8 : FVec Ideal S2816x1024 .bf16)
    (x3 : FVec Ideal S512x1024 .f32) (x4 : FVec Ideal S1x1x1024 .f32) (x5 : FVec Ideal S1x1024 .f32) (i : Fin 512) (l : Fin 1024) :
    k0_pay18 (F := Ideal) (k0_pay12 (F := Ideal) (k0_pay5 e (View.ld x7 (Rect.unit (s := S1024x5632) ![0, 0] ![1024, 1408] inb_S1024x5632_S1024x1408_0_0)) (View.ld x6 (Rect.unit (s := S3x5632) ![0, 0] ![3, 1408] inb_S3x5632_S3x1408_0_0))) (k0_pay7 (View.ld x6 (Rect.unit (s := S3x5632) ![0, 2816] ![3, 1408] inb_S3x5632_S3x1408_0_2816))) (k0_pay8 e (View.ld x7 (Rect.unit (s := S1024x5632) ![0, 2816] ![1024, 1408] inb_S1024x5632_S1024x1408_0_2816))) (k0_pay9 e (View.ld x7 (Rect.unit (s := S1024x5632) ![0, 2816] ![1024, 1408] inb_S1024x5632_S1024x1408_0_2816)) (View.ld x6 (Rect.unit (s := S3x5632) ![0, 2816] ![3, 1408] inb_S3x5632_S3x1408_0_2816))) (k0_pay10 (View.ld x6 (Rect.unit (s := S3x5632) ![0, 2816] ![3, 1408] inb_S3x5632_S3x1408_0_2816))) (k0_pay11 e (View.ld x7 (Rect.unit (s := S1024x5632) ![0, 2816] ![1024, 1408] inb_S1024x5632_S1024x1408_0_2816))) (View.ld x8 (Rect.unit (s := S2816x1024) ![0, 0] ![1408, 1024] inb_S2816x1024_S1408x1024_0_0)))
        (k0_pay13 e (View.ld x7 (Rect.unit (s := S1024x5632) ![0, 1408] ![1024, 1408] inb_S1024x5632_S1024x1408_0_1408)) (View.ld x6 (Rect.unit (s := S3x5632) ![0, 1408] ![3, 1408] inb_S3x5632_S3x1408_0_1408))) (k0_pay14 e (View.ld x7 (Rect.unit (s := S1024x5632) ![0, 4224] ![1024, 1408] inb_S1024x5632_S1024x1408_0_4224))) (k0_pay15 (View.ld x6 (Rect.unit (s := S3x5632) ![0, 4224] ![3, 1408] inb_S3x5632_S3x1408_0_4224))) (k0_pay16 e (View.ld x7 (Rect.unit (s := S1024x5632) ![0, 4224] ![1024, 1408] inb_S1024x5632_S1024x1408_0_4224))) (k0_pay17 e (View.ld x7 (Rect.unit (s := S1024x5632) ![0, 4224] ![1024, 1408] inb_S1024x5632_S1024x1408_0_4224))) (View.ld x8 (Rect.unit (s := S2816x1024) ![1408, 0] ![1408, 1024] inb_S2816x1024_S1408x1024_1408_0)) x3 x4 x5 (ix2 i l)
      = addK (fun k => x3 (ix2 i k)) (fun k => x4 (ix3 0 0 k)) (dot (act (cvT e x7 x6 i)) fun n k => x8 (ix2 n k)) (fun k => x5 (ix2 0 k)) l := by
  have H : ∀ k : Fin 1024, (∑ n : Fin 1408, act (cvT e x7 x6 i) ⟨n.val, by omega⟩ * x8 (ix2 ⟨n.val, by omega⟩ k)) + (∑ n : Fin 1408, act (cvT e x7 x6 i) ⟨1408 + n.val, by omega⟩ * x8 (ix2 ⟨1408 + n.val, by omega⟩ k))
      = dot (act (cvT e x7 x6 i)) (fun n k => x8 (ix2 n k)) k := fun k => sum_halves fun n => act (cvT e x7 x6 i) n * x8 (ix2 n k)
  have hx : ∀ n : Fin 1408, cvT e x7 x6 i ⟨1408 + n.val, by omega⟩ * Ideal.logistic (cvT e x7 x6 i ⟨1408 + n.val, by omega⟩)
      * (x6 (ix2 0 ⟨4224 + n.val, by omega⟩) * (∑ k, e (ix2 ⟨15 + i.val, by omega⟩ k) * x7 (ix2 k ⟨4224 + n.val, by omega⟩))
        + x6 (ix2 1 ⟨4224 + n.val, by omega⟩) * (∑ k, e (ix2 ⟨16 + i.val, by omega⟩ k) * x7 (ix2 k ⟨4224 + n.val, by omega⟩))
        + x6 (ix2 2 ⟨4224 + n.val, by omega⟩) * (∑ k, e (ix2 ⟨17 + i.val, by omega⟩ k) * x7 (ix2 k ⟨4224 + n.val, by omega⟩)))
      = act (cvT e x7 x6 i) ⟨1408 + n.val, by omega⟩ := fun n => by
    have hn : (⟨4224 + n.val, by omega⟩ : Fin 5632) = ⟨2816 + (1408 + n.val), by omega⟩ := Fin.ext (by show 4224 + n.val = 2816 + (1408 + n.val); omega)
    rw [hn]; rfl
  pointwise [k0_pay18, k0_pay14, k0_pay15, k0_pay16, k0_pay17]
  simp only [cv13, part12, up, dn, hx, H]
  rfl
end Cert.FfnIdeal.Pure

end
-- ==== Proof.Ffn.Ext.lean ====
/- The tile of the sample's feed-forward call: what its scratch buffer holds. -/
module

public import proofs.«01_k».proof.Proof.Ffn.Tile
public import proofs.«01_k».proof.Proof.Gen.FfnIdeal.Frame

@[expose] public section

set_option maxRecDepth 16384

noncomputable section

namespace Cert.FfnIdeal.Pure

open Cert.FfnIdeal Cert.FfnIdeal.Gen Idealize.ShloMosaic Idealize.ShloMosaic.TcCoe Idealize.SL.Sem
open Idealize.ShloMosaic.Pipeline (Dat)
open Cert.Layer

/-- The number of tiles of a sequence, as the body computes it. -/
abbrev per : BitVec 32 := Scalar.select (Scalar.cmpi .eq 4#32 0#32) 1#32 4#32

/-- The place of tile `a` in its sequence, as the body computes it. -/
abbrev place (a : Fin 32) : BitVec 32 :=
  Scalar.select (Scalar.andi (Scalar.xori (Scalar.cmpi .slt (Scalar.remsi (BitVec.ofNat 32 a.val) per) 0#32) (Scalar.cmpi .slt per 0#32)) (Scalar.cmpi .ne (Scalar.remsi (BitVec.ofNat 32 a.val) per) 0#32))
    (Scalar.addi (Scalar.remsi (BitVec.ofNat 32 a.val) per) per) (Scalar.remsi (BitVec.ofNat 32 a.val) per)

/-- The first tile of a sequence has no rows before it. -/
theorem first_no : ∀ a : Fin 32, a.val % 4 = 0 → Scalar.cmpi .ne (place a) 0#32 = 0#1 := by decide +kernel

/-- Every other tile has. -/
theorem first_yes : ∀ a : Fin 32, a.val % 4 ≠ 0 → Scalar.cmpi .ne (place a) 0#32 = 1#1 := by decide +kernel

/-- The last tile of a sequence has no rows after it. -/
theorem last_no : ∀ a : Fin 32, a.val % 4 = 3 → Scalar.cmpi .ne (place a) 3#32 = 0#1 := by decide +kernel

/-- Every other tile has. -/
theorem last_yes : ∀ a : Fin 32, a.val % 4 ≠ 3 → Scalar.cmpi .ne (place a) 3#32 = 1#1 := by decide +kernel

/-- The rows stored before the tile: the last rows of the tile before, or zeros. -/
theorem lo_eq (i : grid0.Coords) (x1 : FVec Ideal S16x1024 .bf16) (y0 : Fin 16) (y1 : Fin 1024) :
    k0_pay2 (F := Ideal) i x1 (ix2 y0 y1) = if (i 0).val % 4 = 0 then 0 else x1 (ix2 y0 y1) := by
  have e : k0_pay2 (F := Ideal) i x1 = shapeCast S16x1024 (Scalar.select (Scalar.cmpi .ne (place (i 0)) 0#32) x1 (k0_pay1 (F := Ideal))) shapeCasts_S16x1024_S16x1024 := rfl
  rw [e]
  by_cases h : (i 0).val % 4 = 0
  · rw [if_pos h, first_no (i 0) h]
    pointwise [k0_pay1]
  · rw [if_neg h, first_yes (i 0) h]
    pointwise [k0_pay1]

/-- The rows stored after the tile: the first rows of the tile after, or zeros. -/
theorem hi_eq (i : grid0.Coords) (x2 : FVec Ideal S16x1024 .bf16) (y0 : Fin 16) (y1 : Fin 1024) :
    k0_pay4 (F := Ideal) (Scalar.cmpi .ne (place (i 0)) 3#32) k0_pay1 x2 (ix2 y0 y1) = if (i 0).val % 4 = 3 then 0 else x2 (ix2 y0 y1) := by
  by_cases h : (i 0).val % 4 = 3
  · rw [if_pos h, last_no (i 0) h]
    pointwise [k0_pay4, k0_pay1]
  · rw [if_neg h, last_yes (i 0) h]
    pointwise [k0_pay4, k0_pay1]

/-- The rows the scratch buffer holds. -/
abbrev ext (i : grid0.Coords) (x0 : FVec Ideal S512x1024 .bf16) (x1 x2 : FVec Ideal S16x1024 .bf16) : FVec Ideal S544x1024 .bf16 :=
  View.canon (Val := Elt Ideal) (s := S544x1024) (e := .bf16) [⟨Rect.unit ![528, 0] ![16, 1024] inb_S544x1024_S16x1024_528_0, k0_pay4 (F := Ideal) (Scalar.cmpi .ne (place (i 0)) 3#32) k0_pay1 x2⟩,
    ⟨Rect.unit ![16, 0] ![512, 1024] inb_S544x1024_S512x1024_16_0, k0_pay3 (F := Ideal) x0⟩,
    ⟨Rect.unit ![0, 0] ![16, 1024] inb_S544x1024_S16x1024_0_0, k0_pay2 (F := Ideal) i x1⟩]

/-- What the scratch buffer holds: the rows before, the tile, the rows after. -/
theorem ext_at (i : grid0.Coords) (x0 : FVec Ideal S512x1024 .bf16) (x1 x2 : FVec Ideal S16x1024 .bf16) (z : S544x1024.Idx) :
    ext i x0 x1 x2 z = if h : (z 0).val < 16 then (if (i 0).val % 4 = 0 then 0 else x1 (ix2 ⟨(z 0).val, h⟩ (z 1)))
      else if h' : (z 0).val < 528 then x0 (ix2 ⟨(z 0).val - 16, by omega⟩ (z 1))
      else (if (i 0).val % 4 = 3 then 0 else x2 (ix2 ⟨(z 0).val - 528, by have := (show (z 0).val < 544 from (z 0).isLt); omega⟩ (z 1))) := by
  unfold ext
  obtain ⟨y, hy⟩ : ∃ y, z = y := ⟨z, rfl⟩
  rw [hy]
  canon_tiles y h using View.cover_of_tiledBy _ ![16, 1024] (by sl_kernel_rfl) y
  all_goals subst hy
  · rw [dif_neg (by omega), dif_neg (by omega)]
    idx_vars y
    refine (hi_eq i x2 y0 y1).trans ?_
    have h0' : (z 0).val = 528 + y0.val := h0
    have e0 : (⟨(z 0).val - 528, by omega⟩ : Fin 16) = y0 := Fin.ext (by show (z 0).val - 528 = y0.val; omega)
    have e1 : (z 1 : Fin 1024) = y1 := Fin.ext h1
    rw [e0, e1]
  · rw [dif_neg (by omega), dif_pos (by omega)]
    idx_vars y
    pointwise [k0_pay3]
    have h0' : (z 0).val = 16 + y0.val := h0
    have e0 : (⟨(z 0).val - 16, by omega⟩ : Fin 512) = y0 := Fin.ext (by show (z 0).val - 16 = y0.val; omega)
    have e1 : (z 1 : Fin 1024) = y1 := Fin.ext h1
    exact congrArg x0 (by rw [e0, e1])
  · rw [dif_pos (by omega)]
    idx_vars y
    refine (lo_eq i x1 y0 y1).trans ?_
    have h0' : (z 0).val = y0.val := h0
    have e0 : (⟨(z 0).val, by omega⟩ : Fin 16) = y0 := Fin.ext h0'
    have e1 : (z 1 : Fin 1024) = y1 := Fin.ext h1
    rw [e0, e1]

/-- A row of the scratch buffer inside the tile. -/
theorem ext_in (i : grid0.Coords) (x0 : FVec Ideal S512x1024 .bf16) (x1 x2 : FVec Ideal S16x1024 .bf16) (r : Fin 544) (j : Fin 512) (h : r.val = 16 + j.val) (k : Fin 1024) :
    ext i x0 x1 x2 (ix2 r k) = x0 (ix2 j k) :=
  (ext_at i x0 x1 x2 (ix2 r k)).trans ((dif_neg (show ¬ r.val < 16 by omega)).trans ((dif_pos (show r.val < 528 by omega)).trans
    (congrArg (fun q => x0 (ix2 q k)) (Fin.ext (by show r.val - 16 = j.val; omega)))))

/-- The row just before the tile. -/
theorem ext_lo (i : grid0.Coords) (x0 : FVec Ideal S512x1024 .bf16) (x1 x2 : FVec Ideal S16x1024 .bf16) (r : Fin 544) (h : r.val = 15) (k : Fin 1024) :
    ext i x0 x1 x2 (ix2 r k) = if (i 0).val % 4 = 0 then 0 else x1 (ix2 15 k) :=
  (ext_at i x0 x1 x2 (ix2 r k)).trans ((dif_pos (show r.val < 16 by omega)).trans
    (congrArg (fun q => if (i 0).val % 4 = 0 then 0 else x1 (ix2 q k)) (Fin.ext h)))

/-- The row just after the tile. -/
theorem ext_hi (i : grid0.Coords) (x0 : FVec Ideal S512x1024 .bf16) (x1 x2 : FVec Ideal S16x1024 .bf16) (r : Fin 544) (h : r.val = 528) (k : Fin 1024) :
    ext i x0 x1 x2 (ix2 r k) = if (i 0).val % 4 = 3 then 0 else x2 (ix2 0 k) :=
  (ext_at i x0 x1 x2 (ix2 r k)).trans ((dif_neg (show ¬ r.val < 16 by omega)).trans ((dif_neg (show ¬ r.val < 528 by omega)).trans
    (congrArg (fun q => if (i 0).val % 4 = 3 then 0 else x2 (ix2 q k)) (Fin.ext (by show r.val - 528 = 0; omega)))))

/-- The load of the whole scratch buffer. -/
theorem ld_all (X : FVec Ideal S544x1024 .bf16) : View.ld (Val := Elt Ideal) (e' := .bf16) X (Rect.unit (s := S544x1024) ![0, 0] S544x1024.size inb_S544x1024_S544x1024_0_0) = X := by
  have h : (![0, 0] : Fin 2 → ℕ) = fun _ => 0 := by funext a; fin_cases a <;> rfl
  exact View.ld_unit_zero (Val := Elt Ideal) (S := S544x1024) (e := .bf16) h _ X

end Cert.FfnIdeal.Pure

end
-- ==== Proof.Ffn.Rows.lean ====
/- The rows of the sample's sequences and what the feed-forward call makes of them, over the ideal numbers. -/
module

public import proofs.«01_k».proof.Proof.Layer.Spec

@[expose] public section

noncomputable section

namespace Cert.Sample

open Idealize.ShloMosaic
open Cert.Layer

/-- The row of the whole array at position `i` of sequence `b`. -/
def rowAt (b : Fin 8) (i : Fin 2048) : Fin 16384 := ⟨2048 * b.val + i.val, by omega⟩

/-- The sequence of a row. -/
def seqAt (r : Fin 16384) : Fin 8 := ⟨r.val / 2048, by omega⟩

/-- The position of a row in its sequence. -/
def posAt (r : Fin 16384) : Fin 2048 := ⟨r.val % 2048, by omega⟩

/-- The sequence of a row given by sequence and position. -/
theorem seqAt_rowAt (b : Fin 8) (i : Fin 2048) : seqAt (rowAt b i) = b := Fin.ext (by show (2048 * b.val + i.val) / 2048 = b.val; omega)

/-- The position of a row given by sequence and position. -/
theorem posAt_rowAt (b : Fin 8) (i : Fin 2048) : posAt (rowAt b i) = i := Fin.ext (by show (2048 * b.val + i.val) % 2048 = i.val; omega)

/-- The value at the position before, zero before the first. -/
def prior (i : Fin 2048) (z : Fin 2048 → EReal) : EReal := if h : i.val = 0 then 0 else z ⟨i.val - 1, by omega⟩

/-- The value at the position after, zero after the last. -/
def later (i : Fin 2048) (z : Fin 2048 → EReal) : EReal := if h : i.val = 2047 then 0 else z ⟨i.val + 1, by omega⟩

/-- The position `i` of sequence `b` projected by `w` and put through the three taps `c`. -/
def taps (u : Fin 8 → Fin 2048 → Row 1024) (w : Fin 1024 → Row 5632) (c : Fin 3 → Row 5632) (b : Fin 8) (i : Fin 2048) : Row 5632 :=
  fun n => tap (c 0 n) (c 1 n) (c 2 n) (prior i fun j => dot (u b j) w n) (dot (u b i) w n) (later i fun j => dot (u b j) w n)

/-- The call's result at position `i` of sequence `b`. -/
def fed (u h : Fin 8 → Fin 2048 → Row 1024) (a : Fin 8 → Row 1024) (g : Row 1024) (w : Fin 1024 → Row 5632) (c : Fin 3 → Row 5632) (d : Fin 2816 → Row 1024) (b : Fin 8) (i : Fin 2048) : Row 1024 :=
  addK (h b i) (a b) (dot (act (taps u w c b i)) d) g

end Cert.Sample

end
-- ==== Proof.Ffn.Final.lean ====
/- The sample's feed-forward call: its result array after its run, from the arrays it reads. -/
module

public import proofs.«01_k».proof.Proof.Ffn.Ext
public import proofs.«01_k».proof.Proof.Ffn.Rows

@[expose] public section

set_option maxRecDepth 16384

noncomputable section

namespace Cert.FfnIdeal.Pure

open Cert.FfnIdeal Cert.FfnIdeal.Gen Idealize.ShloMosaic Idealize.ShloMosaic.TcCoe Idealize.SL.Sem
open Idealize.ShloMosaic.Pipeline (Dat)
open Cert.Layer Cert.Sample

/-- An array's rows by sequence and position. -/
abbrev rows {e : FTy} (U : FVec Ideal S16384x1024 e) : Fin 8 → Fin 2048 → Row 1024 := fun b i k => U (ix2 (rowAt b i) k)

/-- The result, over the whole array. -/
def G (U : FVec Ideal S16384x1024 .bf16) (H : FVec Ideal S16384x1024 .f32) (A : FVec Ideal S16x1x6144 .f32) (g : FVec Ideal S1x1024 .f32) (cw : FVec Ideal S3x5632 .f32) (W : FVec Ideal S1024x5632 .bf16) (D : FVec Ideal S2816x1024 .bf16) : FVec Ideal S16384x1024 .f32 :=
  fun j => fed (rows U) (rows H) (fun b k => A (ix3 ⟨1 + b.val, by omega⟩ 0 ⟨5120 + k.val, by omega⟩)) (fun k => g (ix2 0 k)) (fun k n => W (ix2 k n)) (fun r n => cw (ix2 r n)) (fun n k => D (ix2 n k)) (seqAt (j 0)) (posAt (j 0)) (j 1)

variable (m : (ℓ : Loc nD τ sig) → Buf (Elt Ideal) ℓ)

/-- The sequence of tile `t`. -/
abbrev tseq (t : Fin 32) : Fin 8 := ⟨t.val / 4, by omega⟩

/-- The position in its sequence of row `i` of tile `t`. -/
abbrev tpos (t : Fin 32) (i : Fin 512) : Fin 2048 := ⟨512 * (t.val % 4) + i.val, by omega⟩

/-- Which block of its array each window holds at grid point `t`. -/
theorem idx0 : ∀ t : Fin cfg0.N, win0_0.index t = ![t.val, 0] ∧ win0_1.index t = ![32 * t.val - 1, 0] ∧ win0_2.index t = ![min (32 * t.val + 32) 1023, 0] ∧ win0_3.index t = ![t.val, 0] ∧ win0_4.index t = ![1 + t.val / 4, 0, 5] ∧ win0_5.index t = ![0, 0]
    ∧ win0_6.index t = ![0, 0] ∧ win0_7.index t = ![0, 0] ∧ win0_8.index t = ![0, 0] ∧ win0_9.index t = ![t.val, 0] := (by decide +kernel : ∀ t : Fin grid0.N, _)

/-- The tile's coordinate in the grid is its number. -/
theorem coord0 : ∀ t : Fin cfg0.N, (grid0.coords t 0).val = t.val := (by decide +kernel : ∀ t : Fin grid0.N, _)

/-- Grid point `t`'s block of window 0. -/
theorem rd_0 (A : FVec Ideal S16384x1024 .bf16) (t : Fin cfg0.N) (i : Fin 512) (k : Fin 1024) :
    ((cfg0.win 0).blk t).view.read (Elt Ideal) A (ix2 i k) = A (ix2 (rowAt (tseq t) (tpos t i)) k) := by
  blk_ext [idx0 t, rowAt]

/-- The row before the tile. -/
theorem rd_1 (A : FVec Ideal S16384x1024 .bf16) (t : Fin cfg0.N) (h : t.val % 4 ≠ 0) (k : Fin 1024) :
    ((cfg0.win 1).blk t).view.read (Elt Ideal) A (ix2 15 k) = A (ix2 (rowAt (tseq t) ⟨512 * (t.val % 4) - 1, by omega⟩) k) := by
  blk_ext [idx0 t, rowAt]

/-- The row after the tile. -/
theorem rd_2 (A : FVec Ideal S16384x1024 .bf16) (t : Fin cfg0.N) (h : t.val % 4 ≠ 3) (k : Fin 1024) :
    ((cfg0.win 2).blk t).view.read (Elt Ideal) A (ix2 0 k) = A (ix2 (rowAt (tseq t) ⟨512 * (t.val % 4) + 512, by omega⟩) k) := by
  blk_ext [idx0 t, rowAt]

/-- Grid point `t`'s block of window 3. -/
theorem rd_3 (A : FVec Ideal S16384x1024 .f32) (t : Fin cfg0.N) (i : Fin 512) (k : Fin 1024) :
    ((cfg0.win 3).blk t).view.read (Elt Ideal) A (ix2 i k) = A (ix2 (rowAt (tseq t) (tpos t i)) k) := by
  blk_ext [idx0 t, rowAt]

/-- The gate's block. -/
theorem rd_4 (A : FVec Ideal S16x1x6144 .f32) (t : Fin cfg0.N) (k : Fin 1024) :
    ((cfg0.win 4).blk t).view.read (Elt Ideal) A (ix3 0 0 k) = A (ix3 ⟨1 + (tseq t).val, by omega⟩ 0 ⟨5120 + k.val, by omega⟩) := by
  blk_ext [idx0 t]

/-- Window 5 holds its array whole. -/
theorem rd_5 (A : FVec Ideal S1x1024 .f32) (t : Fin cfg0.N) (i : Fin 1) (k : Fin 1024) :
    ((cfg0.win 5).blk t).view.read (Elt Ideal) A (ix2 i k) = A (ix2 i k) := by
  blk_ext [idx0 t]

/-- Window 6 holds its array whole. -/
theorem rd_6 (A : FVec Ideal S3x5632 .f32) (t : Fin cfg0.N) (i : Fin 3) (k : Fin 5632) :
    ((cfg0.win 6).blk t).view.read (Elt Ideal) A (ix2 i k) = A (ix2 i k) := by
  blk_ext [idx0 t]

/-- Window 7 holds its array whole. -/
theorem rd_7 (A : FVec Ideal S1024x5632 .bf16) (t : Fin cfg0.N) (i : Fin 1024) (k : Fin 5632) :
    ((cfg0.win 7).blk t).view.read (Elt Ideal) A (ix2 i k) = A (ix2 i k) := by
  blk_ext [idx0 t]

/-- Window 8 holds its array whole. -/
theorem rd_8 (A : FVec Ideal S2816x1024 .bf16) (t : Fin cfg0.N) (i : Fin 2816) (k : Fin 1024) :
    ((cfg0.win 8).blk t).view.read (Elt Ideal) A (ix2 i k) = A (ix2 i k) := by
  blk_ext [idx0 t]

/-- Where grid point `t`'s block of the result lies. -/
theorem emb_9 (t : Fin cfg0.N) (i : Fin 512) (l : Fin 1024) :
    (win0_9.blk t).view.emb (ix2 i l) = (ix2 (rowAt (tseq t) (tpos t i)) l : S16384x1024.Idx) := by
  blk_ext [idx0 t, rowAt]

/-- The taps of a tile whose rows, and whose neighbouring rows, are rows of the whole array. -/
theorem cvT_taps (t : Fin 32) (ci : grid0.Coords) (hci : (ci 0).val = t.val) (x0 : FVec Ideal S512x1024 .bf16) (x1 x2 : FVec Ideal S16x1024 .bf16) (x7 : FVec Ideal S1024x5632 .bf16) (x6 : FVec Ideal S3x5632 .f32)
    (u : Fin 8 → Fin 2048 → Row 1024) (w : Fin 1024 → Row 5632) (c : Fin 3 → Row 5632)
    (h0 : ∀ j k, x0 (ix2 j k) = u (tseq t) (tpos t j) k) (h1 : ∀ (h : t.val % 4 ≠ 0) k, x1 (ix2 15 k) = u (tseq t) ⟨512 * (t.val % 4) - 1, by omega⟩ k)
    (h2 : ∀ (h : t.val % 4 ≠ 3) k, x2 (ix2 0 k) = u (tseq t) ⟨512 * (t.val % 4) + 512, by omega⟩ k)
    (h7 : ∀ k n, x7 (ix2 k n) = w k n) (h6 : ∀ r n, x6 (ix2 r n) = c r n) (i : Fin 512) :
    cvT (ext ci x0 x1 x2) x7 x6 i = taps u w c (tseq t) (tpos t i) := by
  funext n
  have hin : ∀ (q : Fin 544) (j : Fin 512) (p : Fin 2048), q.val = 16 + j.val → p.val = 512 * (t.val % 4) + j.val → (∑ k, ext ci x0 x1 x2 (ix2 q k) * x7 (ix2 k n)) = dot (u (tseq t) p) w n := fun q j p h hp =>
    Finset.sum_congr rfl fun k _ => Ideal.mul_congr ((ext_in ci x0 x1 x2 q j h k).trans ((h0 j k).trans (congrArg (u (tseq t) · k) (Fin.ext hp.symm)))) (h7 k n)
  have hz : ∀ (q : Fin 544), (∀ k, ext ci x0 x1 x2 (ix2 q k) = 0) → (∑ k, ext ci x0 x1 x2 (ix2 q k) * x7 (ix2 k n)) = 0 := fun q h =>
    (Finset.sum_congr rfl fun k _ => (Ideal.mul_congr (h k) rfl).trans (zero_mul _)).trans Finset.sum_const_zero
  unfold cvT taps prior later
  refine tap_congr (h6 0 n) (h6 1 n) (h6 2 n) ?_ (hin _ i _ rfl rfl) ?_
  · by_cases hi : i.val = 0
    · have hr : (⟨15 + i.val, by omega⟩ : Fin 544).val = 15 := by show 15 + i.val = 15; omega
      by_cases ht : t.val % 4 = 0
      · rw [dif_pos (show 512 * (t.val % 4) + i.val = 0 by omega)]
        exact hz _ fun k => (ext_lo ci x0 x1 x2 _ hr k).trans (if_pos (by omega))
      · rw [dif_neg (show ¬ 512 * (t.val % 4) + i.val = 0 by omega)]
        refine Finset.sum_congr rfl fun k _ => Ideal.mul_congr ((ext_lo ci x0 x1 x2 _ hr k).trans ((if_neg (by omega)).trans ((h1 ht k).trans ?_))) (h7 k n)
        exact congrArg (u (tseq t) · k) (Fin.ext (by show 512 * (t.val % 4) - 1 = 512 * (t.val % 4) + i.val - 1; omega))
    · rw [dif_neg (show ¬ 512 * (t.val % 4) + i.val = 0 by omega)]
      exact hin _ ⟨i.val - 1, by omega⟩ _ (by show 15 + i.val = 16 + (i.val - 1); omega) (by show 512 * (t.val % 4) + i.val - 1 = 512 * (t.val % 4) + (i.val - 1); omega)
  · by_cases hi : i.val = 511
    · have hr : (⟨17 + i.val, by omega⟩ : Fin 544).val = 528 := by show 17 + i.val = 528; omega
      by_cases ht : t.val % 4 = 3
      · rw [dif_pos (show 512 * (t.val % 4) + i.val = 2047 by omega)]
        exact hz _ fun k => (ext_hi ci x0 x1 x2 _ hr k).trans (if_pos (by omega))
      · rw [dif_neg (show ¬ 512 * (t.val % 4) + i.val = 2047 by omega)]
        refine Finset.sum_congr rfl fun k _ => Ideal.mul_congr ((ext_hi ci x0 x1 x2 _ hr k).trans ((if_neg (by omega)).trans ((h2 ht k).trans ?_))) (h7 k n)
        exact congrArg (u (tseq t) · k) (Fin.ext (by show 512 * (t.val % 4) + 512 = 512 * (t.val % 4) + i.val + 1; omega))
    · rw [dif_neg (show ¬ 512 * (t.val % 4) + i.val = 2047 by omega)]
      exact hin _ ⟨i.val + 1, by omega⟩ _ (by show 17 + i.val = 16 + (i.val + 1); omega) (by show 512 * (t.val % 4) + i.val + 1 = 512 * (t.val % 4) + (i.val + 1); omega)

/-- The tile's taps from the whole array. -/
theorem cvT_blk (c : Dev nD) (t : Fin cfg0.N) (i : Fin 512) :
    cvT (ext (grid0.coords t) (iblk m c 0 t) (iblk m c 1 t) (iblk m c 2 t)) (iblk m c 7 t) (iblk m c 6 t) i
      = taps (rows (e := .bf16) (V m c main_arg0)) (fun k n => (V m c main_v4 : FVec Ideal S1024x5632 .bf16) (ix2 k n)) (fun r n => (V m c main_v2 : FVec Ideal S3x5632 .f32) (ix2 r n)) (tseq t) (tpos t i) :=
  cvT_taps t (grid0.coords t) (coord0 t) (iblk m c 0 t) (iblk m c 1 t) (iblk m c 2 t) (iblk m c 7 t) (iblk m c 6 t)
    (rows (e := .bf16) (V m c main_arg0)) (fun k n => (V m c main_v4 : FVec Ideal S1024x5632 .bf16) (ix2 k n)) (fun r n => (V m c main_v2 : FVec Ideal S3x5632 .f32) (ix2 r n))
    (fun j k => rd_0 (V m c main_arg0) t j k) (fun h k => rd_1 (V m c main_arg0) t h k) (fun h k => rd_2 (V m c main_arg0) t h k)
    (fun k n => rd_7 (V m c main_v4) t k n) (fun r n => rd_6 (V m c main_v2) t r n) i

/-- What grid point `t` leaves in the block of the result. -/
theorem point (c : Dev nD) (t : Fin cfg0.N) (y : S512x1024.Idx) :
    outsAt0 m c t y = G (V m c main_arg0) (V m c main_arg1) (V m c main_arg2) (V m c main_v1) (V m c main_v2) (V m c main_v4) (V m c main_v6) ((win0_9.blk t).view.emb y) := by
  have hc := cvT_blk m c t
  unfold outsAt0
  frame_out
  idx_vars y
  rw [show (win0_9.blk t).view.emb (ix2 y0 y1) = _ from emb_9 t y0 y1]
  rw [View.readCov_eq_canon_ld _ _ _ (fun z => View.cover_of_tiledBy _ ![16, 1024] (by sl_kernel_rfl) z)]
  rw [ld_all]
  refine (part18 (ext (grid0.coords t) (iblk m c 0 t) (iblk m c 1 t) (iblk m c 2 t)) (iblk m c 7 t) (iblk m c 6 t) (iblk m c 8 t) (iblk m c 3 t) (iblk m c 4 t) (iblk m c 5 t) y0 y1).trans ?_
  rw [hc y0]
  unfold G
  show addK _ _ _ _ y1 = fed _ _ _ _ _ _ _ (seqAt (rowAt (tseq t) (tpos t y0))) (posAt (rowAt (tseq t) (tpos t y0))) y1
  rw [seqAt_rowAt, posAt_rowAt]
  exact addK_congr (fun k => rd_3 (V m c main_arg1) t y0 k) (fun k => rd_4 (V m c main_arg2) t k)
    (fun k => congrFun (dot_congr (fun _ => rfl) fun n l => rd_8 (V m c main_v6) t n l) k) (fun k => rd_5 (V m c main_v1) t 0 k) y1

/-- The result: the array after the run. -/
theorem final (c : Dev nD) : (dats m 0 c).arrAt 9 cfg0.N = G (V m c main_arg0) (V m c main_arg1) (V m c main_arg2) (V m c main_v1) (V m c main_v2) (V m c main_v4) (V m c main_v6) := by
  refine (dats m 0 c).arrAt_eq_of_covers 9 _ (by decide +kernel) fun t _ y => ?_
  blk_simp
  rw [after0_9]
  exact point m c t y

end Cert.FfnIdeal.Pure

end
-- ==== Proof.Ffn.Ref.lean ====
/- The reference of the sample's feed-forward call: what each of its results is. -/
module

public import proofs.«01_k».proof.Proof.Ffn.Rows
public import proofs.«01_k».proof.Proof.Gen.FfnRefIdeal.Read

@[expose] public section

set_option maxRecDepth 16384

noncomputable section

namespace Cert.FfnRefIdeal.Pure

open Cert.FfnRefIdeal Cert.FfnRefIdeal.Gen Cert.FfnRefIdeal.Read Idealize.ShloMosaic Idealize.ShloMosaic.TcCoe Idealize.SL.Sem
open Cert.Layer Cert.Sample

variable (x0 : FVec Ideal S16384x1024 .bf16) (x1 : FVec Ideal S16384x1024 .f32) (x2 : FVec Ideal S16x1x6144 .f32) (x3 : FVec Ideal S1x1024 .f32) (x4 : FVec Ideal S1x1024x5632 .f32) (x5 : FVec Ideal S1x3x5632 .f32) (x6 : FVec Ideal S1x2816x1024 .f32)

/-- The rows the reference projects. -/
abbrev us : Fin 8 → Fin 2048 → Row 1024 := fun b i k => x0 (ix2 (rowAt b i) k)

/-- The rows the reference adds to. -/
abbrev hs : Fin 8 → Fin 2048 → Row 1024 := fun b i k => x1 (ix2 (rowAt b i) k)

/-- The gates. -/
abbrev gates : Fin 8 → Row 1024 := fun b k => x2 (ix3 ⟨1 + b.val, by omega⟩ 0 ⟨5120 + k.val, by omega⟩)

/-- The upward weights. -/
abbrev ups : Fin 1024 → Row 5632 := fun k n => x4 (ix3 0 k n)

/-- The taps' weights. -/
abbrev cs : Fin 3 → Row 5632 := fun r n => x5 (ix3 0 r n)

/-- The downward weights. -/
abbrev downs : Fin 2816 → Row 1024 := fun n k => x6 (ix3 0 n k)

/-- The widened rows by sequence and position. -/
theorem r1 (b : Fin 8) (i : Fin 2048) (k : Fin 1024) : val_main_v1 (F := Ideal) x0 (ix3 b i k) = us x0 b i k := by
  pointwise [val_main_v0, val_main_v1]
  exact congrArg x0 (congrArg (ix2 · k) (Fin.ext (by show b.val * 2048 + i.val = 2048 * b.val + i.val; omega)))

/-- The other rows by sequence and position. -/
theorem r2 (b : Fin 8) (i : Fin 2048) (k : Fin 1024) : val_main_v2 (F := Ideal) x1 (ix3 b i k) = hs x1 b i k := by
  pointwise [val_main_v2]
  exact congrArg x1 (congrArg (ix2 · k) (Fin.ext (by show b.val * 2048 + i.val = 2048 * b.val + i.val; omega)))

/-- The projection. -/
theorem r11 (b : Fin 8) (i : Fin 2048) (l : Fin 5632) : val_main_v11 (F := Ideal) x0 x4 (ix3 b i l) = dot (us x0 b i) (ups x4) l := by
  rw [val_main_v11_apply]
  show _ = ∑ k, us x0 b i k * ups x4 k l
  refine Finset.sum_congr rfl fun k _ => ?_
  rw [show lidx_main_v11 (ix3 b i l) k = ix3 b i k from by funext a; fin_cases a <;> rfl, show ridx_main_v11 (ix3 b i l) k = ix2 k l from by funext a; fin_cases a <;> rfl]
  refine Ideal.mul_congr (r1 x0 b i k) ?_
  pointwise [val_main_v10]

/-- The padding is zero. -/
theorem zero_pad : val_main_call0_v0 (F := Ideal) (Shape.Idx.first h_S_) = 0 := by
  pointwise [val_main_call0_v0, val_main_c]
  show (((0#32 : BitVec 32).toInt : ℝ) : EReal) = 0
  simp

/-- The three taps. -/
theorem r33 (b : Fin 8) (i : Fin 2048) (l : Fin 5632) : val_main_v33 (F := Ideal) x0 x4 x5 (ix3 b i l) = taps (us x0) (ups x4) (cs x5) b i l := by
  pointwise [val_main_v12, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v13]
  have hi := i.isLt
  refine Ideal.add_congr (Ideal.add_congr (Ideal.mul_congr rfl ?_) (Ideal.mul_congr rfl (r11 x0 x4 b i l))) (Ideal.mul_congr rfl ?_)
  · show _ = prior i _
    unfold prior
    by_cases h : i.val = 0
    · rw [dif_pos h, dif_neg (by omega), zero_pad]
    · rw [dif_neg h, dif_pos (by omega), r11 x0 x4]
  · show _ = later i _
    unfold later
    by_cases h : i.val = 2047
    · rw [dif_pos h, dif_neg (by omega), zero_pad]
    · rw [dif_neg h, dif_pos (by omega), r11 x0 x4]
      exact congrArg (fun j => dot (us x0 b j) (ups x4) l) (Fin.ext (by show 2 + i.val - 1 = i.val + 1; omega))

/-- The activated rows. -/
theorem r37 (b : Fin 8) (i : Fin 2048) (n : Fin 2816) : val_main_v37 (F := Ideal) x0 x4 x5 (ix3 b i n) = act (taps (us x0) (ups x4) (cs x5) b i) n := by
  pointwise [val_main_v34, val_main_v35, val_main_v36, val_main_v37, val_main_call1_v0, val_main_call1_v1, val_main_call1_cst, val_main_call1_v2, val_main_call1_v3, val_main_call1_cst_0, val_main_call1_v4, val_main_call1_v5]
  rw [r33 x0 x4 x5, r33 x0 x4 x5]
  rfl

/-- The feed-forward output. -/
theorem r39 (b : Fin 8) (i : Fin 2048) (l : Fin 1024) : val_main_v39 (F := Ideal) x0 x4 x5 x6 (ix3 b i l) = dot (act (taps (us x0) (ups x4) (cs x5) b i)) (downs x6) l := by
  rw [val_main_v39_apply]
  show _ = ∑ k, act (taps (us x0) (ups x4) (cs x5) b i) k * downs x6 k l
  refine Finset.sum_congr rfl fun k _ => ?_
  rw [show lidx_main_v39 (ix3 b i l) k = ix3 b i k from by funext a; fin_cases a <;> rfl, show ridx_main_v39 (ix3 b i l) k = ix2 k l from by funext a; fin_cases a <;> rfl]
  refine Ideal.mul_congr (r37 x0 x4 x5 b i k) ?_
  pointwise [val_main_v38]

/-- The sum of squares of these rows. -/
theorem r42 (b : Fin 8) (i : Fin 2048) : val_main_v42 (F := Ideal) x0 x4 x5 x6 (ix2 b i) = ∑ k, dot (act (taps (us x0) (ups x4) (cs x5) b i)) (downs x6) k * dot (act (taps (us x0) (ups x4) (cs x5) b i)) (downs x6) k := by
  rw [val_main_v42_apply]
  refine (Ideal.add_congr (Ideal.ofBits_zero .f32) (Finset.sum_congr rfl fun k _ => ?_)).trans (zero_add (∑ k, dot (act (taps (us x0) (ups x4) (cs x5) b i)) (downs x6) k * dot (act (taps (us x0) (ups x4) (cs x5) b i)) (downs x6) k))
  rw [show idx_main_v42 (ix2 b i) k = ix3 b i k from by funext a; fin_cases a <;> rfl]
  exact Ideal.mul_congr (r39 x0 x4 x5 x6 b i k) (r39 x0 x4 x5 x6 b i k)

/-- The result by sequence and position. -/
theorem r56 (b : Fin 8) (i : Fin 2048) (l : Fin 1024) : val_main_v56 (F := Ideal) x0 x1 x2 x3 x4 x5 x6 (ix3 b i l)
    = fed (us x0) (hs x1) (gates x2) (fun k => x3 (ix2 0 k)) (ups x4) (cs x5) (downs x6) b i l := by
  pointwise [val_main_v3, val_main_v9, val_main_v40, val_main_v41, val_main_v43, val_main_v44, val_main_v45, val_main_v46, val_main_v47, val_main_v48, val_main_v49, val_main_v50, val_main_v51, val_main_v52, val_main_v53, val_main_v54, val_main_v55, val_main_v56, val_main_cst_0, val_main_cst_1]
  rw [r2 x1, r39 x0 x4 x5 x6, r42 x0 x4 x5 x6]
  rfl

/-- The result by row. -/
theorem result (r : Fin 16384) (l : Fin 1024) : val_main_v57 (F := Ideal) x0 x1 x2 x3 x4 x5 x6 (ix2 r l)
    = fed (us x0) (hs x1) (gates x2) (fun k => x3 (ix2 0 k)) (ups x4) (cs x5) (downs x6) (seqAt r) (posAt r) l := by
  refine Eq.trans ?_ (r56 x0 x1 x2 x3 x4 x5 x6 (seqAt r) (posAt r) l)
  pointwise [val_main_v57]
  rfl

end Cert.FfnRefIdeal.Pure

end
-- ==== Proof.Ffn.Agree.lean ====
/- The sample's feed-forward call and its reference compute the same array. -/
module

public import proofs.«01_k».proof.Proof.Ffn.Final
public import proofs.«01_k».proof.Proof.Ffn.Ref

@[expose] public section

set_option maxRecDepth 16384

noncomputable section

namespace Cert.FfnIdeal.Pure

open Cert.FfnIdeal Cert.FfnIdeal.Gen Idealize.ShloMosaic Idealize.ShloMosaic.TcCoe Idealize.SL.Sem
open Cert.Layer Cert.Sample

variable (m : (ℓ : Loc nD τ sig) → Buf (Elt Ideal) ℓ)

/-- The gain the call reads. -/
theorem gain (c : Dev nD) (k : Fin 1024) : (V m c main_v1 : FVec Ideal S1x1024 .f32) (ix2 0 k) = (m ((c.tc : Thread nD τ).loc main_arg3) : FVec Ideal S1x1024 .f32) (ix2 0 k) := by
  entry_read
  pointwise

/-- The taps' weights the call reads. -/
theorem convs (c : Dev nD) (r : Fin 3) (n : Fin 5632) : (V m c main_v2 : FVec Ideal S3x5632 .f32) (ix2 r n) = (m ((c.tc : Thread nD τ).loc main_arg5) : FVec Ideal S1x3x5632 .f32) (ix3 0 r n) := by
  entry_read
  pointwise

/-- The upward weights the call reads. -/
theorem ups (c : Dev nD) (k : Fin 1024) (n : Fin 5632) : (V m c main_v4 : FVec Ideal S1024x5632 .bf16) (ix2 k n) = (m ((c.tc : Thread nD τ).loc main_arg4) : FVec Ideal S1x1024x5632 .f32) (ix3 0 k n) := by
  entry_read
  pointwise

/-- The downward weights the call reads. -/
theorem downs (c : Dev nD) (n : Fin 2816) (k : Fin 1024) : (V m c main_v6 : FVec Ideal S2816x1024 .bf16) (ix2 n k) = (m ((c.tc : Thread nD τ).loc main_arg6) : FVec Ideal S1x2816x1024 .f32) (ix3 0 n k) := by
  entry_read
  pointwise

/-- Equal operands give equal results of the call. -/
theorem fed_congr {u u' h h' : Fin 8 → Fin 2048 → Row 1024} {a a' : Fin 8 → Row 1024} {g g' : Row 1024} {w w' : Fin 1024 → Row 5632} {c c' : Fin 3 → Row 5632} {d d' : Fin 2816 → Row 1024}
    (hu : u = u') (hh : h = h') (ha : a = a') (hg : ∀ k, g k = g' k) (hw : ∀ k n, w k n = w' k n) (hc : ∀ r n, c r n = c' r n) (hd : ∀ n k, d n k = d' n k) (b : Fin 8) (i : Fin 2048) (l : Fin 1024) :
    fed u h a g w c d b i l = fed u' h' a' g' w' c' d' b i l := by
  obtain rfl := hu; obtain rfl := hh; obtain rfl := ha; obtain rfl := funext hg
  obtain rfl := funext fun k => funext (hw k); obtain rfl := funext fun k => funext (hc k); obtain rfl := funext fun k => funext (hd k); rfl

/-- The program's array is the reference's. -/
theorem agree (c : Dev nD) :
    G (V m c main_arg0) (V m c main_arg1) (V m c main_arg2) (V m c main_v1) (V m c main_v2) (V m c main_v4) (V m c main_v6)
      = FfnRefIdeal.Read.val_main_v57 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  funext j
  idx_vars j
  refine Eq.trans ?_ (FfnRefIdeal.Pure.result _ _ _ _ _ _ _ j0 j1).symm
  rw [V_main_arg0, V_main_arg1, V_main_arg2]
  exact fed_congr rfl rfl rfl (gain m c) (ups m c) (convs m c) (downs m c) (seqAt j0) (posAt j0) j1

end Cert.FfnIdeal.Pure

end
-- ==== Proof.Mix.Rows.lean ====
/- What the sample's merging call makes of its rows, over the ideal numbers. -/
module

public import proofs.«01_k».proof.Proof.Ffn.Rows

@[expose] public section

set_option maxRecDepth 16384

noncomputable section

namespace Cert.Sample

open Idealize.ShloMosaic
open Cert.Layer

/-- What the merging call reads: rows by sequence and position, modulation by sequence, gains, taps and weights. -/
@[ext] structure Mixing where
  att : Fin 8 → Fin 2048 → Row 1024
  bb : Fin 8 → Fin 2048 → Row 1024
  y : Fin 8 → Fin 2048 → Row 1024
  sa : Fin 8 → Fin 2048 → Row 1024
  sg : Fin 8 → Fin 2048 → Row 1024
  x : Fin 8 → Fin 2048 → Row 1024
  ga : Fin 8 → Row 1024
  sh : Fin 8 → Row 1024
  sc : Fin 8 → Row 1024
  gp : Row 1024
  gq : Row 1024
  cw : Fin 3 → Row 1024
  wa : Fin 1024 → Row 1024
  wc : Fin 1024 → Row 1024
  wo : Fin 1024 → Row 1024

variable (a : Mixing)

/-- The gated convolution. -/
def gated (b : Fin 8) (i : Fin 2048) : Row 1024 :=
  fun l => a.bb b i l * tap (a.cw 0 l) (a.cw 1 l) (a.cw 2 l) (prior i fun j => a.y b j l) (a.y b i l) (later i fun j => a.y b j l)

/-- The merged row: the attention's part and the convolution's part, each gated. -/
def merged (b : Fin 8) (i : Fin 2048) : Row 1024 :=
  fun l => a.sa b i l * dot (a.att b i) a.wa l + a.sg b i l * dot (gated a b i) a.wc l

/-- The first result: the residual row plus the gated norm of the projected merged row. -/
def mixH (b : Fin 8) (i : Fin 2048) : Row 1024 := addK (a.x b i) (a.ga b) (dot (merged a b i) a.wo) a.gp

/-- The second result: the first one normed and modulated. -/
def mixU (b : Fin 8) (i : Fin 2048) : Row 1024 := uK (mixH a b i) a.gq (a.sc b) (a.sh b)

end Cert.Sample

end
-- ==== Proof.Mix.Tile.lean ====
/- The tile of the sample's merging call: one grid point's two results from its blocks. -/
module

public import proofs.«01_k».proof.Proof.Mix.Rows
public import proofs.«01_k».proof.Proof.Gen.MixIdeal.Frame
public import Idealize.ShloMosaic.Lib.Pipeline.ValueKit

@[expose] public section

set_option maxRecDepth 16384

noncomputable section

namespace Cert.MixIdeal.Pure

open Cert.MixIdeal Cert.MixIdeal.Gen Idealize.ShloMosaic Idealize.ShloMosaic.TcCoe Idealize.SL.Sem
open Idealize.ShloMosaic.Pipeline (Dat)
open Cert.Layer Cert.Sample

/-- The number of tiles of a sequence, as the body computes it. -/
abbrev per : BitVec 32 := Scalar.select (Scalar.cmpi .eq 4#32 0#32) 1#32 4#32

/-- The place of tile `a` in its sequence, as the body computes it. -/
abbrev place (a : Fin 32) : BitVec 32 :=
  Scalar.select (Scalar.andi (Scalar.xori (Scalar.cmpi .slt (Scalar.remsi (BitVec.ofNat 32 a.val) per) 0#32) (Scalar.cmpi .slt per 0#32)) (Scalar.cmpi .ne (Scalar.remsi (BitVec.ofNat 32 a.val) per) 0#32))
    (Scalar.addi (Scalar.remsi (BitVec.ofNat 32 a.val) per) per) (Scalar.remsi (BitVec.ofNat 32 a.val) per)

/-- The row before the first tile of a sequence counts zero, the row before any other counts one. -/
theorem w_first : ∀ a : Fin 32, (Scalar.extui (Scalar.cmpi .ne (place a) 0#32) : BitVec 32) = if a.val % 4 = 0 then 0#32 else 1#32 := by decide +kernel

/-- The row after the last tile of a sequence counts zero, the row after any other counts one. -/
theorem w_last : ∀ a : Fin 32, (Scalar.extui (Scalar.cmpi .ne (place a) 3#32) : BitVec 32) = if a.val % 4 = 3 then 0#32 else 1#32 := by decide +kernel

/-- A value times the weight zero is zero, times the weight one is the value. -/
theorem weigh (p : Prop) [Decidable p] (v : EReal) : v * (((if p then 0#32 else 1#32 : BitVec 32).toInt : ℝ) : EReal) = if p then 0 else v := by
  by_cases h : p
  · rw [if_pos h, if_pos h]
    show v * (((0#32 : BitVec 32).toInt : ℝ) : EReal) = 0
    simp
  · rw [if_neg h, if_neg h]
    show v * (((1#32 : BitVec 32).toInt : ℝ) : EReal) = v
    simp

/-- The row before the tile, weighed. -/
theorem pay3_at (i : grid0.Coords) (v : FVec Ideal S1x1024 .bf16) (l : Fin 1024) : k0_pay3 (F := Ideal) i v (ix2 0 l) = if (i 0).val % 4 = 0 then 0 else v (ix2 0 l) := by
  have e : k0_pay3 (F := Ideal) i v (ix2 0 l) = v (ix2 0 l) * (((Scalar.extui (Scalar.cmpi .ne (place (i 0)) 0#32) : BitVec 32).toInt : ℝ) : EReal) := rfl
  rw [e, w_first (i 0)]
  exact weigh _ _

/-- The row after the tile, weighed. -/
theorem pay4_at (i : grid0.Coords) (v : FVec Ideal S1x1024 .bf16) (l : Fin 1024) : k0_pay4 (F := Ideal) i v (ix2 0 l) = if (i 0).val % 4 = 3 then 0 else v (ix2 0 l) := by
  have e : k0_pay4 (F := Ideal) i v (ix2 0 l) = v (ix2 0 l) * (((Scalar.extui (Scalar.cmpi .ne (place (i 0)) 3#32) : BitVec 32).toInt : ℝ) : EReal) := rfl
  rw [e, w_last (i 0)]
  exact weigh _ _

/-- The comparison of a row's number with a literal. -/
theorem cmp_row (r : Fin 512) (n : Nat) (hn : n < 512) : IntOp.cmpi CmpIPredicate.eq (BitVec.ofNat 32 r.val) (BitVec.ofNat 32 n) = if r.val = n then 1#1 else 0#1 := by
  have : (BitVec.ofNat 32 r.val = BitVec.ofNat 32 n) ↔ r.val = n := by
    rw [← BitVec.toNat_inj]; simp only [BitVec.toNat_ofNat]; omega
  unfold IntOp.cmpi
  by_cases h : r.val = n
  · rw [if_pos h]; simp [this.2 h]
  · have h' : ¬ BitVec.ofNat 32 r.val = BitVec.ofNat 32 n := fun e => h (this.1 e)
    rw [if_neg h, beq_false_of_ne h']; rfl

/-- The row before row `r` of a tile: the tile's, or the weighed last row of the tile before. -/
def prev (i : grid0.Coords) (x2 : FVec Ideal S512x1024 .bf16) (x3 : FVec Ideal S16x1024 .bf16) (r : Fin 512) : Row 1024 :=
  fun l => if h : r.val = 0 then (if (i 0).val % 4 = 0 then 0 else x3 (ix2 15 l)) else x2 (ix2 ⟨r.val - 1, by omega⟩ l)

/-- The row after row `r` of a tile: the tile's, or the weighed first row of the tile after. -/
def next (i : grid0.Coords) (x2 : FVec Ideal S512x1024 .bf16) (x4 : FVec Ideal S16x1024 .bf16) (r : Fin 512) : Row 1024 :=
  fun l => if h : r.val = 511 then (if (i 0).val % 4 = 3 then 0 else x4 (ix2 0 l)) else x2 (ix2 ⟨r.val + 1, by omega⟩ l)

/-- The gated convolution of a tile's row. -/
def cT (i : grid0.Coords) (x1 x2 : FVec Ideal S512x1024 .bf16) (x3 x4 : FVec Ideal S16x1024 .bf16) (x13 : FVec Ideal S3x1024 .f32) (r : Fin 512) : Row 1024 :=
  fun l => x1 (ix2 r l) * tap (x13 (ix2 0 l)) (x13 (ix2 1 l)) (x13 (ix2 2 l)) (prev i x2 x3 r l) (x2 (ix2 r l)) (next i x2 x4 r l)

/-- The projected gated convolution the body computes. -/
theorem pay12_at (i : grid0.Coords) (x0 : FVec Ideal S512x1024 .bf16) (x1 : FVec Ideal S512x1024 .bf16) (x2 : FVec Ideal S512x1024 .bf16) (x3 : FVec Ideal S16x1024 .bf16) (x4 : FVec Ideal S16x1024 .bf16) (x5 : FVec Ideal S512x1024 .bf16) (x6 : FVec Ideal S512x1024 .bf16) (x7 : FVec Ideal S512x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 512) (l : Fin 1024) :
    k0_pay12 (F := Ideal) i x0 x1 x2 x3 x4 x5 x6 x7 x8 x9 x10 x11 x12 x13 x14 x15 x16 (ix2 r l) = dot (cT i x1 x2 x3 x4 x13 r) (fun k n => x15 (ix2 k n)) l := by
  pointwise [k0_pay12, k0_pay7, k0_pay5, k0_pay2]
  show _ = ∑ k, cT i x1 x2 x3 x4 x13 r k * x15 (ix2 k l)
  refine Finset.sum_congr rfl fun k _ => Ideal.mul_congr ?_ rfl
  rw [cmp_row r 0 (by omega), cmp_row r 511 (by omega)]
  unfold cT tap prev next
  refine Ideal.mul_congr rfl (Ideal.add_congr (Ideal.add_congr (Ideal.mul_congr rfl ?_) rfl) (Ideal.mul_congr rfl ?_))
  · by_cases h : r.val = 0
    · rw [if_pos h, dif_pos h]
      exact (pay3_at i _ k).trans (if_congr Iff.rfl rfl (by pointwise))
    · rw [if_neg h, dif_neg h]
      exact congrArg (fun q => x2 (ix2 q k)) (Fin.ext (by show (r.val + 512 - 1) % 512 = r.val - 1; omega))
  · by_cases h : r.val = 511
    · rw [if_pos h, dif_pos h]
      exact (pay4_at i _ k).trans (if_congr Iff.rfl rfl (by pointwise))
    · rw [if_neg h, dif_neg h]
      exact congrArg (fun q => x2 (ix2 q k)) (Fin.ext (by show (r.val + 512 - 511) % 512 = r.val + 1; omega))

/-- The merged row of a tile. -/
def mT (i : grid0.Coords) (x0 x1 x2 : FVec Ideal S512x1024 .bf16) (x3 x4 : FVec Ideal S16x1024 .bf16) (x5 x6 : FVec Ideal S512x1024 .bf16) (x13 : FVec Ideal S3x1024 .f32) (x14 x15 : FVec Ideal S1024x1024 .bf16) (r : Fin 512) : Row 1024 :=
  fun l => x5 (ix2 r l) * dot (fun k => x0 (ix2 r k)) (fun k n => x14 (ix2 k n)) l + x6 (ix2 r l) * dot (cT i x1 x2 x3 x4 x13 r) (fun k n => x15 (ix2 k n)) l

/-- The first result's row of a tile. -/
def h1T (i : grid0.Coords) (x0 x1 x2 : FVec Ideal S512x1024 .bf16) (x3 x4 : FVec Ideal S16x1024 .bf16) (x5 x6 : FVec Ideal S512x1024 .bf16) (x7 : FVec Ideal S512x1024 .f32) (x8 : FVec Ideal S1x1x1024 .f32) (x11 : FVec Ideal S1x1024 .f32) (x13 : FVec Ideal S3x1024 .f32) (x14 x15 x16 : FVec Ideal S1024x1024 .bf16) (r : Fin 512) : Row 1024 :=
  addK (fun k => x7 (ix2 r k)) (fun k => x8 (ix3 0 0 k)) (dot (mT i x0 x1 x2 x3 x4 x5 x6 x13 x14 x15 r) fun k n => x16 (ix2 k n)) (fun k => x11 (ix2 0 k))

/-- The payload of the first result. -/
theorem pay8_at (i : grid0.Coords) (x0 : FVec Ideal S512x1024 .bf16) (x1 : FVec Ideal S512x1024 .bf16) (x2 : FVec Ideal S512x1024 .bf16) (x3 : FVec Ideal S16x1024 .bf16) (x4 : FVec Ideal S16x1024 .bf16) (x5 : FVec Ideal S512x1024 .bf16) (x6 : FVec Ideal S512x1024 .bf16) (x7 : FVec Ideal S512x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 512) (l : Fin 1024) :
    k0_pay8 (F := Ideal) (k0_pay11 i x0 x1 x2 x3 x4 x5 x6 x7 x8 x9 x10 x11 x12 x13 x14 x15 x16) (k0_pay12 i x0 x1 x2 x3 x4 x5 x6 x7 x8 x9 x10 x11 x12 x13 x14 x15 x16) (View.ld x5 r0_0) (View.ld x6 r0_0) (View.ld x16 r0_6) (View.ld x7 r0_0) (View.ld x8 r0_7) (View.ld x11 r0_8) (ix2 r l)
      = h1T i x0 x1 x2 x3 x4 x5 x6 x7 x8 x11 x13 x14 x15 x16 r l := by
  pointwise [k0_pay8, k0_pay11, k0_pay6]
  simp only [pay12_at]
  rfl

/-- What grid point `i` leaves in the block of the first result. -/
theorem o17 (i : grid0.Coords) (x0 : FVec Ideal S512x1024 .bf16) (x1 : FVec Ideal S512x1024 .bf16) (x2 : FVec Ideal S512x1024 .bf16) (x3 : FVec Ideal S16x1024 .bf16) (x4 : FVec Ideal S16x1024 .bf16) (x5 : FVec Ideal S512x1024 .bf16) (x6 : FVec Ideal S512x1024 .bf16) (x7 : FVec Ideal S512x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 512) (l : Fin 1024) :
    out0_17 (F := Ideal) i x0 x1 x2 x3 x4 x5 x6 x7 x8 x9 x10 x11 x12 x13 x14 x15 x16 (ix2 r l) = h1T i x0 x1 x2 x3 x4 x5 x6 x7 x8 x11 x13 x14 x15 x16 r l := by
  obtain ⟨y, hy⟩ : ∃ y, (ix2 r l : S512x1024.Idx) = y := ⟨_, rfl⟩
  rw [hy]
  unfold out0_17
  canon_tiles y h
  subst hy
  idx_vars y
  obtain rfl : y0 = r := Fin.ext h0.symm
  obtain rfl : y1 = l := Fin.ext h1.symm
  exact pay8_at i x0 x1 x2 x3 x4 x5 x6 x7 x8 x9 x10 x11 x12 x13 x14 x15 x16 y0 y1

/-- What grid point `i` leaves in the block of the second result. -/
theorem o18 (i : grid0.Coords) (x0 : FVec Ideal S512x1024 .bf16) (x1 : FVec Ideal S512x1024 .bf16) (x2 : FVec Ideal S512x1024 .bf16) (x3 : FVec Ideal S16x1024 .bf16) (x4 : FVec Ideal S16x1024 .bf16) (x5 : FVec Ideal S512x1024 .bf16) (x6 : FVec Ideal S512x1024 .bf16) (x7 : FVec Ideal S512x1024 .f32) (x8 : FVec Ideal S1x1x1024 .f32) (x9 : FVec Ideal S1x1x1024 .f32) (x10 : FVec Ideal S1x1x1024 .f32) (x11 : FVec Ideal S1x1024 .f32) (x12 : FVec Ideal S1x1024 .f32) (x13 : FVec Ideal S3x1024 .f32) (x14 : FVec Ideal S1024x1024 .bf16) (x15 : FVec Ideal S1024x1024 .bf16) (x16 : FVec Ideal S1024x1024 .bf16) (r : Fin 512) (l : Fin 1024) :
    out0_18 (F := Ideal) i x0 x1 x2 x3 x4 x5 x6 x7 x8 x9 x10 x11 x12 x13 x14 x15 x16 (ix2 r l) = uK (h1T i x0 x1 x2 x3 x4 x5 x6 x7 x8 x11 x13 x14 x15 x16 r) (fun k => x12 (ix2 0 k)) (fun k => x10 (ix3 0 0 k)) (fun k => x9 (ix3 0 0 k)) l := by
  obtain ⟨y, hy⟩ : ∃ y, (ix2 r l : S512x1024.Idx) = y := ⟨_, rfl⟩
  rw [hy]
  unfold out0_18
  canon_tiles y h
  subst hy
  idx_vars y
  obtain rfl : y0 = r := Fin.ext h0.symm
  obtain rfl : y1 = l := Fin.ext h1.symm
  pointwise [k0_pay1, k0_pay9, k0_pay10]
  simp only [pay8_at]
  rfl
end Cert.MixIdeal.Pure

end
-- ==== Proof.Mix.Final.lean ====
/- The sample's merging call: its two result arrays after its run, from the arrays it reads. -/
module

public import proofs.«01_k».proof.Proof.Mix.Tile

@[expose] public section

set_option maxRecDepth 16384

noncomputable section

namespace Cert.MixIdeal.Pure

open Cert.MixIdeal Cert.MixIdeal.Gen Idealize.ShloMosaic Idealize.ShloMosaic.TcCoe Idealize.SL.Sem
open Idealize.ShloMosaic.Pipeline (Dat)
open Cert.Layer Cert.Sample

/-- An array's rows by sequence and position. -/
abbrev rows {e : FTy} (U : FVec Ideal S16384x1024 e) : Fin 8 → Fin 2048 → Row 1024 := fun b i k => U (ix2 (rowAt b i) k)

/-- The columns of the modulation from `o` on, by sequence. -/
abbrev cols (A : FVec Ideal S16x1x6144 .f32) (o : ℕ) (ho : o + 1024 ≤ 6144) : Fin 8 → Row 1024 := fun b k => A (ix3 ⟨1 + b.val, by omega⟩ 0 ⟨o + k.val, by omega⟩)

variable (m : (ℓ : Loc nD τ sig) → Buf (Elt Ideal) ℓ)

/-- What the call reads. -/
abbrev mixing (c : Dev nD) : Mixing where
  att := rows (e := .bf16) (V m c main_arg0)
  bb := rows (e := .bf16) (V m c main_arg1)
  y := rows (e := .bf16) (V m c main_arg2)
  sa := rows (e := .bf16) (V m c main_arg3)
  sg := rows (e := .bf16) (V m c main_arg4)
  x := rows (e := .f32) (V m c main_arg5)
  ga := cols (V m c main_arg6) 2048 (by omega)
  sh := cols (V m c main_arg6) 3072 (by omega)
  sc := cols (V m c main_arg6) 4096 (by omega)
  gp k := (V m c main_v1 : FVec Ideal S1x1024 .f32) (ix2 0 k)
  gq k := (V m c main_v3 : FVec Ideal S1x1024 .f32) (ix2 0 k)
  cw r k := (V m c main_v4 : FVec Ideal S3x1024 .f32) (ix2 r k)
  wa k n := (V m c main_v6 : FVec Ideal S1024x1024 .bf16) (ix2 k n)
  wc k n := (V m c main_v8 : FVec Ideal S1024x1024 .bf16) (ix2 k n)
  wo k n := (V m c main_v10 : FVec Ideal S1024x1024 .bf16) (ix2 k n)

/-- The first result, over the whole array. -/
def G17 (c : Dev nD) : FVec Ideal S16384x1024 .f32 := fun j => mixH (mixing m c) (seqAt (j 0)) (posAt (j 0)) (j 1)

/-- The second result, over the whole array. -/
def G18 (c : Dev nD) : FVec Ideal S16384x1024 .bf16 := fun j => mixU (mixing m c) (seqAt (j 0)) (posAt (j 0)) (j 1)

/-- The sequence of tile `t`. -/
abbrev tseq (t : Fin 32) : Fin 8 := ⟨t.val / 4, by omega⟩

/-- The position in its sequence of row `i` of tile `t`. -/
abbrev tpos (t : Fin 32) (i : Fin 512) : Fin 2048 := ⟨512 * (t.val % 4) + i.val, by omega⟩

/-- Which block of its array each window holds at grid point `t`. -/
theorem idx0 : ∀ t : Fin cfg0.N, win0_0.index t = ![t.val, 0] ∧ win0_1.index t = ![t.val, 0] ∧ win0_2.index t = ![t.val, 0] ∧ win0_3.index t = ![32 * t.val - 1, 0] ∧ win0_4.index t = ![min (32 * t.val + 32) 1023, 0] ∧ win0_5.index t = ![t.val, 0] ∧ win0_6.index t = ![t.val, 0] ∧ win0_7.index t = ![t.val, 0] ∧ win0_8.index t = ![1 + t.val / 4, 0, 2] ∧ win0_9.index t = ![1 + t.val / 4, 0, 3] ∧ win0_10.index t = ![1 + t.val / 4, 0, 4] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![t.val, 0] ∧ win0_18.index t = ![t.val, 0] := (by decide +kernel : ∀ t : Fin grid0.N, _)

/-- The tile's coordinate in the grid is its number. -/
theorem coord0 : ∀ t : Fin cfg0.N, (grid0.coords t 0).val = t.val := (by decide +kernel : ∀ t : Fin grid0.N, _)

/-- Grid point `t`'s block of window 0. -/
theorem rd_0 (A : FVec Ideal S16384x1024 .bf16) (t : Fin cfg0.N) (i : Fin 512) (k : Fin 1024) :
    ((cfg0.win 0).blk t).view.read (Elt Ideal) A (ix2 i k) = A (ix2 (rowAt (tseq t) (tpos t i)) k) := by
  blk_ext [idx0 t, rowAt]

/-- Grid point `t`'s block of window 1. -/
theorem rd_1 (A : FVec Ideal S16384x1024 .bf16) (t : Fin cfg0.N) (i : Fin 512) (k : Fin 1024) :
    ((cfg0.win 1).blk t).view.read (Elt Ideal) A (ix2 i k) = A (ix2 (rowAt (tseq t) (tpos t i)) k) := by
  blk_ext [idx0 t, rowAt]

/-- Grid point `t`'s block of window 2. -/
theorem rd_2 (A : FVec Ideal S16384x1024 .bf16) (t : Fin cfg0.N) (i : Fin 512) (k : Fin 1024) :
    ((cfg0.win 2).blk t).view.read (Elt Ideal) A (ix2 i k) = A (ix2 (rowAt (tseq t) (tpos t i)) k) := by
  blk_ext [idx0 t, rowAt]

/-- Grid point `t`'s block of window 5. -/
theorem rd_5 (A : FVec Ideal S16384x1024 .bf16) (t : Fin cfg0.N) (i : Fin 512) (k : Fin 1024) :
    ((cfg0.win 5).blk t).view.read (Elt Ideal) A (ix2 i k) = A (ix2 (rowAt (tseq t) (tpos t i)) k) := by
  blk_ext [idx0 t, rowAt]

/-- Grid point `t`'s block of window 6. -/
theorem rd_6 (A : FVec Ideal S16384x1024 .bf16) (t : Fin cfg0.N) (i : Fin 512) (k : Fin 1024) :
    ((cfg0.win 6).blk t).view.read (Elt Ideal) A (ix2 i k) = A (ix2 (rowAt (tseq t) (tpos t i)) k) := by
  blk_ext [idx0 t, rowAt]

/-- The row before the tile. -/
theorem rd_3 (A : FVec Ideal S16384x1024 .bf16) (t : Fin cfg0.N) (h : t.val % 4 ≠ 0) (k : Fin 1024) :
    ((cfg0.win 3).blk t).view.read (Elt Ideal) A (ix2 15 k) = A (ix2 (rowAt (tseq t) ⟨512 * (t.val % 4) - 1, by omega⟩) k) := by
  blk_ext [idx0 t, rowAt]

/-- The row after the tile. -/
theorem rd_4 (A : FVec Ideal S16384x1024 .bf16) (t : Fin cfg0.N) (h : t.val % 4 ≠ 3) (k : Fin 1024) :
    ((cfg0.win 4).blk t).view.read (Elt Ideal) A (ix2 0 k) = A (ix2 (rowAt (tseq t) ⟨512 * (t.val % 4) + 512, by omega⟩) k) := by
  blk_ext [idx0 t, rowAt]

/-- Grid point `t`'s block of window 7. -/
theorem rd_7 (A : FVec Ideal S16384x1024 .f32) (t : Fin cfg0.N) (i : Fin 512) (k : Fin 1024) :
    ((cfg0.win 7).blk t).view.read (Elt Ideal) A (ix2 i k) = A (ix2 (rowAt (tseq t) (tpos t i)) k) := by
  blk_ext [idx0 t, rowAt]

/-- The block of window 8. -/
theorem rd_8 (A : FVec Ideal S16x1x6144 .f32) (t : Fin cfg0.N) (k : Fin 1024) :
    ((cfg0.win 8).blk t).view.read (Elt Ideal) A (ix3 0 0 k) = A (ix3 ⟨1 + (tseq t).val, by omega⟩ 0 ⟨2048 + k.val, by omega⟩) := by
  blk_ext [idx0 t]

/-- The block of window 9. -/
theorem rd_9 (A : FVec Ideal S16x1x6144 .f32) (t : Fin cfg0.N) (k : Fin 1024) :
    ((cfg0.win 9).blk t).view.read (Elt Ideal) A (ix3 0 0 k) = A (ix3 ⟨1 + (tseq t).val, by omega⟩ 0 ⟨3072 + k.val, by omega⟩) := by
  blk_ext [idx0 t]

/-- The block of window 10. -/
theorem rd_10 (A : FVec Ideal S16x1x6144 .f32) (t : Fin cfg0.N) (k : Fin 1024) :
    ((cfg0.win 10).blk t).view.read (Elt Ideal) A (ix3 0 0 k) = A (ix3 ⟨1 + (tseq t).val, by omega⟩ 0 ⟨4096 + k.val, by omega⟩) := by
  blk_ext [idx0 t]

/-- Window 11 holds its array whole. -/
theorem rd_11 (A : FVec Ideal S1x1024 .f32) (t : Fin cfg0.N) (i : Fin 1) (k : Fin 1024) :
    ((cfg0.win 11).blk t).view.read (Elt Ideal) A (ix2 i k) = A (ix2 i k) := by
  blk_ext [idx0 t]

/-- Window 12 holds its array whole. -/
theorem rd_12 (A : FVec Ideal S1x1024 .f32) (t : Fin cfg0.N) (i : Fin 1) (k : Fin 1024) :
    ((cfg0.win 12).blk t).view.read (Elt Ideal) A (ix2 i k) = A (ix2 i k) := by
  blk_ext [idx0 t]

/-- Window 13 holds its array whole. -/
theorem rd_13 (A : FVec Ideal S3x1024 .f32) (t : Fin cfg0.N) (i : Fin 3) (k : Fin 1024) :
    ((cfg0.win 13).blk t).view.read (Elt Ideal) A (ix2 i k) = A (ix2 i k) := by
  blk_ext [idx0 t]

/-- Window 14 holds its array whole. -/
theorem rd_14 (A : FVec Ideal S1024x1024 .bf16) (t : Fin cfg0.N) (i : Fin 1024) (k : Fin 1024) :
    ((cfg0.win 14).blk t).view.read (Elt Ideal) A (ix2 i k) = A (ix2 i k) := by
  blk_ext [idx0 t]

/-- Window 15 holds its array whole. -/
theorem rd_15 (A : FVec Ideal S1024x1024 .bf16) (t : Fin cfg0.N) (i : Fin 1024) (k : Fin 1024) :
    ((cfg0.win 15).blk t).view.read (Elt Ideal) A (ix2 i k) = A (ix2 i k) := by
  blk_ext [idx0 t]

/-- Window 16 holds its array whole. -/
theorem rd_16 (A : FVec Ideal S1024x1024 .bf16) (t : Fin cfg0.N) (i : Fin 1024) (k : Fin 1024) :
    ((cfg0.win 16).blk t).view.read (Elt Ideal) A (ix2 i k) = A (ix2 i k) := by
  blk_ext [idx0 t]

/-- Where grid point `t`'s block of window 17 lies. -/
theorem emb_17 (t : Fin cfg0.N) (i : Fin 512) (l : Fin 1024) :
    (win0_17.blk t).view.emb (ix2 i l) = (ix2 (rowAt (tseq t) (tpos t i)) l : S16384x1024.Idx) := by
  blk_ext [idx0 t, rowAt]

/-- Where grid point `t`'s block of window 18 lies. -/
theorem emb_18 (t : Fin cfg0.N) (i : Fin 512) (l : Fin 1024) :
    (win0_18.blk t).view.emb (ix2 i l) = (ix2 (rowAt (tseq t) (tpos t i)) l : S16384x1024.Idx) := by
  blk_ext [idx0 t, rowAt]

/-- The row before a tile's row is the sequence's row before it. -/
theorem prev_blk (c : Dev nD) (t : Fin cfg0.N) (i : Fin 512) (l : Fin 1024) :
    prev (grid0.coords t) (iblk m c 2 t) (iblk m c 3 t) i l = prior (tpos t i) fun j => rows (e := .bf16) (V m c main_arg2) (tseq t) j l := by
  have hc := coord0 t
  unfold prev prior
  by_cases hi : i.val = 0
  · rw [dif_pos hi]
    by_cases ht : t.val % 4 = 0
    · rw [if_pos (by omega), dif_pos (show 512 * (t.val % 4) + i.val = 0 by omega)]
    · rw [if_neg (by omega), dif_neg (show ¬ 512 * (t.val % 4) + i.val = 0 by omega)]
      exact (rd_3 (V m c main_arg2) t ht l).trans (congrArg (rows (e := .bf16) (V m c main_arg2) (tseq t) · l) (Fin.ext (by show 512 * (t.val % 4) - 1 = 512 * (t.val % 4) + i.val - 1; omega)))
  · rw [dif_neg hi, dif_neg (show ¬ 512 * (t.val % 4) + i.val = 0 by omega)]
    exact (rd_2 (V m c main_arg2) t ⟨i.val - 1, by omega⟩ l).trans (congrArg (rows (e := .bf16) (V m c main_arg2) (tseq t) · l) (Fin.ext (by show 512 * (t.val % 4) + (i.val - 1) = 512 * (t.val % 4) + i.val - 1; omega)))

/-- The row after a tile's row is the sequence's row after it. -/
theorem next_blk (c : Dev nD) (t : Fin cfg0.N) (i : Fin 512) (l : Fin 1024) :
    next (grid0.coords t) (iblk m c 2 t) (iblk m c 4 t) i l = later (tpos t i) fun j => rows (e := .bf16) (V m c main_arg2) (tseq t) j l := by
  have hc := coord0 t
  unfold next later
  by_cases hi : i.val = 511
  · rw [dif_pos hi]
    by_cases ht : t.val % 4 = 3
    · rw [if_pos (by omega), dif_pos (show 512 * (t.val % 4) + i.val = 2047 by omega)]
    · rw [if_neg (by omega), dif_neg (show ¬ 512 * (t.val % 4) + i.val = 2047 by omega)]
      exact (rd_4 (V m c main_arg2) t ht l).trans (congrArg (rows (e := .bf16) (V m c main_arg2) (tseq t) · l) (Fin.ext (by show 512 * (t.val % 4) + 512 = 512 * (t.val % 4) + i.val + 1; omega)))
  · rw [dif_neg hi, dif_neg (show ¬ 512 * (t.val % 4) + i.val = 2047 by omega)]
    exact (rd_2 (V m c main_arg2) t ⟨i.val + 1, by omega⟩ l).trans (congrArg (rows (e := .bf16) (V m c main_arg2) (tseq t) · l) (Fin.ext (by show 512 * (t.val % 4) + (i.val + 1) = 512 * (t.val % 4) + i.val + 1; omega)))

/-- A tile's row of the first result is the whole array's. -/
theorem h1T_blk (c : Dev nD) (t : Fin cfg0.N) (i : Fin 512) :
    h1T (grid0.coords t) (iblk m c 0 t) (iblk m c 1 t) (iblk m c 2 t) (iblk m c 3 t) (iblk m c 4 t) (iblk m c 5 t) (iblk m c 6 t) (iblk m c 7 t) (iblk m c 8 t) (iblk m c 11 t) (iblk m c 13 t) (iblk m c 14 t) (iblk m c 15 t) (iblk m c 16 t) i = mixH (mixing m c) (tseq t) (tpos t i) := by
  funext l
  unfold h1T mixH
  refine addK_congr (fun k => rd_7 (V m c main_arg5) t i k) (fun k => rd_8 (V m c main_arg6) t k) (fun k => congrFun (dot_congr (fun n => ?_) fun a b => rd_16 (V m c main_v10) t a b) k) (fun k => rd_11 (V m c main_v1) t 0 k) l
  unfold mT merged
  refine Ideal.add_congr (Ideal.mul_congr (rd_5 (V m c main_arg3) t i n) (congrFun (dot_congr (fun k => rd_0 (V m c main_arg0) t i k) fun a b => rd_14 (V m c main_v6) t a b) n))
    (Ideal.mul_congr (rd_6 (V m c main_arg4) t i n) (congrFun (dot_congr (fun k => ?_) fun a b => rd_15 (V m c main_v8) t a b) n))
  unfold cT gated
  exact Ideal.mul_congr (rd_1 (V m c main_arg1) t i k) (tap_congr (rd_13 (V m c main_v4) t 0 k) (rd_13 (V m c main_v4) t 1 k) (rd_13 (V m c main_v4) t 2 k)
    (prev_blk m c t i k) (rd_2 (V m c main_arg2) t i k) (next_blk m c t i k))

/-- What grid point `t` leaves in the block of window 17. -/
theorem point_17 (c : Dev nD) (t : Fin cfg0.N) (y : S512x1024.Idx) :
    out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = G17 m c ((win0_17.blk t).view.emb y) := by
  idx_vars y
  rw [show (win0_17.blk t).view.emb (ix2 y0 y1) = _ from emb_17 t y0 y1]
  refine (o17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y0 y1).trans ?_
  show _ = mixH (mixing m c) (seqAt (rowAt (tseq t) (tpos t y0))) (posAt (rowAt (tseq t) (tpos t y0))) y1
  rw [seqAt_rowAt, posAt_rowAt]
  exact congrFun (h1T_blk m c t y0) y1

/-- Window 17's array after the run. -/
theorem final_17 (c : Dev nD) : (dats m 0 c).arrAt 17 cfg0.N = G17 m c := by
  refine (dats m 0 c).arrAt_eq_of_covers 17 _ (by decide +kernel) fun t _ y => ?_
  blk_simp
  rw [after0_17]
  exact point_17 m c t y

/-- What grid point `t` leaves in the block of window 18. -/
theorem point_18 (c : Dev nD) (t : Fin cfg0.N) (y : S512x1024.Idx) :
    out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = G18 m c ((win0_18.blk t).view.emb y) := by
  idx_vars y
  rw [show (win0_18.blk t).view.emb (ix2 y0 y1) = _ from emb_18 t y0 y1]
  refine (o18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y0 y1).trans ?_
  show _ = mixU (mixing m c) (seqAt (rowAt (tseq t) (tpos t y0))) (posAt (rowAt (tseq t) (tpos t y0))) y1
  rw [seqAt_rowAt, posAt_rowAt]
  exact uK_congr (fun k => congrFun (h1T_blk m c t y0) k) (fun k => rd_12 (V m c main_v3) t 0 k) (fun k => rd_10 (V m c main_arg6) t k) (fun k => rd_9 (V m c main_arg6) t k) y1

/-- Window 18's array after the run. -/
theorem final_18 (c : Dev nD) : (dats m 0 c).arrAt 18 cfg0.N = G18 m c := by
  refine (dats m 0 c).arrAt_eq_of_covers 18 _ (by decide +kernel) fun t _ y => ?_
  blk_simp
  rw [after0_18]
  exact point_18 m c t y

end Cert.MixIdeal.Pure

end
-- ==== Proof.Mix.Ref.lean ====
/- The reference of the sample's merging call: what each of its results is. -/
module

public import proofs.«01_k».proof.Proof.Mix.Rows
public import proofs.«01_k».proof.Proof.Layer.Model
public import proofs.«01_k».proof.Proof.Gen.MixRefIdeal.Read

@[expose] public section

set_option maxRecDepth 16384

noncomputable section

namespace Cert.MixRefIdeal.Pure

open Cert.MixRefIdeal Cert.MixRefIdeal.Gen Cert.MixRefIdeal.Read Idealize.ShloMosaic Idealize.ShloMosaic.TcCoe Idealize.SL.Sem
open Cert.Layer Cert.Sample

variable (x0 x1 x2 x3 x4 : FVec Ideal S16384x1024 .bf16) (x5 : FVec Ideal S16384x1024 .f32) (x6 : FVec Ideal S16x1x6144 .f32) (x7 x8 : FVec Ideal S1x1024 .f32) (x9 : FVec Ideal S1x3x1024 .f32) (x10 x11 x12 : FVec Ideal S1x1024x1024 .f32)

/-- The columns of the modulation from `o` on, by sequence. -/
abbrev cols (A : FVec Ideal S16x1x6144 .f32) (o : ℕ) (ho : o + 1024 ≤ 6144) : Fin 8 → Row 1024 := fun b k => A (ix3 ⟨1 + b.val, by omega⟩ 0 ⟨o + k.val, by omega⟩)

/-- What the reference reads. -/
abbrev mixing : Mixing where
  att b i k := x0 (ix2 (rowAt b i) k)
  bb b i k := x1 (ix2 (rowAt b i) k)
  y b i k := x2 (ix2 (rowAt b i) k)
  sa b i k := x3 (ix2 (rowAt b i) k)
  sg b i k := x4 (ix2 (rowAt b i) k)
  x b i k := x5 (ix2 (rowAt b i) k)
  ga := cols x6 2048 (by omega)
  sh := cols x6 3072 (by omega)
  sc := cols x6 4096 (by omega)
  gp k := x7 (ix2 0 k)
  gq k := x8 (ix2 0 k)
  cw r k := x9 (ix3 0 r k)
  wa k n := x10 (ix3 0 k n)
  wc k n := x11 (ix3 0 k n)
  wo k n := x12 (ix3 0 k n)

/-- The rows of argument 0 by sequence and position. -/
theorem r1 (b : Fin 8) (i : Fin 2048) (k : Fin 1024) : val_main_v1 (F := Ideal) x0 (ix3 b i k) = x0 (ix2 (rowAt b i) k) := by
  pointwise [val_main_v0, val_main_v1]
  exact congrArg x0 (congrArg (ix2 · k) (Fin.ext (by show b.val * 2048 + i.val = 2048 * b.val + i.val; omega)))

/-- The rows of argument 1 by sequence and position. -/
theorem r3 (b : Fin 8) (i : Fin 2048) (k : Fin 1024) : val_main_v3 (F := Ideal) x1 (ix3 b i k) = x1 (ix2 (rowAt b i) k) := by
  pointwise [val_main_v2, val_main_v3]
  exact congrArg x1 (congrArg (ix2 · k) (Fin.ext (by show b.val * 2048 + i.val = 2048 * b.val + i.val; omega)))

/-- The rows of argument 2 by sequence and position. -/
theorem r5 (b : Fin 8) (i : Fin 2048) (k : Fin 1024) : val_main_v5 (F := Ideal) x2 (ix3 b i k) = x2 (ix2 (rowAt b i) k) := by
  pointwise [val_main_v4, val_main_v5]
  exact congrArg x2 (congrArg (ix2 · k) (Fin.ext (by show b.val * 2048 + i.val = 2048 * b.val + i.val; omega)))

/-- The rows of argument 3 by sequence and position. -/
theorem r7 (b : Fin 8) (i : Fin 2048) (k : Fin 1024) : val_main_v7 (F := Ideal) x3 (ix3 b i k) = x3 (ix2 (rowAt b i) k) := by
  pointwise [val_main_v6, val_main_v7]
  exact congrArg x3 (congrArg (ix2 · k) (Fin.ext (by show b.val * 2048 + i.val = 2048 * b.val + i.val; omega)))

/-- The rows of argument 4 by sequence and position. -/
theorem r9 (b : Fin 8) (i : Fin 2048) (k : Fin 1024) : val_main_v9 (F := Ideal) x4 (ix3 b i k) = x4 (ix2 (rowAt b i) k) := by
  pointwise [val_main_v8, val_main_v9]
  exact congrArg x4 (congrArg (ix2 · k) (Fin.ext (by show b.val * 2048 + i.val = 2048 * b.val + i.val; omega)))

/-- The rows of argument 5 by sequence and position. -/
theorem r10 (b : Fin 8) (i : Fin 2048) (k : Fin 1024) : val_main_v10 (F := Ideal) x5 (ix3 b i k) = x5 (ix2 (rowAt b i) k) := by
  pointwise [val_main_v10]
  exact congrArg x5 (congrArg (ix2 · k) (Fin.ext (by show b.val * 2048 + i.val = 2048 * b.val + i.val; omega)))

/-- The padding is zero. -/
theorem zero_pad : val_main_call0_v0 (F := Ideal) (Shape.Idx.first h_S_) = 0 := by
  pointwise [val_main_call0_v0, val_main_c]
  show (((0#32 : BitVec 32).toInt : ℝ) : EReal) = 0
  simp

/-- The gated convolution. -/
theorem r40 (b : Fin 8) (i : Fin 2048) (l : Fin 1024) : val_main_v40 (F := Ideal) x1 x2 x9 (ix3 b i l) = gated (mixing x0 x1 x2 x3 x4 x5 x6 x7 x8 x9 x10 x11 x12) b i l := by
  pointwise [val_main_v18, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v19]
  have hi := i.isLt
  refine Ideal.mul_congr (r3 x1 b i l) (Ideal.add_congr (Ideal.add_congr (Ideal.mul_congr rfl ?_) (Ideal.mul_congr rfl (r5 x2 b i l))) (Ideal.mul_congr rfl ?_))
  · show _ = prior i _
    unfold prior
    by_cases h : i.val = 0
    · rw [dif_pos h, dif_neg (by omega), zero_pad]
    · rw [dif_neg h, dif_pos (by omega), r5 x2]
  · show _ = later i _
    unfold later
    by_cases h : i.val = 2047
    · rw [dif_pos h, dif_neg (by omega), zero_pad]
    · rw [dif_neg h, dif_pos (by omega), r5 x2]
      exact congrArg (fun j => x2 (ix2 (rowAt b j) l)) (Fin.ext (by show 2 + i.val - 1 = i.val + 1; omega))

/-- The projected convolution. -/
theorem r42 (b : Fin 8) (i : Fin 2048) (l : Fin 1024) : val_main_v42 (F := Ideal) x1 x2 x9 x11 (ix3 b i l) = dot (gated (mixing x0 x1 x2 x3 x4 x5 x6 x7 x8 x9 x10 x11 x12) b i) (mixing x0 x1 x2 x3 x4 x5 x6 x7 x8 x9 x10 x11 x12).wc l := by
  rw [val_main_v42_apply]
  show _ = ∑ k, gated (mixing x0 x1 x2 x3 x4 x5 x6 x7 x8 x9 x10 x11 x12) b i k * (mixing x0 x1 x2 x3 x4 x5 x6 x7 x8 x9 x10 x11 x12).wc k l
  refine Finset.sum_congr rfl fun k _ => ?_
  rw [show lidx_main_v42 (ix3 b i l) k = ix3 b i k from by funext a; fin_cases a <;> rfl, show ridx_main_v42 (ix3 b i l) k = ix2 k l from by funext a; fin_cases a <;> rfl]
  refine Ideal.mul_congr (r40 x0 x1 x2 x3 x4 x5 x6 x7 x8 x9 x10 x11 x12 b i k) ?_
  pointwise [val_main_v41]

/-- The projected attention. -/
theorem r44 (b : Fin 8) (i : Fin 2048) (l : Fin 1024) : val_main_v44 (F := Ideal) x0 x10 (ix3 b i l) = dot ((mixing x0 x1 x2 x3 x4 x5 x6 x7 x8 x9 x10 x11 x12).att b i) (mixing x0 x1 x2 x3 x4 x5 x6 x7 x8 x9 x10 x11 x12).wa l := by
  rw [val_main_v44_apply]
  show _ = ∑ k, (mixing x0 x1 x2 x3 x4 x5 x6 x7 x8 x9 x10 x11 x12).att b i k * (mixing x0 x1 x2 x3 x4 x5 x6 x7 x8 x9 x10 x11 x12).wa k l
  refine Finset.sum_congr rfl fun k _ => ?_
  rw [show lidx_main_v44 (ix3 b i l) k = ix3 b i k from by funext a; fin_cases a <;> rfl, show ridx_main_v44 (ix3 b i l) k = ix2 k l from by funext a; fin_cases a <;> rfl]
  refine Ideal.mul_congr (r1 x0 b i k) ?_
  pointwise [val_main_v43]

/-- The merged row. -/
theorem r47 (b : Fin 8) (i : Fin 2048) (l : Fin 1024) : val_main_v47 (F := Ideal) x0 x1 x2 x3 x4 x9 x10 x11 (ix3 b i l) = merged (mixing x0 x1 x2 x3 x4 x5 x6 x7 x8 x9 x10 x11 x12) b i l := by
  pointwise [val_main_v45, val_main_v46, val_main_v47]
  rw [r7 x3, r9 x4, r42 x0 x1 x2 x3 x4 x5 x6 x7 x8 x9 x10 x11 x12, r44 x0 x1 x2 x3 x4 x5 x6 x7 x8 x9 x10 x11 x12]
  rfl

/-- The projected merged row. -/
theorem r49 (b : Fin 8) (i : Fin 2048) (l : Fin 1024) : val_main_v49 (F := Ideal) x0 x1 x2 x3 x4 x9 x10 x11 x12 (ix3 b i l) = dot (merged (mixing x0 x1 x2 x3 x4 x5 x6 x7 x8 x9 x10 x11 x12) b i) (mixing x0 x1 x2 x3 x4 x5 x6 x7 x8 x9 x10 x11 x12).wo l := by
  rw [val_main_v49_apply]
  show _ = ∑ k, merged (mixing x0 x1 x2 x3 x4 x5 x6 x7 x8 x9 x10 x11 x12) b i k * (mixing x0 x1 x2 x3 x4 x5 x6 x7 x8 x9 x10 x11 x12).wo k l
  refine Finset.sum_congr rfl fun k _ => ?_
  rw [show lidx_main_v49 (ix3 b i l) k = ix3 b i k from by funext a; fin_cases a <;> rfl, show ridx_main_v49 (ix3 b i l) k = ix2 k l from by funext a; fin_cases a <;> rfl]
  refine Ideal.mul_congr (r47 x0 x1 x2 x3 x4 x5 x6 x7 x8 x9 x10 x11 x12 b i k) ?_
  pointwise [val_main_v48]

/-- The sum of squares of the projected merged row. -/
theorem r52 (b : Fin 8) (i : Fin 2048) : val_main_v52 (F := Ideal) x0 x1 x2 x3 x4 x9 x10 x11 x12 (ix2 b i) = ∑ k, dot (merged (mixing x0 x1 x2 x3 x4 x5 x6 x7 x8 x9 x10 x11 x12) b i) (mixing x0 x1 x2 x3 x4 x5 x6 x7 x8 x9 x10 x11 x12).wo k * dot (merged (mixing x0 x1 x2 x3 x4 x5 x6 x7 x8 x9 x10 x11 x12) b i) (mixing x0 x1 x2 x3 x4 x5 x6 x7 x8 x9 x10 x11 x12).wo k := by
  rw [val_main_v52_apply]
  refine (Ideal.add_congr (Ideal.ofBits_zero .f32) (Finset.sum_congr rfl fun k _ => ?_)).trans (zero_add (∑ k, dot (merged (mixing x0 x1 x2 x3 x4 x5 x6 x7 x8 x9 x10 x11 x12) b i) (mixing x0 x1 x2 x3 x4 x5 x6 x7 x8 x9 x10 x11 x12).wo k * dot (merged (mixing x0 x1 x2 x3 x4 x5 x6 x7 x8 x9 x10 x11 x12) b i) (mixing x0 x1 x2 x3 x4 x5 x6 x7 x8 x9 x10 x11 x12).wo k))
  rw [show idx_main_v52 (ix2 b i) k = ix3 b i k from by funext a; fin_cases a <;> rfl]
  exact Ideal.mul_congr (r49 x0 x1 x2 x3 x4 x5 x6 x7 x8 x9 x10 x11 x12 b i k) (r49 x0 x1 x2 x3 x4 x5 x6 x7 x8 x9 x10 x11 x12 b i k)

/-- The first result by sequence and position. -/
theorem r66 (b : Fin 8) (i : Fin 2048) (l : Fin 1024) : val_main_v66 (F := Ideal) x0 x1 x2 x3 x4 x5 x6 x7 x9 x10 x11 x12 (ix3 b i l) = mixH (mixing x0 x1 x2 x3 x4 x5 x6 x7 x8 x9 x10 x11 x12) b i l := by
  pointwise [val_main_v11, val_main_v14, val_main_v50, val_main_v53, val_main_v54, val_main_v55, val_main_v56, val_main_v57, val_main_v58, val_main_v59, val_main_v60, val_main_v61, val_main_v62, val_main_v63, val_main_v64, val_main_v65, val_main_v66, val_main_cst_0, val_main_cst_1]
  rw [r10 x5, r49 x0 x1 x2 x3 x4 x5 x6 x7 x8 x9 x10 x11 x12, r52 x0 x1 x2 x3 x4 x5 x6 x7 x8 x9 x10 x11 x12]
  rfl

/-- The sum of squares of the first result's row. -/
theorem r69 (b : Fin 8) (i : Fin 2048) : val_main_v69 (F := Ideal) x0 x1 x2 x3 x4 x5 x6 x7 x9 x10 x11 x12 (ix2 b i) = ∑ k, mixH (mixing x0 x1 x2 x3 x4 x5 x6 x7 x8 x9 x10 x11 x12) b i k * mixH (mixing x0 x1 x2 x3 x4 x5 x6 x7 x8 x9 x10 x11 x12) b i k := by
  rw [val_main_v69_apply]
  refine (Ideal.add_congr (Ideal.ofBits_zero .f32) (Finset.sum_congr rfl fun k _ => ?_)).trans (zero_add (∑ k, mixH (mixing x0 x1 x2 x3 x4 x5 x6 x7 x8 x9 x10 x11 x12) b i k * mixH (mixing x0 x1 x2 x3 x4 x5 x6 x7 x8 x9 x10 x11 x12) b i k))
  rw [show idx_main_v69 (ix2 b i) k = ix3 b i k from by funext a; fin_cases a <;> rfl]
  exact Ideal.mul_congr (r66 x0 x1 x2 x3 x4 x5 x6 x7 x8 x9 x10 x11 x12 b i k) (r66 x0 x1 x2 x3 x4 x5 x6 x7 x8 x9 x10 x11 x12 b i k)

/-- The second result by sequence and position. -/
theorem r86 (b : Fin 8) (i : Fin 2048) (l : Fin 1024) : val_main_v86 (F := Ideal) x0 x1 x2 x3 x4 x5 x6 x7 x8 x9 x10 x11 x12 (ix3 b i l) = mixU (mixing x0 x1 x2 x3 x4 x5 x6 x7 x8 x9 x10 x11 x12) b i l := by
  refine Eq.trans ?_ (uK_ref (mixH (mixing x0 x1 x2 x3 x4 x5 x6 x7 x8 x9 x10 x11 x12) b i) (mixing x0 x1 x2 x3 x4 x5 x6 x7 x8 x9 x10 x11 x12).gq ((mixing x0 x1 x2 x3 x4 x5 x6 x7 x8 x9 x10 x11 x12).sc b) ((mixing x0 x1 x2 x3 x4 x5 x6 x7 x8 x9 x10 x11 x12).sh b) l)
  pointwise [val_main_v11, val_main_v15, val_main_v16, val_main_v67, val_main_v70, val_main_v71, val_main_v72, val_main_v73, val_main_v74, val_main_v75, val_main_v76, val_main_v77, val_main_v78, val_main_v79, val_main_v80, val_main_v81, val_main_v82, val_main_v83, val_main_v84, val_main_v85, val_main_v86, val_main_cst_3, val_main_cst_4, val_main_cst_5]
  rw [r66 x0 x1 x2 x3 x4 x5 x6 x7 x8 x9 x10 x11 x12, r69 x0 x1 x2 x3 x4 x5 x6 x7 x8 x9 x10 x11 x12]
  rfl

/-- The first result by row. -/
theorem result_h (r : Fin 16384) (l : Fin 1024) : val_main_v87 (F := Ideal) x0 x1 x2 x3 x4 x5 x6 x7 x9 x10 x11 x12 (ix2 r l) = mixH (mixing x0 x1 x2 x3 x4 x5 x6 x7 x8 x9 x10 x11 x12) (seqAt r) (posAt r) l := by
  refine Eq.trans ?_ (r66 x0 x1 x2 x3 x4 x5 x6 x7 x8 x9 x10 x11 x12 (seqAt r) (posAt r) l)
  pointwise [val_main_v87]
  rfl

/-- The second result by row. -/
theorem result_u (r : Fin 16384) (l : Fin 1024) : val_main_v89 (F := Ideal) x0 x1 x2 x3 x4 x5 x6 x7 x8 x9 x10 x11 x12 (ix2 r l) = mixU (mixing x0 x1 x2 x3 x4 x5 x6 x7 x8 x9 x10 x11 x12) (seqAt r) (posAt r) l := by
  refine Eq.trans ?_ (r86 x0 x1 x2 x3 x4 x5 x6 x7 x8 x9 x10 x11 x12 (seqAt r) (posAt r) l)
  pointwise [val_main_v88, val_main_v89]
  rfl

end Cert.MixRefIdeal.Pure

end
-- ==== Proof.Mix.Agree.lean ====
/- The sample's merging call and its reference compute the same arrays. -/
module

public import proofs.«01_k».proof.Proof.Mix.Final
public import proofs.«01_k».proof.Proof.Mix.Ref

@[expose] public section

set_option maxRecDepth 16384

noncomputable section

namespace Cert.MixIdeal.Pure

open Cert.MixIdeal Cert.MixIdeal.Gen Idealize.ShloMosaic Idealize.ShloMosaic.TcCoe Idealize.SL.Sem
open Idealize.ShloMosaic.Pipeline (Dat)
open Cert.Layer Cert.Sample

variable (m : (ℓ : Loc nD τ sig) → Buf (Elt Ideal) ℓ)

/-- The gain of the norm after the projection. -/
theorem gain_post (c : Dev nD) (k : Fin 1024) : (V m c main_v1 : FVec Ideal S1x1024 .f32) (ix2 0 k) = (m ((c.tc : Thread nD τ).loc main_arg7) : FVec Ideal S1x1024 .f32) (ix2 0 k) := by
  entry_read
  pointwise

/-- The gain of the norm before the feed-forward call. -/
theorem gain_pre (c : Dev nD) (k : Fin 1024) : (V m c main_v3 : FVec Ideal S1x1024 .f32) (ix2 0 k) = (m ((c.tc : Thread nD τ).loc main_arg8) : FVec Ideal S1x1024 .f32) (ix2 0 k) := by
  entry_read
  pointwise

/-- The taps' weights. -/
theorem convs (c : Dev nD) (r : Fin 3) (k : Fin 1024) : (V m c main_v4 : FVec Ideal S3x1024 .f32) (ix2 r k) = (m ((c.tc : Thread nD τ).loc main_arg9) : FVec Ideal S1x3x1024 .f32) (ix3 0 r k) := by
  entry_read
  pointwise

/-- The attention's weights. -/
theorem w_att (c : Dev nD) (k : Fin 1024) (n : Fin 1024) : (V m c main_v6 : FVec Ideal S1024x1024 .bf16) (ix2 k n) = (m ((c.tc : Thread nD τ).loc main_arg10) : FVec Ideal S1x1024x1024 .f32) (ix3 0 k n) := by
  entry_read
  pointwise

/-- The convolution's weights. -/
theorem w_conv (c : Dev nD) (k : Fin 1024) (n : Fin 1024) : (V m c main_v8 : FVec Ideal S1024x1024 .bf16) (ix2 k n) = (m ((c.tc : Thread nD τ).loc main_arg11) : FVec Ideal S1x1024x1024 .f32) (ix3 0 k n) := by
  entry_read
  pointwise

/-- The projection's weights. -/
theorem w_out (c : Dev nD) (k : Fin 1024) (n : Fin 1024) : (V m c main_v10 : FVec Ideal S1024x1024 .bf16) (ix2 k n) = (m ((c.tc : Thread nD τ).loc main_arg12) : FVec Ideal S1x1024x1024 .f32) (ix3 0 k n) := by
  entry_read
  pointwise

/-- The call reads what its reference reads. -/
theorem mixing_eq (c : Dev nD) : mixing m c = MixRefIdeal.Pure.mixing (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold mixing
  rw [V_main_arg0, V_main_arg1, V_main_arg2, V_main_arg3, V_main_arg4, V_main_arg5, V_main_arg6]
  exact Mixing.ext rfl rfl rfl rfl rfl rfl rfl rfl rfl (funext (gain_post m c)) (funext (gain_pre m c)) (funext fun r => funext (convs m c r))
    (funext fun k => funext (w_att m c k)) (funext fun k => funext (w_conv m c k)) (funext fun k => funext (w_out m c k))

/-- The program's first array is the reference's. -/
theorem agree_h (c : Dev nD) : G17 m c = MixRefIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) := by
  funext j
  idx_vars j
  refine Eq.trans ?_ (MixRefIdeal.Pure.result_h (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) j0 j1).symm
  unfold G17
  rw [mixing_eq]
  rfl

/-- The program's second array is the reference's. -/
theorem agree_u (c : Dev nD) : G18 m c = MixRefIdeal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext j
  idx_vars j
  refine Eq.trans ?_ (MixRefIdeal.Pure.result_u (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) j0 j1).symm
  unfold G18
  rw [mixing_eq]
  rfl

end Cert.MixIdeal.Pure

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_scores_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.MixRefIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptRefIdeal
public import proofs.«01_k».proof.Proof.Gen.PromptRefIdeal.Run
public import proofs.«01_k».proof.Proof.Gen.PromptRefIdeal.Read
public import proofs.«01_k».proof.Proof.Gen.Pre_gains_finite
public import proofs.«01_k».proof.Proof.Prompt.Frame
public import proofs.«01_k».proof.Proof.PromptIdeal.Frame
public import proofs.«01_k».proof.Proof.Attn.Agree
public import proofs.«01_k».proof.Proof.Layer.Agree
public import proofs.«01_k».proof.Proof.Ffn.Agree
public import proofs.«01_k».proof.Proof.Mix.Agree
public import Idealize.ShloMosaic.Adequacy
public import Idealize.ShloMosaic.Init

@[expose] public section

set_option maxRecDepth 16384

noncomputable section

namespace Cert.Proof

open Idealize.ShloMosaic Idealize.SL.Sem

/-- Attention: the program and the reference, from agreeing arguments with finite queries and keys, end with equal results. -/
theorem attention : Cert.algebraic_AttnIdeal_AttnRefIdeal_pre_scores_finite (hAttnIdeal := Cert.AttnIdeal.Gen.facts)
    (hAttnRefIdeal := Cert.AttnRefIdeal.Gen.facts) (hPre_scores_finite := Cert.Pre_scores_finite.Gen.facts) := by
  intro m g m' g' hpre hagree
  refine ⟨fun c => (Cert.AttnIdeal.Gen.dats m 0 c).arrAt 3 Cert.AttnIdeal.cfg0.N, ?_, ?_⟩
  · run_from Cert.AttnIdeal.Value.run_blocks m g
  · run_from Cert.AttnRefIdeal.Value.run m' g'
    obtain ⟨a0, a1, a2, a3, a4⟩ := hagree c
    refine (Cert.AttnRefIdeal.Read.val_main_v26_eq m' c).trans ?_
    rw [a0, a1, a2, a3, a4]
    exact ((Cert.AttnIdeal.Pure.final m c).trans (Cert.AttnIdeal.Pure.agree m hpre c)).symm

/-- The attention reference's frame. -/
theorem frame_attn_ref : Cert.quiescent_AttnRefIdeal (hAttnRefIdeal := Cert.AttnRefIdeal.Gen.facts) := by
  intro m g _
  exact (θ_run Cert.AttnRefIdeal.defs _ _).mono (fun r h => ⟨fun c => (h c).2, sem_eq_zero_of_no_sems (by decide) r.2⟩)
    (Cert.AttnRefIdeal.Value.run (F := Ideal) m g)

set_option maxHeartbeats 4000000 in
/-- The prompt path: the kernel and the reference, from agreeing arguments of which the gains of the queries and keys are finite,
    end with equal results. -/
theorem prompt : Cert.algebraic_PromptIdeal_PromptRefIdeal_pre_gains_finite (hPromptIdeal := Cert.PromptIdeal.Gen.facts)
    (hPromptRefIdeal := Cert.PromptRefIdeal.Gen.facts) (hPre_gains_finite := Cert.Pre_gains_finite.Gen.facts) := by
  intro m g m' g' hpre hagree
  refine ⟨fun c => Cert.PromptIdeal.Gen.W10 m g c (Proc.devRef .tc Cert.PromptIdeal.main_v60), fun c => Cert.PromptIdeal.Gen.W10 m g c (Proc.devRef .tc Cert.PromptIdeal.main_v63),
    fun c => Cert.PromptIdeal.Gen.W10 m g c (Proc.devRef .tc Cert.PromptIdeal.main_v64), Cert.PromptIdeal.Layer.run_out m g, ?_⟩
  refine (θ_run Cert.PromptRefIdeal.defs _ _).mono (fun r h c => ?_) (Cert.PromptRefIdeal.Value.run (F := Ideal) m' g')
  obtain ⟨r1, r2, r3, rest⟩ := h c
  obtain ⟨a0, a1, a2, a3, a4, a5, a6, a7, a8, a9, a10, a11, a12, a13, a14, a15, a16, a17, a18⟩ := hagree c
  have e1 : Cert.PromptRefIdeal.Read.val_main_v224 (F := Ideal) (m' ((c.tc : Thread Cert.PromptRefIdeal.nD Cert.PromptRefIdeal.τ).loc Cert.PromptRefIdeal.main_arg0)) (m' ((c.tc : Thread Cert.PromptRefIdeal.nD Cert.PromptRefIdeal.τ).loc Cert.PromptRefIdeal.main_arg2)) (m' ((c.tc : Thread Cert.PromptRefIdeal.nD Cert.PromptRefIdeal.τ).loc Cert.PromptRefIdeal.main_arg3)) (m' ((c.tc : Thread Cert.PromptRefIdeal.nD Cert.PromptRefIdeal.τ).loc Cert.PromptRefIdeal.main_arg4)) (m' ((c.tc : Thread Cert.PromptRefIdeal.nD Cert.PromptRefIdeal.τ).loc Cert.PromptRefIdeal.main_arg5)) (m' ((c.tc : Thread Cert.PromptRefIdeal.nD Cert.PromptRefIdeal.τ).loc Cert.PromptRefIdeal.main_arg6)) (m' ((c.tc : Thread Cert.PromptRefIdeal.nD Cert.PromptRefIdeal.τ).loc Cert.PromptRefIdeal.main_arg7)) (m' ((c.tc : Thread Cert.PromptRefIdeal.nD Cert.PromptRefIdeal.τ).loc Cert.PromptRefIdeal.main_arg8)) (m' ((c.tc : Thread Cert.PromptRefIdeal.nD Cert.PromptRefIdeal.τ).loc Cert.PromptRefIdeal.main_arg9)) (m' ((c.tc : Thread Cert.PromptRefIdeal.nD Cert.PromptRefIdeal.τ).loc Cert.PromptRefIdeal.main_arg10)) (m' ((c.tc : Thread Cert.PromptRefIdeal.nD Cert.PromptRefIdeal.τ).loc Cert.PromptRefIdeal.main_arg11)) (m' ((c.tc : Thread Cert.PromptRefIdeal.nD Cert.PromptRefIdeal.τ).loc Cert.PromptRefIdeal.main_arg12)) (m' ((c.tc : Thread Cert.PromptRefIdeal.nD Cert.PromptRefIdeal.τ).loc Cert.PromptRefIdeal.main_arg13)) (m' ((c.tc : Thread Cert.PromptRefIdeal.nD Cert.PromptRefIdeal.τ).loc Cert.PromptRefIdeal.main_arg14)) (m' ((c.tc : Thread Cert.PromptRefIdeal.nD Cert.PromptRefIdeal.τ).loc Cert.PromptRefIdeal.main_arg15)) (m' ((c.tc : Thread Cert.PromptRefIdeal.nD Cert.PromptRefIdeal.τ).loc Cert.PromptRefIdeal.main_arg16)) (m' ((c.tc : Thread Cert.PromptRefIdeal.nD Cert.PromptRefIdeal.τ).loc Cert.PromptRefIdeal.main_arg17)) (m' ((c.tc : Thread Cert.PromptRefIdeal.nD Cert.PromptRefIdeal.τ).loc Cert.PromptRefIdeal.main_arg18))
      = Cert.PromptIdeal.Gen.W10 m g c (Proc.devRef .tc Cert.PromptIdeal.main_v60) := by
    rw [a0, a2, a3, a4, a5, a6, a7, a8, a9, a10, a11, a12, a13, a14, a15, a16, a17, a18]
    exact (Cert.PromptIdeal.Layer.agree1 m g c (Cert.PromptIdeal.Layer.finite m hpre c)).symm
  have e2 : Cert.PromptRefIdeal.Read.val_main_v225 (F := Ideal) (m' ((c.tc : Thread Cert.PromptRefIdeal.nD Cert.PromptRefIdeal.τ).loc Cert.PromptRefIdeal.main_arg0)) (m' ((c.tc : Thread Cert.PromptRefIdeal.nD Cert.PromptRefIdeal.τ).loc Cert.PromptRefIdeal.main_arg2)) (m' ((c.tc : Thread Cert.PromptRefIdeal.nD Cert.PromptRefIdeal.τ).loc Cert.PromptRefIdeal.main_arg3)) (m' ((c.tc : Thread Cert.PromptRefIdeal.nD Cert.PromptRefIdeal.τ).loc Cert.PromptRefIdeal.main_arg4)) (m' ((c.tc : Thread Cert.PromptRefIdeal.nD Cert.PromptRefIdeal.τ).loc Cert.PromptRefIdeal.main_arg5)) (m' ((c.tc : Thread Cert.PromptRefIdeal.nD Cert.PromptRefIdeal.τ).loc Cert.PromptRefIdeal.main_arg9)) (m' ((c.tc : Thread Cert.PromptRefIdeal.nD Cert.PromptRefIdeal.τ).loc Cert.PromptRefIdeal.main_arg11))
      = Cert.PromptIdeal.Gen.W10 m g c (Proc.devRef .tc Cert.PromptIdeal.main_v63) := by
    rw [a0, a2, a3, a4, a5, a9, a11]
    exact (Cert.PromptIdeal.Layer.agree2 m g c).symm
  have e3 : Cert.PromptRefIdeal.Read.val_main_v226 (F := Ideal) (m' ((c.tc : Thread Cert.PromptRefIdeal.nD Cert.PromptRefIdeal.τ).loc Cert.PromptRefIdeal.main_arg0)) (m' ((c.tc : Thread Cert.PromptRefIdeal.nD Cert.PromptRefIdeal.τ).loc Cert.PromptRefIdeal.main_arg2)) (m' ((c.tc : Thread Cert.PromptRefIdeal.nD Cert.PromptRefIdeal.τ).loc Cert.PromptRefIdeal.main_arg3)) (m' ((c.tc : Thread Cert.PromptRefIdeal.nD Cert.PromptRefIdeal.τ).loc Cert.PromptRefIdeal.main_arg4)) (m' ((c.tc : Thread Cert.PromptRefIdeal.nD Cert.PromptRefIdeal.τ).loc Cert.PromptRefIdeal.main_arg5)) (m' ((c.tc : Thread Cert.PromptRefIdeal.nD Cert.PromptRefIdeal.τ).loc Cert.PromptRefIdeal.main_arg9))
      = Cert.PromptIdeal.Gen.W10 m g c (Proc.devRef .tc Cert.PromptIdeal.main_v64) := by
    rw [a0, a2, a3, a4, a5, a9]
    exact (Cert.PromptIdeal.Layer.agree3 m g c).symm
  exact ⟨r1.trans ((Cert.PromptRefIdeal.Read.val_main_v224_eq (StableHlo.launchContents m' c)).trans e1), r2.trans ((Cert.PromptRefIdeal.Read.val_main_v225_eq (StableHlo.launchContents m' c)).trans e2),
    r3.trans ((Cert.PromptRefIdeal.Read.val_main_v226_eq (StableHlo.launchContents m' c)).trans e3), rest⟩

/-- The prompt reference's frame. -/
theorem frame_prompt_ref : Cert.quiescent_PromptRefIdeal (hPromptRefIdeal := Cert.PromptRefIdeal.Gen.facts) := by
  intro m g _
  exact (θ_run Cert.PromptRefIdeal.defs _ _).mono (fun r h => ⟨fun c => (h c).2.2.2, sem_eq_zero_of_no_sems (by decide) r.2⟩)
    (Cert.PromptRefIdeal.Value.run (F := Ideal) m g)

/-- The sample's feed-forward call: the program and the reference, from agreeing arguments, end with equal results. -/
theorem feed : Cert.algebraic_FfnIdeal_FfnRefIdeal (hFfnIdeal := Cert.FfnIdeal.Gen.facts) (hFfnRefIdeal := Cert.FfnRefIdeal.Gen.facts) := by
  intro m g m' g' hpre hagree
  refine ⟨fun c => (Cert.FfnIdeal.Gen.dats m 0 c).arrAt 9 Cert.FfnIdeal.cfg0.N, ?_, ?_⟩
  · run_from Cert.FfnIdeal.Value.run_blocks m g
  · run_from Cert.FfnRefIdeal.Value.run m' g'
    obtain ⟨a0, a1, a2, a3, a4, a5, a6⟩ := hagree c
    refine (Cert.FfnRefIdeal.Read.val_main_v57_eq m' c).trans ?_
    rw [a0, a1, a2, a3, a4, a5, a6]
    exact ((Cert.FfnIdeal.Pure.final m c).trans (Cert.FfnIdeal.Pure.agree m c)).symm

/-- The feed-forward reference's frame. -/
theorem frame_feed_ref : Cert.quiescent_FfnRefIdeal (hFfnRefIdeal := Cert.FfnRefIdeal.Gen.facts) := by
  intro m g _
  exact (θ_run Cert.FfnRefIdeal.defs _ _).mono (fun r h => ⟨fun c => (h c).2, sem_eq_zero_of_no_sems (by decide) r.2⟩)
    (Cert.FfnRefIdeal.Value.run (F := Ideal) m g)

/-- The sample's merging call: the program and the reference, from agreeing arguments, end with equal results. -/
theorem mix : Cert.algebraic_MixIdeal_MixRefIdeal (hMixIdeal := Cert.MixIdeal.Gen.facts) (hMixRefIdeal := Cert.MixRefIdeal.Gen.facts) := by
  intro m g m' g' hpre hagree
  refine ⟨fun c => (Cert.MixIdeal.Gen.dats m 0 c).arrAt 17 Cert.MixIdeal.cfg0.N, fun c => (Cert.MixIdeal.Gen.dats m 0 c).arrAt 18 Cert.MixIdeal.cfg0.N, ?_, ?_⟩
  · run_from Cert.MixIdeal.Value.run_blocks m g
  · refine (θ_run Cert.MixRefIdeal.defs _ _).mono (fun r h c => ?_) (Cert.MixRefIdeal.Value.run (F := Ideal) m' g')
    obtain ⟨r1, r2, rest⟩ := h c
    obtain ⟨a0, a1, a2, a3, a4, a5, a6, a7, a8, a9, a10, a11, a12⟩ := hagree c
    refine ⟨r1.trans ((Cert.MixRefIdeal.Read.val_main_v87_eq m' c).trans ?_), r2.trans ((Cert.MixRefIdeal.Read.val_main_v89_eq m' c).trans ?_), rest⟩
    · rw [a0, a1, a2, a3, a4, a5, a6, a7, a9, a10, a11, a12]
      exact ((Cert.MixIdeal.Pure.final_17 m c).trans (Cert.MixIdeal.Pure.agree_h m c)).symm
    · rw [a0, a1, a2, a3, a4, a5, a6, a7, a8, a9, a10, a11, a12]
      exact ((Cert.MixIdeal.Pure.final_18 m c).trans (Cert.MixIdeal.Pure.agree_u m c)).symm

/-- The merging reference's frame. -/
theorem frame_mix_ref : Cert.quiescent_MixRefIdeal (hMixRefIdeal := Cert.MixRefIdeal.Gen.facts) := by
  intro m g _
  exact (θ_run Cert.MixRefIdeal.defs _ _).mono (fun r h => ⟨fun c => (h c).2.2, sem_eq_zero_of_no_sems (by decide) r.2⟩)
    (Cert.MixRefIdeal.Value.run (F := Ideal) m g)

/-- Everything claimed. -/
theorem claim : Cert.Claim :=
  ⟨Cert.Prompt.Gen.facts, Cert.PromptIdeal.Gen.facts, Cert.PromptRefIdeal.Gen.facts, Cert.Attn.Gen.facts, Cert.AttnIdeal.Gen.facts, Cert.AttnRefIdeal.Gen.facts,
    Cert.Ffn.Gen.facts, Cert.FfnIdeal.Gen.facts, Cert.FfnRefIdeal.Gen.facts,
    Cert.Mix.Gen.facts, Cert.MixIdeal.Gen.facts, Cert.MixRefIdeal.Gen.facts,
    Cert.Pre_gains_finite.Gen.facts, Cert.Pre_scores_finite.Gen.facts,
    fun m g _ => Cert.Prompt.Gen.frame m g, fun m g _ => Cert.PromptIdeal.Gen.frame m g, fun m g _ => Cert.PromptIdeal.Gen.frame m g,
    frame_prompt_ref, fun m g _ => frame_prompt_ref m g trivial,
    fun m g _ => Cert.Attn.Gen.frame m g, fun m g _ => Cert.AttnIdeal.Gen.frame m g, fun m g _ => Cert.AttnIdeal.Gen.frame m g,
    frame_attn_ref, fun m g _ => frame_attn_ref m g trivial,
    fun m g _ => Cert.Ffn.Gen.frame m g, fun m g _ => Cert.FfnIdeal.Gen.frame m g, frame_feed_ref,
    fun m g _ => Cert.Mix.Gen.frame m g, fun m g _ => Cert.MixIdeal.Gen.frame m g, frame_mix_ref,
    trivial, prompt, trivial, attention, trivial, feed, trivial, mix⟩

end Cert.Proof

end
